-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_idx_in_latents : Cert.Pre_idx_in_latents.Facts] (m : (ℓ : Loc Cert.Kernel2.nD Cert.Kernel2.τ Cert.Kernel2.sig) → Buf (Elt Bits) ℓ) : Prop :=
  ∀ c : Dev Cert.Kernel2.nD,
    (Cert.Pre_idx_in_latents.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))) = (fun _ => 1#1)

def Pre_Kernel2Ideal [hPre_idx_in_latents : Cert.Pre_idx_in_latents.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_idx_in_latents.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal [hPre_idx_in_latents : Cert.Pre_idx_in_latents.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_idx_in_latents.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_norm_and_router_finite [hPre_norm_and_router_finite : Cert.Pre_norm_and_router_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_norm_and_router_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_norm_and_router_finite [hPre_norm_and_router_finite : Cert.Pre_norm_and_router_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_norm_and_router_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_idx_in_latents : Cert.Pre_idx_in_latents.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_idx_in_latents : Cert.Pre_idx_in_latents.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] [hPre_idx_in_latents : Cert.Pre_idx_in_latents.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_norm_and_router_finite [hKernel5Ideal : Cert.Kernel5Ideal.Facts] [hPre_norm_and_router_finite : Cert.Pre_norm_and_router_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_norm_and_router_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_norm_and_router_finite [hReference5Ideal : Cert.Reference5Ideal.Facts] [hPre_norm_and_router_finite : Cert.Pre_norm_and_router_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_norm_and_router_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_idx_in_latents : Cert.Pre_idx_in_latents.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.bf16_pair.BufferStatement Cert.Kernel4Ideal.S2048x2x512 Cert.Kernel4Ideal.S2048x1x512
  ∧ IdealRules.bf16_pair.BufferStatement Cert.Kernel4Ideal.S512x2x512 Cert.Kernel4Ideal.S512x1x512
  ∧ IdealRules.bf16_pair.PackStatement Cert.Kernel4Ideal.S512x512
  ∧ IdealRules.bf16_pair.Statement Cert.Kernel4Ideal.S512x2x512 Cert.Kernel4Ideal.S512x1x512

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v13_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  IdealRules.bf16_pair.BufferStatement Cert.Kernel5Ideal.S2048x2x512 Cert.Kernel5Ideal.S2048x1x512
  ∧ IdealRules.bf16_pair.BufferStatement Cert.Kernel5Ideal.S512x2x512 Cert.Kernel5Ideal.S512x1x512
  ∧ IdealRules.bf16_pair.PackStatement Cert.Kernel5Ideal.S512x512
  ∧ IdealRules.bf16_pair.Statement Cert.Kernel5Ideal.S512x2x512 Cert.Kernel5Ideal.S512x1x512

def algebraic_Kernel5Ideal_Reference5Ideal_pre_norm_and_router_finite [hKernel5Ideal : Cert.Kernel5Ideal.Facts] [hReference5Ideal : Cert.Reference5Ideal.Facts] [hPre_norm_and_router_finite : Cert.Pre_norm_and_router_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_norm_and_router_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v13_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v153) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_idx_in_rows : Cert.Pre_idx_in_rows.Facts) (hPre_idx_in_latents : Cert.Pre_idx_in_latents.Facts) (hPre_norm_and_router_finite : Cert.Pre_norm_and_router_finite.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Reference (hReference := hReference) (hPre_idx_in_rows := hPre_idx_in_rows)
    ∧ quiescent_Kernel2 (hKernel2 := hKernel2) (hPre_idx_in_latents := hPre_idx_in_latents)
    ∧ quiescent_Kernel2Ideal (hKernel2Ideal := hKernel2Ideal) (hPre_idx_in_latents := hPre_idx_in_latents)
    ∧ quiescent_Reference2Ideal (hReference2Ideal := hReference2Ideal) (hPre_idx_in_latents := hPre_idx_in_latents)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_norm_and_router_finite (hKernel5Ideal := hKernel5Ideal) (hPre_norm_and_router_finite := hPre_norm_and_router_finite)
    ∧ quiescent_Reference5Ideal (hReference5Ideal := hReference5Ideal)
    ∧ quiescent_Reference5Ideal_pre_norm_and_router_finite (hReference5Ideal := hReference5Ideal) (hPre_norm_and_router_finite := hPre_norm_and_router_finite)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ bitexact_Kernel_Reference (hKernel := hKernel) (hReference := hReference) (hPre_idx_in_rows := hPre_idx_in_rows)
    ∧ algebraic_KernelIdeal_ReferenceIdeal (hKernelIdeal := hKernelIdeal) (hReferenceIdeal := hReferenceIdeal) (hPre_idx_in_rows := hPre_idx_in_rows)
    ∧ preserves_Kernel2_Kernel2Ideal
    ∧ algebraic_Kernel2Ideal_Reference2Ideal (hKernel2Ideal := hKernel2Ideal) (hReference2Ideal := hReference2Ideal) (hPre_idx_in_latents := hPre_idx_in_latents)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_norm_and_router_finite (hKernel5Ideal := hKernel5Ideal) (hReference5Ideal := hReference5Ideal) (hPre_norm_and_router_finite := hPre_norm_and_router_finite)
    ∧ preserves_Kernel6_Kernel6Ideal
    ∧ algebraic_Kernel6Ideal_Reference6Ideal (hKernel6Ideal := hKernel6Ideal) (hReference6Ideal := hReference6Ideal)
-- ==== Pre_idx_in_latents.lean ====
abbrev S16x1024x512 : Shape := ⟨3, ![16, 1024, 512]⟩
abbrev S16x256x512 : Shape := ⟨3, ![16, 256, 512]⟩
abbrev S16x1024x1 : Shape := ⟨3, ![16, 1024, 1]⟩
abbrev S16x256x1 : Shape := ⟨3, ![16, 256, 1]⟩
abbrev S1x1x1024 : Shape := ⟨3, ![1, 1, 1024]⟩
abbrev S2x1x1024 : Shape := ⟨3, ![2, 1, 1024]⟩
abbrev S4x16x1024x2048 : Shape := ⟨4, ![4, 16, 1024, 2048]⟩
abbrev S4x16x2048x1024 : Shape := ⟨4, ![4, 16, 2048, 1024]⟩
abbrev S_ : Shape := ⟨0, ![]⟩

class Facts : Prop where
  bcast_S_S16x256x1 : S_.BroadcastsInDim S16x256x1 (![] : Fin 0 → Fin S16x256x1.rank)

variable [Facts]

def fn {F : FTy → Type} [FloatOps F] (main_arg0 : IVec S16x1024x512 32) (main_arg1 : IVec S16x256x512 32) (main_arg2 : FVec F S16x1024x1 .f32) (main_arg3 : FVec F S16x256x1 .f32) (main_arg4 : FVec F S1x1x1024 .f32) (main_arg5 : FVec F S2x1x1024 .f32) (main_arg6 : IVec S16x256x1 32) (main_arg7 : FVec F S4x16x1024x2048 .f32) (main_arg8 : FVec F S4x16x1024x2048 .f32) (main_arg9 : FVec F S4x16x2048x1024 .f32) : IVec S16x256x1 1 :=
  let main_c : IVec S_ 32 := constantI S_ 32 0#32
  let main_v0 : IVec S16x256x1 32 := broadcastInDim S16x256x1 ![] bcast_S_S16x256x1 main_c
  let main_v1 : IVec S16x256x1 1 := cmpi .sge main_arg6 main_v0
  let main_c_0 : IVec S_ 32 := constantI S_ 32 2048#32
  let main_v2 : IVec S16x256x1 32 := broadcastInDim S16x256x1 ![] bcast_S_S16x256x1 main_c_0
  let main_v3 : IVec S16x256x1 1 := cmpi .slt main_arg6 main_v2
  let main_v4 : IVec S16x256x1 1 := andi main_v1 main_v3
  main_v4
-- ==== Pre_idx_in_rows.lean ====
abbrev S8192x512 : Shape := ⟨2, ![8192, 512]⟩
abbrev S16x1024 : Shape := ⟨2, ![16, 1024]⟩
abbrev S_ : Shape := ⟨0, ![]⟩

class Facts : Prop where
  bcast_S_S16x1024 : S_.BroadcastsInDim S16x1024 (![] : Fin 0 → Fin S16x1024.rank)

variable [Facts]

def fn {F : FTy → Type} [FloatOps F] (main_arg0 : IVec S8192x512 32) (main_arg1 : IVec S16x1024 32) : IVec S16x1024 1 :=
  let main_c : IVec S_ 32 := constantI S_ 32 0#32
  let main_v0 : IVec S16x1024 32 := broadcastInDim S16x1024 ![] bcast_S_S16x1024 main_c
  let main_v1 : IVec S16x1024 1 := cmpi .sge main_arg1 main_v0
  let main_c_0 : IVec S_ 32 := constantI S_ 32 8192#32
  let main_v2 : IVec S16x1024 32 := broadcastInDim S16x1024 ![] bcast_S_S16x1024 main_c_0
  let main_v3 : IVec S16x1024 1 := cmpi .slt main_arg1 main_v2
  let main_v4 : IVec S16x1024 1 := andi main_v1 main_v3
  main_v4
-- ==== Pre_norm_and_router_finite.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S1x1024 : Shape := ⟨2, ![1, 1024]⟩
abbrev S1024 : Shape := ⟨1, ![1024]⟩
abbrev S_ : Shape := ⟨0, ![]⟩
abbrev S1x1024x16 : Shape := ⟨3, ![1, 1024, 16]⟩
abbrev S1024x16 : Shape := ⟨2, ![1024, 16]⟩

class Facts : Prop where
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  slices_S4x1024x16_S1x1024x16_0_0_0 : S4x1024x16.Slices ![0, 0, 0] S1x1024x16
  shapeCasts_S1x1024x16_S1024x16 : S1x1024x16.ShapeCasts S1024x16
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v15 : IVec S_ 1) (main_v17 : FVec F S1024x16 .f32) : IVec S_ 1 :=
  let main_v18 : FVec F S1024x16 .f32 := Host.absf main_v17
  let main_cst_4 : FVec F S_ .f32 := constant S_ .f32 0x7F800000#32
  let main_v19 : FVec F S1024x16 .f32 := broadcastInDim S1024x16 ![] bcast_S_S1024x16 main_cst_4
  let main_v20 : IVec S1024x16 1 := cmpf .olt main_v18 main_v19
  let main_c_5 : IVec S_ 1 := constantI S_ 1 1#1
  let main_v21 : IVec S_ 1 := (fun x v => Host.reduce IntOp.andi x v reducesTo_S1024x16_S_d0_1 h_S_) main_v20 main_c_5
  let main_v22 : IVec S_ 1 := andi main_v15 main_v21
  main_v22

def fn {F : FTy → Type} [FloatOps F] (main_arg0 : FVec F S2x1024x1024 .f32) (main_arg1 : FVec F S2x1024x256 .f32) (main_arg2 : FVec F S2x1024x256 .f32) (main_arg3 : FVec F S2x1024x256 .f32) (main_arg4 : FVec F S2x1024x256 .f32) (main_arg5 : FVec F S4x1024x1024 .f32) (main_arg6 : FVec F S2x1x1024 .f32) (main_arg7 : FVec F S4x1024 .f32) (main_arg8 : FVec F S2x1x1024 .f32) (main_arg9 : FVec F S2x1x1024 .f32) (main_arg10 : FVec F S4x1024x16 .f32) : IVec S_ 1 :=
  let main_v0 : FVec F S1x1024 .f32 := (extractStridedSlice S1x1024 ![0, 0] · slices_S4x1024_S1x1024_0_0) main_arg7
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S2x1x1024 .f32 := Host.absf main_arg8
  let main_cst_0 : FVec F S_ .f32 := constant S_ .f32 0x7F800000#32
  let main_v7 : FVec F S2x1x1024 .f32 := broadcastInDim S2x1x1024 ![] bcast_S_S2x1x1024 main_cst_0
  let main_v8 : IVec S2x1x1024 1 := cmpf .olt main_v6 main_v7
  let main_c_1 : IVec S_ 1 := constantI S_ 1 1#1
  let main_v9 : IVec S_ 1 := (fun x v => Host.reduce IntOp.andi x v reducesTo_S2x1x1024_S_d0_1_2 h_S_) main_v8 main_c_1
  let main_v10 : IVec S_ 1 := andi main_v5 main_v9
  let main_v11 : FVec F S2x1x1024 .f32 := Host.absf main_arg9
  let main_cst_2 : FVec F S_ .f32 := constant S_ .f32 0x7F800000#32
  let main_v12 : FVec F S2x1x1024 .f32 := broadcastInDim S2x1x1024 ![] bcast_S_S2x1x1024 main_cst_2
  let main_v13 : IVec S2x1x1024 1 := cmpf .olt main_v11 main_v12
  let main_c_3 : IVec S_ 1 := constantI S_ 1 1#1
  let main_v14 : IVec S_ 1 := (fun x v => Host.reduce IntOp.andi x v reducesTo_S2x1x1024_S_d0_1_2 h_S_) main_v13 main_c_3
  let main_v15 : IVec S_ 1 := andi main_v10 main_v14
  let main_v16 : FVec F S1x1024x16 .f32 := (extractStridedSlice S1x1024x16 ![0, 0, 0] · slices_S4x1024x16_S1x1024x16_0_0_0) main_arg10
  let main_v17 : FVec F S1024x16 .f32 := shapeCast S1024x16 main_v16 shapeCasts_S1x1024x16_S1024x16
  fn_part1 (F := F) main_v15 main_v17
-- ==== Kernel.lean ====
abbrev S8192x512 : Shape := ⟨2, ![8192, 512]⟩
abbrev S16x1024 : Shape := ⟨2, ![16, 1024]⟩
abbrev S16384 : Shape := ⟨1, ![16384]⟩
abbrev S256x64 : Shape := ⟨2, ![256, 64]⟩
abbrev S_ : Shape := ⟨0, ![]⟩
abbrev S256x128 : Shape := ⟨2, ![256, 128]⟩
abbrev S16384x512 : Shape := ⟨2, ![16384, 512]⟩
abbrev S2x1x128 : Shape := ⟨3, ![2, 1, 128]⟩
abbrev S2 : Shape := ⟨1, ![2]⟩
abbrev S2x64x512 : Shape := ⟨3, ![2, 64, 512]⟩
abbrev S1x1x128 : Shape := ⟨3, ![1, 1, 128]⟩
abbrev S1x128 : Shape := ⟨2, ![1, 128]⟩
abbrev S1 : Shape := ⟨1, ![1]⟩
abbrev S1x64x512 : Shape := ⟨3, ![1, 64, 512]⟩
abbrev S64x512 : Shape := ⟨2, ![64, 512]⟩
abbrev S64x128 : Shape := ⟨2, ![64, 128]⟩
abbrev S1x64 : Shape := ⟨2, ![1, 64]⟩
abbrev S64 : Shape := ⟨1, ![64]⟩
abbrev S8192x128 : Shape := ⟨2, ![8192, 128]⟩
abbrev S16x1024x512 : Shape := ⟨3, ![16, 1024, 512]⟩

abbrev nBuf : Table → Nat
  | .hbm => 9
  | .local .scVector .vmem => 2
  | _ => 0

abbrev bufTy : (tb : Table) → Fin (nBuf tb) → BufTy
  | .hbm, ⟨0, _⟩ => ⟨S8192x512, .i32⟩
  | .hbm, ⟨1, _⟩ => ⟨S16x1024, .i32⟩
  | .hbm, ⟨2, _⟩ => ⟨S16384, .i32⟩
  | .hbm, ⟨3, _⟩ => ⟨S256x64, .i32⟩
  | .hbm, ⟨4, _⟩ => ⟨S_, .i32⟩
  | .hbm, ⟨5, _⟩ => ⟨S_, .i32⟩
  | .hbm, ⟨6, _⟩ => ⟨S256x128, .i32⟩
  | .hbm, ⟨7, _⟩ => ⟨S16384x512, .i32⟩
  | .hbm, ⟨8, _⟩ => ⟨S16x1024x512, .i32⟩
  | .local .scVector .vmem, ⟨0, _⟩ => ⟨S2x1x128, .i32⟩
  | .local .scVector .vmem, ⟨1, _⟩ => ⟨S2x64x512, .i32⟩
  | _, _ => ⟨S8192x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v2_scv : Ref sig .scVector := ⟨.hbm, 6, rfl⟩
abbrev main_v3_scv : Ref sig .scVector := ⟨.hbm, 7, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_11_r0 : BitVec 32 := 0#32
  let c2_i32_r0 : BitVec 32 := 2#32
  let v18_r0 : BitVec 32 := Scalar.remui c0_i32_11_r0 c2_i32_r0
  let c0_i32_13_r0 : BitVec 32 := 0#32
  let c0_i32_14_r0 : BitVec 32 := 0#32
  ![v18_r0.toNat, 0, 0]
def k0_off2 (i : grid0.Coords) : Fin 2 → Nat :=
  let c1_i32_12_r0 : BitVec 32 := 1#32
  let arg0 : BitVec 32 := BitVec.ofNat 32 (i 0).val
  let c128_i32 : BitVec 32 := 128#32
  let v0 : BitVec 32 := Scalar.muli arg0 c128_i32
  let c0_i32_r0 : BitVec 32 := 0#32
  let arg1 : BitVec 32 := BitVec.ofNat 32 (i 1).val
  let c8_i32 : BitVec 32 := 8#32
  let v1 : BitVec 32 := Scalar.muli arg1 c8_i32
  let v4_r0 : BitVec 32 := Scalar.addi c0_i32_r0 v1
  let v19_r0 : BitVec 32 := Scalar.addi v0 v4_r0
  let v20_r0 : BitVec 32 := Scalar.muli c1_i32_12_r0 v19_r0
  let c0_i32_15_r0 : BitVec 32 := 0#32
  ![v20_r0.toNat, 0]
def k0_off3 : Fin 1 → Nat :=
  let c0_i32_11_r0 : BitVec 32 := 0#32
  let c2_i32_r0 : BitVec 32 := 2#32
  let v18_r0 : BitVec 32 := Scalar.remui c0_i32_11_r0 c2_i32_r0
  ![v18_r0.toNat]
@[reducible] def k0_t1_loop : Scf.Loop 32 :=
  let c0_i32_25_r0 : BitVec 32 := 0#32
  let c8_i32_26_r0 : BitVec 32 := 8#32
  let v30_r0 : BitVec 32 := Scalar.addi c0_i32_25_r0 c8_i32_26_r0
  let c1_i32_27_r0 : BitVec 32 := 1#32
  ⟨c0_i32_25_r0, v30_r0, c1_i32_27_r0⟩
def k0_off4 (arg6_r0 : BitVec 32) : Fin 3 → Nat :=
  let c2_i32_100_r0 : BitVec 32 := 2#32
  let v149_r0 : BitVec 32 := Scalar.remui arg6_r0 c2_i32_100_r0
  let c0_i32_102_r0 : BitVec 32 := 0#32
  let c0_i32_103_r0 : BitVec 32 := 0#32
  ![v149_r0.toNat, 0, 0]
def k0_cond1 (i : grid0.Coords) (k0_t1 : Fin k0_t1_loop.trips) (arg10_r0 : BitVec 32) : BitVec 1 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v65_r0 : BitVec 32 := Scalar.addi arg10_r0 v1
  let v81_r0 : BitVec 32 := Scalar.addi v0 v65_r0
  let true_59_r0 : BitVec 1 := 1#1
  let c1_i32_58_r0 : BitVec 32 := 1#32
  let v71_r0 : BitVec 32 := Scalar.addi arg10_r0 c1_i32_58_r0
  let v72_r0 : BitVec 32 := Scalar.select true_59_r0 v71_r0 arg10_r0
  let c8_i32_60_r0 : BitVec 32 := 8#32
  let v73_r0 : BitVec 1 := Scalar.cmpi .eq v72_r0 c8_i32_60_r0
  let c0_i32_61_r0 : BitVec 32 := 0#32
  let v74_r0 : BitVec 32 := Scalar.select v73_r0 c0_i32_61_r0 v72_r0
  let v75_r0 : BitVec 32 := Scalar.addi v74_r0 v1
  let v82_r0 : BitVec 32 := Scalar.addi v0 v75_r0
  let v83_r0 : BitVec 1 := Scalar.cmpi .ne v81_r0 v82_r0
  let c0_i32_25_r0 : BitVec 32 := 0#32
  let c1_i32_27_r0 : BitVec 32 := 1#32
  let arg5_r0 : BitVec 32 := Scf.iv c0_i32_25_r0 c1_i32_27_r0 k0_t1
  let c7_i32_66_r0 : BitVec 32 := 7#32
  let v84_r0 : BitVec 1 := Scalar.cmpi .sge arg5_r0 c7_i32_66_r0
  let true_67_r0 : BitVec 1 := 1#1
  let v85_r0 : BitVec 1 := Scalar.xori v84_r0 true_67_r0
  let v86_r0 : BitVec 1 := Scalar.andi v83_r0 v85_r0
  let true_68_r0 : BitVec 1 := 1#1
  let v87_r0 : BitVec 1 := Scalar.andi v86_r0 true_68_r0
  let v88_r0 : BitVec 32 := Scalar.extui v87_r0
  let c0_i32_69_r0 : BitVec 32 := 0#32
  let v89_r0 : BitVec 1 := Scalar.cmpi .ne v88_r0 c0_i32_69_r0
  v89_r0

def k0_off5 (i : grid0.Coords) (arg10_r0 : BitVec 32) : Fin 2 → Nat :=
  let c1_i32_101_r0 : BitVec 32 := 1#32
  let arg0 : BitVec 32 := BitVec.ofNat 32 (i 0).val
  let c128_i32 : BitVec 32 := 128#32
  let v0 : BitVec 32 := Scalar.muli arg0 c128_i32
  let true_59_r0 : BitVec 1 := 1#1
  let c1_i32_58_r0 : BitVec 32 := 1#32
  let v71_r0 : BitVec 32 := Scalar.addi arg10_r0 c1_i32_58_r0
  let v72_r0 : BitVec 32 := Scalar.select true_59_r0 v71_r0 arg10_r0
  let c8_i32_60_r0 : BitVec 32 := 8#32
  let v73_r0 : BitVec 1 := Scalar.cmpi .eq v72_r0 c8_i32_60_r0
  let c0_i32_61_r0 : BitVec 32 := 0#32
  let v74_r0 : BitVec 32 := Scalar.select v73_r0 c0_i32_61_r0 v72_r0
  let arg1 : BitVec 32 := BitVec.ofNat 32 (i 1).val
  let c8_i32 : BitVec 32 := 8#32
  let v1 : BitVec 32 := Scalar.muli arg1 c8_i32
  let v75_r0 : BitVec 32 := Scalar.addi v74_r0 v1
  let v150_r0 : BitVec 32 := Scalar.addi v0 v75_r0
  let v151_r0 : BitVec 32 := Scalar.muli c1_i32_101_r0 v150_r0
  let c0_i32_104_r0 : BitVec 32 := 0#32
  ![v151_r0.toNat, 0]
def k0_off6 (arg6_r0 : BitVec 32) : Fin 1 → Nat :=
  let c2_i32_100_r0 : BitVec 32 := 2#32
  let v149_r0 : BitVec 32 := Scalar.remui arg6_r0 c2_i32_100_r0
  ![v149_r0.toNat]
def k0_off7 (arg7_r0 : BitVec 32) : Fin 3 → Nat :=
  let c2_i32_101_r0 : BitVec 32 := 2#32
  let v151_r0 : BitVec 32 := Scalar.remui arg7_r0 c2_i32_101_r0
  let c0_i32_102_r0 : BitVec 32 := 0#32
  let c0_i32_103_r0 : BitVec 32 := 0#32
  ![v151_r0.toNat, 0, 0]
def k0_cond2 (i : grid0.Coords) (k0_t1 : Fin k0_t1_loop.trips) (arg10_r0 : BitVec 32) : BitVec 1 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v65_r0 : BitVec 32 := Scalar.addi arg10_r0 v1
  let v81_r0 : BitVec 32 := Scalar.addi v0 v65_r0
  let true_55_r0 : BitVec 1 := 1#1
  let c1_i32_54_r0 : BitVec 32 := 1#32
  let v66_r0 : BitVec 32 := Scalar.subi arg10_r0 c1_i32_54_r0
  let v67_r0 : BitVec 32 := Scalar.select true_55_r0 v66_r0 arg10_r0
  let c_m1_i32_56_r0 : BitVec 32 := 4294967295#32
  let v68_r0 : BitVec 1 := Scalar.cmpi .eq v67_r0 c_m1_i32_56_r0
  let c7_i32_57_r0 : BitVec 32 := 7#32
  let v69_r0 : BitVec 32 := Scalar.select v68_r0 c7_i32_57_r0 v67_r0
  let v70_r0 : BitVec 32 := Scalar.addi v69_r0 v1
  let v99_r0 : BitVec 32 := Scalar.addi v0 v70_r0
  let v100_r0 : BitVec 1 := Scalar.cmpi .ne v81_r0 v99_r0
  let c0_i32_25_r0 : BitVec 32 := 0#32
  let c1_i32_27_r0 : BitVec 32 := 1#32
  let arg5_r0 : BitVec 32 := Scf.iv c0_i32_25_r0 c1_i32_27_r0 k0_t1
  let c0_i32_52_r0 : BitVec 32 := 0#32
  let v63_r0 : BitVec 1 := Scalar.cmpi .eq arg5_r0 c0_i32_52_r0
  let v101_r0 : BitVec 1 := Scalar.ori v100_r0 v63_r0
  let c0_i32_74_r0 : BitVec 32 := 0#32
  let v102_r0 : BitVec 1 := Scalar.cmpi .sge arg5_r0 c0_i32_74_r0
  let v103_r0 : BitVec 1 := Scalar.andi v101_r0 v102_r0
  let v104_r0 : BitVec 32 := Scalar.extui v103_r0
  let c0_i32_75_r0 : BitVec 32 := 0#32
  let v105_r0 : BitVec 1 := Scalar.cmpi .ne v104_r0 c0_i32_75_r0
  v105_r0

def k0_off8 (i : grid0.Coords) (arg10_r0 : BitVec 32) : Fin 2 → Nat :=
  let c1_i32_100_r0 : BitVec 32 := 1#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v65_r0 : BitVec 32 := Scalar.addi arg10_r0 v1
  let v149_r0 : BitVec 32 := Scalar.addi v0 v65_r0
  let v150_r0 : BitVec 32 := Scalar.muli c1_i32_100_r0 v149_r0
  let c0_i32_104_r0 : BitVec 32 := 0#32
  ![v150_r0.toNat, 0]
def k0_off9 (arg7_r0 : BitVec 32) : Fin 1 → Nat :=
  let c2_i32_101_r0 : BitVec 32 := 2#32
  let v151_r0 : BitVec 32 := Scalar.remui arg7_r0 c2_i32_101_r0
  ![v151_r0.toNat]
def k0_off10 (arg8_r0 : BitVec 32) : Fin 3 → Nat :=
  let c2_i32_79_r0 : BitVec 32 := 2#32
  let v114_r0 : BitVec 32 := Scalar.remui arg8_r0 c2_i32_79_r0
  let c0_i32_100_r1 : BitVec 32 := 0#32
  let c0_i32_101_r1 : BitVec 32 := 0#32
  ![v114_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_78_r0 : BitVec 32 := 2#32
  let v113_r0 : BitVec 32 := Scalar.remui arg7_r0 c2_i32_78_r0
  let c0_i32_104_r1 : BitVec 32 := 0#32
  let c0_i32_105_r1 : BitVec 32 := 0#32
  ![v113_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v149_r0 : BitVec 32 := Scalar.remui arg8_r0 c2_i32_100_r0
  let c0_i32_102_r0 : BitVec 32 := 0#32
  let c0_i32_103_r0 : BitVec 32 := 0#32
  ![v149_r0.toNat, 0, 0]
def k0_cond5 (i : grid0.Coords) (k0_t1 : Fin k0_t1_loop.trips) (arg10_r0 : BitVec 32) : BitVec 1 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v65_r0 : BitVec 32 := Scalar.addi arg10_r0 v1
  let v93_r0 : BitVec 32 := Scalar.addi v0 v65_r0
  let true_59_r0 : BitVec 1 := 1#1
  let c1_i32_58_r0 : BitVec 32 := 1#32
  let v71_r0 : BitVec 32 := Scalar.addi arg10_r0 c1_i32_58_r0
  let v72_r0 : BitVec 32 := Scalar.select true_59_r0 v71_r0 arg10_r0
  let c8_i32_60_r0 : BitVec 32 := 8#32
  let v73_r0 : BitVec 1 := Scalar.cmpi .eq v72_r0 c8_i32_60_r0
  let c0_i32_61_r0 : BitVec 32 := 0#32
  let v74_r0 : BitVec 32 := Scalar.select v73_r0 c0_i32_61_r0 v72_r0
  let v75_r0 : BitVec 32 := Scalar.addi v74_r0 v1
  let v94_r0 : BitVec 32 := Scalar.addi v0 v75_r0
  let v120_r0 : BitVec 1 := Scalar.cmpi .ne v93_r0 v94_r0
  let c0_i32_25_r0 : BitVec 32 := 0#32
  let c1_i32_27_r0 : BitVec 32 := 1#32
  let arg5_r0 : BitVec 32 := Scf.iv c0_i32_25_r0 c1_i32_27_r0 k0_t1
  let c7_i32_53_r0 : BitVec 32 := 7#32
  let v64_r0 : BitVec 1 := Scalar.cmpi .eq arg5_r0 c7_i32_53_r0
  let v121_r0 : BitVec 1 := Scalar.ori v120_r0 v64_r0
  let v122_r0 : BitVec 32 := Scalar.extui v121_r0
  let c0_i32_85_r0 : BitVec 32 := 0#32
  let v123_r0 : BitVec 1 := Scalar.cmpi .ne v122_r0 c0_i32_85_r0
  v123_r0

def k0_off13 (i : grid0.Coords) (arg10_r0 : BitVec 32) : Fin 2 → Nat :=
  let c64_i32_101_r0 : BitVec 32 := 64#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v65_r0 : BitVec 32 := Scalar.addi arg10_r0 v1
  let v150_r0 : BitVec 32 := Scalar.addi v0 v65_r0
  let v151_r0 : BitVec 32 := Scalar.muli c64_i32_101_r0 v150_r0
  let c0_i32_104_r0 : BitVec 32 := 0#32
  ![v151_r0.toNat, 0]
def k0_off14 (arg8_r0 : BitVec 32) : Fin 1 → Nat :=
  let c2_i32_100_r0 : BitVec 32 := 2#32
  let v149_r0 : BitVec 32 := Scalar.remui arg8_r0 c2_i32_100_r0
  ![v149_r0.toNat]
def k0_off15 (arg9_r0 : BitVec 32) : Fin 3 → Nat :=
  let c2_i32_100_r0 : BitVec 32 := 2#32
  let v149_r0 : BitVec 32 := Scalar.remui arg9_r0 c2_i32_100_r0
  let c0_i32_102_r0 : BitVec 32 := 0#32
  let c0_i32_103_r0 : BitVec 32 := 0#32
  ![v149_r0.toNat, 0, 0]
def k0_cond7 (i : grid0.Coords) (k0_t1 : Fin k0_t1_loop.trips) (arg10_r0 : BitVec 32) : BitVec 1 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v65_r0 : BitVec 32 := Scalar.addi arg10_r0 v1
  let v93_r0 : BitVec 32 := Scalar.addi v0 v65_r0
  let true_55_r0 : BitVec 1 := 1#1
  let c1_i32_54_r0 : BitVec 32 := 1#32
  let v66_r0 : BitVec 32 := Scalar.subi arg10_r0 c1_i32_54_r0
  let v67_r0 : BitVec 32 := Scalar.select true_55_r0 v66_r0 arg10_r0
  let c_m1_i32_56_r0 : BitVec 32 := 4294967295#32
  let v68_r0 : BitVec 1 := Scalar.cmpi .eq v67_r0 c_m1_i32_56_r0
  let c7_i32_57_r0 : BitVec 32 := 7#32
  let v69_r0 : BitVec 32 := Scalar.select v68_r0 c7_i32_57_r0 v67_r0
  let v70_r0 : BitVec 32 := Scalar.addi v69_r0 v1
  let v106_r0 : BitVec 32 := Scalar.addi v0 v70_r0
  let v133_r0 : BitVec 1 := Scalar.cmpi .ne v93_r0 v106_r0
  let c0_i32_25_r0 : BitVec 32 := 0#32
  let c1_i32_27_r0 : BitVec 32 := 1#32
  let arg5_r0 : BitVec 32 := Scf.iv c0_i32_25_r0 c1_i32_27_r0 k0_t1
  let c0_i32_52_r0 : BitVec 32 := 0#32
  let v63_r0 : BitVec 1 := Scalar.cmpi .eq arg5_r0 c0_i32_52_r0
  let true_91_r0 : BitVec 1 := 1#1
  let v134_r0 : BitVec 1 := Scalar.xori v63_r0 true_91_r0
  let v135_r0 : BitVec 1 := Scalar.andi v133_r0 v134_r0
  let v136_r0 : BitVec 32 := Scalar.extui v135_r0
  let c0_i32_92_r0 : BitVec 32 := 0#32
  let v137_r0 : BitVec 1 := Scalar.cmpi .ne v136_r0 c0_i32_92_r0
  v137_r0

def k0_off16 (i : grid0.Coords) (arg10_r0 : BitVec 32) : Fin 2 → Nat :=
  let c64_i32_101_r0 : BitVec 32 := 64#32
  let arg0 : BitVec 32 := BitVec.ofNat 32 (i 0).val
  let c128_i32 : BitVec 32 := 128#32
  let v0 : BitVec 32 := Scalar.muli arg0 c128_i32
  let true_55_r0 : BitVec 1 := 1#1
  let c1_i32_54_r0 : BitVec 32 := 1#32
  let v66_r0 : BitVec 32 := Scalar.subi arg10_r0 c1_i32_54_r0
  let v67_r0 : BitVec 32 := Scalar.select true_55_r0 v66_r0 arg10_r0
  let c_m1_i32_56_r0 : BitVec 32 := 4294967295#32
  let v68_r0 : BitVec 1 := Scalar.cmpi .eq v67_r0 c_m1_i32_56_r0
  let c7_i32_57_r0 : BitVec 32 := 7#32
  let v69_r0 : BitVec 32 := Scalar.select v68_r0 c7_i32_57_r0 v67_r0
  let arg1 : BitVec 32 := BitVec.ofNat 32 (i 1).val
  let c8_i32 : BitVec 32 := 8#32
  let v1 : BitVec 32 := Scalar.muli arg1 c8_i32
  let v70_r0 : BitVec 32 := Scalar.addi v69_r0 v1
  let v150_r0 : BitVec 32 := Scalar.addi v0 v70_r0
  let v151_r0 : BitVec 32 := Scalar.muli c64_i32_101_r0 v150_r0
  let c0_i32_104_r0 : BitVec 32 := 0#32
  ![v151_r0.toNat, 0]
def k0_off17 (arg9_r0 : BitVec 32) : Fin 1 → Nat :=
  let c2_i32_100_r0 : BitVec 32 := 2#32
  let v149_r0 : BitVec 32 := Scalar.remui arg9_r0 c2_i32_100_r0
  ![v149_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S256x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S256x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x64x512.size a ≤ S2x64x512.size a) ∧
  (∀ (k0_h5 : k0_cond5 i k0_t1 arg10_r0 = 1#1), ∀ a, (k0_off13 i arg10_r0) a + S64x512.size a ≤ S16384x512.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x64x512.size a ≤ S2x64x512.size a) ∧
  (∀ (k0_h7 : k0_cond7 i k0_t1 arg10_r0 = 1#1), ∀ a, (k0_off16 i arg10_r0) a + S64x512.size a ≤ S16384x512.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S256x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S256x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x64x512.size a ≤ S2x64x512.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S64x512.size a ≤ S16384x512.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x64x512.size a ≤ S2x64x512.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S64x512.size a ≤ S16384x512.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v31_3_r0 : BitVec 32) : Fin 3 → Nat :=
  let c2_i32_45_r0 : BitVec 32 := 2#32
  let v52_r0 : BitVec 32 := Scalar.remui v31_3_r0 c2_i32_45_r0
  let c0_i32_46_r0 : BitVec 32 := 0#32
  let c0_i32_47_r0 : BitVec 32 := 0#32
  ![v52_r0.toNat, 0, 0]

def k0_off19 (i : grid0.Coords) (v31_4_r0 : BitVec 32) : Fin 2 → Nat :=
  let c64_i32_r0 : BitVec 32 := 64#32
  let arg0 : BitVec 32 := BitVec.ofNat 32 (i 0).val
  let c128_i32 : BitVec 32 := 128#32
  let v0 : BitVec 32 := Scalar.muli arg0 c128_i32
  let true_30_r0 : BitVec 1 := 1#1
  let c1_i32_29_r0 : BitVec 32 := 1#32
  let v32_r0 : BitVec 32 := Scalar.subi v31_4_r0 c1_i32_29_r0
  let v33_r0 : BitVec 32 := Scalar.select true_30_r0 v32_r0 v31_4_r0
  let c_m1_i32_31_r0 : BitVec 32 := 4294967295#32
  let v34_r0 : BitVec 1 := Scalar.cmpi .eq v33_r0 c_m1_i32_31_r0
  let c7_i32_32_r0 : BitVec 32 := 7#32
  let v35_r0 : BitVec 32 := Scalar.select v34_r0 c7_i32_32_r0 v33_r0
  let arg1 : BitVec 32 := BitVec.ofNat 32 (i 1).val
  let c8_i32 : BitVec 32 := 8#32
  let v1 : BitVec 32 := Scalar.muli arg1 c8_i32
  let v36_r0 : BitVec 32 := Scalar.addi v35_r0 v1
  let v53_r0 : BitVec 32 := Scalar.addi v0 v36_r0
  let v54_r0 : BitVec 32 := Scalar.muli c64_i32_r0 v53_r0
  let c0_i32_48_r0 : BitVec 32 := 0#32
  ![v54_r0.toNat, 0]

def k0_chk5 (i : grid0.Coords) (v31_4_r0 : BitVec 32) : Prop :=
  (∀ a, (k0_off19 i v31_4_r0) a + S64x512.size a ≤ S16384x512.size a)
theorem k0_off19_inb : ∀ (i : grid0.Coords) (v31_4_r0 : BitVec 32) (k0_hw5 : k0_chk5 i v31_4_r0), ∀ a, (k0_off19 i v31_4_r0) a + S64x512.size a ≤ S16384x512.size a := fun i v31_4_r0 k0_hw5 => k0_hw5

def k0_off20 (v31_3_r0 : BitVec 32) : Fin 1 → Nat :=
  let c2_i32_45_r0 : BitVec 32 := 2#32
  let v52_r0 : BitVec 32 := Scalar.remui v31_3_r0 c2_i32_45_r0
  ![v52_r0.toNat]
def k0_off21 (v31_3_r0 : BitVec 32) : Fin 3 → Nat :=
  let c2_i32_45_r0 : BitVec 32 := 2#32
  let v52_r0 : BitVec 32 := Scalar.remui v31_3_r0 c2_i32_45_r0
  let c0_i32_50_r0 : BitVec 32 := 0#32
  let c0_i32_51_r0 : BitVec 32 := 0#32
  ![v52_r0.toNat, 0, 0]

def k0_chk4 (v31_3_r0 : BitVec 32) : Prop :=
  (∀ a, (k0_off18 v31_3_r0) a + S1x64x512.size a ≤ S2x64x512.size a) ∧
  (∀ a, (k0_off20 v31_3_r0) a + S1.size a ≤ S2.size a) ∧
  (∀ a, (k0_off21 v31_3_r0) a + S1x64x512.size a ≤ S2x64x512.size a)
theorem k0_off18_inb : ∀ (v31_3_r0 : BitVec 32) (k0_hw4 : k0_chk4 v31_3_r0), ∀ a, (k0_off18 v31_3_r0) a + S1x64x512.size a ≤ S2x64x512.size a := fun v31_3_r0 k0_hw4 => k0_hw4.1
theorem k0_off20_inb : ∀ (v31_3_r0 : BitVec 32) (k0_hw4 : k0_chk4 v31_3_r0), ∀ a, (k0_off20 v31_3_r0) a + S1.size a ≤ S2.size a := fun v31_3_r0 k0_hw4 => k0_hw4.2.1
theorem k0_off21_inb : ∀ (v31_3_r0 : BitVec 32) (k0_hw4 : k0_chk4 v31_3_r0), ∀ a, (k0_off21 v31_3_r0) a + S1x64x512.size a ≤ S2x64x512.size a := fun v31_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8192x512 : Shape := ⟨2, ![8192, 512]⟩
abbrev S16x1024 : Shape := ⟨2, ![16, 1024]⟩
abbrev S_ : Shape := ⟨0, ![]⟩
abbrev S16x1024x1 : Shape := ⟨3, ![16, 1024, 1]⟩
abbrev S16x1024x512 : Shape := ⟨3, ![16, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .i32⟩
  | .hbm, ⟨1, _⟩ => ⟨S16x1024, .i32⟩
  | .hbm, ⟨2, _⟩ => ⟨S_, .i32⟩
  | .hbm, ⟨3, _⟩ => ⟨S16x1024, .i32⟩
  | .hbm, ⟨4, _⟩ => ⟨S16x1024, .i1⟩
  | .hbm, ⟨5, _⟩ => ⟨S_, .i32⟩
  | .hbm, ⟨6, _⟩ => ⟨S16x1024, .i32⟩
  | .hbm, ⟨7, _⟩ => ⟨S16x1024, .i32⟩
  | .hbm, ⟨8, _⟩ => ⟨S16x1024, .i32⟩
  | .hbm, ⟨9, _⟩ => ⟨S16x1024x1, .i32⟩
  | .hbm, ⟨10, _⟩ => ⟨S16x1024x512, .i32⟩
  | _, _ => ⟨S8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S16x1024x512 : Shape := ⟨3, ![16, 1024, 512]⟩
abbrev S16x256x512 : Shape := ⟨3, ![16, 256, 512]⟩
abbrev S16x1024x1 : Shape := ⟨3, ![16, 1024, 1]⟩
abbrev S16x256x1 : Shape := ⟨3, ![16, 256, 1]⟩
abbrev S1x1x1024 : Shape := ⟨3, ![1, 1, 1024]⟩
abbrev S2x1x1024 : Shape := ⟨3, ![2, 1, 1024]⟩
abbrev S4x16x1024x2048 : Shape := ⟨4, ![4, 16, 1024, 2048]⟩
abbrev S4x16x2048x1024 : Shape := ⟨4, ![4, 16, 2048, 1024]⟩
abbrev S16x1024x1024 : Shape := ⟨3, ![16, 1024, 1024]⟩
abbrev S16x256x1024 : Shape := ⟨3, ![16, 256, 1024]⟩
abbrev S1x1024x512 : Shape := ⟨3, ![1, 1024, 512]⟩
abbrev S1x256x512 : Shape := ⟨3, ![1, 256, 512]⟩
abbrev S1x1024x1 : Shape := ⟨3, ![1, 1024, 1]⟩
abbrev S1x256x1 : Shape := ⟨3, ![1, 256, 1]⟩
abbrev S1x1x1024x512 : Shape := ⟨4, ![1, 1, 1024, 512]⟩
abbrev S1x1x512x1024 : Shape := ⟨4, ![1, 1, 512, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩
abbrev S1024x512 : Shape := ⟨2, ![1024, 512]⟩
abbrev S512x1024 : Shape := ⟨2, ![512, 1024]⟩
abbrev S256x512 : Shape := ⟨2, ![256, 512]⟩
abbrev S1024x1 : Shape := ⟨2, ![1024, 1]⟩
abbrev S1x1024 : Shape := ⟨2, ![1, 1024]⟩
abbrev S256x1 : Shape := ⟨2, ![256, 1]⟩

abbrev nBuf : Space → Nat
  | .hbm => 12
  | .vmem => 24
  | .smem => 0
  | _ => 0

abbrev bufTy : (tb : Table) → Fin (tcTables nBuf tb) → BufTy
  | .hbm, ⟨0, _⟩ => ⟨S16x1024x512, .i32⟩
  | .hbm, ⟨1, _⟩ => ⟨S16x256x512, .i32⟩
  | .hbm, ⟨2, _⟩ => ⟨S16x1024x1, .f32⟩
  | .hbm, ⟨3, _⟩ => ⟨S16x256x1, .f32⟩
  | .hbm, ⟨4, _⟩ => ⟨S1x1x1024, .f32⟩
  | .hbm, ⟨5, _⟩ => ⟨S2x1x1024, .f32⟩
  | .hbm, ⟨6, _⟩ => ⟨S16x256x1, .i32⟩
  | .hbm, ⟨7, _⟩ => ⟨S4x16x1024x2048, .f32⟩
  | .hbm, ⟨8, _⟩ => ⟨S4x16x1024x2048, .f32⟩
  | .hbm, ⟨9, _⟩ => ⟨S4x16x2048x1024, .f32⟩
  | .hbm, ⟨10, _⟩ => ⟨S16x1024x1024, .f32⟩
  | .hbm, ⟨11, _⟩ => ⟨S16x256x1024, .f32⟩
  | .local _ .vmem, ⟨0, _⟩ => ⟨S1x1024x512, .i32⟩
  | .local _ .vmem, ⟨1, _⟩ => ⟨S1x1024x512, .i32⟩
  | .local _ .vmem, ⟨2, _⟩ => ⟨S1x256x512, .i32⟩
  | .local _ .vmem, ⟨3, _⟩ => ⟨S1x256x512, .i32⟩
  | .local _ .vmem, ⟨4, _⟩ => ⟨S1x1024x1, .f32⟩
  | .local _ .vmem, ⟨5, _⟩ => ⟨S1x1024x1, .f32⟩
  | .local _ .vmem, ⟨6, _⟩ => ⟨S1x256x1, .f32⟩
  | .local _ .vmem, ⟨7, _⟩ => ⟨S1x256x1, .f32⟩
  | .local _ .vmem, ⟨8, _⟩ => ⟨S1x1x1024, .f32⟩
  | .local _ .vmem, ⟨9, _⟩ => ⟨S2x1x1024, .f32⟩
  | .local _ .vmem, ⟨10, _⟩ => ⟨S1x256x1, .i32⟩
  | .local _ .vmem, ⟨11, _⟩ => ⟨S1x256x1, .i32⟩
  | .local _ .vmem, ⟨12, _⟩ => ⟨S1x1x1024x512, .f32⟩
  | .local _ .vmem, ⟨13, _⟩ => ⟨S1x1x1024x512, .f32⟩
  | .local _ .vmem, ⟨14, _⟩ => ⟨S1x1x1024x512, .f32⟩
  | .local _ .vmem, ⟨15, _⟩ => ⟨S1x1x1024x512, .f32⟩
  | .local _ .vmem, ⟨16, _⟩ => ⟨S1x1x512x1024, .f32⟩
  | .local _ .vmem, ⟨17, _⟩ => ⟨S1x1x512x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1x256x1024, .f32⟩
  | .local _ .vmem, ⟨21, _⟩ => ⟨S1x256x1024, .f32⟩
  | .local _ .vmem, ⟨22, _⟩ => ⟨S1024x1024, .f32⟩
  | .local _ .vmem, ⟨23, _⟩ => ⟨S256x1024, .f32⟩
  | _, _ => ⟨S16x1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 4], ![false, false]⟩

def k0_cond5 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_31 : BitVec 32 := 0#32
  let v57 : BitVec 1 := Scalar.cmpi .ne v56 c0_i32_31
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16x1024x512 : Shape := ⟨3, ![16, 1024, 512]⟩
abbrev S16x256x512 : Shape := ⟨3, ![16, 256, 512]⟩
abbrev S16x1024x1 : Shape := ⟨3, ![16, 1024, 1]⟩
abbrev S16x256x1 : Shape := ⟨3, ![16, 256, 1]⟩
abbrev S1x1x1024 : Shape := ⟨3, ![1, 1, 1024]⟩
abbrev S2x1x1024 : Shape := ⟨3, ![2, 1, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S2x1024x1024 : Shape := ⟨3, ![2, 1024, 1024]⟩
abbrev S2048x1024 : Shape := ⟨2, ![2048, 1024]⟩
abbrev S16x1024x512x2 : Shape := ⟨4, ![16, 1024, 512, 2]⟩
abbrev S16x1024x512x1 : Shape := ⟨4, ![16, 1024, 512, 1]⟩
abbrev S16x1024x1024 : Shape := ⟨3, ![16, 1024, 1024]⟩
abbrev S_ : Shape := ⟨0, ![]⟩
abbrev S16x256x512x2 : Shape := ⟨4, ![16, 256, 512, 2]⟩
abbrev S16x256x512x1 : Shape := ⟨4, ![16, 256, 512, 1]⟩
abbrev S16x256x1024 : Shape := ⟨3, ![16, 256, 1024]⟩
abbrev S16x256x2048 : Shape := ⟨3, ![16, 256, 2048]⟩
abbrev S16x256 : Shape := ⟨2, ![16, 256]⟩

abbrev nBuf : Space → Nat
  | .hbm => 75
  | .vmem => 0
  | .smem => 0
  | _ => 0

abbrev bufTy : (tb : Table) → Fin (tcTables nBuf tb) → BufTy
  | .hbm, ⟨0, _⟩ => ⟨S16x1024x512, .i32⟩
  | .hbm, ⟨1, _⟩ => ⟨S16x256x512, .i32⟩
  | .hbm, ⟨2, _⟩ => ⟨S16x1024x1, .f32⟩
  | .hbm, ⟨3, _⟩ => ⟨S16x256x1, .f32⟩
  | .hbm, ⟨4, _⟩ => ⟨S1x1x1024, .f32⟩
  | .hbm, ⟨5, _⟩ => ⟨S2x1x1024, .f32⟩
  | .hbm, ⟨6, _⟩ => ⟨S16x256x1, .i32⟩
  | .hbm, ⟨7, _⟩ => ⟨S4x16x1024x2048, .f32⟩
  | .hbm, ⟨8, _⟩ => ⟨S4x16x1024x2048, .f32⟩
  | .hbm, ⟨9, _⟩ => ⟨S4x16x2048x1024, .f32⟩
  | .hbm, ⟨10, _⟩ => ⟨S1x16x1024x2048, .f32⟩
  | .hbm, ⟨11, _⟩ => ⟨S16x1024x2048, .f32⟩
  | .hbm, ⟨12, _⟩ => ⟨S1x16x1024x2048, .f32⟩
  | .hbm, ⟨13, _⟩ => ⟨S16x1024x2048, .f32⟩
  | .hbm, ⟨14, _⟩ => ⟨S1x16x2048x1024, .f32⟩
  | .hbm, ⟨15, _⟩ => ⟨S16x2048x1024, .f32⟩
  | .hbm, ⟨16, _⟩ => ⟨S2x1024x1024, .f32⟩
  | .hbm, ⟨17, _⟩ => ⟨S2048x1024, .f32⟩
  | .hbm, ⟨18, _⟩ => ⟨S16x1024x512x2, .bf16⟩
  | .hbm, ⟨19, _⟩ => ⟨S16x1024x512x1, .bf16⟩
  | .hbm, ⟨20, _⟩ => ⟨S16x1024x512, .bf16⟩
  | .hbm, ⟨21, _⟩ => ⟨S16x1024x512x1, .bf16⟩
  | .hbm, ⟨22, _⟩ => ⟨S16x1024x512, .bf16⟩
  | .hbm, ⟨23, _⟩ => ⟨S16x1024x1024, .bf16⟩
  | .hbm, ⟨24, _⟩ => ⟨S16x1024x1024, .f32⟩
  | .hbm, ⟨25, _⟩ => ⟨S16x1024x2048, .f32⟩
  | .hbm, ⟨26, _⟩ => ⟨S16x1024x2048, .f32⟩
  | .hbm, ⟨27, _⟩ => ⟨S16x1024x2048, .f32⟩
  | .hbm, ⟨28, _⟩ => ⟨S_, .f32⟩
  | .hbm, ⟨29, _⟩ => ⟨S16x1024x2048, .f32⟩
  | .hbm, ⟨30, _⟩ => ⟨S16x1024x2048, .f32⟩
  | .hbm, ⟨31, _⟩ => ⟨S_, .f32⟩
  | .hbm, ⟨32, _⟩ => ⟨S16x1024x2048, .f32⟩
  | .hbm, ⟨33, _⟩ => ⟨S16x1024x2048, .f32⟩
  | .hbm, ⟨34, _⟩ => ⟨S16x1024x2048, .f32⟩
  | .hbm, ⟨35, _⟩ => ⟨S16x1024x2048, .f32⟩
  | .hbm, ⟨36, _⟩ => ⟨S16x1024x2048, .f32⟩
  | .hbm, ⟨37, _⟩ => ⟨S16x1024x1024, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S16x1024x1024, .f32⟩
  | .hbm, ⟨42, _⟩ => ⟨S16x256x512x2, .bf16⟩
  | .hbm, ⟨43, _⟩ => ⟨S16x256x512x1, .bf16⟩
  | .hbm, ⟨44, _⟩ => ⟨S16x256x512, .bf16⟩
  | .hbm, ⟨45, _⟩ => ⟨S16x256x512x1, .bf16⟩
  | .hbm, ⟨46, _⟩ => ⟨S16x256x512, .bf16⟩
  | .hbm, ⟨47, _⟩ => ⟨S16x256x1024, .bf16⟩
  | .hbm, ⟨48, _⟩ => ⟨S16x256x1024, .f32⟩
  | .hbm, ⟨49, _⟩ => ⟨S16x256x2048, .f32⟩
  | .hbm, ⟨50, _⟩ => ⟨S16x256x2048, .f32⟩
  | .hbm, ⟨51, _⟩ => ⟨S16x256x2048, .f32⟩
  | .hbm, ⟨52, _⟩ => ⟨S_, .f32⟩
  | .hbm, ⟨53, _⟩ => ⟨S16x256x2048, .f32⟩
  | .hbm, ⟨54, _⟩ => ⟨S16x256x2048, .f32⟩
  | .hbm, ⟨55, _⟩ => ⟨S_, .f32⟩
  | .hbm, ⟨56, _⟩ => ⟨S16x256x2048, .f32⟩
  | .hbm, ⟨57, _⟩ => ⟨S16x256x2048, .f32⟩
  | .hbm, ⟨58, _⟩ => ⟨S16x256x2048, .f32⟩
  | .hbm, ⟨59, _⟩ => ⟨S16x256x2048, .f32⟩
  | .hbm, ⟨60, _⟩ => ⟨S16x256x2048, .f32⟩
  | .hbm, ⟨61, _⟩ => ⟨S16x256x1024, .f32⟩
  | .hbm, ⟨62, _⟩ => ⟨S16x256x1024, .f32⟩
  | .hbm, ⟨63, _⟩ => ⟨S16x256x1024, .f32⟩
  | .hbm, ⟨64, _⟩ => ⟨S16x256, .i32⟩
  | .hbm, ⟨65, _⟩ => ⟨S_, .i32⟩
  | .hbm, ⟨66, _⟩ => ⟨S16x256, .i32⟩
  | .hbm, ⟨67, _⟩ => ⟨S16x256, .i1⟩
  | .hbm, ⟨68, _⟩ => ⟨S_, .i32⟩
  | .hbm, ⟨69, _⟩ => ⟨S16x256, .i32⟩
  | .hbm, ⟨70, _⟩ => ⟨S16x256, .i32⟩
  | .hbm, ⟨71, _⟩ => ⟨S16x256, .i32⟩
  | .hbm, ⟨72, _⟩ => ⟨S16x256x1, .i32⟩
  | .hbm, ⟨73, _⟩ => ⟨S16x256x1024, .f32⟩
  | .hbm, ⟨74, _⟩ => ⟨S16x256x1024, .f32⟩
  | _, _ => ⟨S16x1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c : Ref sig .tc := ⟨.hbm, 65, rfl⟩
abbrev main_v39 : Ref sig .tc := ⟨.hbm, 66, rfl⟩
abbrev main_v40 : Ref sig .tc := ⟨.hbm, 67, rfl⟩
abbrev main_c_0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Kernel3.lean ====
abbrev S2x1024x1024 : Shape := ⟨3, ![2, 1024, 1024]⟩
abbrev S4x1024 : Shape := ⟨2, ![4, 1024]⟩
abbrev S2x1x1024 : Shape := ⟨3, ![2, 1, 1024]⟩
abbrev S4x1024x3088 : Shape := ⟨3, ![4, 1024, 3088]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4x1024x3200 : Shape := ⟨3, ![4, 1024, 3200]⟩
abbrev S4x1024x1024 : Shape := ⟨3, ![4, 1024, 1024]⟩
abbrev S1 : Shape := ⟨1, ![1]⟩
abbrev S4x1024x2048 : Shape := ⟨3, ![4, 1024, 2048]⟩
abbrev S4x1024x16 : Shape := ⟨3, ![4, 1024, 16]⟩
abbrev S2048x3200 : Shape := ⟨2, ![2048, 3200]⟩
abbrev S512x1024 : Shape := ⟨2, ![512, 1024]⟩
abbrev S1x1x1024 : Shape := ⟨3, ![1, 1, 1024]⟩
abbrev S1x1024x3200 : Shape := ⟨3, ![1, 1024, 3200]⟩
abbrev S512x3200 : Shape := ⟨2, ![512, 3200]⟩
abbrev S512 : Shape := ⟨1, ![512]⟩
abbrev S512x1 : Shape := ⟨2, ![512, 1]⟩
abbrev S1024x3200 : Shape := ⟨2, ![1024, 3200]⟩

abbrev nBuf : Space → Nat
  | .hbm => 27
  | .vmem => 10
  | .smem => 0
  | _ => 0

abbrev bufTy : (tb : Table) → Fin (tcTables nBuf tb) → BufTy
  | .hbm, ⟨0, _⟩ => ⟨S2x1024x1024, .f32⟩
  | .hbm, ⟨1, _⟩ => ⟨S4x1024, .f32⟩
  | .hbm, ⟨2, _⟩ => ⟨S2x1x1024, .f32⟩
  | .hbm, ⟨3, _⟩ => ⟨S2x1x1024, .f32⟩
  | .hbm, ⟨4, _⟩ => ⟨S4x1024x3088, .f32⟩
  | .hbm, ⟨5, _⟩ => ⟨S2048x1024, .f32⟩
  | .hbm, ⟨6, _⟩ => ⟨S1x1024, .f32⟩
  | .hbm, ⟨7, _⟩ => ⟨S1024, .f32⟩
  | .hbm, ⟨8, _⟩ => ⟨S_, .bf16⟩
  | .hbm, ⟨9, _⟩ => ⟨S4x1024x3200, .bf16⟩
  | .hbm, ⟨10, _⟩ => ⟨S4x1024x1024, .f32⟩
  | .hbm, ⟨11, _⟩ => ⟨S4x1024x1024, .bf16⟩
  | .hbm, ⟨12, _⟩ => ⟨S_, .i32⟩
  | .hbm, ⟨13, _⟩ => ⟨S1, .i32⟩
  | .hbm, ⟨14, _⟩ => ⟨S4x1024x3200, .bf16⟩
  | .hbm, ⟨15, _⟩ => ⟨S4x1024x2048, .f32⟩
  | .hbm, ⟨16, _⟩ => ⟨S4x1024x2048, .bf16⟩
  | .hbm, ⟨17, _⟩ => ⟨S_, .i32⟩
  | .hbm, ⟨18, _⟩ => ⟨S1, .i32⟩
  | .hbm, ⟨19, _⟩ => ⟨S4x1024x3200, .bf16⟩
  | .hbm, ⟨20, _⟩ => ⟨S4x1024x16, .f32⟩
  | .hbm, ⟨21, _⟩ => ⟨S4x1024x16, .bf16⟩
  | .hbm, ⟨22, _⟩ => ⟨S_, .i32⟩
  | .hbm, ⟨23, _⟩ => ⟨S1, .i32⟩
  | .hbm, ⟨24, _⟩ => ⟨S4x1024x3200, .bf16⟩
  | .hbm, ⟨25, _⟩ => ⟨S1x1024, .f32⟩
  | .hbm, ⟨26, _⟩ => ⟨S2048x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x3200, .bf16⟩
  | .local _ .vmem, ⟨8, _⟩ => ⟨S512x3200, .f32⟩
  | .local _ .vmem, ⟨9, _⟩ => ⟨S512x3200, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x1024x1024 : Shape := ⟨3, ![2, 1024, 1024]⟩
abbrev S4x1024 : Shape := ⟨2, ![4, 1024]⟩
abbrev S2x1x1024 : Shape := ⟨3, ![2, 1, 1024]⟩
abbrev S4x1024x3088 : Shape := ⟨3, ![4, 1024, 3088]⟩
abbrev S_ : Shape := ⟨0, ![]⟩
abbrev S2x1024 : Shape := ⟨2, ![2, 1024]⟩
abbrev S2x1024x1 : Shape := ⟨3, ![2, 1024, 1]⟩
abbrev S1x1024 : Shape := ⟨2, ![1, 1024]⟩
abbrev S1024 : Shape := ⟨1, ![1024]⟩
abbrev S1x1x1024 : Shape := ⟨3, ![1, 1, 1024]⟩
abbrev S1x1024x3088 : Shape := ⟨3, ![1, 1024, 3088]⟩
abbrev S1024x3088 : Shape := ⟨2, ![1024, 3088]⟩
abbrev S2x1024x3088 : Shape := ⟨3, ![2, 1024, 3088]⟩
abbrev S2x1024x16 : Shape := ⟨3, ![2, 1024, 16]⟩
abbrev S2x1024x2048 : Shape := ⟨3, ![2, 1024, 2048]⟩
abbrev S2x1024x112 : Shape := ⟨3, ![2, 1024, 112]⟩
abbrev S2x1024x3200 : Shape := ⟨3, ![2, 1024, 3200]⟩
abbrev S2048x3200 : Shape := ⟨2, ![2048, 3200]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S4x1024, .f32⟩
  | .hbm, ⟨2, _⟩ => ⟨S2x1x1024, .f32⟩
  | .hbm, ⟨3, _⟩ => ⟨S2x1x1024, .f32⟩
  | .hbm, ⟨4, _⟩ => ⟨S4x1024x3088, .f32⟩
  | .hbm, ⟨5, _⟩ => ⟨S2x1024x1024, .f32⟩
  | .hbm, ⟨6, _⟩ => ⟨S_, .f32⟩
  | .hbm, ⟨7, _⟩ => ⟨S2x1024, .f32⟩
  | .hbm, ⟨8, _⟩ => ⟨S2x1024x1, .f32⟩
  | .hbm, ⟨9, _⟩ => ⟨S_, .f32⟩
  | .hbm, ⟨10, _⟩ => ⟨S2x1024x1, .f32⟩
  | .hbm, ⟨11, _⟩ => ⟨S2x1024x1, .f32⟩
  | .hbm, ⟨12, _⟩ => ⟨S_, .f32⟩
  | .hbm, ⟨13, _⟩ => ⟨S2x1024x1, .f32⟩
  | .hbm, ⟨14, _⟩ => ⟨S2x1024x1, .f32⟩
  | .hbm, ⟨15, _⟩ => ⟨S2x1024x1, .f32⟩
  | .hbm, ⟨16, _⟩ => ⟨S2x1024x1024, .f32⟩
  | .hbm, ⟨17, _⟩ => ⟨S2x1024x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S1x1024x3088, .f32⟩
  | .hbm, ⟨31, _⟩ => ⟨S1024x3088, .f32⟩
  | .hbm, ⟨32, _⟩ => ⟨S2x1024x3088, .f32⟩
  | .hbm, ⟨33, _⟩ => ⟨S2x1024x1024, .f32⟩
  | .hbm, ⟨34, _⟩ => ⟨S2x1024x16, .f32⟩
  | .hbm, ⟨35, _⟩ => ⟨S2x1024x2048, .f32⟩
  | .hbm, ⟨36, _⟩ => ⟨S_, .f32⟩
  | .hbm, ⟨37, _⟩ => ⟨S2x1024x112, .f32⟩
  | .hbm, ⟨38, _⟩ => ⟨S2x1024x3200, .f32⟩
  | .hbm, ⟨39, _⟩ => ⟨S2048x3200, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel4.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S2048x1024 : Shape := ⟨2, ![2048, 1024]⟩
abbrev S4x1024x32 : Shape := ⟨3, ![4, 1024, 32]⟩
abbrev S2048x256 : Shape := ⟨2, ![2048, 256]⟩
abbrev S1x1024 : Shape := ⟨2, ![1, 1024]⟩
abbrev S1024 : Shape := ⟨1, ![1024]⟩
abbrev S2048x512 : Shape := ⟨2, ![2048, 512]⟩
abbrev S2048x16 : Shape := ⟨2, ![2048, 16]⟩
abbrev S512x1024 : Shape := ⟨2, ![512, 1024]⟩
abbrev S512x256 : Shape := ⟨2, ![512, 256]⟩
abbrev S1x1024x1024 : Shape := ⟨3, ![1, 1024, 1024]⟩
abbrev S1x1x1024 : Shape := ⟨3, ![1, 1, 1024]⟩
abbrev S1x1024x32 : Shape := ⟨3, ![1, 1024, 32]⟩
abbrev S512x512 : Shape := ⟨2, ![512, 512]⟩
abbrev S512x16 : Shape := ⟨2, ![512, 16]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x32 : Shape := ⟨2, ![1024, 32]⟩
abbrev S512x32 : Shape := ⟨2, ![512, 32]⟩

abbrev nBuf : Space → Nat
  | .hbm => 27
  | .vmem => 26
  | .smem => 0
  | _ => 0

abbrev bufTy : (tb : Table) → Fin (tcTables nBuf tb) → BufTy
  | .hbm, ⟨0, _⟩ => ⟨S2x1024x1024, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x1024, .f32⟩
  | .hbm, ⟨6, _⟩ => ⟨S2x1x1024, .f32⟩
  | .hbm, ⟨7, _⟩ => ⟨S4x1024, .f32⟩
  | .hbm, ⟨8, _⟩ => ⟨S2x1x1024, .f32⟩
  | .hbm, ⟨9, _⟩ => ⟨S2x1x1024, .f32⟩
  | .hbm, ⟨10, _⟩ => ⟨S4x1024x16, .f32⟩
  | .hbm, ⟨11, _⟩ => ⟨S2048x1024, .f32⟩
  | .hbm, ⟨12, _⟩ => ⟨S4x1024x16, .bf16⟩
  | .hbm, ⟨13, _⟩ => ⟨S4x1024x16, .f32⟩
  | .hbm, ⟨14, _⟩ => ⟨S4x1024x16, .f32⟩
  | .hbm, ⟨15, _⟩ => ⟨S4x1024x16, .bf16⟩
  | .hbm, ⟨16, _⟩ => ⟨S4x1024x32, .bf16⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x512, .i32⟩
  | .hbm, ⟨26, _⟩ => ⟨S2048x16, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x32, .bf16⟩
  | .local _ .vmem, ⟨19, _⟩ => ⟨S512x1024, .f32⟩
  | .local _ .vmem, ⟨20, _⟩ => ⟨S512x1024, .f32⟩
  | .local _ .vmem, ⟨21, _⟩ => ⟨S512x512, .i32⟩
  | .local _ .vmem, ⟨22, _⟩ => ⟨S512x512, .i32⟩
  | .local _ .vmem, ⟨23, _⟩ => ⟨S512x16, .f32⟩
  | .local _ .vmem, ⟨24, _⟩ => ⟨S512x16, .f32⟩
  | .local _ .vmem, ⟨25, _⟩ => ⟨S1024x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel4Ideal.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S2048x1024 : Shape := ⟨2, ![2048, 1024]⟩
abbrev S4x1024x32 : Shape := ⟨3, ![4, 1024, 32]⟩
abbrev S2048x256 : Shape := ⟨2, ![2048, 256]⟩
abbrev S1x1024 : Shape := ⟨2, ![1, 1024]⟩
abbrev S1024 : Shape := ⟨1, ![1024]⟩
abbrev S2048x2x512 : Shape := ⟨3, ![2048, 2, 512]⟩
abbrev S2048x16 : Shape := ⟨2, ![2048, 16]⟩
abbrev S2048x1x512 : Shape := ⟨3, ![2048, 1, 512]⟩
abbrev S2048x512 : Shape := ⟨2, ![2048, 512]⟩
abbrev S512x1024 : Shape := ⟨2, ![512, 1024]⟩
abbrev S512x256 : Shape := ⟨2, ![512, 256]⟩
abbrev S1x1024x1024 : Shape := ⟨3, ![1, 1024, 1024]⟩
abbrev S1x1x1024 : Shape := ⟨3, ![1, 1, 1024]⟩
abbrev S1x1024x32 : Shape := ⟨3, ![1, 1024, 32]⟩
abbrev S512x512 : Shape := ⟨2, ![512, 512]⟩
abbrev S512x2x512 : Shape := ⟨3, ![512, 2, 512]⟩
abbrev S512x1x512 : Shape := ⟨3, ![512, 1, 512]⟩
abbrev S512x16 : Shape := ⟨2, ![512, 16]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x32 : Shape := ⟨2, ![1024, 32]⟩
abbrev S512x32 : Shape := ⟨2, ![512, 32]⟩

abbrev nBuf : Space → Nat
  | .hbm => 27
  | .vmem => 26
  | .smem => 0
  | _ => 0

abbrev bufTy : (tb : Table) → Fin (tcTables nBuf tb) → BufTy
  | .hbm, ⟨0, _⟩ => ⟨S2x1024x1024, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x1024, .f32⟩
  | .hbm, ⟨6, _⟩ => ⟨S2x1x1024, .f32⟩
  | .hbm, ⟨7, _⟩ => ⟨S4x1024, .f32⟩
  | .hbm, ⟨8, _⟩ => ⟨S2x1x1024, .f32⟩
  | .hbm, ⟨9, _⟩ => ⟨S2x1x1024, .f32⟩
  | .hbm, ⟨10, _⟩ => ⟨S4x1024x16, .f32⟩
  | .hbm, ⟨11, _⟩ => ⟨S2048x1024, .f32⟩
  | .hbm, ⟨12, _⟩ => ⟨S4x1024x16, .bf16⟩
  | .hbm, ⟨13, _⟩ => ⟨S4x1024x16, .f32⟩
  | .hbm, ⟨14, _⟩ => ⟨S4x1024x16, .f32⟩
  | .hbm, ⟨15, _⟩ => ⟨S4x1024x16, .bf16⟩
  | .hbm, ⟨16, _⟩ => ⟨S4x1024x32, .bf16⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x2x512, .bf16⟩
  | .hbm, ⟨26, _⟩ => ⟨S2048x16, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x32, .bf16⟩
  | .local _ .vmem, ⟨19, _⟩ => ⟨S512x1024, .f32⟩
  | .local _ .vmem, ⟨20, _⟩ => ⟨S512x1024, .f32⟩
  | .local _ .vmem, ⟨21, _⟩ => ⟨S512x2x512, .bf16⟩
  | .local _ .vmem, ⟨22, _⟩ => ⟨S512x2x512, .bf16⟩
  | .local _ .vmem, ⟨23, _⟩ => ⟨S512x16, .f32⟩
  | .local _ .vmem, ⟨24, _⟩ => ⟨S512x16, .f32⟩
  | .local _ .vmem, ⟨25, _⟩ => ⟨S1024x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x1024, .f32⟩
  | .hbm, ⟨6, _⟩ => ⟨S2x1x1024, .f32⟩
  | .hbm, ⟨7, _⟩ => ⟨S4x1024, .f32⟩
  | .hbm, ⟨8, _⟩ => ⟨S2x1x1024, .f32⟩
  | .hbm, ⟨9, _⟩ => ⟨S2x1x1024, .f32⟩
  | .hbm, ⟨10, _⟩ => ⟨S4x1024x16, .f32⟩
  | .hbm, ⟨11, _⟩ => ⟨S2x1024x1024, .f32⟩
  | .hbm, ⟨12, _⟩ => ⟨S1x1024x1024, .f32⟩
  | .hbm, ⟨13, _⟩ => ⟨S1024x1024, .f32⟩
  | .hbm, ⟨14, _⟩ => ⟨S2x1024x1024, .f32⟩
  | .hbm, ⟨15, _⟩ => ⟨S2x1024x1024, .f32⟩
  | .hbm, ⟨16, _⟩ => ⟨S2x1024x1024, .f32⟩
  | .hbm, ⟨17, _⟩ => ⟨S2x1024x1024, .f32⟩
  | .hbm, ⟨18, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel5.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S2048x1024 : Shape := ⟨2, ![2048, 1024]⟩
abbrev S4x1024x32 : Shape := ⟨3, ![4, 1024, 32]⟩
abbrev S2048x256 : Shape := ⟨2, ![2048, 256]⟩
abbrev S1x1024 : Shape := ⟨2, ![1, 1024]⟩
abbrev S1024 : Shape := ⟨1, ![1024]⟩
abbrev S2048x512 : Shape := ⟨2, ![2048, 512]⟩
abbrev S2048x16 : Shape := ⟨2, ![2048, 16]⟩
abbrev S512x1024 : Shape := ⟨2, ![512, 1024]⟩
abbrev S512x256 : Shape := ⟨2, ![512, 256]⟩
abbrev S1x1024x1024 : Shape := ⟨3, ![1, 1024, 1024]⟩
abbrev S1x1x1024 : Shape := ⟨3, ![1, 1, 1024]⟩
abbrev S1x1024x32 : Shape := ⟨3, ![1, 1024, 32]⟩
abbrev S512x512 : Shape := ⟨2, ![512, 512]⟩
abbrev S512x16 : Shape := ⟨2, ![512, 16]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x32 : Shape := ⟨2, ![1024, 32]⟩
abbrev S512x32 : Shape := ⟨2, ![512, 32]⟩

abbrev nBuf : Space → Nat
  | .hbm => 27
  | .vmem => 26
  | .smem => 0
  | _ => 0

abbrev bufTy : (tb : Table) → Fin (tcTables nBuf tb) → BufTy
  | .hbm, ⟨0, _⟩ => ⟨S2x1024x1024, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x1024, .f32⟩
  | .hbm, ⟨6, _⟩ => ⟨S2x1x1024, .f32⟩
  | .hbm, ⟨7, _⟩ => ⟨S4x1024, .f32⟩
  | .hbm, ⟨8, _⟩ => ⟨S2x1x1024, .f32⟩
  | .hbm, ⟨9, _⟩ => ⟨S2x1x1024, .f32⟩
  | .hbm, ⟨10, _⟩ => ⟨S4x1024x16, .f32⟩
  | .hbm, ⟨11, _⟩ => ⟨S2048x1024, .f32⟩
  | .hbm, ⟨12, _⟩ => ⟨S4x1024x16, .bf16⟩
  | .hbm, ⟨13, _⟩ => ⟨S4x1024x16, .f32⟩
  | .hbm, ⟨14, _⟩ => ⟨S4x1024x16, .f32⟩
  | .hbm, ⟨15, _⟩ => ⟨S4x1024x16, .bf16⟩
  | .hbm, ⟨16, _⟩ => ⟨S4x1024x32, .bf16⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x512, .i32⟩
  | .hbm, ⟨26, _⟩ => ⟨S2048x16, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x32, .bf16⟩
  | .local _ .vmem, ⟨19, _⟩ => ⟨S512x1024, .f32⟩
  | .local _ .vmem, ⟨20, _⟩ => ⟨S512x1024, .f32⟩
  | .local _ .vmem, ⟨21, _⟩ => ⟨S512x512, .i32⟩
  | .local _ .vmem, ⟨22, _⟩ => ⟨S512x512, .i32⟩
  | .local _ .vmem, ⟨23, _⟩ => ⟨S512x16, .f32⟩
  | .local _ .vmem, ⟨24, _⟩ => ⟨S512x16, .f32⟩
  | .local _ .vmem, ⟨25, _⟩ => ⟨S1024x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel5Ideal.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S2048x1024 : Shape := ⟨2, ![2048, 1024]⟩
abbrev S4x1024x32 : Shape := ⟨3, ![4, 1024, 32]⟩
abbrev S2048x256 : Shape := ⟨2, ![2048, 256]⟩
abbrev S1x1024 : Shape := ⟨2, ![1, 1024]⟩
abbrev S1024 : Shape := ⟨1, ![1024]⟩
abbrev S2048x2x512 : Shape := ⟨3, ![2048, 2, 512]⟩
abbrev S2048x16 : Shape := ⟨2, ![2048, 16]⟩
abbrev S2048x1x512 : Shape := ⟨3, ![2048, 1, 512]⟩
abbrev S2048x512 : Shape := ⟨2, ![2048, 512]⟩
abbrev S512x1024 : Shape := ⟨2, ![512, 1024]⟩
abbrev S512x256 : Shape := ⟨2, ![512, 256]⟩
abbrev S1x1024x1024 : Shape := ⟨3, ![1, 1024, 1024]⟩
abbrev S1x1x1024 : Shape := ⟨3, ![1, 1, 1024]⟩
abbrev S1x1024x32 : Shape := ⟨3, ![1, 1024, 32]⟩
abbrev S512x512 : Shape := ⟨2, ![512, 512]⟩
abbrev S512x2x512 : Shape := ⟨3, ![512, 2, 512]⟩
abbrev S512x1x512 : Shape := ⟨3, ![512, 1, 512]⟩
abbrev S512x16 : Shape := ⟨2, ![512, 16]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x32 : Shape := ⟨2, ![1024, 32]⟩
abbrev S512x32 : Shape := ⟨2, ![512, 32]⟩

abbrev nBuf : Space → Nat
  | .hbm => 27
  | .vmem => 26
  | .smem => 0
  | _ => 0

abbrev bufTy : (tb : Table) → Fin (tcTables nBuf tb) → BufTy
  | .hbm, ⟨0, _⟩ => ⟨S2x1024x1024, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x1024, .f32⟩
  | .hbm, ⟨6, _⟩ => ⟨S2x1x1024, .f32⟩
  | .hbm, ⟨7, _⟩ => ⟨S4x1024, .f32⟩
  | .hbm, ⟨8, _⟩ => ⟨S2x1x1024, .f32⟩
  | .hbm, ⟨9, _⟩ => ⟨S2x1x1024, .f32⟩
  | .hbm, ⟨10, _⟩ => ⟨S4x1024x16, .f32⟩
  | .hbm, ⟨11, _⟩ => ⟨S2048x1024, .f32⟩
  | .hbm, ⟨12, _⟩ => ⟨S4x1024x16, .bf16⟩
  | .hbm, ⟨13, _⟩ => ⟨S4x1024x16, .f32⟩
  | .hbm, ⟨14, _⟩ => ⟨S4x1024x16, .f32⟩
  | .hbm, ⟨15, _⟩ => ⟨S4x1024x16, .bf16⟩
  | .hbm, ⟨16, _⟩ => ⟨S4x1024x32, .bf16⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x2x512, .bf16⟩
  | .hbm, ⟨26, _⟩ => ⟨S2048x16, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x32, .bf16⟩
  | .local _ .vmem, ⟨19, _⟩ => ⟨S512x1024, .f32⟩
  | .local _ .vmem, ⟨20, _⟩ => ⟨S512x1024, .f32⟩
  | .local _ .vmem, ⟨21, _⟩ => ⟨S512x2x512, .bf16⟩
  | .local _ .vmem, ⟨22, _⟩ => ⟨S512x2x512, .bf16⟩
  | .local _ .vmem, ⟨23, _⟩ => ⟨S512x16, .f32⟩
  | .local _ .vmem, ⟨24, _⟩ => ⟨S512x16, .f32⟩
  | .local _ .vmem, ⟨25, _⟩ => ⟨S1024x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S2x1024x1024 : Shape := ⟨3, ![2, 1024, 1024]⟩
abbrev S2x1024x256 : Shape := ⟨3, ![2, 1024, 256]⟩
abbrev S4x1024x1024 : Shape := ⟨3, ![4, 1024, 1024]⟩
abbrev S2x1x1024 : Shape := ⟨3, ![2, 1, 1024]⟩
abbrev S4x1024 : Shape := ⟨2, ![4, 1024]⟩
abbrev S4x1024x16 : Shape := ⟨3, ![4, 1024, 16]⟩
abbrev S1x1024x1024 : Shape := ⟨3, ![1, 1024, 1024]⟩
abbrev S1024x1024 : Shape := ⟨2, ![1024, 1024]⟩
abbrev S_ : Shape := ⟨0, ![]⟩
abbrev S2x1024 : Shape := ⟨2, ![2, 1024]⟩
abbrev S2x1024x1 : Shape := ⟨3, ![2, 1024, 1]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩
abbrev S1x1024x16 : Shape := ⟨3, ![1, 1024, 16]⟩
abbrev S1024x16 : Shape := ⟨2, ![1024, 16]⟩
abbrev S2048x16 : Shape := ⟨2, ![2048, 16]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x1024, .f32⟩
  | .hbm, ⟨6, _⟩ => ⟨S2x1x1024, .f32⟩
  | .hbm, ⟨7, _⟩ => ⟨S4x1024, .f32⟩
  | .hbm, ⟨8, _⟩ => ⟨S2x1x1024, .f32⟩
  | .hbm, ⟨9, _⟩ => ⟨S2x1x1024, .f32⟩
  | .hbm, ⟨10, _⟩ => ⟨S4x1024x16, .f32⟩
  | .hbm, ⟨11, _⟩ => ⟨S2x1024x1024, .f32⟩
  | .hbm, ⟨12, _⟩ => ⟨S1x1024x1024, .f32⟩
  | .hbm, ⟨13, _⟩ => ⟨S1024x1024, .f32⟩
  | .hbm, ⟨14, _⟩ => ⟨S2x1024x1024, .f32⟩
  | .hbm, ⟨15, _⟩ => ⟨S2x1024x1024, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024, .f32⟩
  | .hbm, ⟨21, _⟩ => ⟨S2x1024x1, .f32⟩
  | .hbm, ⟨22, _⟩ => ⟨S_, .f32⟩
  | .hbm, ⟨23, _⟩ => ⟨S2x1024x1, .f32⟩
  | .hbm, ⟨24, _⟩ => ⟨S2x1024x1, .f32⟩
  | .hbm, ⟨25, _⟩ => ⟨S_, .f32⟩
  | .hbm, ⟨26, _⟩ => ⟨S2x1024x1, .f32⟩
  | .hbm, ⟨27, _⟩ => ⟨S2x1024x1, .f32⟩
  | .hbm, ⟨28, _⟩ => ⟨S2x1024x1, .f32⟩
  | .hbm, ⟨29, _⟩ => ⟨S2x1024x1024, .f32⟩
  | .hbm, ⟨30, _⟩ => ⟨S2x1024x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S2x1024x1024, .f32⟩
  | .hbm, ⟨35, _⟩ => ⟨S2x1024x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S2x1024x1024, .f32⟩
  | .hbm, ⟨43, _⟩ => ⟨S2048x1024, .f32⟩
  | .hbm, ⟨44, _⟩ => ⟨S1x1024x16, .f32⟩
  | .hbm, ⟨45, _⟩ => ⟨S1024x16, .f32⟩
  | .hbm, ⟨46, _⟩ => ⟨S2048x16, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x16, .f32⟩
  | .hbm, ⟨60, _⟩ => ⟨S2048x16, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel6.lean ====
abbrev S32x256x3200 : Shape := ⟨3, ![32, 256, 3200]⟩
abbrev S4x2x4 : Shape := ⟨3, ![4, 2, 4]⟩
abbrev S4x256 : Shape := ⟨2, ![4, 256]⟩
abbrev S32x2x4x64x64 : Shape := ⟨5, ![32, 2, 4, 64, 64]⟩
abbrev S1x2x4 : Shape := ⟨3, ![1, 2, 4]⟩
abbrev S2x4 : Shape := ⟨2, ![2, 4]⟩
abbrev S1x256 : Shape := ⟨2, ![1, 256]⟩
abbrev S256 : Shape := ⟨1, ![256]⟩
abbrev S32x256x256 : Shape := ⟨3, ![32, 256, 256]⟩
abbrev S1x256x256 : Shape := ⟨3, ![1, 256, 256]⟩
abbrev S1x2x4x64x64 : Shape := ⟨5, ![1, 2, 4, 64, 64]⟩
abbrev S256x1 : Shape := ⟨2, ![256, 1]⟩
abbrev S256x256 : Shape := ⟨2, ![256, 256]⟩
abbrev S1x1 : Shape := ⟨2, ![1, 1]⟩
abbrev S256x64 : Shape := ⟨2, ![256, 64]⟩
abbrev S1x1x1x64x64 : Shape := ⟨5, ![1, 1, 1, 64, 64]⟩
abbrev S64x64 : Shape := ⟨2, ![64, 64]⟩
abbrev S1x256x64 : Shape := ⟨3, ![1, 256, 64]⟩
abbrev S64x256 : Shape := ⟨2, ![64, 256]⟩

abbrev nBuf : Space → Nat
  | .hbm => 13
  | .vmem => 15
  | .smem => 1
  | _ => 0

abbrev bufTy : (tb : Table) → Fin (tcTables nBuf tb) → BufTy
  | .hbm, ⟨0, _⟩ => ⟨S32x256x3200, .f32⟩
  | .hbm, ⟨1, _⟩ => ⟨S4x2x4, .f32⟩
  | .hbm, ⟨2, _⟩ => ⟨S4x256, .f32⟩
  | .hbm, ⟨3, _⟩ => ⟨S32x2x4x64x64, .f32⟩
  | .hbm, ⟨4, _⟩ => ⟨S1x2x4, .f32⟩
  | .hbm, ⟨5, _⟩ => ⟨S2x4, .f32⟩
  | .hbm, ⟨6, _⟩ => ⟨S1x256, .f32⟩
  | .hbm, ⟨7, _⟩ => ⟨S256, .f32⟩
  | .hbm, ⟨8, _⟩ => ⟨S2x4, .f32⟩
  | .hbm, ⟨9, _⟩ => ⟨S2x4, .f32⟩
  | .hbm, ⟨10, _⟩ => ⟨S1x256, .f32⟩
  | .hbm, ⟨11, _⟩ => ⟨S32x256x256, .f32⟩
  | .hbm, ⟨12, _⟩ => ⟨S32x2x4x64x64, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256, .f32⟩
  | .local _ .vmem, ⟨9, _⟩ => ⟨S1x2x4x64x64, .f32⟩
  | .local _ .vmem, ⟨10, _⟩ => ⟨S1x2x4x64x64, .f32⟩
  | .local _ .vmem, ⟨11, _⟩ => ⟨S1x256x256, .f32⟩
  | .local _ .vmem, ⟨12, _⟩ => ⟨S1x256x256, .f32⟩
  | .local _ .vmem, ⟨13, _⟩ => ⟨S1x2x4x64x64, .f32⟩
  | .local _ .vmem, ⟨14, _⟩ => ⟨S1x2x4x64x64, .f32⟩
  | .local _ .smem, ⟨0, _⟩ => ⟨S2x4, .f32⟩
  | _, _ => ⟨S32x256x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v329 : BitVec 1 := Scalar.cmpi .eq arg1 c0_i32
  let v330 : BitVec 32 := Scalar.extui v329
  let c0_i32_141 : BitVec 32 := 0#32
  let v331 : BitVec 1 := Scalar.cmpi .ne v330 c0_i32_141
  v331

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S32x256x3200 : Shape := ⟨3, ![32, 256, 3200]⟩
abbrev S4x2x4 : Shape := ⟨3, ![4, 2, 4]⟩
abbrev S4x256 : Shape := ⟨2, ![4, 256]⟩
abbrev S32x2x4x64x64 : Shape := ⟨5, ![32, 2, 4, 64, 64]⟩
abbrev S32x256x256 : Shape := ⟨3, ![32, 256, 256]⟩
abbrev S32x256x4x64 : Shape := ⟨4, ![32, 256, 4, 64]⟩
abbrev S_ : Shape := ⟨0, ![]⟩
abbrev S1x2x4 : Shape := ⟨3, ![1, 2, 4]⟩
abbrev S2x4 : Shape := ⟨2, ![2, 4]⟩
abbrev S64 : Shape := ⟨1, ![64]⟩
abbrev S1x4 : Shape := ⟨2, ![1, 4]⟩
abbrev S4 : Shape := ⟨1, ![4]⟩
abbrev S4x1 : Shape := ⟨2, ![4, 1]⟩
abbrev S1x64 : Shape := ⟨2, ![1, 64]⟩
abbrev S4x64 : Shape := ⟨2, ![4, 64]⟩
abbrev S32x1x4x64x64 : Shape := ⟨5, ![32, 1, 4, 64, 64]⟩
abbrev S32x4x64x64 : Shape := ⟨4, ![32, 4, 64, 64]⟩
abbrev S32x64x4x64 : Shape := ⟨4, ![32, 64, 4, 64]⟩
abbrev S4x1x1 : Shape := ⟨3, ![4, 1, 1]⟩
abbrev S1x4x1x1 : Shape := ⟨4, ![1, 4, 1, 1]⟩
abbrev S64x4 : Shape := ⟨2, ![64, 4]⟩
abbrev S64x4x1 : Shape := ⟨3, ![64, 4, 1]⟩
abbrev S1x64x4x1 : Shape := ⟨4, ![1, 64, 4, 1]⟩

abbrev nBuf : Space → Nat
  | .hbm => 163
  | .vmem => 0
  | .smem => 0
  | _ => 0

abbrev hbmTy0_0 (i : Nat) : BufTy := match i % 128 with
  | 0 => ⟨S32x256x3200, .f32⟩
  | 1 => ⟨S4x2x4, .f32⟩
  | 2 => ⟨S4x256, .f32⟩
  | 3 => ⟨S32x2x4x64x64, .f32⟩
  | 4 => ⟨S32x256x256, .f32⟩
  | 5 => ⟨S32x256x4x64, .f32⟩
  | 6 => ⟨S_, .f32⟩
  | 7 => ⟨S32x256x4x64, .f32⟩
  | 8 => ⟨S32x256x4x64, .f32⟩
  | 9 => ⟨S32x256x256, .f32⟩
  | 10 => ⟨S32x256x4x64, .f32⟩
  | 11 => ⟨S1x2x4, .f32⟩
  | 12 => ⟨S2x4, .f32⟩
  | 13 => ⟨S2x4, .f32⟩
  | 14 => ⟨S2x4, .f32⟩
  | 15 => ⟨S64, .f32⟩
  | 16 => ⟨S1x4, .f32⟩
  | 17 => ⟨S4, .f32⟩
  | 18 => ⟨S4x1, .f32⟩
  | 19 => ⟨S_, .f32⟩
  | 20 => ⟨S64, .f32⟩
  | 21 => ⟨S64, .f32⟩
  | 22 => ⟨S1x64, .f32⟩
  | 23 => ⟨S4x64, .f32⟩
  | 24 => ⟨S4x64, .f32⟩
  | 25 => ⟨S4x64, .f32⟩
  | 26 => ⟨S4x64, .f32⟩
  | 27 => ⟨S1x4, .f32⟩
  | 28 => ⟨S4, .f32⟩
  | 29 => ⟨S_, .f32⟩
  | 30 => ⟨S4, .f32⟩
  | 31 => ⟨S4, .f32⟩
  | 32 => ⟨S4, .f32⟩
  | 33 => ⟨S32x1x4x64x64, .f32⟩
  | 34 => ⟨S32x4x64x64, .f32⟩
  | 35 => ⟨S32x64x4x64, .f32⟩
  | 36 => ⟨S32x64x4x64, .f32⟩
  | 37 => ⟨S4x1x1, .f32⟩
  | 38 => ⟨S1x4x1x1, .f32⟩
  | 39 => ⟨S32x4x64x64, .f32⟩
  | 40 => ⟨S32x4x64x64, .f32⟩
  | 41 => ⟨S64x4, .f32⟩
  | 42 => ⟨S64x4x1, .f32⟩
  | 43 => ⟨S1x64x4x1, .f32⟩
  | 44 => ⟨S32x64x4x64, .f32⟩
  | 45 => ⟨S32x64x4x64, .f32⟩
  | 46 => ⟨S32x4x64x64, .f32⟩
  | 47 => ⟨S32x4x64x64, .f32⟩
  | 48 => ⟨S32x64x4x64, .f32⟩
  | 49 => ⟨S32x64x4x64, .f32⟩
  | 50 => ⟨S4x1x1, .f32⟩
  | 51 => ⟨S1x4x1x1, .f32⟩
  | 52 => ⟨S32x4x64x64, .f32⟩
  | 53 => ⟨S32x4x64x64, .f32⟩
  | 54 => ⟨S64x4, .f32⟩
  | 55 => ⟨S64x4x1, .f32⟩
  | 56 => ⟨S1x64x4x1, .f32⟩
  | 57 => ⟨S32x64x4x64, .f32⟩
  | 58 => ⟨S32x64x4x64, .f32⟩
  | 59 => ⟨S32x4x64x64, .f32⟩
  | 60 => ⟨S32x4x64x64, .f32⟩
  | 61 => ⟨S32x64x4x64, .f32⟩
  | 62 => ⟨S32x64x4x64, .f32⟩
  | 63 => ⟨S4x1x1, .f32⟩
  | 64 => ⟨S1x4x1x1, .f32⟩
  | 65 => ⟨S32x4x64x64, .f32⟩
  | 66 => ⟨S32x4x64x64, .f32⟩
  | 67 => ⟨S64x4, .f32⟩
  | 68 => ⟨S64x4x1, .f32⟩
  | 69 => ⟨S1x64x4x1, .f32⟩
  | 70 => ⟨S32x64x4x64, .f32⟩
  | 71 => ⟨S32x64x4x64, .f32⟩
  | 72 => ⟨S32x4x64x64, .f32⟩
  | 73 => ⟨S32x4x64x64, .f32⟩
  | 74 => ⟨S32x64x4x64, .f32⟩
  | 75 => ⟨S32x64x4x64, .f32⟩
  | 76 => ⟨S4x1x1, .f32⟩
  | 77 => ⟨S1x4x1x1, .f32⟩
  | 78 => ⟨S32x4x64x64, .f32⟩
  | 79 => ⟨S32x4x64x64, .f32⟩
  | 80 => ⟨S64x4, .f32⟩
  | 81 => ⟨S64x4x1, .f32⟩
  | 82 => ⟨S1x64x4x1, .f32⟩
  | 83 => ⟨S32x64x4x64, .f32⟩
  | 84 => ⟨S32x64x4x64, .f32⟩
  | 85 => ⟨S32x4x64x64, .f32⟩
  | 86 => ⟨S32x4x64x64, .f32⟩
  | 87 => ⟨S32x256x4x64, .f32⟩
  | 88 => ⟨S32x256x4x64, .f32⟩
  | 89 => ⟨S1x4, .f32⟩
  | 90 => ⟨S4, .f32⟩
  | 91 => ⟨S4x1, .f32⟩
  | 92 => ⟨S_, .f32⟩
  | 93 => ⟨S64, .f32⟩
  | 94 => ⟨S64, .f32⟩
  | 95 => ⟨S1x64, .f32⟩
  | 96 => ⟨S4x64, .f32⟩
  | 97 => ⟨S4x64, .f32⟩
  | 98 => ⟨S4x64, .f32⟩
  | 99 => ⟨S4x64, .f32⟩
  | 100 => ⟨S1x4, .f32⟩
  | 101 => ⟨S4, .f32⟩
  | 102 => ⟨S_, .f32⟩
  | 103 => ⟨S4, .f32⟩
  | 104 => ⟨S4, .f32⟩
  | 105 => ⟨S4, .f32⟩
  | 106 => ⟨S32x1x4x64x64, .f32⟩
  | 107 => ⟨S32x4x64x64, .f32⟩
  | 108 => ⟨S32x64x4x64, .f32⟩
  | 109 => ⟨S32x64x4x64, .f32⟩
  | 110 => ⟨S4x1x1, .f32⟩
  | 111 => ⟨S1x4x1x1, .f32⟩
  | 112 => ⟨S32x4x64x64, .f32⟩
  | 113 => ⟨S32x4x64x64, .f32⟩
  | 114 => ⟨S64x4, .f32⟩
  | 115 => ⟨S64x4x1, .f32⟩
  | 116 => ⟨S1x64x4x1, .f32⟩
  | 117 => ⟨S32x64x4x64, .f32⟩
  | 118 => ⟨S32x64x4x64, .f32⟩
  | 119 => ⟨S32x4x64x64, .f32⟩
  | 120 => ⟨S32x4x64x64, .f32⟩
  | 121 => ⟨S32x64x4x64, .f32⟩
  | 122 => ⟨S32x64x4x64, .f32⟩
  | 123 => ⟨S4x1x1, .f32⟩
  | 124 => ⟨S1x4x1x1, .f32⟩
  | 125 => ⟨S32x4x64x64, .f32⟩
  | 126 => ⟨S32x4x64x64, .f32⟩
  | 127 => ⟨S64x4, .f32⟩
  | _ => ⟨S32x256x3200, .f32⟩

abbrev hbmTy0_1 (i : Nat) : BufTy := match i % 128 with
  | 0 => ⟨S64x4x1, .f32⟩
  | 1 => ⟨S1x64x4x1, .f32⟩
  | 2 => ⟨S32x64x4x64, .f32⟩
  | 3 => ⟨S32x64x4x64, .f32⟩
  | 4 => ⟨S32x4x64x64, .f32⟩
  | 5 => ⟨S32x4x64x64, .f32⟩
  | 6 => ⟨S32x64x4x64, .f32⟩
  | 7 => ⟨S32x64x4x64, .f32⟩
  | 8 => ⟨S4x1x1, .f32⟩
  | 9 => ⟨S1x4x1x1, .f32⟩
  | 10 => ⟨S32x4x64x64, .f32⟩
  | 11 => ⟨S32x4x64x64, .f32⟩
  | 12 => ⟨S64x4, .f32⟩
  | 13 => ⟨S64x4x1, .f32⟩
  | 14 => ⟨S1x64x4x1, .f32⟩
  | 15 => ⟨S32x64x4x64, .f32⟩
  | 16 => ⟨S32x64x4x64, .f32⟩
  | 17 => ⟨S32x4x64x64, .f32⟩
  | 18 => ⟨S32x4x64x64, .f32⟩
  | 19 => ⟨S32x64x4x64, .f32⟩
  | 20 => ⟨S32x64x4x64, .f32⟩
  | 21 => ⟨S4x1x1, .f32⟩
  | 22 => ⟨S1x4x1x1, .f32⟩
  | 23 => ⟨S32x4x64x64, .f32⟩
  | 24 => ⟨S32x4x64x64, .f32⟩
  | 25 => ⟨S64x4, .f32⟩
  | 26 => ⟨S64x4x1, .f32⟩
  | 27 => ⟨S1x64x4x1, .f32⟩
  | 28 => ⟨S32x64x4x64, .f32⟩
  | 29 => ⟨S32x64x4x64, .f32⟩
  | 30 => ⟨S32x4x64x64, .f32⟩
  | 31 => ⟨S32x4x64x64, .f32⟩
  | 32 => ⟨S32x1x4x64x64, .f32⟩
  | 33 => ⟨S32x1x4x64x64, .f32⟩
  | 34 => ⟨S32x2x4x64x64, .f32⟩
  | _ => ⟨S32x256x3200, .f32⟩

abbrev hbmTy (i : Nat) : BufTy := match i / 128 with
  | 0 => hbmTy0_0 i
  | 1 => hbmTy0_1 i
  | _ => ⟨S32x256x3200, .f32⟩

abbrev bufTy : (tb : Table) → Fin (tcTables nBuf tb) → BufTy
  | .hbm, ⟨i, _⟩ => hbmTy i
  | _, _ => ⟨S32x256x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_2 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_cst_3 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩

abbrev nD : Nat := 1
abbrev τ : Topo := Topo.v7x

variable {F : FTy → Type} [FloatOps F]
-- ==== Proof.Facts.lean ====
/-
  The loop's arithmetic. Each of the 32 subcores runs eight trips; before trip `k` the five counters the loop carries
  are known (`accAt`), so the conditions of its copies, the offsets of its windows and the checks it makes are closed
  facts over the subcore and the trip.
-/
module

public import proofs.«01_k».proof.Defs
public import proofs.«01_k».proof.Proof.Gen.KernelIdeal
public import proofs.«01_k».proof.Proof.Gen.KernelIdeal.Skeleton

@[expose] public section

namespace Cert.Proof.Gather

open Cert.KernelIdeal Cert.KernelIdeal.Gen
open Idealize.ShloMosaic

/-- The counters before trip `k`: blocks fetched, blocks consumed, blocks written, writes awaited, and the block's number. -/
abbrev a6 (k : ℕ) : BitVec 32 := BitVec.ofNat 32 (min (k + 1) 8)
abbrev a7 (k : ℕ) : BitVec 32 := BitVec.ofNat 32 k
abbrev a9 (k : ℕ) : BitVec 32 := BitVec.ofNat 32 (k - 1)
abbrev a10 (k : ℕ) : BitVec 32 := BitVec.ofNat 32 (k % 8)

/-- The coordinates of subcore `(c, s)`. -/
def coords (c : Fin (grid0.bound 0)) (s : Fin (grid0.bound 1)) : grid0.Coords :=
  fun | 0 => c | 1 => s | ⟨_ + 2, h⟩ => absurd h (Nat.not_lt.2 (Nat.le_add_left _ _))

theorem coords_eq (L : grid0.Coords) : L = coords (L 0) (L 1) := by
  funext a
  match a with
  | 0 => rfl
  | 1 => rfl

/-- A property of every subcore and every trip, checked over the pairs of coordinates. -/
theorem forall_coords {p : grid0.Coords → Prop} (h : ∀ (c : Fin (grid0.bound 0)) (s : Fin (grid0.bound 1)), p (coords c s)) (L : grid0.Coords) : p L :=
  (coords_eq L).symm ▸ h _ _

/-- Block `k` of subcore `L`, of the 256 blocks of 64 rows. -/
def blk (L : grid0.Coords) (k : ℕ) : ℕ := 128 * (L 0).val + 8 * (L 1).val + k

theorem trips_eq : k0_t1_loop.trips = 8 := by decide +kernel

theorem trip_lt (k : Fin k0_t1_loop.trips) : k.val < 8 := trips_eq ▸ k.isLt

theorem chk1_all (L : grid0.Coords) : ∀ k : Fin k0_t1_loop.trips, k0_chk1 L k (a6 k) (a7 k) (a7 k) (a9 k) (a10 k) :=
  forall_coords (p := fun L => ∀ k : Fin k0_t1_loop.trips, k0_chk1 L k (a6 k) (a7 k) (a7 k) (a9 k) (a10 k)) (by decide +kernel) L

theorem chk2_all : ∀ k : Fin k0_t1_loop.trips, k0_chk2 (a7 k) := by decide +kernel
theorem chk3_all : ∀ k : Fin k0_t1_loop.trips, k0_chk3 (a7 k) := by decide +kernel
theorem chk4_end : k0_chk4 (a9 8) := by decide +kernel
theorem chk5_end (L : grid0.Coords) : k0_chk5 L (a10 8) := forall_coords (p := fun L => k0_chk5 L (a10 8)) (by decide +kernel) L

/-- A trip prefetches the next block's row of indices unless it is the last. -/
theorem cond1_iff (L : grid0.Coords) : ∀ k : Fin k0_t1_loop.trips, k0_cond1 L k (a10 k) = 1#1 ↔ k.val < 7 :=
  forall_coords (p := fun L => ∀ k : Fin k0_t1_loop.trips, k0_cond1 L k (a10 k) = 1#1 ↔ k.val < 7) (by decide +kernel) L

theorem cond2_all (L : grid0.Coords) : ∀ k : Fin k0_t1_loop.trips, k0_cond2 L k (a10 k) = 1#1 :=
  forall_coords (p := fun L => ∀ k : Fin k0_t1_loop.trips, k0_cond2 L k (a10 k) = 1#1) (by decide +kernel) L

theorem cond5_all (L : grid0.Coords) : ∀ k : Fin k0_t1_loop.trips, k0_cond5 L k (a10 k) = 1#1 :=
  forall_coords (p := fun L => ∀ k : Fin k0_t1_loop.trips, k0_cond5 L k (a10 k) = 1#1) (by decide +kernel) L

/-- A trip waits for the previous block's copy unless it is the first. -/
theorem cond7_iff (L : grid0.Coords) : ∀ k : Fin k0_t1_loop.trips, k0_cond7 L k (a10 k) = 1#1 ↔ 0 < k.val :=
  forall_coords (p := fun L => ∀ k : Fin k0_t1_loop.trips, k0_cond7 L k (a10 k) = 1#1 ↔ 0 < k.val) (by decide +kernel) L

/-! ## The windows' offsets -/

theorem off1_eq : k0_off1 = ![0, 0, 0] := by decide +kernel
theorem off2_eq (L : grid0.Coords) : k0_off2 L = ![blk L 0, 0] := forall_coords (p := fun L => k0_off2 L = ![blk L 0, 0]) (by decide +kernel) L
theorem off3_eq : k0_off3 = ![0] := by decide +kernel
theorem off4_eq : ∀ k : Fin k0_t1_loop.trips, k.val < 7 → k0_off4 (a6 k) = ![(k.val + 1) % 2, 0, 0] := by decide +kernel
theorem off5_eq (L : grid0.Coords) : ∀ k : Fin k0_t1_loop.trips, k.val < 7 → k0_off5 L (a10 k) = ![blk L (k + 1), 0] :=
  forall_coords (p := fun L => ∀ k : Fin k0_t1_loop.trips, k.val < 7 → k0_off5 L (a10 k) = ![blk L (k + 1), 0]) (by decide +kernel) L
theorem off6_eq : ∀ k : Fin k0_t1_loop.trips, k.val < 7 → k0_off6 (a6 k) = ![(k.val + 1) % 2] := by decide +kernel
theorem off7_eq : ∀ k : Fin k0_t1_loop.trips, k0_off7 (a7 k) = ![k.val % 2, 0, 0] := by decide +kernel
theorem off8_eq (L : grid0.Coords) : ∀ k : Fin k0_t1_loop.trips, k0_off8 L (a10 k) = ![blk L k, 0] :=
  forall_coords (p := fun L => ∀ k : Fin k0_t1_loop.trips, k0_off8 L (a10 k) = ![blk L k, 0]) (by decide +kernel) L
theorem off9_eq : ∀ k : Fin k0_t1_loop.trips, k0_off9 (a7 k) = ![k.val % 2] := by decide +kernel
theorem off10_eq : ∀ k : Fin k0_t1_loop.trips, k0_off10 (a7 k) = ![k.val % 2, 0, 0] := by decide +kernel
theorem off11_eq : ∀ k : Fin k0_t1_loop.trips, k0_off11 (a7 k) = ![k.val % 2, 0, 0] := by decide +kernel
theorem off12_eq : ∀ k : Fin k0_t1_loop.trips, k0_off12 (a7 k) = ![k.val % 2, 0, 0] := by decide +kernel
theorem off13_eq (L : grid0.Coords) : ∀ k : Fin k0_t1_loop.trips, k0_off13 L (a10 k) = ![64 * blk L k, 0] :=
  forall_coords (p := fun L => ∀ k : Fin k0_t1_loop.trips, k0_off13 L (a10 k) = ![64 * blk L k, 0]) (by decide +kernel) L
theorem off14_eq : ∀ k : Fin k0_t1_loop.trips, k0_off14 (a7 k) = ![k.val % 2] := by decide +kernel
theorem off15_eq : ∀ k : Fin k0_t1_loop.trips, 0 < k.val → k0_off15 (a9 k) = ![(k.val - 1) % 2, 0, 0] := by decide +kernel
theorem off16_eq (L : grid0.Coords) : ∀ k : Fin k0_t1_loop.trips, 0 < k.val → k0_off16 L (a10 k) = ![64 * blk L (k - 1), 0] :=
  forall_coords (p := fun L => ∀ k : Fin k0_t1_loop.trips, 0 < k.val → k0_off16 L (a10 k) = ![64 * blk L (k - 1), 0]) (by decide +kernel) L
theorem off17_eq : ∀ k : Fin k0_t1_loop.trips, 0 < k.val → k0_off17 (a9 k) = ![(k.val - 1) % 2] := by decide +kernel
theorem off19_end (L : grid0.Coords) : k0_off19 L (a10 8) = ![64 * blk L 7, 0] :=
  forall_coords (p := fun L => k0_off19 L (a10 8) = ![64 * blk L 7, 0]) (by decide +kernel) L
theorem off20_end : k0_off20 (a9 8) = ![1] := by decide +kernel
theorem off21_end : k0_off21 (a9 8) = ![1, 0, 0] := by decide +kernel

end Cert.Proof.Gather
-- ==== Proof.Windows.lean ====
/-
  The windows a subcore's copies move, and the gather's value on them. Block `r` (of 256) of the output is rows
  `64 r … 64 r + 63`; row `r` of the padded index array names, in its first 64 words, the 64 source rows of that block.
-/
module

public import proofs.«01_k».proof.Proof.Facts
public import Idealize.ShloMosaic.Lib.SparseCore.Stream
public import Idealize.ShloMosaic.Lib.ValueIdxCore
public import Idealize.ShloMosaic.Lib.ValueLayout

@[expose] public section

noncomputable section

namespace Cert.Proof.Gather

open Cert.KernelIdeal Cert.KernelIdeal.Gen
open Idealize.ShloMosaic Idealize.ShloMosaic.ValueIdx

variable {F : FTy → Type}

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

theorem inb_i (b : Fin 2) : ∀ a, (![b.val, 0, 0] : Fin 3 → ℕ) a + S1x1x128.size a ≤ S2x1x128.size a := by revert b; decide
theorem inb_o (b : Fin 2) : ∀ a, (![b.val, 0, 0] : Fin 3 → ℕ) a + S1x64x512.size a ≤ S2x64x512.size a := by revert b; decide
theorem inb_s (b : Fin 2) : ∀ a, (![b.val] : Fin 1 → ℕ) a + S1.size a ≤ S2.size a := by revert b; decide
theorem inb_a (r : Fin 256) : ∀ a, (![r.val, 0] : Fin 2 → ℕ) a + S1x128.size a ≤ S256x128.size a := by
  have hr := r.isLt; intro a
  match a with
  | 0 => show r.val + 1 ≤ 256; omega
  | 1 => show 0 + 128 ≤ 128; omega
theorem inb_b (r : Fin 256) : ∀ a, (![64 * r.val, 0] : Fin 2 → ℕ) a + S64x512.size a ≤ S16384x512.size a := by
  have hr := r.isLt; intro a
  match a with
  | 0 => show 64 * r.val + 64 ≤ 16384; omega
  | 1 => show 0 + 512 ≤ 512; omega
theorem inb_g (j : Fin 4) : ∀ a, (![0, 128 * j.val] : Fin 2 → ℕ) a + S64x128.size a ≤ S64x512.size a := by
  have hr := j.isLt; intro a
  match a with
  | 0 => show 0 + 64 ≤ 64; omega
  | 1 => show 128 * j.val + 128 ≤ 512; omega
theorem inb_x (j : Fin 4) : ∀ a, (![0, 128 * j.val] : Fin 2 → ℕ) a + S8192x128.size a ≤ S8192x512.size a := by
  have hr := j.isLt; intro a
  match a with
  | 0 => show 0 + 8192 ≤ 8192; omega
  | 1 => show 128 * j.val + 128 ≤ 512; omega

/-- Slot `b` of the staged indices. -/
abbrev iM (b : Fin 2) : Memref sig .scVector .vmem S1x128 .i32 :=
  ((iS).slice (Rect.unit (s := S2x1x128) ![b.val, 0, 0] S1x1x128.size (inb_i b)) (fun _ => rfl)).squeeze S1x128 squeezes_S1x1x128_S1x128
/-- Slot `b` of the staged output. -/
abbrev oM (b : Fin 2) : Memref sig .scVector .vmem S64x512 .i32 :=
  ((oS).slice (Rect.unit (s := S2x64x512) ![b.val, 0, 0] S1x64x512.size (inb_o b)) (fun _ => rfl)).squeeze S64x512 squeezes_S1x64x512_S64x512
/-- Row `r` of the padded indices. -/
abbrev aM (r : Fin 256) : Memref sig .scVector .hbm S1x128 .i32 :=
  (aV).slice (Rect.unit (s := S256x128) ![r.val, 0] S1x128.size (inb_a r)) (fun _ => rfl)
/-- Block `r` of the output. -/
abbrev bM (r : Fin 256) : Memref sig .scVector .hbm S64x512 .i32 :=
  (oV).slice (Rect.unit (s := S16384x512) ![64 * r.val, 0] S64x512.size (inb_b r)) (fun _ => rfl)
/-- The 64 words of slot `b` that the gather reads. -/
abbrev lM (b : Fin 2) : Memref sig .scVector .vmem S64 .i32 :=
  ((iM b).slice (Rect.unit (s := S1x128) ![0, 0] S1x64.size inb_S1x128_S1x64_0_0) (fun _ => rfl)).squeeze S64 squeezes_S1x64_S64
/-- Columns `128 j … 128 j + 127` of slot `b` of the staged output, and of the source. -/
abbrev gM (b : Fin 2) (j : Fin 4) : Memref sig .scVector .vmem S64x128 .i32 :=
  (oM b).slice (Rect.unit (s := S64x512) ![0, 128 * j.val] S64x128.size (inb_g j)) (fun _ => rfl)
abbrev xM (j : Fin 4) : Memref sig .scVector .hbm S8192x128 .i32 :=
  (xV).slice (Rect.unit (s := S8192x512) ![0, 128 * j.val] S8192x128.size (inb_x j)) (fun _ => rfl)

/-- The semaphores of the two slots, and the four gathers'. -/
abbrev semI (b : Fin 2) : DmaSem sig := ((cc0_scoped1.slice (Rect.unit (s := S2) ![b.val] S1.size (inb_s b))).squeeze S_ squeezes_S1_S_).sem
abbrev semO (b : Fin 2) : DmaSem sig := ((cc0_scoped3.slice (Rect.unit (s := S2) ![b.val] S1.size (inb_s b))).squeeze S_ squeezes_S1_S_).sem

/-! ## The gathered rows -/

/-- The gathered array: row `64 r + p` is the source's row named by word `p` of row `r` of the padded indices. -/
def gathered (X : S8192x512.Idx → Elt F .i32) (A : S256x128.Idx → Elt F .i32) : S16384x512.Idx → Elt F .i32 := fun i =>
  X (ix2 (n0 := 8192) (n1 := 512)
    ⟨(A (ix2 (n0 := 256) (n1 := 128) ⟨(i 0).val / 64, by have := (i 0).isLt; change (i 0).val < 16384 at this; omega⟩
        ⟨(i 0).val % 64, by omega⟩)).toNat % 8192, Nat.mod_lt _ (by norm_num)⟩ (i 1))

/-- Slot contents `f` hold row `r` of the padded indices. -/
def IFact (A : S256x128.Idx → Elt F .i32) (b : Fin 2) (r : Fin 256) (f : S2x1x128.Idx → Elt F .i32) : Prop :=
  (iM b).view.read (Elt F) f = (aM r).view.read (Elt F) A

/-- Slot contents `f` hold the first `128 j` columns of block `r` of the gathered array. -/
def OFact (X : S8192x512.Idx → Elt F .i32) (A : S256x128.Idx → Elt F .i32) (b : Fin 2) (r : Fin 256) (j : ℕ) (f : S2x64x512.Idx → Elt F .i32) : Prop :=
  ∀ y : S64x512.Idx, (y 1).val < 128 * j → (oM b).view.read (Elt F) f y = (bM r).view.read (Elt F) (gathered X A) y

theorem OFact_zero (X : S8192x512.Idx → Elt F .i32) (A : S256x128.Idx → Elt F .i32) (b : Fin 2) (r : Fin 256) (f : S2x64x512.Idx → Elt F .i32) :
    OFact X A b r 0 f := fun _ h => absurd h (by omega)

/-- Word `p` of the list in slot `b` is word `p` of row `r` of the padded indices. -/
theorem list_read {A : S256x128.Idx → Elt F .i32} {b : Fin 2} {r : Fin 256} {f : S2x1x128.Idx → Elt F .i32} (h : IFact A b r f) (x : S64.Idx) :
    (lM b).view.read (Elt F) f x = A (ix2 (n0 := 256) (n1 := 128) r ⟨(x 0).val, by have := (x 0).isLt; change (x 0).val < 64 at this; omega⟩) := by
  have e : Shape.reshapeEquiv (squeezes_S1x64_S64).numel_eq x = ix2 (n0 := 1) (n1 := 64) ⟨0, Nat.one_pos⟩ (x 0) :=
    Shape.reshapeEquiv_eq_of_rowMajor _ (by
      rw [Shape.rowMajor_val_two, Shape.rowMajor_val_one]
      show 0 * 64 + (x 0).val = (x 0).val
      omega)
  have h1 : (lM b).view.read (Elt F) f x = (iM b).view.read (Elt F) f
      ((Rect.unit (s := S1x128) ![0, 0] S1x64.size inb_S1x128_S1x64_0_0).emb (Shape.reshapeEquiv (squeezes_S1x64_S64).numel_eq x)) := rfl
  rw [h1, h, e]
  show A _ = A _
  congr 1
  funext a
  apply Fin.ext
  match a with
  | 0 => show r.val + 1 * (0 + 1 * 0) = r.val; omega
  | 1 => show 0 + 1 * (0 + 1 * (x 0).val) = (x 0).val; omega

/-- The list's words name rows of the source. -/
theorem list_lt {A : S256x128.Idx → Elt F .i32} (hA : ∀ i, (A i).toNat < 8192) {b : Fin 2} {r : Fin 256} {f : S2x1x128.Idx → Elt F .i32}
    (h : IFact A b r f) (x : S64.Idx) : ((lM b).view.read (Elt F) f x).toNat < S8192x128.size gathers_S8192x128_S64x128.axis := by
  rw [list_read h x]; exact hA _

/-- Gather `j` extends the columns that hold the gathered array by its own 128. -/
theorem OFact_succ {X : S8192x512.Idx → Elt F .i32} {A : S256x128.Idx → Elt F .i32} (hA : ∀ i, (A i).toNat < 8192)
    {b : Fin 2} {r : Fin 256} {j : Fin 4} {f : S2x1x128.Idx → Elt F .i32} {g : S2x64x512.Idx → Elt F .i32} (h : IFact A b r f) (hg : OFact X A b r j g)
    (hn) (hin : ∀ x, ((lM b).view.read (Elt F) f x).toNat < S8192x128.size gathers_S8192x128_S64x128.axis) :
    OFact X A b r (j.val + 1) ((gM b j).view.write (Elt F) g
      (SparseCore.gatherPayload gathers_S8192x128_S64x128 ((xM j).view.read (Elt F) X) (SparseCore.rows ((lM b).view.read (Elt F) f) hn hin)) Finset.univ) := by
  intro y hy
  have hj := j.isLt
  by_cases hlt : (y 1).val < 128 * j.val
  · -- the columns already there
    rw [← hg y hlt, View.read_apply, View.read_apply]
    congr 1
    refine View.write_of_not_mem _ _ _ ?_
    intro hm
    obtain ⟨z, -, hz⟩ := Finset.mem_map.mp hm
    have hz' : (oM b).view.emb ((Rect.unit (s := S64x512) ![0, 128 * j.val] S64x128.size (inb_g j)).emb z) = (oM b).view.emb y := hz
    have := congrArg (fun w : S64x512.Idx => (w 1).val) ((oM b).view.emb.injective hz')
    change 128 * j.val + 1 * (z 1).val = (y 1).val at this
    omega
  · have hy1 := (y 1).isLt
    change (y 1).val < 512 at hy1
    have hy0 := (y 0).isLt
    change (y 0).val < 64 at hy0
    let z : S64x128.Idx := ix2 (n0 := 64) (n1 := 128) (y 0) ⟨(y 1).val - 128 * j.val, by omega⟩
    have hz : (Rect.unit (s := S64x512) ![0, 128 * j.val] S64x128.size (inb_g j)).emb z = y := by
      funext a
      apply Fin.ext
      match a with
      | 0 => show 0 + 1 * (y 0).val = (y 0).val; omega
      | 1 => show 128 * j.val + 1 * ((y 1).val - 128 * j.val) = (y 1).val; omega
    have h1 : ∀ g', (oM b).view.read (Elt F) g' y = (gM b j).view.read (Elt F) g' z := by
      intro g'; rw [← hz]; rfl
    rw [h1, View.read_write_univ]
    show X _ = X _
    congr 1
    have hr : (SparseCore.rows ((lM b).view.read (Elt F) f) hn hin (y 0)).val
        = (A (ix2 (n0 := 256) (n1 := 128) r ⟨(y 0).val, by omega⟩)).toNat := by
      show ((lM b).view.read (Elt F) f _).toNat = _
      rw [list_read h]
      refine congrArg (fun q : Fin 128 => (A (ix2 (n0 := 256) (n1 := 128) r q)).toNat) (Fin.ext ?_)
      have e := Shape.rowMajor_val_one (d := ![64]) (S64.rowMajor.symm ((y 0).cast hn.symm))
      rw [Equiv.apply_symm_apply] at e
      exact e.symm
    funext a
    apply Fin.ext
    match a with
    | 0 =>
      have e0 := congrArg Fin.val (Shape.Gathers.idx_axis gathers_S8192x128_S64x128 (SparseCore.rows ((lM b).view.read (Elt F) f) hn hin) z)
      have e1 : (SparseCore.rows ((lM b).view.read (Elt F) f) hn hin (z gathers_S8192x128_S64x128.axis')).val = _ := hr
      show 0 + 1 * (gathers_S8192x128_S64x128.idx (SparseCore.rows ((lM b).view.read (Elt F) f) hn hin) z gathers_S8192x128_S64x128.axis).val
        = (A (ix2 (n0 := 256) (n1 := 128) ⟨(64 * r.val + 1 * (y 0).val) / 64, _⟩ ⟨(64 * r.val + 1 * (y 0).val) % 64, _⟩)).toNat % 8192
      rw [e0, e1]
      have hq : (ix2 (n0 := 256) (n1 := 128) ⟨(64 * r.val + 1 * (y 0).val) / 64, by have := r.isLt; omega⟩ ⟨(64 * r.val + 1 * (y 0).val) % 64, by omega⟩ : S256x128.Idx)
          = ix2 (n0 := 256) (n1 := 128) r ⟨(y 0).val, by omega⟩ := by
        congr 1 <;> apply Fin.ext
        · show (64 * r.val + 1 * (y 0).val) / 64 = r.val; omega
        · show (64 * r.val + 1 * (y 0).val) % 64 = (y 0).val; omega
      rw [hq, Nat.mod_eq_of_lt (hA _)]; omega
    | 1 =>
      have e0 := Shape.Gathers.idx_of_ne gathers_S8192x128_S64x128 (SparseCore.rows ((lM b).view.read (Elt F) f) hn hin) z (1 : Fin 2) (by decide)
      show 128 * j.val + 1 * (gathers_S8192x128_S64x128.idx (SparseCore.rows ((lM b).view.read (Elt F) f) hn hin) z (1 : Fin 2)).val = 0 + 1 * (y 1).val
      rw [e0]
      show 128 * j.val + 1 * ((y 1).val - 128 * j.val) = 0 + 1 * (y 1).val
      omega

end Cert.Proof.Gather

end
-- ==== Proof.Steps.lean ====
/-
  One subcore's copies, one rule each: fetching a row of indices and waiting for it, gathering a slab of 128 columns and
  waiting for it, writing a block out and waiting for it. A slot is free, in flight or full; a copy in flight is a
  `Flight` that hands back, at its wait, everything lent to it.
-/
module

public import proofs.«01_k».proof.Proof.Windows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

/-- The ghost state: the handshakes' rounds and the transfers' counters. -/
abbrev UH : Type := URounds (GSem nD τ sig) ℕ
abbrev UU : Type := UH × Counters

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

/-- A copy in flight also hands back whatever is set beside it. -/
theorem flight_frame {c : Thread nD τ} {sm : SemLoc sig} {N : ℕ} {D R : sProp 𝕄} :
    (iprop(Transfers.Flight countersEmb c sm (default : HIx 1) N D ∗ R) : sProp 𝕄)
      ⊢ Transfers.Flight countersEmb c sm (default : HIx 1) N iprop(D ∗ R) := by
  unfold Transfers.Flight
  iintro ⟨⟨⟨%R', HR', %hcap, %hpeek⟩, Hcred⟩, HR⟩
  isplitl [HR' HR]
  · iexists iprop(R' ∗ R)
    isplitl [HR' HR]; · isplitl [HR'] <;> iassumption
    isplit
    · ipureintro
      intro K
      refine BIBase.Entails.trans ?_ (hcap K)
      iintro ⟨⟨HR', HR⟩, HK⟩
      isplitl [HR']; · iexact HR'
      iintro ⟨Hv, HD⟩
      iapply HK
      isplitl [Hv]; · iexact Hv
      isplitl [HD] <;> iassumption
    · ipureintro
      intro K
      refine BIBase.Entails.trans ?_ (hpeek K)
      iintro ⟨⟨HR', HR⟩, HK⟩
      isplitl [HR']; · iexact HR'
      iintro HR'
      iapply HK
      isplitl [HR'] <;> iassumption
  · iexact Hcred

/-- A copy in flight, with what is set beside it, hands back whatever the two give together. -/
theorem flight_keep {c : Thread nD τ} {sm : SemLoc sig} {N : ℕ} {D R D' : sProp 𝕄} (h : iprop(D ∗ R) ⊢ D') :
    (iprop(Transfers.Flight countersEmb c sm (default : HIx 1) N D ∗ R) : sProp 𝕄) ⊢ Transfers.Flight countersEmb c sm (default : HIx 1) N D' :=
  flight_frame.trans (Transfers.Flight_mono countersEmb c h)

variable [FloatOps F]

section Tile

variable (d : Dev nD) (L : grid0.Coords)

/-- The subcore at coordinates `L`. -/
abbrev th : Thread nD τ := V d ((L 0).castLE hcore0) ((L 1).castLE hsub0)

variable (X : S8192x512.Idx → Elt F .i32) (A : S256x128.Idx → Elt F .i32)

/-- What a slot holds. -/
abbrev iPts (b : Fin 2) (f : S2x1x128.Idx → Elt F .i32) : sProp 𝕄 := (iM b).view.loc (th d L) ↦[(iM b).view.set]{fullShare} f
abbrev oPts (b : Fin 2) (f : S2x64x512.Idx → Elt F .i32) : sProp 𝕄 := (oM b).view.loc (th d L) ↦[(oM b).view.set]{fullShare} f
/-- Block `r` of the output holds that block of `f`. -/
abbrev bPts (r : Fin 256) (f : S16384x512.Idx → Elt F .i32) : sProp 𝕄 := (bM r).view.loc (th d L) ↦[(bM r).view.set]{fullShare} f
/-- A share of the padded indices, of the source. -/
abbrev aPts (q : PosShare TreeShare) : sProp 𝕄 := (aV).view.loc (th d L) ↦{q} A
abbrev xPts (q : PosShare TreeShare) : sProp 𝕄 := (xV).view.loc (th d L) ↦{q} X

/-- An index slot: free, full with row `r`, being filled with row `r`. -/
def FreeI (b : Fin 2) (q : PosShare TreeShare) : sProp 𝕄 := iprop((∃ f, iPts d L b f) ∗ semVal (th d L, .dma (semI b)) 0 ∗ aPts d L A q)
def FullI (b : Fin 2) (q : PosShare TreeShare) (r : Fin 256) : sProp 𝕄 :=
  iprop((∃ f, ⌜IFact A b r f⌝ ∗ iPts d L b f) ∗ semVal (th d L, .dma (semI b)) 0 ∗ aPts d L A q)
def FlyI (b : Fin 2) (q : PosShare TreeShare) (r : Fin 256) : sProp 𝕄 :=
  Transfers.Flight countersEmb (th d L) (.dma (semI b)) (default : HIx 1) (iM b).view.dmaCredit
    iprop((∃ f, ⌜IFact A b r f⌝ ∗ iPts d L b f) ∗ aPts d L A q)

/-- An output slot: free, holding the first `128 j` columns of block `r`, being written to block `r`. -/
def FreeO (b : Fin 2) : sProp 𝕄 := iprop((∃ f, oPts d L b f) ∗ semVal (th d L, .dma (semO b)) 0)
def PartO (b : Fin 2) (r : Fin 256) (j : ℕ) : sProp 𝕄 := iprop((∃ f, ⌜OFact X A b r j f⌝ ∗ oPts d L b f) ∗ semVal (th d L, .dma (semO b)) 0)
def FlyO (b : Fin 2) (r : Fin 256) : sProp 𝕄 :=
  Transfers.Flight countersEmb (th d L) (.dma (semO b)) (default : HIx 1) (bM r).view.dmaCredit
    iprop((∃ f, oPts d L b f) ∗ bPts d L r (gathered X A))

theorem FullI_free (b : Fin 2) (q : PosShare TreeShare) (r : Fin 256) : FullI d L A b q r ⊢ FreeI d L A b q := by
  unfold FullI FreeI
  iintro ⟨⟨%f, -, Hf⟩, HR⟩
  isplitl [Hf]; · iexists f; iexact Hf
  iexact HR

theorem FreeO_part (b : Fin 2) (r : Fin 256) : FreeO d L b ⊢ PartO d L X A b r 0 := by
  unfold FreeO PartO
  iintro ⟨⟨%f, Hf⟩, HR⟩
  isplitl [Hf]
  · iexists f; isplitr; · ipureintro; exact OFact_zero X A b r f
    iexact Hf
  iexact HR

/-- The subcore's record of what it owes, having waited on its own cells only. -/
def Owing (O : CellTallies nD τ sig (HIx 1)) (W : Waits sig (HIx 1)) : sProp 𝕄 :=
  iprop(Transfers.MayWaits (th d L) (default : HIx 1) O ∗ ∃ W', ⌜∀ p ∈ W', p ∈ W ∨ p.2 = none⌝ ∗ owes (th d L) O W')

/-- Issuing the fetch of row `r` of the indices into slot `b`. -/
theorem wp_fetch (b : Fin 2) (q : PosShare TreeShare) (r : Fin 256) {off : Fin 3 → ℕ} {off2 : Fin 2 → ℕ} {off1 : Fin 1 → ℕ}
    (h : off = ![b.val, 0, 0]) (h2 : off2 = ![r.val, 0]) (h1 : off1 = ![b.val]) {inb inb2 inb1} {hs hd ht} {Q : PUnit → sProp 𝕄} :
    FreeI d L A b q ⊢ iprop((FlyI d L A b q r -∗ Q ⟨⟩) -∗ wp frame (wpE (defs₀ (F := F)) 𝒱₀ (th d L) none) Set.univ
      (Prog.lift (.enqueueDma ((aV).slice (Rect.unit (s := S256x128) off2 S1x128.size inb2) (fun _ => rfl))
        (.here (((iS).slice (Rect.unit (s := S2x1x128) off S1x1x128.size inb) (fun _ => rfl)).squeeze S1x128 squeezes_S1x1x128_S1x128))
        (.dma ((cc0_scoped1.slice (Rect.unit (s := S2) off1 S1.size inb1)).squeeze S_ squeezes_S1_S_).sem) hs hd ht)) Q) := by
  subst h h2 h1
  have hk : ∀ f, IFact A b r f → iprop((iPts d L b f ∗ ((aM r).view.loc (th d L) ↦[(aM r).view.set]{q} A)) ∗ ((aV).view.loc (th d L) ↦[Finset.univ \ (aM r).view.set]{q} A))
      ⊢ (iprop((∃ f, ⌜IFact A b r f⌝ ∗ iPts d L b f) ∗ aPts d L A q) : sProp 𝕄) := by
    intro f hf
    iintro ⟨⟨Hi, Ha⟩, Har⟩
    isplitl [Hi]
    · iexists f
      isplitr; · ipureintro; exact hf
      iexact Hi
    iapply (pointsTo_split_subset (q := q) (f := A) (S := Finset.univ) (Finset.subset_univ (aM r).view.set)).2
    isplitl [Ha] <;> iassumption
  unfold FreeI FlyI
  iintro ⟨⟨%f, Hf⟩, Hv, Ha⟩ HQ
  ihave Ha' := (pointsTo_split_subset (q := q) (f := A) (S := Finset.univ) (Finset.subset_univ (aM r).view.set)).1 $$ Ha
  icases Ha' with ⟨Ha, Har⟩
  iapply (Transfers.wp_dmaLocal countersEmb 𝒱₀ (th d L) none (default : HIx 1) (iM b).view.dmaCredit (rfl : (iM b).view.amount (.dma (semI b)) = _)
    (View.dmaCredit_pos _ (by decide)) (Finset.Subset.refl (iM b).view.set)) $$ [Hf Ha Hv]
  · isplitl [Ha]; · iexact Ha
    isplitl [Hf]; · iexact Hf
    iexact Hv
  iintro Hfl
  rw [wp_ret]
  imodintro
  iapply HQ
  iapply (flight_keep (hk _ (View.read_write_univ _ _)))
  isplitl [Hfl]; · iexact Hfl
  iexact Har

/-- Waiting for the fetch of row `r` into slot `b`. -/
theorem wp_fetched (O : CellTallies nD τ sig (HIx 1)) (W : Waits sig (HIx 1)) (b : Fin 2) (q : PosShare TreeShare) (r : Fin 256)
    {off : Fin 3 → ℕ} {off2 : Fin 2 → ℕ} {off1 : Fin 1 → ℕ}
    (h : off = ![b.val, 0, 0]) (h1 : off1 = ![b.val]) {inb inb2 inb1} {hs hd} {Q : PUnit → sProp 𝕄} :
    iprop(FlyI d L A b q r ∗ Owing d L O W) ⊢ iprop((iprop(FullI d L A b q r ∗ Owing d L O W) -∗ Q ⟨⟩) -∗ wp frame (wpE (defs₀ (F := F)) 𝒱₀ (th d L) none) Set.univ
      (Prog.lift (.waitDma2 ((cc0_scoped1.slice (Rect.unit (s := S2) off1 S1.size inb1)).squeeze S_ squeezes_S1_S_).sem
        ((aV).slice (Rect.unit (s := S256x128) off2 S1x128.size inb2) (fun _ => rfl))
        (((iS).slice (Rect.unit (s := S2x1x128) off S1x1x128.size inb) (fun _ => rfl)).squeeze S1x128 squeezes_S1x1x128_S1x128) hs hd)) Q) := by
  subst h h1
  unfold FlyI FullI Owing
  iintro ⟨Hfl, #Hmw, %W', %hW', HO⟩ HQ
  iapply (Transfers.wp_waitLocalO countersEmb 𝒱₀ (th d L) none (default : HIx 1) (rfl : (iM b).view.dmaCredit = _)) $$ [Hfl HO]
  · isplitl [Hfl]; · iexact Hfl
    isplitl [HO]; · iexact HO
    iapply (Transfers.MayWaits.elim (SemLoc.dma (semI b))) $$ Hmw
  iintro ⟨⟨Hi, Ha⟩, Hv, HO⟩
  rw [wp_ret]
  imodintro
  iapply HQ
  isplitl [Hi Hv Ha]
  · isplitl [Hi]; · iexact Hi
    isplitl [Hv] <;> iassumption
  isplitr; · iexact Hmw
  iexists _; isplitr
  swap; · iexact HO
  ipureintro; intro p hp
  rcases Finset.mem_insert.mp hp with hp | hp
  · exact .inr (hp ▸ rfl)
  · exact hW' p hp

/-- What a gather works on: an output slot with its first columns, the list, a share of the source. -/
def GRes (b : Fin 2) (qx : PosShare TreeShare) (r : Fin 256) (j : ℕ) : sProp 𝕄 :=
  iprop((∃ f, ⌜OFact X A b r j f⌝ ∗ oPts d L b f) ∗ (∃ f, ⌜IFact A b r f⌝ ∗ iPts d L b f) ∗ xPts d L X qx)

/-- A gather of one slab in flight. -/
def GFly (sem : DmaSem sig) (b : Fin 2) (qx : PosShare TreeShare) (r : Fin 256) (j : Fin 4) : sProp 𝕄 :=
  Transfers.Flight countersEmb (th d L) (.dma sem) (default : HIx 1) (gM b j).view.dmaCredit (GRes d L X A b qx r (j.val + 1))

theorem gM_credit (b : Fin 2) (j : Fin 4) (a : Fin 2) :
    ∑ i, ((gM b j).slice (S64x128.rowRect a i) (S64x128.stride_rowRect a i)).view.dmaCredit = (gM b j).view.dmaCredit :=
  SparseCore.sum_rowCredit_eq_dmaCredit (gM b j) a (fun _ => rfl)

/-- Issuing the gather of slab `j`. -/
theorem wp_gather (hA : ∀ i, (A i).toNat < 8192) (b : Fin 2) (qx : PosShare TreeShare) (r : Fin 256) (j : Fin 4) (sem : DmaSem sig)
    {off offi : Fin 3 → ℕ} {offc offx : Fin 2 → ℕ} (h : off = ![b.val, 0, 0]) (hi : offi = ![b.val, 0, 0])
    (hc : offc = ![0, 128 * j.val]) (hx : offx = ![0, 128 * j.val]) {inb inbi inbc inbx} {hp hn hs he hsp hr} {Q : PUnit → sProp 𝕄} :
    iprop(GRes d L X A b qx r j ∗ semVal (th d L, .dma sem) 0) ⊢ iprop((GFly d L X A sem b qx r j -∗ Q ⟨⟩)
      -∗ wp frame (wpE (defs₀ (F := F)) 𝒱₀ (th d L) none) Set.univ
      (SparseCore.enqueueIndirectGather hp ((xV).slice (Rect.unit (s := S8192x512) offx S8192x128.size inbx) (fun _ => rfl))
        ((((oS).slice (Rect.unit (s := S2x64x512) off S1x64x512.size inb) (fun _ => rfl)).squeeze S64x512 squeezes_S1x64x512_S64x512).slice
          (Rect.unit (s := S64x512) offc S64x128.size inbc) (fun _ => rfl)) gathers_S8192x128_S64x128
        (((((iS).slice (Rect.unit (s := S2x1x128) offi S1x1x128.size inbi) (fun _ => rfl)).squeeze S1x128 squeezes_S1x1x128_S1x128).slice
          (Rect.unit (s := S1x128) ![0, 0] S1x64.size inb_S1x128_S1x64_0_0) (fun _ => rfl)).squeeze S64 squeezes_S1x64_S64) hn sem hs he hsp hr) Q) := by
  subst h hi hc hx
  have hog : (gM b j).view.set ⊆ (oM b).view.set := View.set_slice_subset _ _
  have hil : (lM b).view.set ⊆ (iM b).view.set :=
    Finset.Subset.trans (View.set_reshape _ _).subset (View.set_slice_subset _ _)
  have hxx : (xM j).view.set ⊆ Finset.univ := Finset.subset_univ _
  have hk : ∀ f g g', IFact A b r f → OFact X A b r (j.val + 1) g' → (∀ i ∈ (oM b).view.set \ (gM b j).view.set, g i = g' i) →
      iprop((((gM b j).view.loc (th d L) ↦[(gM b j).view.set]{fullShare} g')
          ∗ ((xM j).view.loc (th d L) ↦[(xM j).view.set]{qx} X) ∗ ((lM b).view.loc (th d L) ↦[(lM b).view.set]{fullShare} f))
        ∗ (((oM b).view.loc (th d L) ↦[(oM b).view.set \ (gM b j).view.set]{fullShare} g)
          ∗ ((xV).view.loc (th d L) ↦[Finset.univ \ (xM j).view.set]{qx} X) ∗ ((iM b).view.loc (th d L) ↦[(iM b).view.set \ (lM b).view.set]{fullShare} f)))
      ⊢ (GRes d L X A b qx r (j.val + 1) : sProp 𝕄) := by
    intro f g g' hf hg' hgg
    rw [pointsTo_congr (ℓ := (oM b).view.loc (th d L)) hgg]
    unfold GRes
    iintro ⟨⟨Hg, Hx, Hl⟩, Hgr, Hxr, Hlr⟩
    isplitl [Hg Hgr]
    · iexists g'
      isplitr; · ipureintro; exact hg'
      iapply (pointsTo_split_subset (q := fullShare) (f := g') hog).2
      isplitl [Hg] <;> iassumption
    isplitl [Hl Hlr]
    · iexists f
      isplitr; · ipureintro; exact hf
      iapply (pointsTo_split_subset (q := fullShare) (f := f) hil).2
      isplitl [Hl] <;> iassumption
    iapply (pointsTo_split_subset (q := qx) (f := X) hxx).2
    isplitl [Hx] <;> iassumption
  unfold GRes
  iintro ⟨⟨⟨%g, %hg, Hg⟩, ⟨%f, %hf, Hf⟩, Hx⟩, Hv⟩ HQ
  ihave Hg' := (pointsTo_split_subset (q := fullShare) (f := g) hog).1 $$ Hg
  icases Hg' with ⟨Hg, Hgr⟩
  ihave Hf' := (pointsTo_split_subset (q := fullShare) (f := f) hil).1 $$ Hf
  icases Hf' with ⟨Hf, Hfr⟩
  ihave Hx' := (pointsTo_split_subset (q := qx) (f := X) hxx).1 $$ Hx
  icases Hx' with ⟨Hx, Hxr⟩
  ihave Hstep := (SparseCore.wp_indirectGatherLocal countersEmb 𝒱₀ (th d L) none (hg := gathers_S8192x128_S64x128) (k := fun _ => .ret PUnit.unit) (Q := Q)
    (src := xM j) (dst := gM b j) (offs := lM b) (q := qx) (qo := fullShare) (fs := X) (fd := g) (fo := f) (sem := sem)
    (hn := hn) (hp := hp) (hsrc := hs) (he := he) (hsp := hsp) (hr := hr) (defs := defs₀ (F := F))
    (default : HIx 1) (gM b j).view.dmaCredit (gM_credit b j _) (by decide) (list_lt hA hf)) $$ [Hg Hf Hx Hv]
  · isplitl [Hx]; · iexact Hx
    isplitl [Hg]; · iexact Hg
    isplitl [Hf]; · iexact Hf
    iexact Hv
  ihave Hstep' := (show (_ ⊢ _) from Entails.of_eq (congrArg _ (by rw [show (SparseCore.enqueueIndirectGather hp (xM j) (gM b j) gathers_S8192x128_S64x128 (lM b) hn sem hs he hsp hr >>= fun _ => Prog.ret PUnit.unit) = SparseCore.enqueueIndirectGather hp (xM j) (gM b j) gathers_S8192x128_S64x128 (lM b) hn sem hs he hsp hr from rfl]))) $$ Hstep
  iapply Hstep'
  iintro Hfl
  rw [wp_ret]
  imodintro
  iapply HQ
  unfold GFly
  have hoff : ∀ i ∈ (oM b).view.set \ (gM b j).view.set, g i = (gM b j).view.write (Elt F) g
      (SparseCore.gatherPayload gathers_S8192x128_S64x128 ((xM j).view.read (Elt F) X)
        (SparseCore.rows ((lM b).view.read (Elt F) f) hn (list_lt hA hf))) Finset.univ i := fun i hi =>
    (View.write_of_not_mem g _ _ (Finset.mem_sdiff.mp hi).2).symm
  iapply (flight_keep (hk f g _ hf (OFact_succ hA hf hg hn (list_lt hA hf)) hoff))
  isplitl [Hfl]; · iexact Hfl
  isplitl [Hgr]; · iexact Hgr
  isplitl [Hxr]; · iexact Hxr
  iexact Hfr

/-- Waiting for the gather of slab `j`. -/
theorem wp_gathered (O : CellTallies nD τ sig (HIx 1)) (W : Waits sig (HIx 1)) (b : Fin 2) (qx : PosShare TreeShare) (r : Fin 256) (j : Fin 4)
    (sem : DmaSem sig) {off : Fin 3 → ℕ} {offc offx : Fin 2 → ℕ} (h : off = ![b.val, 0, 0]) (hc : offc = ![0, 128 * j.val])
    {inb inbc inbx} {hs hd} {Q : PUnit → sProp 𝕄} :
    iprop(GFly d L X A sem b qx r j ∗ Owing d L O W) ⊢ iprop((iprop(GRes d L X A b qx r (j.val + 1) ∗ semVal (th d L, .dma sem) 0 ∗ Owing d L O W) -∗ Q ⟨⟩)
      -∗ wp frame (wpE (defs₀ (F := F)) 𝒱₀ (th d L) none) Set.univ
      (SparseCore.waitIndirectGather sem ((xV).slice (Rect.unit (s := S8192x512) offx S8192x128.size inbx) (fun _ => rfl))
        ((((oS).slice (Rect.unit (s := S2x64x512) off S1x64x512.size inb) (fun _ => rfl)).squeeze S64x512 squeezes_S1x64x512_S64x512).slice
          (Rect.unit (s := S64x512) offc S64x128.size inbc) (fun _ => rfl)) hs hd) Q) := by
  subst h hc
  unfold GFly Owing SparseCore.waitIndirectGather
  iintro ⟨Hfl, #Hmw, %W', %hW', HO⟩ HQ
  iapply (Transfers.wp_waitLocalO countersEmb 𝒱₀ (th d L) none (default : HIx 1) (rfl : (gM b j).view.dmaCredit = _)) $$ [Hfl HO]
  · isplitl [Hfl]; · iexact Hfl
    isplitl [HO]; · iexact HO
    iapply (Transfers.MayWaits.elim (SemLoc.dma sem)) $$ Hmw
  iintro ⟨Hg, Hv, HO⟩
  rw [wp_ret]
  imodintro
  iapply HQ
  isplitl [Hg]; · iexact Hg
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

/-- Issuing the write of a filled slot `b` to block `r` of the output. -/
theorem wp_put (b : Fin 2) (r : Fin 256) (f0 : S16384x512.Idx → Elt F .i32) {off : Fin 3 → ℕ} {off2 : Fin 2 → ℕ} {off1 : Fin 1 → ℕ}
    (h : off = ![b.val, 0, 0]) (h2 : off2 = ![64 * r.val, 0]) (h1 : off1 = ![b.val]) {inb inb2 inb1} {hs hd ht} {Q : PUnit → sProp 𝕄} :
    iprop(PartO d L X A b r 4 ∗ bPts d L r f0) ⊢ iprop((FlyO d L X A b r -∗ Q ⟨⟩) -∗ wp frame (wpE (defs₀ (F := F)) 𝒱₀ (th d L) none) Set.univ
      (Prog.lift (.enqueueDma (((oS).slice (Rect.unit (s := S2x64x512) off S1x64x512.size inb) (fun _ => rfl)).squeeze S64x512 squeezes_S1x64x512_S64x512)
        (.here ((oV).slice (Rect.unit (s := S16384x512) off2 S64x512.size inb2) (fun _ => rfl)))
        (.dma ((cc0_scoped3.slice (Rect.unit (s := S2) off1 S1.size inb1)).squeeze S_ squeezes_S1_S_).sem) hs hd ht)) Q) := by
  subst h h2 h1
  have hk : ∀ f f', OFact X A b r 4 f → (∀ i ∈ (bM r).view.set, f' i = gathered X A i) → iprop(bPts d L r f' ∗ oPts d L b f)
      ⊢ (iprop((∃ f, oPts d L b f) ∗ bPts d L r (gathered X A)) : sProp 𝕄) := by
    intro f f' hf hf'
    unfold bPts
    rw [pointsTo_congr (ℓ := (bM r).view.loc (th d L)) hf']
    iintro ⟨Hb, Ho⟩
    isplitl [Ho]
    · iexists f
      iexact Ho
    iexact Hb
  unfold PartO FlyO
  iintro ⟨⟨⟨%f, %hf, Hf⟩, Hv⟩, Hb⟩ HQ
  have hw : ∀ i ∈ (bM r).view.set, (bM r).view.write (Elt F) f0 ((oM b).view.read (Elt F) f) Finset.univ i = gathered X A i := by
    intro i hi
    obtain ⟨y, -, rfl⟩ := Finset.mem_map.mp hi
    rw [View.write_emb_of_mem _ _ (Finset.mem_univ y)]
    exact hf y (y 1).isLt
  iapply (Transfers.wp_dmaLocal countersEmb 𝒱₀ (th d L) none (default : HIx 1) (bM r).view.dmaCredit (rfl : (bM r).view.amount (.dma (semO b)) = _)
    (View.dmaCredit_pos _ (by decide)) (Finset.Subset.refl (bM r).view.set)) $$ [Hf Hb Hv]
  · isplitl [Hf]; · iexact Hf
    isplitl [Hb]; · iexact Hb
    iexact Hv
  iintro Hfl
  rw [wp_ret]
  imodintro
  iapply HQ
  iapply (Transfers.Flight_mono countersEmb (th d L) (hk f _ hf hw)) $$ Hfl

/-- Waiting for the write of slot `b` to block `r`. -/
theorem wp_written (O : CellTallies nD τ sig (HIx 1)) (W : Waits sig (HIx 1)) (b : Fin 2) (r : Fin 256)
    {off : Fin 3 → ℕ} {off2 : Fin 2 → ℕ} {off1 : Fin 1 → ℕ}
    (h2 : off2 = ![64 * r.val, 0]) (h1 : off1 = ![b.val]) {inb inb2 inb1} {hs hd} {Q : PUnit → sProp 𝕄} :
    iprop(FlyO d L X A b r ∗ Owing d L O W) ⊢ iprop((iprop(FreeO d L b ∗ bPts d L r (gathered X A) ∗ Owing d L O W) -∗ Q ⟨⟩)
      -∗ wp frame (wpE (defs₀ (F := F)) 𝒱₀ (th d L) none) Set.univ
      (Prog.lift (.waitDma2 ((cc0_scoped3.slice (Rect.unit (s := S2) off1 S1.size inb1)).squeeze S_ squeezes_S1_S_).sem
        (((oS).slice (Rect.unit (s := S2x64x512) off S1x64x512.size inb) (fun _ => rfl)).squeeze S64x512 squeezes_S1x64x512_S64x512)
        ((oV).slice (Rect.unit (s := S16384x512) off2 S64x512.size inb2) (fun _ => rfl)) hs hd)) Q) := by
  subst h2 h1
  unfold FlyO FreeO Owing
  iintro ⟨Hfl, #Hmw, %W', %hW', HO⟩ HQ
  iapply (Transfers.wp_waitLocalO countersEmb 𝒱₀ (th d L) none (default : HIx 1) (rfl : (bM r).view.dmaCredit = _)) $$ [Hfl HO]
  · isplitl [Hfl]; · iexact Hfl
    isplitl [HO]; · iexact HO
    iapply (Transfers.MayWaits.elim (SemLoc.dma (semO b))) $$ Hmw
  iintro ⟨⟨Ho, Hb⟩, Hv, HO⟩
  rw [wp_ret]
  imodintro
  iapply HQ
  isplitl [Ho Hv]
  · isplitl [Ho]; · iexact Ho
    iexact Hv
  isplitl [Hb]; · iexact Hb
  isplitr; · iexact Hmw
  iexists _; isplitr
  swap; · iexact HO
  ipureintro; intro p hp
  rcases Finset.mem_insert.mp hp with hp | hp
  · exact .inr (hp ▸ rfl)
  · exact hW' p hp

end Tile

end Cert.Proof.Gather

end
-- ==== Proof.Trip.lean ====
/-
  One trip of a subcore's loop, and the loop: from the invariant before trip `k` to the invariant before trip `k + 1`.
-/
module

public import proofs.«01_k».proof.Proof.Steps
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

variable [FloatOps F]

/-- The slot of trip `n`, and its block's number. -/
def par (n : ℕ) : Fin 2 := ⟨n % 2, Nat.mod_lt _ (by decide)⟩
def blkF (L : grid0.Coords) (n : ℕ) : Fin 256 := ⟨blk L n % 256, Nat.mod_lt _ (by decide)⟩

theorem blk_lt (L : grid0.Coords) {n : ℕ} (h : n < 8) : blk L n < 256 := by
  have h0 : (L 0).val < 2 := (L 0).isLt
  have h1 : (L 1).val < 16 := (L 1).isLt
  unfold blk; omega

theorem blkF_val (L : grid0.Coords) {n : ℕ} (h : n < 8) : (blkF L n).val = blk L n := Nat.mod_eq_of_lt (blk_lt L h)

theorem par_add_two (n : ℕ) : par (n + 1 + 1) = par n := Fin.ext (by show (n + 1 + 1) % 2 = n % 2; omega)

/-- The share of the padded indices that the fetches into slot `b` read. -/
def halfOf (q : PosShare TreeShare) (b : Fin 2) : PosShare TreeShare := if b = 0 then q.left else q.right

/-- The counters before trip `k`. -/
def accAt (k : ℕ) : BitVec 32 × BitVec 32 × BitVec 32 × BitVec 32 × BitVec 32 := (a6 k, a7 k, a7 k, a9 k, a10 k)

/-- The counters a trip yields, from those it starts with. -/
def tripOut (v0 v1 iv a6 a7 a8 a9 a10 : BitVec 32) : BitVec 32 × BitVec 32 × BitVec 32 × BitVec 32 × BitVec 32 :=
  let v63 := Scalar.cmpi .eq iv 0#32
  let v64 := Scalar.cmpi .eq iv 7#32
  let v65 := Scalar.addi a10 v1
  let v67 := Scalar.select 1#1 (Scalar.subi a10 1#32) a10
  let v69 := Scalar.select (Scalar.cmpi .eq v67 4294967295#32) 7#32 v67
  let v70 := Scalar.addi v69 v1
  let v72 := Scalar.select 1#1 (Scalar.addi a10 1#32) a10
  let v74 := Scalar.select (Scalar.cmpi .eq v72 8#32) 0#32 v72
  let v75 := Scalar.addi v74 v1
  let v81 := Scalar.addi v0 v65
  let v82 := Scalar.addi v0 v75
  let v86 := Scalar.andi (Scalar.cmpi .ne v81 v82) (Scalar.xori (Scalar.cmpi .sge iv 7#32) 1#1)
  let v92 := Scalar.select (Scalar.andi v86 1#1) (Scalar.addi a6 1#32) a6
  let v121 := Scalar.ori (Scalar.cmpi .ne v81 v82) v64
  let v126 := Scalar.select (Scalar.andi v121 1#1) (Scalar.addi a8 1#32) a8
  let v106 := Scalar.addi v0 v70
  let v135 := Scalar.andi (Scalar.cmpi .ne v81 v106) (Scalar.xori v63 1#1)
  let v140 := Scalar.select (Scalar.andi v135 1#1) (Scalar.addi a9 1#32) a9
  let v144 := Scalar.select v121 (Scalar.addi a7 1#32) a7
  let v146 := Scalar.select 1#1 (Scalar.addi a10 1#32) a10
  (v92, v144, v126, v140, Scalar.select (Scalar.cmpi .eq v146 8#32) 0#32 v146)

theorem tripOut_eq (L : grid0.Coords) : ∀ k : Fin k0_t1_loop.trips,
    tripOut (Scalar.muli (BitVec.ofNat 32 (L 0).val) 128#32) (Scalar.muli (BitVec.ofNat 32 (L 1).val) 8#32) (Scf.iv 0#32 1#32 k) (a6 k) (a7 k) (a7 k) (a9 k) (a10 k)
      = accAt (k + 1) :=
  forall_coords (p := fun L => ∀ k : Fin k0_t1_loop.trips,
    tripOut (Scalar.muli (BitVec.ofNat 32 (L 0).val) 128#32) (Scalar.muli (BitVec.ofNat 32 (L 1).val) 8#32) (Scf.iv 0#32 1#32 k) (a6 k) (a7 k) (a7 k) (a9 k) (a10 k)
      = accAt (k + 1)) (by decide +kernel) L

section Tile

variable (d : Dev nD) (L : grid0.Coords) (X : S8192x512.Idx → Elt F .i32) (A : S256x128.Idx → Elt F .i32)

/-- A trip's fetch of the next row, made only where the trip is not the last. -/
theorem wp_fetch_if (b : Fin 2) (q : PosShare TreeShare) (r : Fin 256) (c : Prop) [Decidable c] {off : Fin 3 → ℕ} {off2 : Fin 2 → ℕ} {off1 : Fin 1 → ℕ}
    (h : c → off = ![b.val, 0, 0]) (h2 : c → off2 = ![r.val, 0]) (h1 : c → off1 = ![b.val])
    {inb : c → ∀ a, off a + S1x1x128.size a ≤ S2x1x128.size a} {inb2 : c → ∀ a, off2 a + S1x128.size a ≤ S256x128.size a}
    {inb1 : c → ∀ a, off1 a + S1.size a ≤ S2.size a} {α : Type} {K : Prog (TpuEff nD τ sig (Elt F) Λ₀ (th d L).2) α} {Q : α → sProp 𝕄} :
    FreeI d L A b q ⊢ iprop((iprop(if c then FlyI d L A b q r else FreeI d L A b q) -∗ wp frame (wpE (defs₀ (F := F)) 𝒱₀ (th d L) none) Set.univ K Q) -∗ wp frame (wpE (defs₀ (F := F)) 𝒱₀ (th d L) none) Set.univ
      (if hc : c then (do
        Prog.lift (.enqueueDma ((aV).slice (Rect.unit (s := S256x128) off2 S1x128.size (inb2 hc)) (fun _ => rfl))
          (.here (((iS).slice (Rect.unit (s := S2x1x128) off S1x1x128.size (inb hc)) (fun _ => rfl)).squeeze S1x128 squeezes_S1x1x128_S1x128))
          (.dma ((cc0_scoped1.slice (Rect.unit (s := S2) off1 S1.size (inb1 hc))).squeeze S_ squeezes_S1_S_).sem) (View.wordExact_bits rfl) ((View.wordExact_bits rfl).reshape _ _) ⟨Or.inl rfl, trivial⟩)
        K) else K) Q) := by
  by_cases hc : c
  · rw [dif_pos hc, if_pos hc, wp_bind]
    iintro HF HQ
    iapply (wp_fetch d L A b q r (h hc) (h2 hc) (h1 hc)) $$ HF
    iintro HF
    iapply HQ
    iexact HF
  · rw [dif_neg hc, if_neg hc]
    iintro HF HQ
    iapply HQ
    iexact HF

/-- A trip's wait for the previous block's write, made only where the trip is not the first. -/
theorem wp_written_if (O : CellTallies nD τ sig (HIx 1)) (W : Waits sig (HIx 1)) (b : Fin 2) (r : Fin 256) (c : Prop) [Decidable c]
    {off : Fin 3 → ℕ} {off2 : Fin 2 → ℕ} {off1 : Fin 1 → ℕ}
    (h2 : c → off2 = ![64 * r.val, 0]) (h1 : c → off1 = ![b.val])
    {inb : c → ∀ a, off a + S1x64x512.size a ≤ S2x64x512.size a} {inb2 : c → ∀ a, off2 a + S64x512.size a ≤ S16384x512.size a}
    {inb1 : c → ∀ a, off1 a + S1.size a ≤ S2.size a} {α : Type} {K : Prog (TpuEff nD τ sig (Elt F) Λ₀ (th d L).2) α} {Q : α → sProp 𝕄} :
    iprop((if c then FlyO d L X A b r else FreeO d L b) ∗ Owing d L O W)
      ⊢ iprop((iprop(FreeO d L b ∗ (if c then bPts d L r (gathered X A) else iprop(emp)) ∗ Owing d L O W) -∗ wp frame (wpE (defs₀ (F := F)) 𝒱₀ (th d L) none) Set.univ K Q)
      -∗ wp frame (wpE (defs₀ (F := F)) 𝒱₀ (th d L) none) Set.univ
      (if hc : c then (do
        Prog.lift (.waitDma2 ((cc0_scoped3.slice (Rect.unit (s := S2) off1 S1.size (inb1 hc))).squeeze S_ squeezes_S1_S_).sem
          (((oS).slice (Rect.unit (s := S2x64x512) off S1x64x512.size (inb hc)) (fun _ => rfl)).squeeze S64x512 squeezes_S1x64x512_S64x512)
          ((oV).slice (Rect.unit (s := S16384x512) off2 S64x512.size (inb2 hc)) (fun _ => rfl)) ((View.wordExact_bits rfl).reshape _ _) (View.wordExact_bits rfl))
        K) else K) Q) := by
  by_cases hc : c
  · rw [dif_pos hc, if_pos hc, if_pos hc, wp_bind]
    iintro HF HQ
    iapply (wp_written d L X A O W b r (h2 hc) (h1 hc)) $$ HF
    iintro HF
    iapply HQ
    iexact HF
  · rw [dif_neg hc, if_neg hc, if_neg hc]
    iintro ⟨HF, HO⟩ HQ
    iapply HQ
    isplitl [HF]; · iexact HF
    isplitr; · iempintro
    iexact HO

variable (f0 : S16384x512.Idx → Elt F .i32) (qa qx : PosShare TreeShare) (O : CellTallies nD τ sig (HIx 1)) (W : Waits sig (HIx 1))

/-- The index slot of trip `n`: its row in flight, or (past the last trip) free. -/
def CurI (n : ℕ) : sProp 𝕄 := if n < 8 then FlyI d L A (par n) (halfOf qa (par n)) (blkF L n) else FreeI d L A (par n) (halfOf qa (par n))

/-- The output slot the trip before `n` wrote from: still being written, or (before the first trip) free. -/
def PrevO (n : ℕ) : sProp 𝕄 := if 0 < n then FlyO d L X A (par (n + 1)) (blkF L (n - 1)) else FreeO d L (par (n + 1))

/-- The blocks not yet written, as they were at the launch; the blocks written. -/
def Todo (n : ℕ) : sProp 𝕄 := bigSep (Finset.univ.filter fun i : Fin 8 => n ≤ i.val) fun i => bPts d L (blkF L i) f0
def Done (n : ℕ) : sProp 𝕄 := bigSep (Finset.univ.filter fun i : Fin 8 => i.val + 1 < n) fun i => bPts d L (blkF L i) (gathered X A)

/-- The four gathers' semaphores, at zero. -/
abbrev Sems : sProp 𝕄 :=
  iprop(semVal (th d L, .dma cc0_scoped4.sem) 0 ∗ semVal (th d L, .dma cc0_scoped5.sem) 0 ∗ semVal (th d L, .dma cc0_scoped6.sem) 0
    ∗ semVal (th d L, .dma cc0_scoped7.sem) 0)

/-- Before trip `n`. -/
def Inv (n : ℕ) (acc : BitVec 32 × BitVec 32 × BitVec 32 × BitVec 32 × BitVec 32) : sProp 𝕄 :=
  iprop(⌜acc = accAt n⌝ ∗ CurI d L A qa n ∗ FreeI d L A (par (n + 1)) (halfOf qa (par (n + 1))) ∗ FreeO d L (par n) ∗ PrevO d L X A n
    ∗ Todo d L f0 n ∗ Done d L X A n ∗ xPts d L X qx ∗ Sems d L ∗ Owing d L O W)

theorem Todo_step {n : ℕ} (h : n < 8) : Todo d L f0 n = iprop(bPts d L (blkF L n) f0 ∗ Todo d L f0 (n + 1)) := by
  unfold Todo
  rw [SparseCore.bigSep_erase' (i := (⟨n, h⟩ : Fin 8)) (Finset.mem_filter.mpr ⟨Finset.mem_univ _, le_refl n⟩)]
  congr 2
  ext i
  simp only [Finset.mem_erase, Finset.mem_filter, Finset.mem_univ, _root_.true_and, ne_eq, Fin.ext_iff]
  omega

theorem Done_step (n : ℕ) (h : n < 8) :
    iprop((if 0 < n then bPts d L (blkF L (n - 1)) (gathered X A) else iprop(emp)) ∗ Done d L X A n) ⊢ Done d L X A (n + 1) := by
  by_cases h0 : 0 < n
  · rw [if_pos h0]
    unfold Done
    have e : (Finset.univ.filter fun i : Fin 8 => i.val + 1 < n + 1) = insert (⟨n - 1, by omega⟩ : Fin 8) (Finset.univ.filter fun i : Fin 8 => i.val + 1 < n) := by
      ext i
      simp only [Finset.mem_insert, Finset.mem_filter, Finset.mem_univ, _root_.true_and, Fin.ext_iff]
      omega
    rw [e, SparseCore.bigSep_insert' (by simp only [Finset.mem_filter, Finset.mem_univ, _root_.true_and]; omega)]
  · rw [if_neg h0]
    unfold Done
    have e : (Finset.univ.filter fun i : Fin 8 => i.val + 1 < n + 1) = (Finset.univ.filter fun i : Fin 8 => i.val + 1 < n) := by
      ext i
      simp only [Finset.mem_filter, Finset.mem_univ, _root_.true_and]
      omega
    rw [e]
    iintro ⟨-, H⟩
    iexact H

/-- A full index slot and an output slot are what the gathers work on, with the slots' own semaphores apart. -/
theorem slots_in (b : Fin 2) (q : PosShare TreeShare) (r : Fin 256) :
    iprop(FullI d L A b q r ∗ FreeO d L b ∗ xPts d L X qx)
      ⊢ iprop(GRes d L X A b qx r 0 ∗ (semVal (th d L, .dma (semI b)) 0 ∗ aPts d L A q) ∗ semVal (th d L, .dma (semO b)) 0) := by
  unfold FullI FreeO GRes
  iintro ⟨⟨Hi, Hir⟩, ⟨⟨%f, Ho⟩, Hor⟩, Hx⟩
  isplitl [Hi Ho Hx]
  · isplitl [Ho]
    · iexists f
      isplitr; · ipureintro; exact OFact_zero X A b r f
      iexact Ho
    isplitl [Hi] <;> iassumption
  isplitl [Hir] <;> iassumption

theorem slots_out (b : Fin 2) (q : PosShare TreeShare) (r : Fin 256) :
    iprop(GRes d L X A b qx r 4 ∗ (semVal (th d L, .dma (semI b)) 0 ∗ aPts d L A q) ∗ semVal (th d L, .dma (semO b)) 0)
      ⊢ iprop(FreeI d L A b q ∗ PartO d L X A b r 4 ∗ xPts d L X qx) := by
  unfold FreeI PartO GRes
  iintro ⟨⟨Ho, ⟨%f, -, Hi⟩, Hx⟩, Hir, Hor⟩
  isplitl [Hi Hir]
  · isplitl [Hi]; · iexists f; iexact Hi
    iexact Hir
  isplitl [Ho Hor]
  · isplitl [Ho] <;> iassumption
  iexact Hx

/-- The body of trip `k`. -/
abbrev bodyAt (k : Fin k0_t1_loop.trips) (acc : BitVec 32 × BitVec 32 × BitVec 32 × BitVec 32 × BitVec 32) :=
  k0_t1_body (F := F) L xV (Memref.isWhole_whole _) aV (Memref.isWhole_whole _) oV (Memref.isWhole_whole _) iS (Memref.isWhole_whole _) cc0_scoped1
    oS (Memref.isWhole_whole _) cc0_scoped3 cc0_scoped4 cc0_scoped5 cc0_scoped6 cc0_scoped7
    (Scalar.muli (BitVec.ofNat 32 (L 0).val) 128#32) (Scalar.muli (BitVec.ofNat 32 (L 1).val) 8#32) 1#32 0#32 k acc

set_option maxHeartbeats 4000000 in
/-- One trip: the next row's fetch is issued, this trip's row awaited, its four slabs gathered, the block's write issued
    and the previous block's awaited. -/
theorem trip (hA : ∀ i, (A i).toNat < 8192) (k : Fin k0_t1_loop.trips) (acc : BitVec 32 × BitVec 32 × BitVec 32 × BitVec 32 × BitVec 32) :
    Inv d L X A f0 qa qx O W k acc ⊢ wp frame (wpE (defs₀ (F := F)) 𝒱₀ (th d L) none) Set.univ (bodyAt (F := F) L k acc) (Inv d L X A f0 qa qx O W (k + 1)) := by
  have hk : k.val < 8 := trip_lt k
  unfold bodyAt k0_t1_body
  simp only [k0_part1_eq_skeleton, k0_part2_eq_skeleton, k0_part3_eq_skeleton, k0_part4_eq_skeleton]
  unfold k0_part1_skel k0_part2_skel k0_part3_skel k0_part4_skel
  rw [show Inv d L X A f0 qa qx O W k acc = iprop(⌜acc = accAt k⌝ ∗ FlyI d L A (par k) (halfOf qa (par k)) (blkF L k) ∗ FreeI d L A (par (k + 1)) (halfOf qa (par (k + 1)))
    ∗ FreeO d L (par k) ∗ PrevO d L X A k ∗ (bPts d L (blkF L k) f0 ∗ Todo d L f0 (k + 1)) ∗ Done d L X A k ∗ xPts d L X qx ∗ Sems d L ∗ Owing d L O W) from by
      unfold Inv CurI; rw [if_pos hk, Todo_step d L f0 hk]]
  iintro ⟨%hacc, Hcur, Hnext, Hout, Hprev, ⟨Hb, Htodo⟩, Hdone, Hx, ⟨Hs4, Hs5, Hs6, Hs7⟩, HO⟩
  subst hacc
  unfold accAt
  simp only [wp_bind, wp_pure, ite_self]
  iapply (wp_assume 𝒱₀ (th d L) none Set.univ (chk3_all k))
  rw [wp_ret]; imodintro
  iapply (wp_assume 𝒱₀ (th d L) none Set.univ (chk2_all k))
  rw [wp_ret]; imodintro
  iapply (wp_assume 𝒱₀ (th d L) none Set.univ (chk1_all L k))
  rw [wp_ret]; imodintro
  have hcI : CurI d L A qa (k + 1) = (if k0_cond1 L k (a10 k) = 1#1 then FlyI d L A (par (k + 1)) (halfOf qa (par (k + 1))) (blkF L (k + 1))
      else FreeI d L A (par (k + 1)) (halfOf qa (par (k + 1)))) := by
    unfold CurI
    exact if_congr (by rw [cond1_iff L k]; omega) rfl rfl
  iapply (wp_fetch_if d L A (par (k + 1)) (halfOf qa (par (k + 1))) (blkF L (k + 1)) (k0_cond1 L k (a10 k) = 1#1)
    (fun h => off4_eq k ((cond1_iff L k).mp h)) (fun h => by rw [blkF_val L (by have := (cond1_iff L k).mp h; omega)]; exact off5_eq L k ((cond1_iff L k).mp h))
    (fun h => off6_eq k ((cond1_iff L k).mp h))) $$ Hnext
  rw [← hcI]
  iintro Hnext
  rw [wp_pure]
  imodintro
  rw [dif_pos (cond2_all L k)]
  simp only [wp_bind, wp_pure]
  iapply (wp_fetched d L A O W (par k) (halfOf qa (par k)) (blkF L k) (off7_eq k) (off9_eq k)) $$ [Hcur HO]
  · isplitl [Hcur] <;> iassumption
  iintro ⟨Hfull, HO⟩
  ihave Hin := (slots_in d L X A qx (par k) (halfOf qa (par k)) (blkF L k)) $$ [Hfull Hout Hx]
  · isplitl [Hfull]; · iexact Hfull
    isplitl [Hout] <;> iassumption
  icases Hin with ⟨Hg, Hir, Hor⟩
  iapply (wp_gather d L X A hA (par k) qx (blkF L k) 0 cc0_scoped4.sem (off10_eq k) (off11_eq k) rfl rfl) $$ [Hg Hs4]
  · isplitl [Hg]; · iexact Hg
    iexact Hs4
  iintro Hfl
  imodintro
  iapply (wp_gathered d L X A O W (par k) qx (blkF L k) 0 cc0_scoped4.sem (off10_eq k) rfl) $$ [Hfl HO]
  · isplitl [Hfl] <;> iassumption
  iintro ⟨Hg, Hs4, HO⟩
  iapply (wp_gather d L X A hA (par k) qx (blkF L k) 1 cc0_scoped5.sem (off10_eq k) (off11_eq k) rfl rfl) $$ [Hg Hs5]
  · isplitl [Hg]; · iexact Hg
    iexact Hs5
  iintro Hfl
  iapply (wp_gathered d L X A O W (par k) qx (blkF L k) 1 cc0_scoped5.sem (off10_eq k) rfl) $$ [Hfl HO]
  · isplitl [Hfl] <;> iassumption
  iintro ⟨Hg, Hs5, HO⟩
  iapply (wp_gather d L X A hA (par k) qx (blkF L k) 2 cc0_scoped6.sem (off10_eq k) (off11_eq k) rfl rfl) $$ [Hg Hs6]
  · isplitl [Hg]; · iexact Hg
    iexact Hs6
  iintro Hfl
  imodintro
  iapply (wp_gathered d L X A O W (par k) qx (blkF L k) 2 cc0_scoped6.sem (off10_eq k) rfl) $$ [Hfl HO]
  · isplitl [Hfl] <;> iassumption
  iintro ⟨Hg, Hs6, HO⟩
  iapply (wp_gather d L X A hA (par k) qx (blkF L k) 3 cc0_scoped7.sem (off10_eq k) (off11_eq k) rfl rfl) $$ [Hg Hs7]
  · isplitl [Hg]; · iexact Hg
    iexact Hs7
  iintro Hfl
  iapply (wp_gathered d L X A O W (par k) qx (blkF L k) 3 cc0_scoped7.sem (off10_eq k) rfl) $$ [Hfl HO]
  · isplitl [Hfl] <;> iassumption
  iintro ⟨Hg, Hs7, HO⟩
  imodintro
  ihave Hout := (slots_out d L X A qx (par k) (halfOf qa (par k)) (blkF L k)) $$ [Hg Hir Hor]
  · isplitl [Hg]; · iexact Hg
    isplitl [Hir] <;> iassumption
  icases Hout with ⟨Hfree, Hpart, Hx⟩
  rw [dif_pos (cond5_all L k)]
  simp only [wp_bind, wp_pure]
  iapply (wp_put d L X A (par k) (blkF L k) f0 (off12_eq k) (by rw [blkF_val L hk]; exact off13_eq L k) (off14_eq k)) $$ [Hpart Hb]
  · isplitl [Hpart] <;> iassumption
  iintro Hfly
  have hpO : PrevO d L X A k = (if k0_cond7 L k (a10 k) = 1#1 then FlyO d L X A (par (k + 1)) (blkF L (k - 1)) else FreeO d L (par (k + 1))) := by
    unfold PrevO
    exact if_congr (cond7_iff L k).symm rfl rfl
  ihave Hprev := (Entails.of_eq hpO) $$ Hprev
  have hpar : ∀ h : 0 < k.val, (k.val - 1) % 2 = (k.val + 1) % 2 := fun h => by omega
  iapply (wp_written_if d L X A O W (par (k + 1)) (blkF L (k - 1)) (k0_cond7 L k (a10 k) = 1#1)
    (fun h => by rw [blkF_val L (by omega)]; exact off16_eq L k ((cond7_iff L k).mp h))
    (fun h => by rw [off17_eq k ((cond7_iff L k).mp h), hpar ((cond7_iff L k).mp h)]; rfl)) $$ [Hprev HO]
  · isplitl [Hprev] <;> iassumption
  iintro ⟨Hfo, Hbk, HO⟩
  rw [wp_pure]
  imodintro
  ihave Hdone' := (Done_step d L X A k hk) $$ [Hbk Hdone]
  · isplitl [Hbk]
    · iapply (Entails.of_eq (if_congr (cond7_iff L k) rfl rfl)) $$ Hbk
    iexact Hdone
  unfold Inv
  isplitr; · ipureintro; exact tripOut_eq L k
  isplitl [Hnext]; · iexact Hnext
  isplitl [Hfree]; · rw [par_add_two]; iexact Hfree
  isplitl [Hfo]; · iexact Hfo
  isplitl [Hfly]
  · unfold PrevO; rw [if_pos (Nat.succ_pos _), par_add_two]; iexact Hfly
  isplitl [Htodo]; · iexact Htodo
  isplitl [Hdone']; · iexact Hdone'
  isplitl [Hx]; · iexact Hx
  isplitl [Hs4 Hs5 Hs6 Hs7]
  · isplitl [Hs4]; · iexact Hs4
    isplitl [Hs5]; · iexact Hs5
    isplitl [Hs6] <;> iassumption
  iexact HO

end Tile

end Cert.Proof.Gather

end
-- ==== Proof.Tile.lean ====
/-
  A subcore's task, whole: from its share of the source and of the padded indices and its eight blocks of the output as
  they were, to the same with the eight blocks holding the gathered rows.
-/
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

/-! ## The program as the launch theorem sees it -/

abbrev ΛP : Labels := Pipeline.Sig Λ₀ (Fin 0) fun p => (pcfgs (F := F) p).Adm
abbrev K : SparseCore.Cfg τ sig (ΛP (F := F)) 1 := sc (F := F)
variable [FloatOps F]

abbrev D : Defs nD τ sig (Elt F) (ΛP (F := F)) := Pipeline.defs pcfgs defs₀

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (d : Dev nD) (L : grid0.Coords)

/-! ## The subcore's own semaphores and buffers -/

/-- The eight semaphores the task uses. -/
def dsem : Fin 8 → DmaSem sig := ![semI 0, semI 1, semO 0, semO 1, cc0_scoped4.sem, cc0_scoped5.sem, cc0_scoped6.sem, cc0_scoped7.sem]

theorem dsem_inj : Function.Injective dsem := by decide +kernel

theorem dsem_scoped : ∀ i, (SemLoc.dma (dsem i) : SemLoc sig).isScoped .scVector = true := by decide +kernel

def cell : Fin 8 ↪ GSem nD τ sig := ⟨fun i => (th d L, .dma (dsem i)), fun i j h => dsem_inj (by
  have := congrArg (fun g : GSem nD τ sig => g.2) h
  exact SemLoc.dma.inj this)⟩

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The subcore's semaphores at zero: the eight, and the rest. -/
theorem ownSems0_V :
    (ownSems0 (th d L) : sProp 𝕄)
      = iprop((semVal (th d L, .dma (semI 0)) 0 ∗ semVal (th d L, .dma (semI 1)) 0 ∗ semVal (th d L, .dma (semO 0)) 0 ∗ semVal (th d L, .dma (semO 1)) 0
          ∗ semVal (th d L, .dma cc0_scoped4.sem) 0 ∗ semVal (th d L, .dma cc0_scoped5.sem) 0 ∗ semVal (th d L, .dma cc0_scoped6.sem) 0 ∗ semVal (th d L, .dma cc0_scoped7.sem) 0)
          ∗ bigSep (ownCells (th d L) \ Finset.univ.map (cell d L)) fun g => semVal g 0) := by
  unfold SparseCore.Cfg.ownSems0
  rw [SparseCore.bigSep_sdiff_split' (t := Finset.univ.map (cell d L)) (by
    intro g hg
    obtain ⟨i, -, rfl⟩ := Finset.mem_map.mp hg
    exact mem_ownCells.mpr ⟨rfl, dsem_scoped i⟩), bigSep_map, bigSep_eight]
  rfl

/-- The subcore's buffers: the two staging buffers, and the rest. -/
theorem ownBufs_V :
    (ownBufs (th d L) : sProp 𝕄)
      = iprop((∃ f, (th d L).loc cc0_scoped0 ↦{fullShare} f) ∗ (∃ f, (th d L).loc cc0_scoped2 ↦{fullShare} f)
          ∗ bigSep (((ownRefs (τ := τ) (th d L).2).erase ((th d L).2.devRef cc0_scoped0)).erase ((th d L).2.devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := (th d L).2)
    (b := (th d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (th d L).2) (b := (th d L).2.devRef cc0_scoped2) rfl⟩)]

/-! ## A staging buffer is its two slots -/

theorem mem_iSet (b : Fin 2) (y : S2x1x128.Idx) : y ∈ (iM b).view.set ↔ (y 0).val = b.val := by
  rw [show (iM b).view.set = ((iS).view.slice (Rect.unit (s := S2x1x128) ![b.val, 0, 0] S1x1x128.size (inb_i b))).set from View.set_reshape _ _,
    View.set_slice_whole, Rect.mem_set_unit]
  have h0 := (y 0).isLt; have h1 := (y 1).isLt; have h2 := (y 2).isLt
  change (y 0).val < 2 at h0; change (y 1).val < 1 at h1; change (y 2).val < 128 at h2
  constructor
  · intro h
    have := h 0
    change b.val ≤ (y 0).val ∧ (y 0).val < b.val + 1 at this
    omega
  · intro h a
    match a with
    | 0 => show b.val ≤ (y 0).val ∧ (y 0).val < b.val + 1; omega
    | 1 => show 0 ≤ (y 1).val ∧ (y 1).val < 0 + 1; omega
    | 2 => show 0 ≤ (y 2).val ∧ (y 2).val < 0 + 128; omega

theorem mem_oSet (b : Fin 2) (y : S2x64x512.Idx) : y ∈ (oM b).view.set ↔ (y 0).val = b.val := by
  rw [show (oM b).view.set = ((oS).view.slice (Rect.unit (s := S2x64x512) ![b.val, 0, 0] S1x64x512.size (inb_o b))).set from View.set_reshape _ _,
    View.set_slice_whole, Rect.mem_set_unit]
  have h0 := (y 0).isLt; have h1 := (y 1).isLt; have h2 := (y 2).isLt
  change (y 0).val < 2 at h0; change (y 1).val < 64 at h1; change (y 2).val < 512 at h2
  constructor
  · intro h
    have := h 0
    change b.val ≤ (y 0).val ∧ (y 0).val < b.val + 1 at this
    omega
  · intro h a
    match a with
    | 0 => show b.val ≤ (y 0).val ∧ (y 0).val < b.val + 1; omega
    | 1 => show 0 ≤ (y 1).val ∧ (y 1).val < 0 + 64; omega
    | 2 => show 0 ≤ (y 2).val ∧ (y 2).val < 0 + 512; omega

theorem iSet_disjoint : Disjoint (iM 0).view.set (iM 1).view.set :=
  Finset.disjoint_left.mpr fun y h0 h1 => Nat.zero_ne_one (((mem_iSet 0 y).mp h0).symm.trans ((mem_iSet 1 y).mp h1))
theorem oSet_disjoint : Disjoint (oM 0).view.set (oM 1).view.set :=
  Finset.disjoint_left.mpr fun y h0 h1 => Nat.zero_ne_one (((mem_oSet 0 y).mp h0).symm.trans ((mem_oSet 1 y).mp h1))

theorem lt_two_cases {n : ℕ} (h : n < 2) : n = 0 ∨ n = 1 := by omega

theorem iSet_cover : (iM 0).view.set ∪ (iM 1).view.set = Finset.univ :=
  Finset.eq_univ_iff_forall.mpr fun y => Finset.mem_union.mpr ((lt_two_cases (show (y 0).val < 2 from (y 0).isLt)).imp (mem_iSet 0 y).mpr (mem_iSet 1 y).mpr)
theorem oSet_cover : (oM 0).view.set ∪ (oM 1).view.set = Finset.univ :=
  Finset.eq_univ_iff_forall.mpr fun y => Finset.mem_union.mpr ((lt_two_cases (show (y 0).val < 2 from (y 0).isLt)).imp (mem_oSet 0 y).mpr (mem_oSet 1 y).mpr)

theorem iSlots : (iprop(∃ f, (th d L).loc cc0_scoped0 ↦{fullShare} f) : sProp 𝕄) ⊣⊢ iprop((∃ f, iPts d L 0 f) ∗ (∃ f, iPts d L 1 f)) := by
  constructor
  · iintro ⟨%f, H⟩
    ihave H' := (Entails.of_eq (show ((th d L).loc cc0_scoped0 ↦{fullShare} f : sProp 𝕄)
      = (th d L).loc cc0_scoped0 ↦[(iM 0).view.set ∪ (iM 1).view.set]{fullShare} f by rw [iSet_cover])) $$ H
    ihave H' := (pointsTo_union iSet_disjoint).1 $$ H'
    icases H' with ⟨H0, H1⟩
    isplitl [H0]; · iexists f; iexact H0
    iexists f; iexact H1
  · iintro ⟨⟨%f, H0⟩, ⟨%g, H1⟩⟩
    ihave H := (pointsTo_join iSet_disjoint (f := f) (g := g) (ℓ := (th d L).loc cc0_scoped0) (q := fullShare)) $$ [H0 H1]
    · isplitl [H0]; · iexact H0
      iexact H1
    rw [iSet_cover]
    iexists _; iexact H

theorem oSlots : (iprop(∃ f, (th d L).loc cc0_scoped2 ↦{fullShare} f) : sProp 𝕄) ⊣⊢ iprop((∃ f, oPts d L 0 f) ∗ (∃ f, oPts d L 1 f)) := by
  constructor
  · iintro ⟨%f, H⟩
    ihave H' := (Entails.of_eq (show ((th d L).loc cc0_scoped2 ↦{fullShare} f : sProp 𝕄)
      = (th d L).loc cc0_scoped2 ↦[(oM 0).view.set ∪ (oM 1).view.set]{fullShare} f by rw [oSet_cover])) $$ H
    ihave H' := (pointsTo_union oSet_disjoint).1 $$ H'
    icases H' with ⟨H0, H1⟩
    isplitl [H0]; · iexists f; iexact H0
    iexists f; iexact H1
  · iintro ⟨⟨%f, H0⟩, ⟨%g, H1⟩⟩
    ihave H := (pointsTo_join oSet_disjoint (f := f) (g := g) (ℓ := (th d L).loc cc0_scoped2) (q := fullShare)) $$ [H0 H1]
    · isplitl [H0]; · iexact H0
      iexact H1
    rw [oSet_cover]
    iexists _; iexact H

/-! ## The task -/

variable (X : S8192x512.Idx → Elt F .i32) (A : S256x128.Idx → Elt F .i32) (f0 : S16384x512.Idx → Elt F .i32) (qa qx : PosShare TreeShare)

/-- What the task takes: its shares of the source and of the padded indices, its eight blocks as they were; -/
def Task0 : sProp 𝕄 := iprop(xPts d L X qx ∗ aPts d L A qa ∗ bigSep Finset.univ fun i : Fin 8 => bPts d L (blkF L i) f0)
/-- and what it gives back: the shares, and the eight blocks holding the gathered rows. -/
def Task1 : sProp 𝕄 := iprop(xPts d L X qx ∗ aPts d L A qa ∗ bigSep Finset.univ fun i : Fin 8 => bPts d L (blkF L i) (gathered X A))

theorem Todo_zero : Todo d L f0 0 = bigSep Finset.univ fun i : Fin 8 => bPts d L (blkF L i) f0 := by
  unfold Todo
  rw [show (Finset.univ.filter fun i : Fin 8 => 0 ≤ i.val) = Finset.univ by decide]

theorem Done_zero : Done d L X A 0 = iprop(emp) := by
  unfold Done
  rw [show (Finset.univ.filter fun i : Fin 8 => i.val + 1 < 0) = ∅ by decide, bigSep_empty]
  rfl

theorem Done_last : iprop(bPts d L (blkF L 7) (gathered X A) ∗ Done d L X A 8) = bigSep Finset.univ fun i : Fin 8 => bPts d L (blkF L i) (gathered X A) := by
  unfold Done
  rw [show (Finset.univ.filter fun i : Fin 8 => i.val + 1 < 8) = Finset.univ.erase (7 : Fin 8) by decide]
  exact (SparseCore.bigSep_erase' (i := (7 : Fin 8)) (Finset.mem_univ _) (Φ := fun i : Fin 8 => (bPts d L (blkF L i) (gathered X A) : sProp 𝕄))).symm

theorem aHalves : (aPts d L A qa : sProp 𝕄) = iprop(aPts d L A (halfOf qa 0) ∗ aPts d L A (halfOf qa 1)) :=
  BI.Entails.antisymm (pointsTo_share (PosShare.mem_left_op_right qa)).1 (pointsTo_share (PosShare.mem_left_op_right qa)).2

/-- The loop: from the invariant before its first trip to the invariant after its last. -/
theorem loop (hA : ∀ i, (A i).toNat < 8192) (O : CellTallies nD τ sig (HIx 1)) (W : Waits sig (HIx 1))
    {Q : BitVec 32 × BitVec 32 × BitVec 32 × BitVec 32 × BitVec 32 → sProp 𝕄} :
    Inv d L X A f0 qa qx O W 0 (accAt 0) ⊢ iprop((∀ acc, Inv d L X A f0 qa qx O W 8 acc -∗ Q acc) -∗ wp frame (wpE (defs₀ (F := F)) 𝒱₀ (th d L) none) Set.univ
      (k0_t1_loop.for k0_t1_ok (1#32, 0#32, 0#32, 0#32, 0#32) (bodyAt L)) Q) := by
  iintro HI HK
  iapply (Scf.wp_for frame (wpE (defs₀ (F := F)) 𝒱₀ (th d L) none) Set.univ _ _ _ k0_t1_ok _ (bodyAt L) (Inv d L X A f0 qa qx O W)
    (fun k acc => trip d L X A f0 qa qx O W hA k acc))
  isplitl [HI]; · iexact HI
  iintro %acc HI
  iapply HK
  ihave HI := (Entails.of_eq (congrArg (fun n => Inv d L X A f0 qa qx O W n acc) trips_eq)) $$ HI
  iexact HI

set_option maxHeartbeats 4000000 in
/-- The task: the first row's fetch, the eight trips, the last block's write awaited. -/
theorem tile_body (hF : (K (F := F)).Facts) (hA : ∀ i, (A i).toNat < 8192) (O : CellTallies nD τ sig (HIx 1)) (W : Waits sig (HIx 1)) (hO : ∀ g, O g none = 0) :
    iprop(levAts (K (F := F)).L (K (F := F)).lev ∗ emp ∗ Task0 d L X A f0 qa qx
        ∗ scopedBufs (th d L) ∗ scopedSems0 (th d L) ∗ owes (th d L) O W)
      ⊢ wp frame (wpE (defs₀ (F := F)) 𝒱₀ (th d L) none) Set.univ
          (cc0_gather_kernel L xV (Memref.isWhole_whole _) aV (Memref.isWhole_whole _) oV (Memref.isWhole_whole _)
            iS (Memref.isWhole_whole _) cc0_scoped1 oS (Memref.isWhole_whole _) cc0_scoped3 cc0_scoped4 cc0_scoped5 cc0_scoped6 cc0_scoped7)
          fun _ => iprop(Task1 d L X A qa qx
            ∗ scopedBufs (th d L) ∗ scopedSems0 (th d L)
            ∗ ∃ W', ⌜∀ p ∈ W', p ∈ W ∨ p.2 = none⌝ ∗ owes (th d L) O W') := by
  simp only [cc0_gather_kernel_eq_skeleton]
  unfold cc0_gather_kernel_skel
  simp only [k0_part5_eq_skeleton, k0_part6_eq_skeleton]
  unfold k0_part5_skel k0_part6_skel
  rw [(K (F := F)).scopedBufs_V hF d _ _, SparseCore.Cfg.scopedSems0_V (Val := Elt F) d _ _, ownSems0_V, ownBufs_V]
  unfold Task0 Task1
  simp only [wp_bind, wp_pure]
  iintro ⟨#Hlv, -, ⟨Hx, Ha, Hb⟩, ⟨Hi, Ho, Hbufs⟩, ⟨⟨Hi0, Hi1, Ho0, Ho1, Hs4, Hs5, Hs6, Hs7⟩, Hsems⟩, HO⟩
  ihave Hmw := (show levAts (K (F := F)).L (K (F := F)).lev ⊢ Transfers.MayWaits (th d L) (default : HIx 1) O from
    (K (F := F)).mayWaits_none (thr := th d L) hO) $$ Hlv
  ihave Hi := (iSlots d L).1 $$ Hi
  icases Hi with ⟨HiA, HiB⟩
  ihave Ho := (oSlots d L).1 $$ Ho
  icases Ho with ⟨HoA, HoB⟩
  ihave Ha := (Entails.of_eq (aHalves d L A qa)) $$ Ha
  icases Ha with ⟨HaA, HaB⟩
  ihave HfA := (show iprop((∃ f, iPts d L 0 f) ∗ semVal (th d L, .dma (semI 0)) 0 ∗ aPts d L A (halfOf qa 0)) ⊢ FreeI d L A 0 (halfOf qa 0) from BIBase.Entails.rfl) $$ [HiA Hi0 HaA]
  · isplitl [HiA]; · iexact HiA
    isplitl [Hi0] <;> iassumption
  iapply (wp_fetch d L A 0 (halfOf qa 0) (blkF L 0) off1_eq (by rw [blkF_val L (by norm_num)]; exact off2_eq L) off3_eq) $$ HfA
  iintro HfA
  ihave HI := (show iprop(FlyI d L A 0 (halfOf qa 0) (blkF L 0) ∗ ((∃ f, iPts d L 1 f) ∗ semVal (th d L, .dma (semI 1)) 0 ∗ aPts d L A (halfOf qa 1))
      ∗ ((∃ f, oPts d L 0 f) ∗ semVal (th d L, .dma (semO 0)) 0) ∗ ((∃ f, oPts d L 1 f) ∗ semVal (th d L, .dma (semO 1)) 0)
      ∗ Todo d L f0 0 ∗ Done d L X A 0 ∗ xPts d L X qx ∗ Sems d L ∗ Owing d L O W) ⊢ Inv d L X A f0 qa qx O W 0 (accAt 0) from by
    unfold Inv
    iintro ⟨H1, H2, H3, H4, H5, H6, H7, H8, H9⟩
    isplitr; · ipureintro; rfl
    isplitl [H1]; · unfold CurI; rw [if_pos (by norm_num)]; iexact H1
    isplitl [H2]; · unfold FreeI; iexact H2
    isplitl [H3]; · unfold FreeO; iexact H3
    isplitl [H4]; · unfold PrevO FreeO; rw [if_neg (by norm_num)]; iexact H4
    isplitl [H5]; · iexact H5
    isplitl [H6]; · iexact H6
    isplitl [H7]; · iexact H7
    isplitl [H8]; · iexact H8
    iexact H9) $$ [HfA HiB Hi1 HaB HoA Ho0 HoB Ho1 Hb Hx Hs4 Hs5 Hs6 Hs7 Hmw HO]
  · isplitl [HfA]; · iexact HfA
    isplitl [HiB Hi1 HaB]
    · isplitl [HiB]; · iexact HiB
      isplitl [Hi1] <;> iassumption
    isplitl [HoA Ho0]; · isplitl [HoA] <;> iassumption
    isplitl [HoB Ho1]; · isplitl [HoB] <;> iassumption
    isplitl [Hb]; · rw [Todo_zero]; iexact Hb
    isplitr; · rw [Done_zero]; iempintro
    isplitl [Hx]; · iexact Hx
    isplitl [Hs4 Hs5 Hs6 Hs7]
    · isplitl [Hs4]; · iexact Hs4
      isplitl [Hs5]; · iexact Hs5
      isplitl [Hs6] <;> iassumption
    unfold Owing
    isplitl [Hmw]; · iexact Hmw
    iexists W; isplitr
    · ipureintro; exact fun p hp => .inl hp
    iexact HO
  imodintro
  iapply (loop d L X A f0 qa qx hA O W) $$ HI
  iintro %acc HI
  unfold Inv
  icases HI with ⟨%hacc, HcI, HfI, HfO, HpO, Htodo, Hdone, Hx, ⟨Hs4, Hs5, Hs6, Hs7⟩, HO⟩
  subst hacc
  unfold accAt
  iapply (wp_assume 𝒱₀ (th d L) none Set.univ (chk5_end L))
  rw [wp_ret]; imodintro
  iapply (wp_assume 𝒱₀ (th d L) none Set.univ chk4_end)
  rw [wp_ret]; imodintro
  imodintro
  ihave HpO := (show PrevO d L X A 8 ⊢ FlyO d L X A 1 (blkF L 7) from by unfold PrevO; rw [if_pos (by norm_num)]; exact BIBase.Entails.rfl) $$ HpO
  ihave HcI := (show CurI d L A qa 8 ⊢ FreeI d L A 0 (halfOf qa 0) from by unfold CurI; rw [if_neg (by norm_num)]; exact BIBase.Entails.rfl) $$ HcI
  iapply (wp_written d L X A O W 1 (blkF L 7) (by rw [blkF_val L (by norm_num)]; exact off19_end L) off20_end) $$ [HpO HO]
  · isplitl [HpO] <;> iassumption
  iintro ⟨HfO1, Hb7, HO⟩
  imodintro
  unfold FreeI FreeO Owing
  icases HcI with ⟨HiA, Hi0, HaA⟩
  icases HfI with ⟨HiB, Hi1, HaB⟩
  icases HfO with ⟨HoA, Ho0⟩
  icases HfO1 with ⟨HoB, Ho1⟩
  icases HO with ⟨-, HO⟩
  isplitl [Hx HaA HaB Hb7 Hdone]
  · isplitl [Hx]; · iexact Hx
    isplitl [HaA HaB]
    · iapply (Entails.of_eq (aHalves d L A qa).symm)
      isplitl [HaA]; · iexact HaA
      iexact HaB
    iapply (Entails.of_eq (Done_last d L X A))
    isplitl [Hb7] <;> iassumption
  isplitl [HiA HiB HoA HoB Hbufs]
  · isplitl [HiA HiB]
    · iapply (iSlots d L).2
      isplitl [HiA]; · iexact HiA
      iexact HiB
    isplitl [HoA HoB]
    · iapply (oSlots d L).2
      isplitl [HoA]; · iexact HoA
      iexact HoB
    iexact Hbufs
  isplitl [Hi0 Hi1 Ho0 Ho1 Hs4 Hs5 Hs6 Hs7 Hsems]
  · isplitr [Hsems]
    · isplitl [Hi0]; · iexact Hi0
      isplitl [Hi1]; · iexact Hi1
      isplitl [Ho0]; · iexact Ho0
      isplitl [Ho1]; · iexact Ho1
      isplitl [Hs4]; · iexact Hs4
      isplitl [Hs5]; · iexact Hs5
      isplitl [Hs6] <;> iassumption
    iexact Hsems
  iexact HO

end Tile

end Cert.Proof.Gather

end
-- ==== Proof.Split.lean ====
/-
  The launch's arrays dealt to the 32 subcores and joined again: the source and the padded indices by shares, the output
  by its 256 blocks of 64 rows, eight to each subcore.
-/
module

public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

/-! ## The output is its 256 blocks -/

theorem mem_bSet (r : Fin 256) (y : S16384x512.Idx) : y ∈ (bM r).view.set ↔ (y 0).val / 64 = r.val := by
  rw [View.set_slice_whole, Rect.mem_set_unit]
  have h0 := (y 0).isLt; have h1 := (y 1).isLt
  change (y 0).val < 16384 at h0; change (y 1).val < 512 at h1
  constructor
  · intro h
    have := h 0
    change 64 * r.val ≤ (y 0).val ∧ (y 0).val < 64 * r.val + 64 at this
    omega
  · intro h a
    match a with
    | 0 => show 64 * r.val ≤ (y 0).val ∧ (y 0).val < 64 * r.val + 64; omega
    | 1 => show 0 ≤ (y 1).val ∧ (y 1).val < 0 + 512; omega

/-- Block `r`'s elements. -/
abbrev bSet (r : Fin 256) : Finset S16384x512.Idx := (bM r).view.set

theorem blocks_disjoint : ∀ r ∈ (Finset.univ : Finset (Fin 256)), ∀ r' ∈ (Finset.univ : Finset (Fin 256)), r ≠ r' → Disjoint (bM r).view.set (bM r').view.set :=
  fun r _ r' _ h => Finset.disjoint_left.mpr fun y h0 h1 => h (Fin.ext (((mem_bSet r y).mp h0).symm.trans ((mem_bSet r' y).mp h1)))

theorem blocks_cover : (Finset.univ : Finset (Fin 256)).biUnion bSet = Finset.univ :=
  Finset.eq_univ_iff_forall.mpr fun y => Finset.mem_biUnion.mpr ⟨⟨(y 0).val / 64, by
    have h0 := (y 0).isLt; change (y 0).val < 16384 at h0; omega⟩, Finset.mem_univ _, (mem_bSet _ y).mpr rfl⟩

abbrev xLoc (d : Dev nD) : Loc nD τ sig := (SparseCore.T d).loc main_arg0
abbrev idxLoc (d : Dev nD) : Loc nD τ sig := (SparseCore.T d).loc main_arg1
abbrev aLoc (d : Dev nD) : Loc nD τ sig := (SparseCore.T d).loc main_v2
abbrev bLoc (d : Dev nD) : Loc nD τ sig := (SparseCore.T d).loc main_v3
abbrev outLoc (d : Dev nD) : Loc nD τ sig := (SparseCore.T d).loc main_v4

/-- The output whole is its blocks. -/
theorem blocks_eq (d : Dev nD) (f : S16384x512.Idx → Elt F .i32) :
    (bLoc d ↦{fullShare} f : sProp 𝕄) = bigSep Finset.univ fun r : Fin 256 => bLoc d ↦[(bM r).view.set]{fullShare} f := by
  rw [← pointsTo_biUnion Finset.univ (ℓ := bLoc d) bSet blocks_disjoint, blocks_cover]

/-! ## Numbering the subcores and their blocks -/

/-- A family over `a * b` numbers, dealt as `a` runs of `b`. -/
theorem bigSep_runs {a b : ℕ} (Φ : Fin (a * b) → sProp 𝕄) :
    bigSep Finset.univ Φ = bigSep Finset.univ fun i : Fin a => bigSep Finset.univ fun j : Fin b => Φ (finProdFinEquiv (i, j)) := by
  rw [bigSep_univ_equiv finProdFinEquiv Φ, bigSep_univ_prod]

/-- Subcore `(c, s)`'s number. -/
def num (c : Fin 2) (s : Fin 16) : Fin 32 := finProdFinEquiv (m := 2) (n := 16) (c, s)

/-- The share of the source and of the padded indices that subcore `(c, s)` holds. -/
def shareOf (c : Fin 2) (s : Fin 16) : PosShare TreeShare := leaf 5 fullShare (num c s)

/-- An array whole is the subcores' shares of it. -/
theorem shares_eq {ℓ : Loc nD τ sig} (f : Buf (Elt F) ℓ) :
    (ℓ ↦{fullShare} f : sProp 𝕄) = bigSep Finset.univ fun c : Fin 2 => bigSep Finset.univ fun s : Fin 16 => ℓ ↦{shareOf c s} f :=
  (pointsTo_leaves Finset.univ f 5 fullShare).trans
    (bigSep_runs (a := 2) (b := 16) fun i : Fin (2 * 16) => (ℓ ↦{leaf 5 fullShare i} f : sProp 𝕄))

theorem blkF_num (c : Fin 2) (s : Fin 16) (k : Fin 8) :
    blkF (coords c s) k = (finProdFinEquiv (m := 32) (n := 8) (num c s, k) : Fin 256) := by
  refine Fin.ext ((blkF_val _ k.isLt).trans ?_)
  show 128 * c.val + 8 * s.val + k.val = k.val + 8 * (s.val + 16 * c.val)
  omega

/-- The output whole is the subcores' blocks of it. -/
theorem tasks_blocks (d : Dev nD) (f : S16384x512.Idx → Elt F .i32) :
    (bLoc d ↦{fullShare} f : sProp 𝕄)
      = bigSep Finset.univ fun c : Fin 2 => bigSep Finset.univ fun s : Fin 16 => bigSep Finset.univ fun k : Fin 8 =>
          bLoc d ↦[(bM (blkF (coords c s) k)).view.set]{fullShare} f := by
  rw [blocks_eq]
  refine (bigSep_runs (a := 32) (b := 8) fun r : Fin (32 * 8) => (bLoc d ↦[(bM r).view.set]{fullShare} f : sProp 𝕄)).trans ?_
  refine (bigSep_runs (a := 2) (b := 16) fun n : Fin (2 * 16) => bigSep Finset.univ fun k : Fin 8 =>
    (bLoc d ↦[(bM (finProdFinEquiv (m := 32) (n := 8) (n, k))).view.set]{fullShare} f : sProp 𝕄)).trans ?_
  refine bigSep_congr fun c _ => bigSep_congr fun s _ => bigSep_congr fun k _ => ?_
  rw [blkF_num]; rfl

variable [FloatOps F]

/-- What a core's sixteen subcores take, and give back. -/
def Core0 (d : Dev nD) (X : S8192x512.Idx → Elt F .i32) (A : S256x128.Idx → Elt F .i32) (f0 : S16384x512.Idx → Elt F .i32) (c : Fin 2) : sProp 𝕄 :=
  bigSep Finset.univ fun s : Fin 16 => Task0 d (coords c s) X A f0 (shareOf c s) (shareOf c s)
def Core1 (d : Dev nD) (X : S8192x512.Idx → Elt F .i32) (A : S256x128.Idx → Elt F .i32) (c : Fin 2) : sProp 𝕄 :=
  bigSep Finset.univ fun s : Fin 16 => Task1 d (coords c s) X A (shareOf c s) (shareOf c s)

theorem cores_of (d : Dev nD) (X : S8192x512.Idx → Elt F .i32) (A : S256x128.Idx → Elt F .i32) (f : S16384x512.Idx → Elt F .i32) :
    (bigSep Finset.univ fun c : Fin 2 => bigSep Finset.univ fun s : Fin 16 =>
      iprop(xPts d (coords c s) X (shareOf c s) ∗ aPts d (coords c s) A (shareOf c s) ∗ bigSep Finset.univ fun i : Fin 8 => bPts d (coords c s) (blkF (coords c s) i) f) : sProp 𝕄)
      = iprop((xLoc d ↦{fullShare} X) ∗ (aLoc d ↦{fullShare} A) ∗ bLoc d ↦{fullShare} f) := by
  rw [shares_eq (ℓ := xLoc d) X, shares_eq (ℓ := aLoc d) A, tasks_blocks d f]
  rw [← bigSep_sep', ← bigSep_sep']
  refine bigSep_congr fun c _ => ?_
  rw [← bigSep_sep', ← bigSep_sep']

/-- The three arrays whole are what the 32 subcores take; -/
theorem cores0_eq (d : Dev nD) (X : S8192x512.Idx → Elt F .i32) (A : S256x128.Idx → Elt F .i32) (f0 : S16384x512.Idx → Elt F .i32) :
    (bigSep Finset.univ fun c : Fin 2 => Core0 d X A f0 c) = iprop((xLoc d ↦{fullShare} X) ∗ (aLoc d ↦{fullShare} A) ∗ bLoc d ↦{fullShare} f0) :=
  cores_of d X A f0
/-- and what they give back is the arrays whole, the output gathered. -/
theorem cores1_eq (d : Dev nD) (X : S8192x512.Idx → Elt F .i32) (A : S256x128.Idx → Elt F .i32) :
    (bigSep Finset.univ fun c : Fin 2 => Core1 d X A c) = iprop((xLoc d ↦{fullShare} X) ∗ (aLoc d ↦{fullShare} A) ∗ bLoc d ↦{fullShare} gathered X A) :=
  cores_of d X A (gathered X A)

end Cert.Proof.Gather

end
-- ==== Proof.Launch.lean ====
/-
  The launch: the padded indices made on the host, the subcores' tasks, the result reshaped on the host.
-/
module

public import proofs.«01_k».proof.Proof.Split
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

variable [FloatOps F]

abbrev EH : Emb UH (MT nD τ sig (HIx 1) (Elt F) ℕ UU ℕ) := embL

abbrev 𝒱 : Variants := 𝒱₀.lift
abbrev v₀ : 𝒱.V := Sum.inl none

variable (m : (ℓ : Loc nD τ sig) → Buf (Elt F) ℓ) (ρ : Dev nD → PrngReg)

/-! ## The host's operations -/

/-- The indices, flat, in rows of 64, each row padded with 64 zeros to a whole lane row. -/
def padded (idx : S16x1024.Idx → BitVec 32) : S256x128.Idx → BitVec 32 :=
  pad S256x128 ![0, 0] ![0, 64] ![0, 0] (shapeCast S256x64 (shapeCast S16384 idx shapeCasts_S16x1024_S16384) shapeCasts_S16384_S256x64)
    (constantI S_ 32 0#32) pads_S256x64_S256x128_000_0640 h_S_

abbrev Xm (d : Dev nD) : S8192x512.Idx → Elt F .i32 := m (xLoc d)
abbrev Am (d : Dev nD) : S256x128.Idx → Elt F .i32 := padded (m (idxLoc d))

/-- What the program leaves in its result. -/
def Out (d : Dev nD) : S16x1024x512.Idx → Elt F .i32 :=
  shapeCast S16x1024x512 (gathered (Xm m d) (Am m d)) shapeCasts_S16384x512_S16x1024x512

abbrev x' : DevRef τ sig := Proc.devRef .tc (main_arg0 : Ref sig .tc)
abbrev i' : DevRef τ sig := Proc.devRef .tc (main_arg1 : Ref sig .tc)
abbrev f' : DevRef τ sig := Proc.devRef .tc (main_v0 : Ref sig .tc)
abbrev w' : DevRef τ sig := Proc.devRef .tc (main_v1 : Ref sig .tc)
abbrev c' : DevRef τ sig := Proc.devRef .tc (main_c : Ref sig .tc)
abbrev z' : DevRef τ sig := Proc.devRef .tc (main_call0_v0 : Ref sig .tc)
abbrev a' : DevRef τ sig := Proc.devRef .tc (main_v2 : Ref sig .tc)
abbrev b' : DevRef τ sig := Proc.devRef .tc (main_v3 : Ref sig .tc)
abbrev o' : DevRef τ sig := Proc.devRef .tc (main_v4 : Ref sig .tc)

abbrev opFlat : HloOp τ sig (Elt F) := StableHlo.reshape main_arg1 main_v0 (rfl : (.i32 : EltTy) = .i32) shapeCasts_S16x1024_S16384
abbrev opRows : HloOp τ sig (Elt F) := StableHlo.reshape main_v0 main_v1 (rfl : (.i32 : EltTy) = .i32) shapeCasts_S16384_S256x64
abbrev opZero : HloOp τ sig (Elt F) := StableHlo.nullary main_c (constantI S_ 32 0#32)
abbrev opCopy : HloOp τ sig (Elt F) := StableHlo.unary main_c main_call0_v0 id
abbrev opPad : HloOp τ sig (Elt F) := StableHlo.binary main_v1 main_call0_v0 main_v2
  (fun (x : S256x64.Idx → BitVec 32) (v : S_.Idx → BitVec 32) => pad S256x128 ![0, 0] ![0, 64] ![0, 0] x v pads_S256x64_S256x128_000_0640 h_S_)
abbrev opOut : HloOp τ sig (Elt F) := StableHlo.reshape main_v3 main_v4 (rfl : (.i32 : EltTy) = .i32) shapeCasts_S16384x512_S16x1024x512

/-- The TensorCore's arrays. -/
abbrev S9 : Finset (DevRef τ sig) := {x', i', f', w', c', z', a', b', o'}

/-- The nine arrays, each holding its own contents. -/
abbrev nine (d : Dev nD) (fx : S8192x512.Idx → Elt F .i32) (fi : S16x1024.Idx → Elt F .i32) (ff : S16384.Idx → Elt F .i32) (fw : S256x64.Idx → Elt F .i32)
    (fc fz : S_.Idx → Elt F .i32) (fa : S256x128.Idx → Elt F .i32) (fb : S16384x512.Idx → Elt F .i32) (fo : S16x1024x512.Idx → Elt F .i32) : sProp 𝕄 :=
  iprop((xLoc d ↦{fullShare} fx) ∗ (idxLoc d ↦{fullShare} fi) ∗ ((SparseCore.T d).loc main_v0 ↦{fullShare} ff) ∗ ((SparseCore.T d).loc main_v1 ↦{fullShare} fw)
    ∗ ((SparseCore.T d).loc main_c ↦{fullShare} fc) ∗ ((SparseCore.T d).loc main_call0_v0 ↦{fullShare} fz) ∗ (aLoc d ↦{fullShare} fa)
    ∗ (bLoc d ↦{fullShare} fb) ∗ (outLoc d ↦{fullShare} fo))

omit [FloatOps F] in
theorem held_S9 (d : Dev nD) (W : Valuation τ sig (Elt F)) :
    (held (T d) S9 W : sProp 𝕄) = nine d (W x') (W i') (W f') (W w') (W c') (W z') (W a') (W b') (W o') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_nine (d : Dev nD) (W : (b : Ref sig .tc) → Buf (Elt F) ((d.tc : Thread nD τ).loc b)) :
    (unscopedBufs d W : sProp 𝕄) = nine d (W main_arg0) (W main_arg1) (W main_v0) (W main_v1) (W main_c) (W main_call0_v0) (W main_v2) (W main_v3) (W main_v4) := by
  unfold unscopedBufs
  rw [show (Finset.univ.filter fun b : Ref sig .tc => ¬ b.isScoped) = {main_arg0, main_arg1, main_v0, main_v1, main_c, main_call0_v0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays' contents at the launch, before the call, and after it. -/
def V0 (d : Dev nD) : Valuation τ sig (Elt F) := fun b => m (d, b)
def V1 (d : Dev nD) : Valuation τ sig (Elt F) := (opFlat (F := F)).result (V0 m d)
def V2 (d : Dev nD) : Valuation τ sig (Elt F) := (opRows (F := F)).result (V1 m d)
def V3 (d : Dev nD) : Valuation τ sig (Elt F) := (opZero (F := F)).result (V2 m d)
def V4 (d : Dev nD) : Valuation τ sig (Elt F) := (opCopy (F := F)).result (V3 m d)
def V5 (d : Dev nD) : Valuation τ sig (Elt F) := (opPad (F := F)).result (V4 m d)
def V6 (d : Dev nD) : Valuation τ sig (Elt F) := Function.update (V5 m d) b' (gathered (Xm m d) (Am m d))
def V7 (d : Dev nD) : Valuation τ sig (Elt F) := (opOut (F := F)).result (V6 m d)

theorem V5_of (d : Dev nD) (b : DevRef τ sig) (h : b ∉ ({f', w', c', z', a'} : Finset (DevRef τ sig))) : V5 m d b = m (d, b) := by
  simp only [Finset.mem_insert, Finset.mem_singleton, not_or] at h
  unfold V5 V4 V3 V2 V1 V0
  rw [(opPad (F := F)).result_of_not_mem _ (show b ∉ ({a'} : Finset (DevRef τ sig)) by simp [h]),
    (opCopy (F := F)).result_of_not_mem _ (show b ∉ ({z'} : Finset (DevRef τ sig)) by simp [h]),
    (opZero (F := F)).result_of_not_mem _ (show b ∉ ({c'} : Finset (DevRef τ sig)) by simp [h]),
    (opRows (F := F)).result_of_not_mem _ (show b ∉ ({w'} : Finset (DevRef τ sig)) by simp [h]),
    (opFlat (F := F)).result_of_not_mem _ (show b ∉ ({f'} : Finset (DevRef τ sig)) by simp [h])]

theorem V1_f (d : Dev nD) : V1 m d f' = shapeCast S16384 (m (idxLoc d)) shapeCasts_S16x1024_S16384 := StableHlo.reshape_result ..
theorem V2_w (d : Dev nD) : V2 m d w' = shapeCast S256x64 (V1 m d f') shapeCasts_S16384_S256x64 := StableHlo.reshape_result ..
theorem V4_w (d : Dev nD) : V4 m d w' = V2 m d w' := by
  unfold V4 V3
  rw [(opCopy (F := F)).result_of_not_mem _ (show w' ∉ ({z'} : Finset (DevRef τ sig)) by decide),
    (opZero (F := F)).result_of_not_mem _ (show w' ∉ ({c'} : Finset (DevRef τ sig)) by decide)]
theorem V4_z (d : Dev nD) : V4 m d z' = constantI S_ 32 0#32 :=
  (show V4 m d z' = V3 m d c' from StableHlo.unary_result ..).trans (show V3 m d c' = constantI S_ 32 0#32 from StableHlo.nullary_result ..)
theorem V5_a (d : Dev nD) : V5 m d a' = Am m d := by
  refine (StableHlo.binary_result ..).trans ?_
  rw [V4_z, V4_w, V2_w, V1_f]; rfl
theorem V7_o (d : Dev nD) : V7 m d o' = Out m d := by
  refine (StableHlo.reshape_result ..).trans ?_
  rw [show V6 m d b' = gathered (Xm m d) (Am m d) from Function.update_self _ _ _]; rfl
theorem V7_x (d : Dev nD) : V7 m d x' = m (xLoc d) := by
  unfold V7 V6
  rw [(opOut (F := F)).result_of_not_mem _ (show x' ∉ ({o'} : Finset (DevRef τ sig)) by decide),
    Function.update_of_ne (show x' ≠ b' by decide), V5_of m d x' (by decide)]
theorem V7_i (d : Dev nD) : V7 m d i' = m (idxLoc d) := by
  unfold V7 V6
  rw [(opOut (F := F)).result_of_not_mem _ (show i' ∉ ({o'} : Finset (DevRef τ sig)) by decide),
    Function.update_of_ne (show i' ≠ b' by decide), V5_of m d i' (by decide)]

theorem hFlat : (opFlat (F := F)).bufs ⊆ S9 := show ({i', f'} : Finset (DevRef τ sig)) ⊆ S9 by decide
theorem hRows : (opRows (F := F)).bufs ⊆ S9 := show ({f', w'} : Finset (DevRef τ sig)) ⊆ S9 by decide
theorem hZero : (opZero (F := F)).bufs ⊆ S9 := show ({c'} : Finset (DevRef τ sig)) ⊆ S9 by decide
theorem hCopy : (opCopy (F := F)).bufs ⊆ S9 := show ({c', z'} : Finset (DevRef τ sig)) ⊆ S9 by decide
theorem hPad : (opPad (F := F)).bufs ⊆ S9 := show ({w', z', a'} : Finset (DevRef τ sig)) ⊆ S9 by decide
theorem hOut : (opOut (F := F)).bufs ⊆ S9 := show ({b', o'} : Finset (DevRef τ sig)) ⊆ S9 by decide

/-! ## What the handshakes carry -/

/-- A core takes its sixteen subcores' tasks and gives back what they leave. -/
def P : (K (F := F)).Pay (nD := nD) (Val := Elt F) (Name := ℕ) (U := UU) where
  st := fun q d c => match q with | 0 => Core0 d (Xm m d) (Am m d) (m (bLoc d)) c
  dn := fun q d c => match q with | 0 => Core1 d (Xm m d) (Am m d) c
  go := fun q d c s => match q with | 0 => Task0 d (coords c s) (Xm m d) (Am m d) (m (bLoc d)) (shareOf c s) (shareOf c s)
  td := fun q d c s => match q with | 0 => Task1 d (coords c s) (Xm m d) (Am m d) (shareOf c s) (shareOf c s)
  x := fun _ _ => iprop(emp)

instance storable0 (d : Dev nD) (L : grid0.Coords) (X : S8192x512.Idx → Elt F .i32) (A : S256x128.Idx → Elt F .i32) (f0 : S16384x512.Idx → Elt F .i32)
    (qa qx : PosShare TreeShare) : BI.Storable (upEmb : UEmb _ 𝕄) (Task0 d L X A f0 qa qx) := by
  unfold Task0; infer_instance
instance storable1 (d : Dev nD) (L : grid0.Coords) (X : S8192x512.Idx → Elt F .i32) (A : S256x128.Idx → Elt F .i32)
    (qa qx : PosShare TreeShare) : BI.Storable (upEmb : UEmb _ 𝕄) (Task1 d L X A qa qx) := by
  unfold Task1; infer_instance
instance storableC0 (d : Dev nD) (X : S8192x512.Idx → Elt F .i32) (A : S256x128.Idx → Elt F .i32) (f0 : S16384x512.Idx → Elt F .i32) (c : Fin 2) :
    BI.Storable (upEmb : UEmb _ 𝕄) (Core0 d X A f0 c) := by
  unfold Core0
  have h (s : Fin 16) := storable0 d (coords c s) X A f0 (shareOf c s) (shareOf c s)
  exact BI.Storable.bigSep (ι := upEmb) Finset.univ _
instance storableC1 (d : Dev nD) (X : S8192x512.Idx → Elt F .i32) (A : S256x128.Idx → Elt F .i32) (c : Fin 2) :
    BI.Storable (upEmb : UEmb _ 𝕄) (Core1 d X A c) := by
  unfold Core1
  have h (s : Fin 16) := storable1 d (coords c s) X A (shareOf c s) (shareOf c s)
  exact BI.Storable.bigSep (ι := upEmb) Finset.univ _

instance P_storable : (P (F := F) m).IsStorable where
  st q d c := match q with | 0 => storableC0 d (Xm m d) (Am m d) (m (bLoc d)) c
  dn q d c := match q with | 0 => storableC1 d (Xm m d) (Am m d) c
  go q d c s := match q with | 0 => storable0 d (coords c s) (Xm m d) (Am m d) (m (bLoc d)) (shareOf c s) (shareOf c s)
  td q d c s := match q with | 0 => storable1 d (coords c s) (Xm m d) (Am m d) (shareOf c s) (shareOf c s)

/-- What the run asks of the launch memory: every padded index names a row of the source. -/
def PreOK : Prop := ∀ (d : Dev nD) (j : S256x128.Idx), (Am m d j).toNat < 8192

/-! ## The obligation -/

theorem defs₀_vector (c : Fin τ.nSC) (s : Fin τ.nSub) :
    defs₀ (F := F) (.scVector c s) 0 ()
      = SparseCore.onTile hcore0 hsub0 (fun c s => cc0_gather_kernel (coords c s)
          xV (Memref.isWhole_whole _) aV (Memref.isWhole_whole _) oV (Memref.isWhole_whole _)
          iS (Memref.isWhole_whole _) cc0_scoped1 oS (Memref.isWhole_whole _) cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) (Xm m d) (Am m d) (m (bLoc d)) (shareOf c i) (shareOf c i) hF (hpre d) O W hO).trans
    (wp_mono frame _ _ fun _ => obl_post)

theorem vecSplit : (K (F := F)).VecSplit' (P m) 0 := by
  intro d c
  show Core0 d (Xm m d) (Am m d) (m (bLoc d)) c ⊢ |={Set.univ}=> iprop(
    (bigSep Finset.univ fun s : Fin 16 => Task0 d (coords c s) (Xm m d) (Am m d) (m (bLoc d)) (shareOf c s) (shareOf c s))
    ∗ ((bigSep Finset.univ fun s : Fin 16 => Task1 d (coords c s) (Xm m d) (Am m d) (shareOf c s) (shareOf c s)) -∗ Core1 d (Xm m d) (Am m d) c))
  unfold Core0 Core1
  iintro H; imodintro
  isplitl [H]; · iexact H
  iintro H; iexact H

/-! ## The launch element of the ghost state -/

def u₀ : UU := (initOf (K (F := F)).hsCells (K (F := F)).hsToks, 1)

omit [FloatOps F] in
theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iempintro

/-! ## The host's run -/

theorem st0_eq (d : Dev nD) : (bigSep Finset.univ fun c : Fin ((K (F := F)).nCore 0) => (P m).st 0 d c)
    = iprop((xLoc d ↦{fullShare} Xm m d) ∗ (aLoc d ↦{fullShare} Am m d) ∗ bLoc d ↦{fullShare} m (bLoc d)) := cores0_eq d (Xm m d) (Am m d) (m (bLoc d))
theorem dn0_eq (d : Dev nD) : (bigSep Finset.univ fun c : Fin ((K (F := F)).nCore 0) => (P m).dn 0 d c)
    = iprop((xLoc d ↦{fullShare} Xm m d) ∗ (aLoc d ↦{fullShare} Am m d) ∗ bLoc d ↦{fullShare} gathered (Xm m d) (Am m d)) := cores1_eq d (Xm m d) (Am m d)

theorem held_V5 (d : Dev nD) :
    (held (T d) S9 (V5 m d) : sProp 𝕄)
      = nine d (Xm m d) (V5 m d i') (V5 m d f') (V5 m d w') (V5 m d c') (V5 m d z') (Am m d) (m (bLoc d)) (V5 m d o') := by
  rw [held_S9, V5_a, V5_of m d x' (by decide), V5_of m d b' (by decide)]
theorem held_V6 (d : Dev nD) :
    (held (T d) S9 (V6 m d) : sProp 𝕄)
      = nine d (Xm m d) (V5 m d i') (V5 m d f') (V5 m d w') (V5 m d c') (V5 m d z') (Am m d) (gathered (Xm m d) (Am m d)) (V5 m d o') := by
  rw [held_S9]; unfold V6
  rw [Function.update_self, Function.update_of_ne (show x' ≠ b' by decide), Function.update_of_ne (show i' ≠ b' by decide), Function.update_of_ne (show f' ≠ b' by decide),
    Function.update_of_ne (show w' ≠ b' by decide), Function.update_of_ne (show c' ≠ b' by decide), Function.update_of_ne (show z' ≠ b' by decide),
    Function.update_of_ne (show a' ≠ b' by decide), Function.update_of_ne (show o' ≠ b' by decide), V5_a, V5_of m d x' (by decide)]
theorem held_V7 (d : Dev nD) :
    (held (T d) S9 (V7 m d) : sProp 𝕄)
      = nine d (m (xLoc d)) (m (idxLoc d)) (V7 m d f') (V7 m d w') (V7 m d c') (V7 m d z') (V7 m d a') (V7 m d b') (Out m d) := by
  rw [held_S9, V7_o, V7_x, V7_i]

/-- What the host's thread leaves: the arguments as they were, the result. -/
abbrev FIN (d : Dev nD) : sProp 𝕄 := iprop((xLoc d ↦{fullShare} m (xLoc d)) ∗ (idxLoc d ↦{fullShare} m (idxLoc d)) ∗ outLoc d ↦{fullShare} Out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) S9 (V0 m d) by rw [unscopedBufs_nine, held_S9]; rfl]
  simp only [main, fn_pad.body, wp_bind, wp_pure]
  iintro ⟨#Hctx, Hst, ⟨Hb, Hheld, Hts, -⟩, -⟩
  iapply (wp_hlo_within 𝒱 (SparseCore.T d) none Set.univ (op := opFlat) (S := S9) hFlat (V := V0 m d)) $$ [Hb Hheld]
  · isplitl [Hb] <;> iassumption
  iintro ⟨Hb, Hheld⟩
  ihave Hheld := (Entails.of_eq (show (held (T d) S9 ((opFlat (F := F)).result (V0 m d)) : sProp 𝕄) = held (T d) S9 (V1 m d) from rfl)) $$ Hheld
  rw [wp_ret]; imodintro
  iapply (wp_hlo_within 𝒱 (SparseCore.T d) none Set.univ (op := opRows) (S := S9) hRows (V := V1 m d)) $$ [Hb Hheld]
  · isplitl [Hb] <;> iassumption
  iintro ⟨Hb, Hheld⟩
  ihave Hheld := (Entails.of_eq (show (held (T d) S9 ((opRows (F := F)).result (V1 m d)) : sProp 𝕄) = held (T d) S9 (V2 m d) from rfl)) $$ Hheld
  rw [wp_ret]; imodintro
  iapply (wp_hlo_within 𝒱 (SparseCore.T d) none Set.univ (op := opZero) (S := S9) hZero (V := V2 m d)) $$ [Hb Hheld]
  · isplitl [Hb] <;> iassumption
  iintro ⟨Hb, Hheld⟩
  ihave Hheld := (Entails.of_eq (show (held (T d) S9 ((opZero (F := F)).result (V2 m d)) : sProp 𝕄) = held (T d) S9 (V3 m d) from rfl)) $$ Hheld
  rw [wp_ret]; imodintro
  iapply (wp_hlo_within 𝒱 (SparseCore.T d) none Set.univ (op := opCopy) (S := S9) hCopy (V := V3 m d)) $$ [Hb Hheld]
  · isplitl [Hb] <;> iassumption
  iintro ⟨Hb, Hheld⟩
  ihave Hheld := (Entails.of_eq (show (held (T d) S9 ((opCopy (F := F)).result (V3 m d)) : sProp 𝕄) = held (T d) S9 (V4 m d) from rfl)) $$ Hheld
  rw [wp_ret]; imodintro
  iapply (wp_hlo_within 𝒱 (SparseCore.T d) none Set.univ (op := opPad) (S := S9) hPad (V := V4 m d)) $$ [Hb Hheld]
  · isplitl [Hb] <;> iassumption
  iintro ⟨Hb, Hheld⟩
  ihave Hheld := (Entails.of_eq (show (held (T d) S9 ((opPad (F := F)).result (V4 m d)) : sProp 𝕄) = held (T d) S9 (V5 m d) from rfl)) $$ Hheld
  rw [wp_ret]; imodintro
  ihave Hh := (Entails.of_eq (held_V5 (F := F) m d)) $$ Hheld
  icases Hh with ⟨Hx, Hi, Hf, Hw, Hc, Hz, Ha, Ho, Hr⟩
  iapply ((K (F := F)).wp_run (D (F := F)) 𝒱 (EH := EH) (P := P m) κ d 0) $$ [Hst Hx Hi Hf Hw Hc Hz Ha Ho Hr Hb Hts]
  isplitr; · iexact Hctx
  isplitl [Hst]; · iexact Hst
  isplitl [Hx Ha Ho]
  · rw [st0_eq]
    isplitl [Hx]; · iexact Hx
    isplitl [Ha]; · iexact Ha
    iexact Ho
  iintro ⟨Hst, Hdn⟩
  ihave Hdn := (Entails.of_eq (dn0_eq m d)) $$ Hdn
  icases Hdn with ⟨Hx, Ha, Ho⟩
  iapply (wp_hlo_within 𝒱 (SparseCore.T d) none Set.univ (op := opOut) (S := S9) hOut (V := V6 m d)) $$ [Hb Hx Hi Hf Hw Hc Hz Ha Ho Hr]
  · isplitl [Hb]; · iexact Hb
    rw [held_V6]
    isplitl [Hx]; · iexact Hx
    isplitl [Hi]; · iexact Hi
    isplitl [Hf]; · iexact Hf
    isplitl [Hw]; · iexact Hw
    isplitl [Hc]; · iexact Hc
    isplitl [Hz]; · iexact Hz
    isplitl [Ha]; · iexact Ha
    isplitl [Ho]; · iexact Ho
    iexact Hr
  iintro ⟨Hb, Hheld⟩
  ihave Hheld := (Entails.of_eq (show (held (T d) S9 ((opOut (F := F)).result (V6 m d)) : sProp 𝕄) = held (T d) S9 (V7 m d) from rfl)) $$ Hheld
  ihave Hh := (Entails.of_eq (held_V7 (F := F) m d)) $$ Hheld
  icases Hh with ⟨Hx, Hi, -, -, -, -, -, -, Hr⟩
  rw [wp_ret]; imodintro; imodintro
  isplitl [Hst]; · iexact Hst
  isplitr [Hb Hts]
  · isplitl [Hx]; · iexact Hx
    isplitl [Hi]; · iexact Hi
    iexact Hr
  isplitl [Hb] <;> iassumption

/-- What the claims read of a device's final state. -/
def fq (d : Dev nD) (s' : Phys nD τ sig (Elt F)) : Prop :=
  s'.mem.mem (outLoc d) = Out m d ∧ s'.mem.mem (xLoc d) = m (xLoc d) ∧ s'.mem.mem (idxLoc d) = m (idxLoc d)

theorem hfin (d : Dev nD) (s' : Phys nD τ sig (Elt F)) : iprop(FIN m d ∗ SI s') ⊢ (⌜fq m d s'⌝ : sProp 𝕄) := by
  iintro ⟨⟨Hx, Hi, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := idxLoc d) (I := Finset.univ) (q := fullShare) (f := m (idxLoc d)))) $$ [HSI Hi]
  · isplitl [HSI] <;> iassumption
  icases H with ⟨%hi, HSI, -⟩
  ihave H := (SI_pointsTo_agree (st := s') (ℓ := outLoc d) (I := Finset.univ) (q := fullShare) (f := Out m d)) $$ [HSI Hr]
  · isplitl [HSI] <;> iassumption
  icases H with %hr
  ipureintro
  exact ⟨funext fun i => hr i (Finset.mem_univ i), funext fun i => hx i (Finset.mem_univ i), funext fun i => hi i (Finset.mem_univ i)⟩

def QC : PUnit × MemSt nD τ sig (Elt F) → Prop := fun r =>
  (∀ c : Dev nD, r.2.mem (outLoc c) = Out m c ∧ r.2.mem (xLoc c) = m (xLoc c) ∧ r.2.mem (idxLoc c) = m (idxLoc c)) ∧ r.2.sem = fun _ => 0

/-- From any memory whose padded indices all name rows, over any float values: the program runs, its result is the
    gathered rows, its arguments end as they were and every counter reads zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  The values: the kernel's result and the reference's, element by element, are the source's row the index names.
-/
module

public import proofs.«01_k».proof.Proof.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.KernelVsHost
public import Idealize.ShloMosaic.Lib.Tactic

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x512 EltTy.i32)
local notation "aV" => (Memref.whole Cert.KernelIdeal.main_v2_scv : Memref Cert.KernelIdeal.sig Kind.scVector Space.hbm Cert.KernelIdeal.S256x128 EltTy.i32)
local notation "oV" => (Memref.whole Cert.KernelIdeal.main_v3_scv : Memref Cert.KernelIdeal.sig Kind.scVector Space.hbm Cert.KernelIdeal.S16384x512 EltTy.i32)
local notation "iS" => (Memref.whole Cert.KernelIdeal.cc0_scoped0 : Memref Cert.KernelIdeal.sig Kind.scVector Space.vmem Cert.KernelIdeal.S2x1x128 EltTy.i32)
local notation "oS" => (Memref.whole Cert.KernelIdeal.cc0_scoped2 : Memref Cert.KernelIdeal.sig Kind.scVector Space.vmem Cert.KernelIdeal.S2x64x512 EltTy.i32)

/-- The result: row `(b, t)` is the source's row that index `(b, t)` names. -/
def rowsAt (X : S8192x512.Idx → BitVec 32) (idx : S16x1024.Idx → BitVec 32) : S16x1024x512.Idx → BitVec 32 := fun y =>
  X (ix2 (n0 := 8192) (n1 := 512) ⟨(idx (ix2 (n0 := 16) (n1 := 1024) (y 0) (y 1))).toNat % 8192, Nat.mod_lt _ (by norm_num)⟩ (y 2))

/-! ## The kernel's side -/

/-- Word `p` of row `r` of the padded indices, `p < 64`, is index `64 r + p` of the flat indices. -/
theorem padded_inside (idx : S16x1024.Idx → BitVec 32) (j : S256x128.Idx) (hp : (j 1).val < 64) :
    padded idx j = idx (ix2 (n0 := 16) (n1 := 1024) ⟨(64 * (j 0).val + (j 1).val) / 1024, by
      have h0 := (j 0).isLt; change (j 0).val < 256 at h0; omega⟩ ⟨(64 * (j 0).val + (j 1).val) % 1024, by omega⟩) := by
  have h0 := (j 0).isLt; change (j 0).val < 256 at h0
  unfold padded
  rw [pad_apply_of_inside (k := ix2 (n0 := 256) (n1 := 64) (j 0) ⟨(j 1).val, hp⟩)]
  · show shapeCast S256x64 (fun i => idx (Shape.reshapeEquiv _ i)) _ _ = _
    show idx (Shape.reshapeEquiv _ (Shape.reshapeEquiv _ (ix2 (n0 := 256) (n1 := 64) (j 0) ⟨(j 1).val, hp⟩))) = _
    refine congrArg idx ?_
    rw [Shape.reshapeEquiv_eq_of_rowMajor (s := S16384) (y := ix1 (n := 16384) ⟨64 * (j 0).val + (j 1).val, by omega⟩) _ (by
      rw [Shape.rowMajor_val_two, Shape.rowMajor_val_one]
      show 64 * (j 0).val + (j 1).val = (j 0).val * 64 + (j 1).val
      omega)]
    refine Shape.reshapeEquiv_eq_of_rowMajor _ ?_
    rw [Shape.rowMajor_val_two, Shape.rowMajor_val_one]
    show (64 * (j 0).val + (j 1).val) / 1024 * 1024 + (64 * (j 0).val + (j 1).val) % 1024 = 64 * (j 0).val + (j 1).val
    omega
  · intro a
    match a with
    | 0 => show (j 0).val = 0 + (j 0).val * (0 + 1); omega
    | 1 => show (j 1).val = 0 + (j 1).val * (0 + 1); omega

/-- The rest of each row is zero. -/
theorem padded_outside (idx : S16x1024.Idx → BitVec 32) (j : S256x128.Idx) (hp : ¬ (j 1).val < 64) : padded idx j = 0#32 := by
  unfold padded
  rw [pad_apply_of_not_inside (a := 1)]
  · rfl
  · rintro ⟨-, -, h⟩
    change ((j 1).val - 0) / (0 + 1) < 64 at h
    omega

theorem padded_lt {idx : S16x1024.Idx → BitVec 32} (h : ∀ i, (idx i).toNat < 8192) (j : S256x128.Idx) : (padded idx j).toNat < 8192 := by
  by_cases hp : (j 1).val < 64
  · rw [padded_inside idx j hp]; exact h _
  · rw [padded_outside idx j hp]; decide

/-- The kernel's result is the rows its indices name. -/
theorem out_eq (m : (ℓ : Loc nD τ sig) → Buf (Elt F) ℓ) (d : Dev nD) : Out m d = rowsAt (m (xLoc d)) (m (idxLoc d)) := by
  funext y
  have h0 := (y 0).isLt; have h1 := (y 1).isLt; have h2 := (y 2).isLt
  change (y 0).val < 16 at h0; change (y 1).val < 1024 at h1; change (y 2).val < 512 at h2
  unfold Out
  show gathered (Xm m d) (Am m d) (Shape.reshapeEquiv _ y) = _
  rw [Shape.reshapeEquiv_eq_of_rowMajor (s := S16384x512) (y := ix2 (n0 := 16384) (n1 := 512) ⟨1024 * (y 0).val + (y 1).val, by omega⟩ (y 2)) _ (by
      rw [Shape.rowMajor_val_three, Shape.rowMajor_val_two]
      show (1024 * (y 0).val + (y 1).val) * 512 + (y 2).val = ((y 0).val * 1024 + (y 1).val) * 512 + (y 2).val
      omega)]
  unfold gathered rowsAt
  refine congrArg (m (xLoc d)) ?_
  refine congrArg (fun r : Fin 8192 => ix2 (n0 := 8192) (n1 := 512) r (y 2)) (Fin.ext ?_)
  show (padded (m (idxLoc d)) _).toNat % 8192 = _
  rw [padded_inside _ _ (by show (1024 * (y 0).val + (y 1).val) % 64 < 64; omega)]
  refine congrArg (fun i => ((m (idxLoc d)) i).toNat % 8192) ?_
  refine (congrArg₂ (fun a b => ix2 (n0 := 16) (n1 := 1024) a b) (Fin.ext ?_) (Fin.ext ?_))
  · show (64 * ((1024 * (y 0).val + (y 1).val) / 64) + (1024 * (y 0).val + (y 1).val) % 64) / 1024 = (y 0).val
    omega
  · show (64 * ((1024 * (y 0).val + (y 1).val) / 64) + (1024 * (y 0).val + (y 1).val) % 64) % 1024 = (y 1).val
    omega

/-! ## The reference's side -/

/-- The dimension numbers of the reference's gather: whole rows, one index each. -/
abbrev rowDims (wf : GatherDims.WF ⟨2, ![8192, 512]⟩ ⟨3, ![16, 1024, 1]⟩ ⟨3, ![16, 1024, 512]⟩ [2] [0] [] [0] [] 2 ![1, 512]) :
    GatherDims ⟨2, ![8192, 512]⟩ ⟨3, ![16, 1024, 1]⟩ ⟨3, ![16, 1024, 512]⟩ where
  offsetDims := [2]
  collapsedSliceDims := [0]
  operandBatchingDims := []
  startIndicesBatchingDims := []
  startIndexMap := [0]
  indexVectorDim := 2
  sliceSizes := ![1, 512]
  wf := wf

/-- That gather at `(b, t, k)`: the operand's column `k` of the row that word `(b, t)` names, clamped. -/
theorem gather_rows_apply (wf) (x : S8192x512.Idx → BitVec 32) (idx : IVec ⟨3, ![16, 1024, 1]⟩ 32) (y : S16x1024x512.Idx) :
    Host.gather (rowDims wf) x idx y
      = x (ix2 (n0 := 8192) (n1 := 512) ⟨min (idx (ix3 (n0 := 16) (n1 := 1024) (n2 := 1) (y 0) (y 1) 0)).toInt.toNat 8191, by omega⟩ (y 2)) := by
  unfold Host.gather
  congr 1
  funext a
  refine Fin.ext ?_
  show (rowDims wf).start y idx a + (rowDims wf).batchCoord y a + (rowDims wf).offCoord y a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ (rowDims wf).startIndexMap from List.mem_singleton.mpr rfl)]
    rw [show (rowDims wf).siIdx y ⟨List.idxOf (0 : Fin 2) (rowDims wf).startIndexMap, List.idxOf_lt_length_iff.2 (List.mem_singleton.mpr rfl)⟩
        = ix3 (n0 := 16) (n1 := 1024) (n2 := 1) (y 0) (y 1) 0 by
      funext b; refine Fin.ext ?_
      match b with
      | ⟨0, _⟩ => rfl
      | ⟨1, _⟩ => rfl
      | ⟨2, _⟩ => rfl]
    rfl
  | 1 =>
    unfold GatherDims.start
    rw [dif_neg (show (1 : Fin 2) ∉ (rowDims wf).startIndexMap from fun h => absurd (List.mem_singleton.mp h) (by decide))]
    unfold GatherDims.offCoord
    rw [dif_pos ((GatherDims.mem_sKept _ _).mpr ⟨fun h => absurd (List.mem_singleton.mp h) (by decide), List.not_mem_nil⟩)]
    simp only [Nat.zero_add]
    rfl

theorem toInt_of_lt {v : BitVec 32} (h : v.toNat < 8192) : v.toInt = v.toNat := by
  rw [BitVec.toInt_eq_toNat_cond]; split <;> omega

theorem slt_zero {v : BitVec 32} (h : v.toNat < 8192) : IntOp.cmpi .slt v 0#32 = 0#1 := by
  simp only [IntOp.cmpi, BitVec.slt_eq_decide, toInt_of_lt h]
  rw [decide_eq_false (by simp)]; rfl

/-- The reference's result, at indices in range, is the same rows. -/
theorem ref_eq (wf) (hb : S_.BroadcastsInDim S16x1024 ![]) (hb' : S16x1024.BroadcastsInDim ⟨3, ![16, 1024, 1]⟩ ![0, 1])
    (X : S8192x512.Idx → BitVec 32) (idx : S16x1024.Idx → BitVec 32) (h : ∀ i, (idx i).toNat < 8192) :
    Host.gather (rowDims wf) X (broadcastInDim ⟨3, ![16, 1024, 1]⟩ ![0, 1] hb'
      (select (cmpi .slt idx (broadcastInDim S16x1024 ![] hb (constantI S_ 32 0#32))) (addi idx (broadcastInDim S16x1024 ![] hb (constantI S_ 32 8192#32))) idx))
      = rowsAt X idx := by
  funext y
  rw [gather_rows_apply]
  unfold rowsAt
  have e : broadcastInDim ⟨3, ![16, 1024, 1]⟩ ![0, 1] hb'
      (select (cmpi .slt idx (broadcastInDim S16x1024 ![] hb (constantI S_ 32 0#32))) (addi idx (broadcastInDim S16x1024 ![] hb (constantI S_ 32 8192#32))) idx)
      (ix3 (n0 := 16) (n1 := 1024) (n2 := 1) (y 0) (y 1) 0) = idx (ix2 (n0 := 16) (n1 := 1024) (y 0) (y 1)) := by
    have hj (v : S16x1024.Idx → BitVec 32) : broadcastInDim ⟨3, ![16, 1024, 1]⟩ ![0, 1] hb' v (ix3 (n0 := 16) (n1 := 1024) (n2 := 1) (y 0) (y 1) 0)
        = v (ix2 (n0 := 16) (n1 := 1024) (y 0) (y 1)) := by
      unfold broadcastInDim
      refine congrArg v (funext fun a => Fin.ext ?_)
      match a with
      | 0 => rfl
      | 1 => rfl
    rw [hj]
    show (if IntOp.cmpi .slt (idx _) 0#32 = 1#1 then _ else idx _) = _
    rw [slt_zero (h _)]; rfl
  refine congrArg (fun r : Fin 8192 => X (ix2 (n0 := 8192) (n1 := 512) r (y 2))) (Fin.ext ?_)
  show min (BitVec.toInt _).toNat 8191 = (idx _).toNat % 8192
  rw [e]
  have hi := h (ix2 (n0 := 16) (n1 := 1024) (y 0) (y 1))
  rw [toInt_of_lt hi, Nat.mod_eq_of_lt hi]
  omega

/-! ## The precondition -/

/-- The precondition, as the host computes it, says of each index that it is below 8192. -/
theorem lt_of_pre {v : BitVec 32} (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Gather

end
-- ==== Proof.ExpertsMath.lean ====
module

public import Idealize.ShloMosaic.PureOps.Ideal.Laws
public import Idealize.ShloMosaic.Lib.ValueIdxCore
public import Mathlib.Tactic.FinCases
public import Mathlib.Tactic.Ring

@[expose] public section

noncomputable section

namespace Cert.Proof.Experts

open Idealize.ShloMosaic Idealize.ShloMosaic.ValueIdx
open scoped BigOperators

/-- A 32-bit word whose upper half is `b` and whose lower half is zero denotes, as an f32, what `b` denotes as a bf16. -/
theorem ofBits_upper (b : BitVec 16) (w : BitVec 32) (h : w.toNat = b.toNat * 65536) :
    Ideal.ofBits .f32 w = Ideal.ofBits .bf16 b := by
  have hb := b.isLt
  have hs : (w.extractLsb' 31 1 == 1#1) = (b.extractLsb' 15 1 == 1#1) := by
    have e : w.extractLsb' 31 1 = b.extractLsb' 15 1 := by
      apply BitVec.eq_of_toNat_eq
      simp only [BitVec.extractLsb'_toNat, Nat.shiftRight_eq_div_pow, h]
      omega
    rw [e]
  have he : (w.extractLsb' 23 8).toNat = (b.extractLsb' 7 8).toNat := by
    simp only [BitVec.extractLsb'_toNat, Nat.shiftRight_eq_div_pow, h]
    omega
  have hf : (w.extractLsb' 0 23).toNat = (b.extractLsb' 0 7).toNat * 65536 := by
    simp only [BitVec.extractLsb'_toNat, Nat.shiftRight_eq_div_pow, h]
    omega
  show Ideal.ieee 8 23 w = Ideal.ieee 8 7 b
  unfold Ideal.ieee
  simp only [show 8 + 23 = 31 from rfl, show 8 + 7 = 15 from rfl, hs, he, hf]
  have hz : ((b.extractLsb' 0 7).toNat * 65536 = 0) ↔ (b.extractLsb' 0 7).toNat = 0 := by omega
  simp only [hz]
  split
  · rfl
  · split
    · refine congrArg _ ?_
      push_cast
      rw [mul_assoc, mul_assoc, mul_assoc]
      refine congrArg _ (congrArg _ ?_)
      norm_num
    · refine congrArg _ ?_
      have hp : ((2 : ℝ) ^ (((b.extractLsb' 7 8).toNat : Int) - (2 ^ (8 - 1) - 1) - (7 : ℕ)))
          = 65536 * (2 : ℝ) ^ (((b.extractLsb' 7 8).toNat : Int) - (2 ^ (8 - 1) - 1) - (23 : ℕ)) := by
        rw [show (((b.extractLsb' 7 8).toNat : Int) - (2 ^ (8 - 1) - 1) - (7 : ℕ))
          = 16 + (((b.extractLsb' 7 8).toNat : Int) - (2 ^ (8 - 1) - 1) - (23 : ℕ)) from by push_cast; ring,
          zpow_add₀ (by norm_num : (2 : ℝ) ≠ 0)]
        norm_num
      rw [hp]
      push_cast
      ring

/-- The number in the lower half of a word, as a bf16. -/
def lo (w : BitVec 32) : EReal := Ideal.ofBits .bf16 (w.extractLsb' 0 16)
/-- The number in the upper half of a word, as a bf16. -/
def hi (w : BitVec 32) : EReal := Ideal.ofBits .bf16 (w.extractLsb' 16 16)

/-- A word moved up by sixteen denotes, as an f32, the number in its lower half. -/
theorem ofBits_shl (w : BitVec 32) : Ideal.ofBits .f32 (w <<< (16#32).toNat) = lo w := by
  refine ofBits_upper _ _ ?_
  have := w.isLt
  simp only [BitVec.toNat_shiftLeft, BitVec.extractLsb'_toNat, Nat.shiftRight_eq_div_pow, Nat.shiftLeft_eq,
    show (16#32).toNat = 16 from rfl]
  omega

/-- A word with its lower half cleared denotes, as an f32, the number in its upper half. -/
theorem ofBits_mask (w : BitVec 32) : Ideal.ofBits .f32 (w &&& 4294901760#32) = hi w := by
  have e : w &&& 4294901760#32 = w.extractLsb' 16 16 ++ 0#16 := by
    apply BitVec.eq_of_getLsbD_eq
    intro i h
    simp only [BitVec.getLsbD_and, BitVec.getLsbD_append, BitVec.getLsbD_extractLsb', BitVec.getLsbD_zero]
    interval_cases i <;> simp
  refine ofBits_upper _ _ ?_
  rw [e, BitVec.toNat_append]
  simp [Nat.shiftLeft_eq]

/-- The features of a token from its 512 words: the lower halves, then the upper halves. -/
def feat (ws : Fin 512 → BitVec 32) (d : Fin 1024) : EReal :=
  if h : d.val < 512 then lo (ws ⟨d.val, h⟩) else hi (ws ⟨d.val - 512, by omega⟩)

/-- One hidden unit of an expert: the sigmoid-weighted gate product times the up product. -/
def hid (x wg wu : Fin 1024 → EReal) : EReal :=
  (∑ d, x d * wg d) * Ideal.logistic (∑ d, x d * wg d) * ∑ d, x d * wu d

/-- One output of an expert: the hidden units times the down weights. -/
def ffn (x : Fin 1024 → EReal) (wg wu : Fin 2048 → Fin 1024 → EReal) (wd : Fin 2048 → EReal) : EReal :=
  ∑ f, hid x (wg f) (wu f) * wd f

/-- Weight column `f` of expert `e` of the first layer. -/
def col (w : Vec Ideal ⟨4, ![4, 16, 1024, 2048]⟩ .f32) (e : Fin 16) (f : Fin 2048) : Fin 1024 → EReal :=
  fun d => w (ix4 (0 : Fin 4) e d f)

/-- The down weights of expert `e` of the first layer towards output `n`. -/
def down (w : Vec Ideal ⟨4, ![4, 16, 2048, 1024]⟩ .f32) (e : Fin 16) (n : Fin 1024) : Fin 2048 → EReal :=
  fun f => w (ix4 (0 : Fin 4) e f n)

/-- Output `n` of expert `e` on the features `x`. -/
def expert (wg wu : Vec Ideal ⟨4, ![4, 16, 1024, 2048]⟩ .f32) (wd : Vec Ideal ⟨4, ![4, 16, 2048, 1024]⟩ .f32) (e : Fin 16)
    (x : Fin 1024 → EReal) (n : Fin 1024) : EReal :=
  ffn x (col wg e) (col wu e) (down wd e n)

/-- Hidden unit `j` of chunk `k`. -/
def chunk (k : ℕ) (hk : k < 4) (j : Fin 512) : Fin 2048 := ⟨512 * k + j.val, by have := j.isLt; omega⟩

/-- A sum over the 2048 hidden units is the four chunks' sums, added in order. -/
theorem sum_chunks (g : Fin 2048 → EReal) :
    ∑ f, g f = (((∑ j, g (chunk 0 (by decide) j)) + ∑ j, g (chunk 1 (by decide) j)) + ∑ j, g (chunk 2 (by decide) j))
      + ∑ j, g (chunk 3 (by decide) j) := by
  have e : ∑ f, g f = ∑ p : Fin 4 × Fin 512, g (finProdFinEquiv p) := (Equiv.sum_comp (finProdFinEquiv (m := 4) (n := 512)) g).symm
  rw [e, Fintype.sum_prod_type, Fin.sum_univ_four]
  have c : ∀ (k : ℕ) (hk : k < 4), ∑ j, g (finProdFinEquiv ((⟨k, hk⟩ : Fin 4), j)) = ∑ j, g (chunk k hk j) := fun k hk =>
    Finset.sum_congr rfl fun j _ => congrArg g (Fin.ext (by show j.val + 512 * k = 512 * k + j.val; omega))
  exact congrArg₂ _ (congrArg₂ _ (congrArg₂ _ (c 0 (by decide)) (c 1 (by decide))) (c 2 (by decide))) (c 3 (by decide))

end Cert.Proof.Experts

end
-- ==== Proof.ExpertsCase.lean ====
module

public import proofs.«01_k».proof.Proof.Gen.Kernel2Ideal.Value
public import Idealize.ShloMosaic.Lib.Pipeline.Value

@[expose] public section

noncomputable section

namespace Cert.Proof.Experts

open Cert.Kernel2Ideal Cert.Kernel2Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first of the two rows of the latents' layer gate. -/
def row0 (x : Vec F S2x1x1024 .f32) : Vec F S1x1x1024 .f32 :=
  View.ld x (Rect.unit (s := S2x1x1024) ![0, 0, 0] S1x1x1024.size inb_S2x1x1024_S1x1x1024_0_0_0)
/-- The second of the two rows of the latents' layer gate. -/
def row1 (x : Vec F S2x1x1024 .f32) : Vec F S1x1x1024 .f32 :=
  View.ld x (Rect.unit (s := S2x1x1024) ![1, 0, 0] S1x1x1024.size inb_S2x1x1024_S1x1x1024_1_0_0)

set_option maxRecDepth 65536 in
set_option maxHeartbeats 4000000 in
/-- At the first hidden chunk the prompt accumulator becomes the chunk's part. -/
theorem sout_A_0 (c : Dev nD) (i : grid0.Coords) (arg2 : Memref sig .tc .vmem S1x1024x512 .i32) (harg2 : arg2.IsWhole) (arg3 : Memref sig .tc .vmem S1x256x512 .i32) (harg3 : arg3.IsWhole) (arg4 : Memref sig .tc .vmem S1x1024x1 .f32) (harg4 : arg4.IsWhole) (arg5 : Memref sig .tc .vmem S1x256x1 .f32) (harg5 : arg5.IsWhole) (arg6 : Memref sig .tc .vmem S1x1x1024 .f32) (harg6 : arg6.IsWhole) (arg7 : Memref sig .tc .vmem S2x1x1024 .f32) (harg7 : arg7.IsWhole) (arg8 : Memref sig .tc .vmem S1x256x1 .i32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S1x1024x1024 .f32) (harg12 : arg12.IsWhole) (arg13 : Memref sig .tc .vmem S1x256x1024 .f32) (harg13 : arg13.IsWhole) (arg14 : Memref sig .tc .vmem S1024x1024 .f32) (harg14 : arg14.IsWhole) (arg15 : Memref sig .tc .vmem S256x1024 .f32) (harg15 : arg15.IsWhole) (hc0 : cond0_0 i) (hc1 : ¬cond0_1 i) (hc2 : cond0_2 i) (hc3 : ¬cond0_3 i) (hc4 : ¬cond0_4 i)
    (x0 : Vec F S1x1024x512 .i32) (x1 : Vec F S1x256x512 .i32) (x2 : Vec F S1x1024x1 .f32) (x3 : Vec F S1x256x1 .f32) (x4 : Vec F S1x1x1024 .f32) (x5 : Vec F S2x1x1024 .f32) (x6 : Vec F S1x256x1 .i32) (x7 : Vec F S1x1x1024x512 .f32) (x8 : Vec F S1x1x1024x512 .f32) (x9 : Vec F S1x1x512x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 = k0_pay11 x7 x8 x9 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9)]
  unfold kernelRun0_A
  dsimp only
  sl_unfold_words
  rw [View.canon_unit_zero hz]
  simp only [View.readAt_eq_ld, View.readCov_unit_zero (S := S1024x1024) _ hz, View.readCov_unit_zero (S := S256x1024) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x1024x512) hz3, View.ld_unit_zero (S := S1x256x512) hz3, View.ld_unit_zero (S := S1x1024x1) hz3, View.ld_unit_zero (S := S1x256x1) hz3,
    View.ld_unit_zero (S := S1x1x1024) hz3, View.ld_unit_zero (S := S1x1x1024x512) hz4, View.ld_unit_zero (S := S1x1x512x1024) hz4,
    View.ld_unit_zero (S := S1024x1024) hz, View.ld_unit_zero (S := S256x1024) hz]

set_option maxRecDepth 65536 in
set_option maxHeartbeats 4000000 in
/-- At the first hidden chunk the latent accumulator becomes the chunk's part. -/
theorem sout_A_1 (c : Dev nD) (i : grid0.Coords) (arg2 : Memref sig .tc .vmem S1x1024x512 .i32) (harg2 : arg2.IsWhole) (arg3 : Memref sig .tc .vmem S1x256x512 .i32) (harg3 : arg3.IsWhole) (arg4 : Memref sig .tc .vmem S1x1024x1 .f32) (harg4 : arg4.IsWhole) (arg5 : Memref sig .tc .vmem S1x256x1 .f32) (harg5 : arg5.IsWhole) (arg6 : Memref sig .tc .vmem S1x1x1024 .f32) (harg6 : arg6.IsWhole) (arg7 : Memref sig .tc .vmem S2x1x1024 .f32) (harg7 : arg7.IsWhole) (arg8 : Memref sig .tc .vmem S1x256x1 .i32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S1x1024x1024 .f32) (harg12 : arg12.IsWhole) (arg13 : Memref sig .tc .vmem S1x256x1024 .f32) (harg13 : arg13.IsWhole) (arg14 : Memref sig .tc .vmem S1024x1024 .f32) (harg14 : arg14.IsWhole) (arg15 : Memref sig .tc .vmem S256x1024 .f32) (harg15 : arg15.IsWhole) (hc0 : cond0_0 i) (hc1 : ¬cond0_1 i) (hc2 : cond0_2 i) (hc3 : ¬cond0_3 i) (hc4 : ¬cond0_4 i)
    (x0 : Vec F S1x1024x512 .i32) (x1 : Vec F S1x256x512 .i32) (x2 : Vec F S1x1024x1 .f32) (x3 : Vec F S1x256x1 .f32) (x4 : Vec F S1x1x1024 .f32) (x5 : Vec F S2x1x1024 .f32) (x6 : Vec F S1x256x1 .i32) (x7 : Vec F S1x1x1024x512 .f32) (x8 : Vec F S1x1x1024x512 .f32) (x9 : Vec F S1x1x512x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 = k0_pay2 (k0_pay7 x7) (k0_pay8 x8) (k0_pay9 x9) x1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9)]
  unfold kernelRun0_A
  dsimp only
  sl_unfold_words
  rw [View.canon_unit_zero hz]
  simp only [View.readAt_eq_ld, View.readCov_unit_zero (S := S1024x1024) _ hz, View.readCov_unit_zero (S := S256x1024) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x1024x512) hz3, View.ld_unit_zero (S := S1x256x512) hz3, View.ld_unit_zero (S := S1x1024x1) hz3, View.ld_unit_zero (S := S1x256x1) hz3,
    View.ld_unit_zero (S := S1x1x1024) hz3, View.ld_unit_zero (S := S1x1x1024x512) hz4, View.ld_unit_zero (S := S1x1x512x1024) hz4,
    View.ld_unit_zero (S := S1024x1024) hz, View.ld_unit_zero (S := S256x1024) hz]

set_option maxRecDepth 65536 in
set_option maxHeartbeats 4000000 in
/-- At a middle chunk the prompt accumulator grows by the chunk's part. -/
theorem sout_B_0 (c : Dev nD) (i : grid0.Coords) (arg2 : Memref sig .tc .vmem S1x1024x512 .i32) (harg2 : arg2.IsWhole) (arg3 : Memref sig .tc .vmem S1x256x512 .i32) (harg3 : arg3.IsWhole) (arg4 : Memref sig .tc .vmem S1x1024x1 .f32) (harg4 : arg4.IsWhole) (arg5 : Memref sig .tc .vmem S1x256x1 .f32) (harg5 : arg5.IsWhole) (arg6 : Memref sig .tc .vmem S1x1x1024 .f32) (harg6 : arg6.IsWhole) (arg7 : Memref sig .tc .vmem S2x1x1024 .f32) (harg7 : arg7.IsWhole) (arg8 : Memref sig .tc .vmem S1x256x1 .i32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S1x1024x1024 .f32) (harg12 : arg12.IsWhole) (arg13 : Memref sig .tc .vmem S1x256x1024 .f32) (harg13 : arg13.IsWhole) (arg14 : Memref sig .tc .vmem S1024x1024 .f32) (harg14 : arg14.IsWhole) (arg15 : Memref sig .tc .vmem S256x1024 .f32) (harg15 : arg15.IsWhole) (hc0 : ¬cond0_0 i) (hc1 : cond0_1 i) (hc2 : ¬cond0_2 i) (hc3 : cond0_3 i) (hc4 : ¬cond0_4 i)
    (x0 : Vec F S1x1024x512 .i32) (x1 : Vec F S1x256x512 .i32) (x2 : Vec F S1x1024x1 .f32) (x3 : Vec F S1x256x1 .f32) (x4 : Vec F S1x1x1024 .f32) (x5 : Vec F S2x1x1024 .f32) (x6 : Vec F S1x256x1 .i32) (x7 : Vec F S1x1x1024x512 .f32) (x8 : Vec F S1x1x1024x512 .f32) (x9 : Vec F S1x1x512x1024 .f32) (xs0 : Vec F S1024x1024 .f32) (xs1 : Vec F S256x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1 = k0_pay12 x7 x8 x9 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1)]
  unfold kernelRun0_B
  dsimp only
  sl_unfold_words
  rw [View.canon_unit_zero hz]
  simp only [View.readAt_eq_ld, View.readCov_unit_zero (S := S1024x1024) _ hz, View.readCov_unit_zero (S := S256x1024) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x1024x512) hz3, View.ld_unit_zero (S := S1x256x512) hz3, View.ld_unit_zero (S := S1x1024x1) hz3, View.ld_unit_zero (S := S1x256x1) hz3,
    View.ld_unit_zero (S := S1x1x1024) hz3, View.ld_unit_zero (S := S1x1x1024x512) hz4, View.ld_unit_zero (S := S1x1x512x1024) hz4,
    View.ld_unit_zero (S := S1024x1024) hz, View.ld_unit_zero (S := S256x1024) hz]

set_option maxRecDepth 65536 in
set_option maxHeartbeats 4000000 in
/-- At a middle chunk the latent accumulator grows by the chunk's part. -/
theorem sout_B_1 (c : Dev nD) (i : grid0.Coords) (arg2 : Memref sig .tc .vmem S1x1024x512 .i32) (harg2 : arg2.IsWhole) (arg3 : Memref sig .tc .vmem S1x256x512 .i32) (harg3 : arg3.IsWhole) (arg4 : Memref sig .tc .vmem S1x1024x1 .f32) (harg4 : arg4.IsWhole) (arg5 : Memref sig .tc .vmem S1x256x1 .f32) (harg5 : arg5.IsWhole) (arg6 : Memref sig .tc .vmem S1x1x1024 .f32) (harg6 : arg6.IsWhole) (arg7 : Memref sig .tc .vmem S2x1x1024 .f32) (harg7 : arg7.IsWhole) (arg8 : Memref sig .tc .vmem S1x256x1 .i32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S1x1024x1024 .f32) (harg12 : arg12.IsWhole) (arg13 : Memref sig .tc .vmem S1x256x1024 .f32) (harg13 : arg13.IsWhole) (arg14 : Memref sig .tc .vmem S1024x1024 .f32) (harg14 : arg14.IsWhole) (arg15 : Memref sig .tc .vmem S256x1024 .f32) (harg15 : arg15.IsWhole) (hc0 : ¬cond0_0 i) (hc1 : cond0_1 i) (hc2 : ¬cond0_2 i) (hc3 : cond0_3 i) (hc4 : ¬cond0_4 i)
    (x0 : Vec F S1x1024x512 .i32) (x1 : Vec F S1x256x512 .i32) (x2 : Vec F S1x1024x1 .f32) (x3 : Vec F S1x256x1 .f32) (x4 : Vec F S1x1x1024 .f32) (x5 : Vec F S2x1x1024 .f32) (x6 : Vec F S1x256x1 .i32) (x7 : Vec F S1x1x1024x512 .f32) (x8 : Vec F S1x1x1024x512 .f32) (x9 : Vec F S1x1x512x1024 .f32) (xs0 : Vec F S1024x1024 .f32) (xs1 : Vec F S256x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1 = k0_pay3 (k0_pay7 x7) (k0_pay8 x8) (k0_pay9 x9) x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1)]
  unfold kernelRun0_B
  dsimp only
  sl_unfold_words
  rw [View.canon_unit_zero hz]
  simp only [View.readAt_eq_ld, View.readCov_unit_zero (S := S1024x1024) _ hz, View.readCov_unit_zero (S := S256x1024) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x1024x512) hz3, View.ld_unit_zero (S := S1x256x512) hz3, View.ld_unit_zero (S := S1x1024x1) hz3, View.ld_unit_zero (S := S1x256x1) hz3,
    View.ld_unit_zero (S := S1x1x1024) hz3, View.ld_unit_zero (S := S1x1x1024x512) hz4, View.ld_unit_zero (S := S1x1x512x1024) hz4,
    View.ld_unit_zero (S := S1024x1024) hz, View.ld_unit_zero (S := S256x1024) hz]

set_option maxRecDepth 65536 in
set_option maxHeartbeats 4000000 in
/-- At the last chunk the prompt output is the accumulated sum times both gates. -/
theorem out_C_10 (c : Dev nD) (i : grid0.Coords) (arg2 : Memref sig .tc .vmem S1x1024x512 .i32) (harg2 : arg2.IsWhole) (arg3 : Memref sig .tc .vmem S1x256x512 .i32) (harg3 : arg3.IsWhole) (arg4 : Memref sig .tc .vmem S1x1024x1 .f32) (harg4 : arg4.IsWhole) (arg5 : Memref sig .tc .vmem S1x256x1 .f32) (harg5 : arg5.IsWhole) (arg6 : Memref sig .tc .vmem S1x1x1024 .f32) (harg6 : arg6.IsWhole) (arg7 : Memref sig .tc .vmem S2x1x1024 .f32) (harg7 : arg7.IsWhole) (arg8 : Memref sig .tc .vmem S1x256x1 .i32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S1x1024x1024 .f32) (harg12 : arg12.IsWhole) (arg13 : Memref sig .tc .vmem S1x256x1024 .f32) (harg13 : arg13.IsWhole) (arg14 : Memref sig .tc .vmem S1024x1024 .f32) (harg14 : arg14.IsWhole) (arg15 : Memref sig .tc .vmem S256x1024 .f32) (harg15 : arg15.IsWhole) (hc0 : ¬cond0_0 i) (hc1 : cond0_1 i) (hc2 : ¬cond0_2 i) (hc3 : cond0_3 i) (hc4 : cond0_4 i)
    (x0 : Vec F S1x1024x512 .i32) (x1 : Vec F S1x256x512 .i32) (x2 : Vec F S1x1024x1 .f32) (x3 : Vec F S1x256x1 .f32) (x4 : Vec F S1x1x1024 .f32) (x5 : Vec F S2x1x1024 .f32) (x6 : Vec F S1x256x1 .i32) (x7 : Vec F S1x1x1024x512 .f32) (x8 : Vec F S1x1x1024x512 .f32) (x9 : Vec F S1x1x512x1024 .f32) (xs0 : Vec F S1024x1024 .f32) (xs1 : Vec F S256x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1 = k0_pay5 (k0_pay12 x7 x8 x9 x0 xs0) x2 x4 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1)]
  unfold kernelRun0_C
  dsimp only
  sl_unfold_words
  rw [View.canon_unit_zero hz3]
  simp only [View.readAt_eq_ld, View.readCov_unit_zero (S := S1024x1024) _ hz, View.readCov_unit_zero (S := S256x1024) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x1024x512) hz3, View.ld_unit_zero (S := S1x256x512) hz3, View.ld_unit_zero (S := S1x1024x1) hz3, View.ld_unit_zero (S := S1x256x1) hz3,
    View.ld_unit_zero (S := S1x1x1024) hz3, View.ld_unit_zero (S := S1x1x1024x512) hz4, View.ld_unit_zero (S := S1x1x512x1024) hz4,
    View.ld_unit_zero (S := S1024x1024) hz, View.ld_unit_zero (S := S256x1024) hz]

set_option maxRecDepth 65536 in
set_option maxHeartbeats 4000000 in
/-- At the last chunk the latent output is the accumulated sum times both gates. -/
theorem out_C_11 (c : Dev nD) (i : grid0.Coords) (arg2 : Memref sig .tc .vmem S1x1024x512 .i32) (harg2 : arg2.IsWhole) (arg3 : Memref sig .tc .vmem S1x256x512 .i32) (harg3 : arg3.IsWhole) (arg4 : Memref sig .tc .vmem S1x1024x1 .f32) (harg4 : arg4.IsWhole) (arg5 : Memref sig .tc .vmem S1x256x1 .f32) (harg5 : arg5.IsWhole) (arg6 : Memref sig .tc .vmem S1x1x1024 .f32) (harg6 : arg6.IsWhole) (arg7 : Memref sig .tc .vmem S2x1x1024 .f32) (harg7 : arg7.IsWhole) (arg8 : Memref sig .tc .vmem S1x256x1 .i32) (harg8 : arg8.IsWhole) (arg9 : Memref sig .tc .vmem S1x1x1024x512 .f32) (harg9 : arg9.IsWhole) (arg10 : Memref sig .tc .vmem S1x1x1024x512 .f32) (harg10 : arg10.IsWhole) (arg11 : Memref sig .tc .vmem S1x1x512x1024 .f32) (harg11 : arg11.IsWhole) (arg12 : Memref sig .tc .vmem S1x1024x1024 .f32) (harg12 : arg12.IsWhole) (arg13 : Memref sig .tc .vmem S1x256x1024 .f32) (harg13 : arg13.IsWhole) (arg14 : Memref sig .tc .vmem S1024x1024 .f32) (harg14 : arg14.IsWhole) (arg15 : Memref sig .tc .vmem S256x1024 .f32) (harg15 : arg15.IsWhole) (hc0 : ¬cond0_0 i) (hc1 : cond0_1 i) (hc2 : ¬cond0_2 i) (hc3 : cond0_3 i) (hc4 : cond0_4 i)
    (x0 : Vec F S1x1024x512 .i32) (x1 : Vec F S1x256x512 .i32) (x2 : Vec F S1x1024x1 .f32) (x3 : Vec F S1x256x1 .f32) (x4 : Vec F S1x1x1024 .f32) (x5 : Vec F S2x1x1024 .f32) (x6 : Vec F S1x256x1 .i32) (x7 : Vec F S1x1x1024x512 .f32) (x8 : Vec F S1x1x1024x512 .f32) (x9 : Vec F S1x1x512x1024 .f32) (xs0 : Vec F S1024x1024 .f32) (xs1 : Vec F S256x1024 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1 = k0_pay4 (k0_pay6 (row0 x5) x6 (row1 x5) (k0_pay3 (k0_pay7 x7) (k0_pay8 x8) (k0_pay9 x9) x1 xs1) x3) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0 xs1)]
  unfold kernelRun0_C
  dsimp only
  sl_unfold_words
  rw [View.canon_unit_zero hz3]
  simp only [View.readAt_eq_ld, View.readCov_unit_zero (S := S1024x1024) _ hz, View.readCov_unit_zero (S := S256x1024) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S1x1024x512) hz3, View.ld_unit_zero (S := S1x256x512) hz3, View.ld_unit_zero (S := S1x1024x1) hz3, View.ld_unit_zero (S := S1x256x1) hz3,
    View.ld_unit_zero (S := S1x1x1024) hz3, View.ld_unit_zero (S := S1x1x1024x512) hz4, View.ld_unit_zero (S := S1x1x512x1024) hz4,
    View.ld_unit_zero (S := S1024x1024) hz, View.ld_unit_zero (S := S256x1024) hz]
  rfl

end Cert.Proof.Experts

end
-- ==== Proof.ExpertsPay.lean ====
module

public import proofs.«01_k».proof.Proof.ExpertsMath
public import proofs.«01_k».proof.Proof.ExpertsCase
public import Idealize.ShloMosaic.Lib.MatmulPlain
public import Idealize.ShloMosaic.Lib.Pipeline.Value

@[expose] public section

noncomputable section

namespace Cert.Proof.Experts

open Cert.Kernel2Ideal Cert.Kernel2Ideal.Gen Idealize.ShloMosaic Idealize.ShloMosaic.ValueIdx Idealize.SL.Sem
open scoped BigOperators

/-- The gate weights of a chunk, read at an entry. -/
theorem pay7_apply (x : Vec Ideal S1x1x1024x512 .f32) (d : Fin 1024) (j : Fin 512) :
    k0_pay7 (F := Ideal) x (ix2 d j) = x (ix4 (0 : Fin 1) (0 : Fin 1) d j) :=
  shapeCast_apply _ _ _ _ (by
    rw [Shape.rowMajor_val_two, Shape.rowMajor_val_four]
    show ((0 * 1 + 0) * 1024 + d.val) * 512 + j.val = d.val * 512 + j.val
    omega)

/-- The up weights of a chunk, read at an entry. -/
theorem pay8_apply (x : Vec Ideal S1x1x1024x512 .f32) (d : Fin 1024) (j : Fin 512) :
    k0_pay8 (F := Ideal) x (ix2 d j) = x (ix4 (0 : Fin 1) (0 : Fin 1) d j) :=
  pay7_apply x d j

/-- The down weights of a chunk, read at an entry. -/
theorem pay9_apply (x : Vec Ideal S1x1x512x1024 .f32) (j : Fin 512) (c : Fin 1024) :
    k0_pay9 (F := Ideal) x (ix2 j c) = x (ix4 (0 : Fin 1) (0 : Fin 1) j c) :=
  shapeCast_apply _ _ _ _ (by
    rw [Shape.rowMajor_val_two, Shape.rowMajor_val_four]
    show ((0 * 1 + 0) * 512 + j.val) * 1024 + c.val = j.val * 1024 + c.val
    omega)

/-- A constant zero reads as zero. -/
theorem zero_apply {s : Shape} (i : s.Idx) : (constant s .f32 0x00000000#32 : FVec Ideal s .f32) i = 0 :=
  Ideal.ofBits_zero_f32

/-- The features a block of 1024 tokens' words unpack to. -/
def feats1024 (w : Vec Ideal S1x1024x512 .i32) : FVec Ideal S1024x1024 .bf16 :=
  truncf .bf16 (concatenate S1024x1024 1
    [⟨S1024x512, bitcastToFloat .f32 (shli (shapeCast S1024x512 w shapeCasts_S1x1024x512_S1024x512) (broadcast S1024x512 16#32))⟩,
     ⟨S1024x512, bitcastToFloat .f32 (andi (shapeCast S1024x512 w shapeCasts_S1x1024x512_S1024x512) (broadcast S1024x512 4294901760#32))⟩]
    concatenates_S1024x512_S1024x512_S1024x1024_d1) bitsLt_bf16_f32

/-- Word `d` of row `r` of the block. -/
theorem words1024_apply (w : Vec Ideal S1x1024x512 .i32) (r : Fin 1024) (d : Fin 512) :
    shapeCast S1024x512 w shapeCasts_S1x1024x512_S1024x512 (ix2 r d) = w (ix3 (0 : Fin 1) r d) :=
  shapeCast_apply _ _ _ _ (by
    rw [Shape.rowMajor_val_two, Shape.rowMajor_val_three]
    show (0 * 1024 + r.val) * 512 + d.val = r.val * 512 + d.val
    omega)

/-- The unpacked features, read at an entry. -/
theorem feats1024_apply (w : Vec Ideal S1x1024x512 .i32) (r : Fin 1024) (d : Fin 1024) :
    feats1024 w (ix2 r d) = feat (fun k => w (ix3 (0 : Fin 1) r k)) d := by
  unfold feat
  split
  · rename_i h
    refine (concatenate_pair_apply_left (1 : Fin S1024x1024.rank) _ _ concatenates_S1024x512_S1024x512_S1024x1024_d1 (ix2 r d) rfl (ix2 r (⟨d.val, h⟩ : Fin 512)) (fun b => ?_)).trans ?_
    · match b with
      | ⟨0, _⟩ => rfl
      | ⟨1, _⟩ => rfl
    · show Ideal.ofBits .f32 ((shapeCast S1024x512 w shapeCasts_S1x1024x512_S1024x512 (ix2 r (⟨d.val, h⟩ : Fin 512))) <<< (16#32).toNat) = _
      rw [words1024_apply]
      exact ofBits_shl _
  · rename_i h
    have hd : d.val - 512 < 512 := by have := d.isLt; omega
    refine (concatenate_pair_apply_right (1 : Fin S1024x1024.rank) _ _ concatenates_S1024x512_S1024x512_S1024x1024_d1 (ix2 r d) rfl rfl (ix2 r (⟨d.val - 512, hd⟩ : Fin 512)) (fun b hb => ?_) ?_).trans ?_
    · match b with
      | ⟨0, _⟩ => rfl
      | ⟨1, _⟩ => exact absurd rfl hb
    · show d.val - 512 + 512 = d.val
      omega
    · show Ideal.ofBits .f32 ((shapeCast S1024x512 w shapeCasts_S1x1024x512_S1024x512 (ix2 r (⟨d.val - 512, hd⟩ : Fin 512))) &&& 4294901760#32) = _
      rw [words1024_apply]
      exact ofBits_mask _

/-- The features times a chunk of weights, read at an entry. -/
theorem proj1024_apply (x : FVec Ideal S1024x1024 .bf16) (w : FVec Ideal S1024x512 .bf16) (r : Fin 1024) (j : Fin 512) :
    matmul dot_S1024x1024_S1024x512_S1024x512_1_0_0_1_n_n none x w (constant S1024x512 .f32 0x00000000#32) (ix2 r j)
      = ∑ d : Fin 1024, x (ix2 r d) * w (ix2 d j) := by
  refine (Ideal.matmul_plain_apply (M := 1024) (K := 1024) (N := 512) none x w _ r j).trans ?_
  rw [zero_apply, zero_add]

/-- What a chunk of hidden units adds to the outputs of 1024 tokens, read at an entry. -/
theorem part1024_apply (x7 x8 : Vec Ideal S1x1x1024x512 .f32) (x9 : Vec Ideal S1x1x512x1024 .f32) (w : Vec Ideal S1x1024x512 .i32)
    (r : Fin 1024) (c : Fin 1024) :
    k0_pay10 (F := Ideal) x7 x8 x9 w (ix2 r c)
      = ∑ j : Fin 512, hid (feat fun k => w (ix3 (0 : Fin 1) r k)) (fun d => x7 (ix4 (0 : Fin 1) (0 : Fin 1) d j))
          (fun d => x8 (ix4 (0 : Fin 1) (0 : Fin 1) d j)) * x9 (ix4 (0 : Fin 1) (0 : Fin 1) j c) := by
  refine (Ideal.matmul_plain_apply (M := 1024) (K := 512) (N := 1024) none _ (k0_pay9 x9) _ r c).trans ?_
  rw [zero_apply, zero_add]
  refine Finset.sum_congr rfl fun j _ => ?_
  rw [pay9_apply]
  refine congrArg (· * _) ?_
  have hp : ∀ (y : Vec Ideal S1x1x1024x512 .f32), matmul dot_S1024x1024_S1024x512_S1024x512_1_0_0_1_n_n none (feats1024 w) (k0_pay7 y)
      (constant S1024x512 .f32 0x00000000#32) (ix2 r j) = ∑ d, feat (fun k => w (ix3 (0 : Fin 1) r k)) d * y (ix4 (0 : Fin 1) (0 : Fin 1) d j) := fun y => by
    rw [proj1024_apply]
    refine Finset.sum_congr rfl fun d _ => ?_
    rw [feats1024_apply, pay7_apply]
  unfold hid
  rw [← hp x7, ← hp x8]
  rfl

/-- The features a block of 256 tokens' words unpack to. -/
def feats256 (w : Vec Ideal S1x256x512 .i32) : FVec Ideal S256x1024 .bf16 :=
  truncf .bf16 (concatenate S256x1024 1
    [⟨S256x512, bitcastToFloat .f32 (shli (shapeCast S256x512 w shapeCasts_S1x256x512_S256x512) (broadcast S256x512 16#32))⟩,
     ⟨S256x512, bitcastToFloat .f32 (andi (shapeCast S256x512 w shapeCasts_S1x256x512_S256x512) (broadcast S256x512 4294901760#32))⟩]
    concatenates_S256x512_S256x512_S256x1024_d1) bitsLt_bf16_f32

/-- Word `d` of row `r` of the block. -/
theorem words256_apply (w : Vec Ideal S1x256x512 .i32) (r : Fin 256) (d : Fin 512) :
    shapeCast S256x512 w shapeCasts_S1x256x512_S256x512 (ix2 r d) = w (ix3 (0 : Fin 1) r d) :=
  shapeCast_apply _ _ _ _ (by
    rw [Shape.rowMajor_val_two, Shape.rowMajor_val_three]
    show (0 * 256 + r.val) * 512 + d.val = r.val * 512 + d.val
    omega)

/-- The unpacked features, read at an entry. -/
theorem feats256_apply (w : Vec Ideal S1x256x512 .i32) (r : Fin 256) (d : Fin 1024) :
    feats256 w (ix2 r d) = feat (fun k => w (ix3 (0 : Fin 1) r k)) d := by
  unfold feat
  split
  · rename_i h
    refine (concatenate_pair_apply_left (1 : Fin S256x1024.rank) _ _ concatenates_S256x512_S256x512_S256x1024_d1 (ix2 r d) rfl (ix2 r (⟨d.val, h⟩ : Fin 512)) (fun b => ?_)).trans ?_
    · match b with
      | ⟨0, _⟩ => rfl
      | ⟨1, _⟩ => rfl
    · show Ideal.ofBits .f32 ((shapeCast S256x512 w shapeCasts_S1x256x512_S256x512 (ix2 r (⟨d.val, h⟩ : Fin 512))) <<< (16#32).toNat) = _
      rw [words256_apply]
      exact ofBits_shl _
  · rename_i h
    have hd : d.val - 512 < 512 := by have := d.isLt; omega
    refine (concatenate_pair_apply_right (1 : Fin S256x1024.rank) _ _ concatenates_S256x512_S256x512_S256x1024_d1 (ix2 r d) rfl rfl (ix2 r (⟨d.val - 512, hd⟩ : Fin 512)) (fun b hb => ?_) ?_).trans ?_
    · match b with
      | ⟨0, _⟩ => rfl
      | ⟨1, _⟩ => exact absurd rfl hb
    · show d.val - 512 + 512 = d.val
      omega
    · show Ideal.ofBits .f32 ((shapeCast S256x512 w shapeCasts_S1x256x512_S256x512 (ix2 r (⟨d.val - 512, hd⟩ : Fin 512))) &&& 4294901760#32) = _
      rw [words256_apply]
      exact ofBits_mask _

/-- The features times a chunk of weights, read at an entry. -/
theorem proj256_apply (x : FVec Ideal S256x1024 .bf16) (w : FVec Ideal S1024x512 .bf16) (r : Fin 256) (j : Fin 512) :
    matmul dot_S256x1024_S1024x512_S256x512_1_0_0_1_n_n none x w (constant S256x512 .f32 0x00000000#32) (ix2 r j)
      = ∑ d : Fin 1024, x (ix2 r d) * w (ix2 d j) := by
  refine (Ideal.matmul_plain_apply (M := 256) (K := 1024) (N := 512) none x w _ r j).trans ?_
  rw [zero_apply, zero_add]

/-- What a chunk of hidden units adds to the outputs of 256 tokens, read at an entry. -/
theorem part256_apply (x7 x8 : Vec Ideal S1x1x1024x512 .f32) (x9 : Vec Ideal S1x1x512x1024 .f32) (w : Vec Ideal S1x256x512 .i32)
    (r : Fin 256) (c : Fin 1024) :
    k0_pay1 (F := Ideal) (k0_pay7 x7) (k0_pay8 x8) (k0_pay9 x9) w (ix2 r c)
      = ∑ j : Fin 512, hid (feat fun k => w (ix3 (0 : Fin 1) r k)) (fun d => x7 (ix4 (0 : Fin 1) (0 : Fin 1) d j))
          (fun d => x8 (ix4 (0 : Fin 1) (0 : Fin 1) d j)) * x9 (ix4 (0 : Fin 1) (0 : Fin 1) j c) := by
  refine (Ideal.matmul_plain_apply (M := 256) (K := 512) (N := 1024) none _ (k0_pay9 x9) _ r c).trans ?_
  rw [zero_apply, zero_add]
  refine Finset.sum_congr rfl fun j _ => ?_
  rw [pay9_apply]
  refine congrArg (· * _) ?_
  have hp : ∀ (y : Vec Ideal S1x1x1024x512 .f32), matmul dot_S256x1024_S1024x512_S256x512_1_0_0_1_n_n none (feats256 w) (k0_pay7 y)
      (constant S256x512 .f32 0x00000000#32) (ix2 r j) = ∑ d, feat (fun k => w (ix3 (0 : Fin 1) r k)) d * y (ix4 (0 : Fin 1) (0 : Fin 1) d j) := fun y => by
    rw [proj256_apply]
    refine Finset.sum_congr rfl fun d _ => ?_
    rw [feats256_apply, pay7_apply]
  unfold hid
  rw [← hp x7, ← hp x8]
  rfl

/-- The prompt accumulator after the first chunk. -/
theorem pay11_apply (x7 x8 : Vec Ideal S1x1x1024x512 .f32) (x9 : Vec Ideal S1x1x512x1024 .f32) (w : Vec Ideal S1x1024x512 .i32) :
    k0_pay11 (F := Ideal) x7 x8 x9 w = k0_pay10 x7 x8 x9 w := by
  unfold k0_pay11
  exact shapeCast_self _ _

/-- The prompt accumulator after a further chunk. -/
theorem pay12_apply (x7 x8 : Vec Ideal S1x1x1024x512 .f32) (x9 : Vec Ideal S1x1x512x1024 .f32) (w : Vec Ideal S1x1024x512 .i32)
    (a : Vec Ideal S1024x1024 .f32) (i : S1024x1024.Idx) :
    k0_pay12 (F := Ideal) x7 x8 x9 w a i = a i + k0_pay10 x7 x8 x9 w i := by
  unfold k0_pay12
  rw [shapeCast_self]
  rfl

/-- The latent accumulator after the first chunk. -/
theorem pay2_apply (x7 x8 : FVec Ideal S1024x512 .bf16) (x9 : FVec Ideal S512x1024 .bf16) (w : Vec Ideal S1x256x512 .i32) :
    k0_pay2 (F := Ideal) x7 x8 x9 w = k0_pay1 x7 x8 x9 w := by
  unfold k0_pay2
  exact shapeCast_self _ _

/-- The latent accumulator after a further chunk. -/
theorem pay3_apply (x7 x8 : FVec Ideal S1024x512 .bf16) (x9 : FVec Ideal S512x1024 .bf16) (w : Vec Ideal S1x256x512 .i32)
    (a : Vec Ideal S256x1024 .f32) (i : S256x1024.Idx) :
    k0_pay3 (F := Ideal) x7 x8 x9 w a i = a i + k0_pay1 x7 x8 x9 w i := by
  unfold k0_pay3
  rw [shapeCast_self]
  rfl

/-- The prompt output: the sum times the router's gate of the row times the layer's gate of the column. -/
theorem pay5_apply (a : Vec Ideal S1024x1024 .f32) (g : Vec Ideal S1x1024x1 .f32) (g2 : Vec Ideal S1x1x1024 .f32)
    (z : Fin 1) (r c : Fin 1024) :
    k0_pay5 (F := Ideal) a g g2 (ix3 z r c) = a (ix2 r c) * g (ix3 (0 : Fin 1) r (0 : Fin 1)) * g2 (ix3 (0 : Fin 1) (0 : Fin 1) c) := by
  unfold k0_pay5
  refine (shapeCast_apply _ _ (ix3 z r c) (ix2 r c) (by
    rw [Shape.rowMajor_val_two, Shape.rowMajor_val_three]
    have := z.isLt
    show r.val * 1024 + c.val = (z.val * 1024 + r.val) * 1024 + c.val
    omega)).trans ?_
  refine congrArg₂ (fun a b : EReal => a * b) (congrArg₂ (fun a b : EReal => a * b) rfl ?_) ?_
  · refine (broadcastTo_apply _ _ (ix2 r c) (ix2 r (0 : Fin 1)) (fun b => match b with | ⟨0, _⟩ => rfl | ⟨1, _⟩ => rfl)).trans ?_
    exact shapeCast_apply _ _ _ _ (by
      rw [Shape.rowMajor_val_two, Shape.rowMajor_val_three]
      show (0 * 1024 + r.val) * 1 + 0 = r.val * 1 + 0
      omega)
  · refine (broadcastTo_apply _ _ (ix2 r c) (ix2 (0 : Fin 1) c) (fun b => match b with | ⟨0, _⟩ => rfl | ⟨1, _⟩ => rfl)).trans ?_
    exact shapeCast_apply _ _ _ _ (by
      rw [Shape.rowMajor_val_two, Shape.rowMajor_val_three]
      show (0 * 1 + 0) * 1024 + c.val = 0 * 1024 + c.val
      omega)

/-- The latent output before it is stored: the sum times the router's gate of the row times the layer gate of the row's batch. -/
theorem pay6_apply (v0 : Vec Ideal S1x1x1024 .f32) (il : Vec Ideal S1x256x1 .i32) (v1 : Vec Ideal S1x1x1024 .f32)
    (a : Vec Ideal S256x1024 .f32) (g : Vec Ideal S1x256x1 .f32) (r : Fin 256) (c : Fin 1024) :
    k0_pay6 (F := Ideal) v0 il v1 a g (ix2 r c) = a (ix2 r c) * g (ix3 (0 : Fin 1) r (0 : Fin 1))
      * (if Scalar.cmpi .sge (il (ix3 (0 : Fin 1) r (0 : Fin 1))) 1024#32 = 1#1 then v1 (ix3 (0 : Fin 1) (0 : Fin 1) c) else v0 (ix3 (0 : Fin 1) (0 : Fin 1) c)) := by
  unfold k0_pay6
  simp only [shapeCast_self]
  have hrow : ∀ (v : Vec Ideal S1x1x1024 .f32), broadcastTo S256x1024 (shapeCast S1x1024 v shapeCasts_S1x1x1024_S1x1024) broadcasts_S1x1024_S256x1024 (ix2 r c)
      = v (ix3 (0 : Fin 1) (0 : Fin 1) c) := fun v => by
    refine (broadcastTo_apply _ _ (ix2 r c) (ix2 (0 : Fin 1) c) (fun b => match b with | ⟨0, _⟩ => rfl | ⟨1, _⟩ => rfl)).trans ?_
    exact shapeCast_apply _ _ _ _ (by
      rw [Shape.rowMajor_val_two, Shape.rowMajor_val_three]
      show (0 * 1 + 0) * 1024 + c.val = 0 * 1024 + c.val
      omega)
  refine congrArg₂ (fun a b : EReal => a * b) (congrArg₂ (fun a b : EReal => a * b) rfl ?_) ?_
  · refine (broadcastTo_apply _ _ (ix2 r c) (ix2 r (0 : Fin 1)) (fun b => match b with | ⟨0, _⟩ => rfl | ⟨1, _⟩ => rfl)).trans ?_
    exact shapeCast_apply _ _ _ _ (by
      rw [Shape.rowMajor_val_two, Shape.rowMajor_val_three]
      show (0 * 256 + r.val) * 1 + 0 = r.val * 1 + 0
      omega)
  · have hc : broadcastTo S256x1024 (cmpi .sge (shapeCast S256x1 il shapeCasts_S1x256x1_S256x1) (broadcast S256x1 1024#32)) broadcasts_S256x1_S256x1024 (ix2 r c)
        = Scalar.cmpi .sge (il (ix3 (0 : Fin 1) r (0 : Fin 1))) 1024#32 := by
      refine (broadcastTo_apply _ _ (ix2 r c) (ix2 r (0 : Fin 1)) (fun b => match b with | ⟨0, _⟩ => rfl | ⟨1, _⟩ => rfl)).trans ?_
      refine congrArg (fun x => Scalar.cmpi .sge x 1024#32) ?_
      exact shapeCast_apply _ _ _ _ (by
        rw [Shape.rowMajor_val_two, Shape.rowMajor_val_three]
        show (0 * 256 + r.val) * 1 + 0 = r.val * 1 + 0
        omega)
    rw [← hc, ← hrow v1, ← hrow v0]
    rfl

/-- The latent output as stored. -/
theorem pay4_apply (a : FVec Ideal S256x1024 .f32) (z : Fin 1) (r : Fin 256) (c : Fin 1024) :
    k0_pay4 (F := Ideal) a (ix3 z r c) = a (ix2 r c) :=
  shapeCast_apply _ _ (ix3 z r c) (ix2 r c) (by
    rw [Shape.rowMajor_val_two, Shape.rowMajor_val_three]
    have := z.isLt
    show r.val * 1024 + c.val = (z.val * 256 + r.val) * 1024 + c.val
    omega)

/-- The first row of the latents' layer gate, read at an entry. -/
theorem row0_apply (x : Vec Ideal S2x1x1024 .f32) (c : Fin 1024) :
    row0 x (ix3 (0 : Fin 1) (0 : Fin 1) c) = x (ix3 (0 : Fin 2) (0 : Fin 1) c) := by
  show x _ = x _
  refine congrArg x (funext fun b => Fin.ext ?_)
  match b with
  | ⟨0, _⟩ => rfl
  | ⟨1, _⟩ => rfl
  | ⟨2, _⟩ => show 0 + 1 * c.val = c.val; omega

/-- The second row of the latents' layer gate, read at an entry. -/
theorem row1_apply (x : Vec Ideal S2x1x1024 .f32) (c : Fin 1024) :
    row1 x (ix3 (0 : Fin 1) (0 : Fin 1) c) = x (ix3 (1 : Fin 2) (0 : Fin 1) c) := by
  show x _ = x _
  refine congrArg x (funext fun b => Fin.ext ?_)
  match b with
  | ⟨0, _⟩ => rfl
  | ⟨1, _⟩ => rfl
  | ⟨2, _⟩ => show 0 + 1 * c.val = c.val; omega

end Cert.Proof.Experts

end
-- ==== Proof.ExpertsRun.lean ====
module

public import proofs.«01_k».proof.Proof.ExpertsPay
public import proofs.«01_k».proof.Proof.Gen.Kernel2Ideal.Value

@[expose] public section

noncomputable section

namespace Cert.Proof.Experts

open Cert.Kernel2Ideal Cert.Kernel2Ideal.Gen Cert.Kernel2Ideal.Value
open Idealize.ShloMosaic Idealize.ShloMosaic.ValueIdx Idealize.ShloMosaic.TcCoe Idealize.SL.Sem
open scoped BigOperators

/-! ## The blocks each point reads -/

section Blocks

variable {F : FTy → Type} [FloatOps F]
variable (m : (ℓ : Loc nD τ sig) → Buf (Elt F) ℓ)

/-- Where window 0's block lies at a point. -/
theorem index0 : ∀ t : Fin cfg0.N, win0_0.index t (0 : Fin 3) = t.val / 4 ∧ win0_0.index t (1 : Fin 3) = 0 ∧ win0_0.index t (2 : Fin 3) = 0 :=
  (by decide +kernel : ∀ t : Fin grid0.N, _)

/-- Window 0's block at a point, read at an entry of its array. -/
theorem blk0 (c : Dev nD) (t : Fin cfg0.N) (e : Fin 16) (he : e.val = t.val / 4) (x : Fin 1) (y : Fin 1024) (z : Fin 512) :
    (iblk m c 0 t : Vec F S1x1024x512 .i32) (ix3 x y z) = (m ((c : Thread nD τ).loc main_arg0) : Vec F S16x1024x512 .i32) (ix3 e y z) := by
  have hi := index0 t
  have hx := x.isLt
  have hy := y.isLt
  have hz := z.isLt
  unfold iblk
  rw [View.read_apply]
  show V m c main_arg0 _ = _
  unfold V
  refine congrArg (m ((c : Thread nD τ).loc main_arg0) : Vec F S16x1024x512 .i32) (funext fun ax => Fin.ext ?_)
  match ax with
  | ⟨0, _⟩ => show win0_0.index t (0 : Fin 3) * 1 + 1 * x.val = e.val; rw [hi.1]; omega
  | ⟨1, _⟩ => show win0_0.index t (1 : Fin 3) * 1024 + 1 * y.val = y.val; rw [hi.2.1]; omega
  | ⟨2, _⟩ => show win0_0.index t (2 : Fin 3) * 512 + 1 * z.val = z.val; rw [hi.2.2]; omega

/-- Where window 1's block lies at a point. -/
theorem index1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

/-- Window 1's block at a point, read at an entry of its array. -/
theorem blk1 (c : Dev nD) (t : Fin cfg0.N) (e : Fin 16) (he : e.val = t.val / 4) (x : Fin 1) (y : Fin 256) (z : Fin 512) :
    (iblk m c 1 t : Vec F S1x256x512 .i32) (ix3 x y z) = (m ((c : Thread nD τ).loc main_arg1) : Vec F S16x256x512 .i32) (ix3 e y z) := by
  have hi := index1 t
  have hx := x.isLt
  have hy := y.isLt
  have hz := z.isLt
  unfold iblk
  rw [View.read_apply]
  show V m c main_arg1 _ = _
  unfold V
  refine congrArg (m ((c : Thread nD τ).loc main_arg1) : Vec F S16x256x512 .i32) (funext fun ax => Fin.ext ?_)
  match ax with
  | ⟨0, _⟩ => show win0_1.index t (0 : Fin 3) * 1 + 1 * x.val = e.val; rw [hi.1]; omega
  | ⟨1, _⟩ => show win0_1.index t (1 : Fin 3) * 256 + 1 * y.val = y.val; rw [hi.2.1]; omega
  | ⟨2, _⟩ => show win0_1.index t (2 : Fin 3) * 512 + 1 * z.val = z.val; rw [hi.2.2]; omega

/-- Where window 2's block lies at a point. -/
theorem index2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- Window 2's block at a point, read at an entry of its array. -/
theorem blk2 (c : Dev nD) (t : Fin cfg0.N) (e : Fin 16) (he : e.val = t.val / 4) (x : Fin 1) (y : Fin 1024) (z : Fin 1) :
    (iblk m c 2 t : Vec F S1x1024x1 .f32) (ix3 x y z) = (m ((c : Thread nD τ).loc main_arg2) : Vec F S16x1024x1 .f32) (ix3 e y z) := by
  have hi := index2 t
  have hx := x.isLt
  have hy := y.isLt
  have hz := z.isLt
  unfold iblk
  rw [View.read_apply]
  show V m c main_arg2 _ = _
  unfold V
  refine congrArg (m ((c : Thread nD τ).loc main_arg2) : Vec F S16x1024x1 .f32) (funext fun ax => Fin.ext ?_)
  match ax with
  | ⟨0, _⟩ => show win0_2.index t (0 : Fin 3) * 1 + 1 * x.val = e.val; rw [hi.1]; omega
  | ⟨1, _⟩ => show win0_2.index t (1 : Fin 3) * 1024 + 1 * y.val = y.val; rw [hi.2.1]; omega
  | ⟨2, _⟩ => show win0_2.index t (2 : Fin 3) * 1 + 1 * z.val = z.val; rw [hi.2.2]; omega

/-- Where window 3's block lies at a point. -/
theorem index3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- Window 3's block at a point, read at an entry of its array. -/
theorem blk3 (c : Dev nD) (t : Fin cfg0.N) (e : Fin 16) (he : e.val = t.val / 4) (x : Fin 1) (y : Fin 256) (z : Fin 1) :
    (iblk m c 3 t : Vec F S1x256x1 .f32) (ix3 x y z) = (m ((c : Thread nD τ).loc main_arg3) : Vec F S16x256x1 .f32) (ix3 e y z) := by
  have hi := index3 t
  have hx := x.isLt
  have hy := y.isLt
  have hz := z.isLt
  unfold iblk
  rw [View.read_apply]
  show V m c main_arg3 _ = _
  unfold V
  refine congrArg (m ((c : Thread nD τ).loc main_arg3) : Vec F S16x256x1 .f32) (funext fun ax => Fin.ext ?_)
  match ax with
  | ⟨0, _⟩ => show win0_3.index t (0 : Fin 3) * 1 + 1 * x.val = e.val; rw [hi.1]; omega
  | ⟨1, _⟩ => show win0_3.index t (1 : Fin 3) * 256 + 1 * y.val = y.val; rw [hi.2.1]; omega
  | ⟨2, _⟩ => show win0_3.index t (2 : Fin 3) * 1 + 1 * z.val = z.val; rw [hi.2.2]; omega

/-- Where window 4's block lies at a point. -/
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 4's block at a point, read at an entry of its array. -/
theorem blk4 (c : Dev nD) (t : Fin cfg0.N) (x : Fin 1) (y : Fin 1) (z : Fin 1024) :
    (iblk m c 4 t : Vec F S1x1x1024 .f32) (ix3 x y z) = (m ((c : Thread nD τ).loc main_arg4) : Vec F S1x1x1024 .f32) (ix3 x y z) := by
  have hi := index4 t
  have hx := x.isLt
  have hy := y.isLt
  have hz := z.isLt
  unfold iblk
  rw [View.read_apply]
  show V m c main_arg4 _ = _
  unfold V
  refine congrArg (m ((c : Thread nD τ).loc main_arg4) : Vec F S1x1x1024 .f32) (funext fun ax => Fin.ext ?_)
  match ax with
  | ⟨0, _⟩ => show win0_4.index t (0 : Fin 3) * 1 + 1 * x.val = x.val; rw [hi.1]; omega
  | ⟨1, _⟩ => show win0_4.index t (1 : Fin 3) * 1 + 1 * y.val = y.val; rw [hi.2.1]; omega
  | ⟨2, _⟩ => show win0_4.index t (2 : Fin 3) * 1024 + 1 * z.val = z.val; rw [hi.2.2]; omega

/-- Where window 5's block lies at a point. -/
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5's block at a point, read at an entry of its array. -/
theorem blk5 (c : Dev nD) (t : Fin cfg0.N) (x : Fin 2) (y : Fin 1) (z : Fin 1024) :
    (iblk m c 5 t : Vec F S2x1x1024 .f32) (ix3 x y z) = (m ((c : Thread nD τ).loc main_arg5) : Vec F S2x1x1024 .f32) (ix3 x y z) := by
  have hi := index5 t
  have hx := x.isLt
  have hy := y.isLt
  have hz := z.isLt
  unfold iblk
  rw [View.read_apply]
  show V m c main_arg5 _ = _
  unfold V
  refine congrArg (m ((c : Thread nD τ).loc main_arg5) : Vec F S2x1x1024 .f32) (funext fun ax => Fin.ext ?_)
  match ax with
  | ⟨0, _⟩ => show win0_5.index t (0 : Fin 3) * 2 + 1 * x.val = x.val; rw [hi.1]; omega
  | ⟨1, _⟩ => show win0_5.index t (1 : Fin 3) * 1 + 1 * y.val = y.val; rw [hi.2.1]; omega
  | ⟨2, _⟩ => show win0_5.index t (2 : Fin 3) * 1024 + 1 * z.val = z.val; rw [hi.2.2]; omega

/-- Where window 6's block lies at a point. -/
theorem index6 : ∀ t : Fin cfg0.N, win0_6.index t (0 : Fin 3) = t.val / 4 ∧ win0_6.index t (1 : Fin 3) = 0 ∧ win0_6.index t (2 : Fin 3) = 0 :=
  (by decide +kernel : ∀ t : Fin grid0.N, _)

/-- Window 6's block at a point, read at an entry of its array. -/
theorem blk6 (c : Dev nD) (t : Fin cfg0.N) (e : Fin 16) (he : e.val = t.val / 4) (x : Fin 1) (y : Fin 256) (z : Fin 1) :
    (iblk m c 6 t : Vec F S1x256x1 .i32) (ix3 x y z) = (m ((c : Thread nD τ).loc main_arg6) : Vec F S16x256x1 .i32) (ix3 e y z) := by
  have hi := index6 t
  have hx := x.isLt
  have hy := y.isLt
  have hz := z.isLt
  unfold iblk
  rw [View.read_apply]
  show V m c main_arg6 _ = _
  unfold V
  refine congrArg (m ((c : Thread nD τ).loc main_arg6) : Vec F S16x256x1 .i32) (funext fun ax => Fin.ext ?_)
  match ax with
  | ⟨0, _⟩ => show win0_6.index t (0 : Fin 3) * 1 + 1 * x.val = e.val; rw [hi.1]; omega
  | ⟨1, _⟩ => show win0_6.index t (1 : Fin 3) * 256 + 1 * y.val = y.val; rw [hi.2.1]; omega
  | ⟨2, _⟩ => show win0_6.index t (2 : Fin 3) * 1 + 1 * z.val = z.val; rw [hi.2.2]; omega

/-- Where window 7's block lies at a point. -/
theorem index7 : ∀ t : Fin cfg0.N, win0_7.index t (0 : Fin 4) = 0 ∧ win0_7.index t (1 : Fin 4) = t.val / 4 ∧ win0_7.index t (2 : Fin 4) = 0 ∧ win0_7.index t (3 : Fin 4) = t.val % 4 :=
  (by decide +kernel : ∀ t : Fin grid0.N, _)

/-- Window 7's block at a point, read at an entry of its array. -/
theorem blk7 (c : Dev nD) (t : Fin cfg0.N) (e : Fin 16) (he : e.val = t.val / 4) (k : ℕ) (hk : k < 4) (hkt : k = t.val % 4) (x : Fin 1) (y : Fin 1) (z : Fin 1024) (u : Fin 512) :
    (iblk m c 7 t : Vec F S1x1x1024x512 .f32) (ix4 x y z u) = (m ((c : Thread nD τ).loc main_arg7) : Vec F S4x16x1024x2048 .f32) (ix4 (0 : Fin 4) e z (chunk k hk u)) := by
  have hi := index7 t
  have hx := x.isLt
  have hy := y.isLt
  have hz := z.isLt
  have hu := u.isLt
  unfold iblk
  rw [View.read_apply]
  show V m c main_arg7 _ = _
  unfold V
  refine congrArg (m ((c : Thread nD τ).loc main_arg7) : Vec F S4x16x1024x2048 .f32) (funext fun ax => Fin.ext ?_)
  match ax with
  | ⟨0, _⟩ => show win0_7.index t (0 : Fin 4) * 1 + 1 * x.val = 0; rw [hi.1]; omega
  | ⟨1, _⟩ => show win0_7.index t (1 : Fin 4) * 1 + 1 * y.val = e.val; rw [hi.2.1]; omega
  | ⟨2, _⟩ => show win0_7.index t (2 : Fin 4) * 1024 + 1 * z.val = z.val; rw [hi.2.2.1]; omega
  | ⟨3, _⟩ => show win0_7.index t (3 : Fin 4) * 512 + 1 * u.val = 512 * k + u.val; rw [hi.2.2.2]; omega

/-- Where window 8's block lies at a point. -/
theorem index8 : ∀ t : Fin cfg0.N, win0_8.index t (0 : Fin 4) = 0 ∧ win0_8.index t (1 : Fin 4) = t.val / 4 ∧ win0_8.index t (2 : Fin 4) = 0 ∧ win0_8.index t (3 : Fin 4) = t.val % 4 :=
  (by decide +kernel : ∀ t : Fin grid0.N, _)

/-- Window 8's block at a point, read at an entry of its array. -/
theorem blk8 (c : Dev nD) (t : Fin cfg0.N) (e : Fin 16) (he : e.val = t.val / 4) (k : ℕ) (hk : k < 4) (hkt : k = t.val % 4) (x : Fin 1) (y : Fin 1) (z : Fin 1024) (u : Fin 512) :
    (iblk m c 8 t : Vec F S1x1x1024x512 .f32) (ix4 x y z u) = (m ((c : Thread nD τ).loc main_arg8) : Vec F S4x16x1024x2048 .f32) (ix4 (0 : Fin 4) e z (chunk k hk u)) := by
  have hi := index8 t
  have hx := x.isLt
  have hy := y.isLt
  have hz := z.isLt
  have hu := u.isLt
  unfold iblk
  rw [View.read_apply]
  show V m c main_arg8 _ = _
  unfold V
  refine congrArg (m ((c : Thread nD τ).loc main_arg8) : Vec F S4x16x1024x2048 .f32) (funext fun ax => Fin.ext ?_)
  match ax with
  | ⟨0, _⟩ => show win0_8.index t (0 : Fin 4) * 1 + 1 * x.val = 0; rw [hi.1]; omega
  | ⟨1, _⟩ => show win0_8.index t (1 : Fin 4) * 1 + 1 * y.val = e.val; rw [hi.2.1]; omega
  | ⟨2, _⟩ => show win0_8.index t (2 : Fin 4) * 1024 + 1 * z.val = z.val; rw [hi.2.2.1]; omega
  | ⟨3, _⟩ => show win0_8.index t (3 : Fin 4) * 512 + 1 * u.val = 512 * k + u.val; rw [hi.2.2.2]; omega

/-- Where window 9's block lies at a point. -/
theorem index9 : ∀ t : Fin cfg0.N, win0_9.index t (0 : Fin 4) = 0 ∧ win0_9.index t (1 : Fin 4) = t.val / 4 ∧ win0_9.index t (2 : Fin 4) = t.val % 4 ∧ win0_9.index t (3 : Fin 4) = 0 :=
  (by decide +kernel : ∀ t : Fin grid0.N, _)

/-- Window 9's block at a point, read at an entry of its array. -/
theorem blk9 (c : Dev nD) (t : Fin cfg0.N) (e : Fin 16) (he : e.val = t.val / 4) (k : ℕ) (hk : k < 4) (hkt : k = t.val % 4) (x : Fin 1) (y : Fin 1) (z : Fin 512) (u : Fin 1024) :
    (iblk m c 9 t : Vec F S1x1x512x1024 .f32) (ix4 x y z u) = (m ((c : Thread nD τ).loc main_arg9) : Vec F S4x16x2048x1024 .f32) (ix4 (0 : Fin 4) e (chunk k hk z) u) := by
  have hi := index9 t
  have hx := x.isLt
  have hy := y.isLt
  have hz := z.isLt
  have hu := u.isLt
  unfold iblk
  rw [View.read_apply]
  show V m c main_arg9 _ = _
  unfold V
  refine congrArg (m ((c : Thread nD τ).loc main_arg9) : Vec F S4x16x2048x1024 .f32) (funext fun ax => Fin.ext ?_)
  match ax with
  | ⟨0, _⟩ => show win0_9.index t (0 : Fin 4) * 1 + 1 * x.val = 0; rw [hi.1]; omega
  | ⟨1, _⟩ => show win0_9.index t (1 : Fin 4) * 1 + 1 * y.val = e.val; rw [hi.2.1]; omega
  | ⟨2, _⟩ => show win0_9.index t (2 : Fin 4) * 512 + 1 * z.val = 512 * k + z.val; rw [hi.2.2.1]; omega
  | ⟨3, _⟩ => show win0_9.index t (3 : Fin 4) * 1024 + 1 * u.val = u.val; rw [hi.2.2.2]; omega

end Blocks

/-! ## The accumulators and the outputs, point by point -/

section Fold

variable {F : FTy → Type} [FloatOps F]
variable (m : (ℓ : Loc nD τ sig) → Buf (Elt F) ℓ)

/-- What a point leaves is one step from some contents. -/
theorem outs_step (c : Dev nD) (n : ℕ) (hn : n < cfg0.N) : ∃ acc, outsAt0 m c n hn = stAt0 m c n hn acc := by
  cases n with
  | zero => exact ⟨_, outsAt0_zero m c hn⟩
  | succ n => exact ⟨_, outsAt0_succ m c n hn⟩

/-- The prompt accumulator after a first chunk. -/
theorem acc_A_0 (c : Dev nD) (n : ℕ) (hn : n < cfg0.N) (h : n % 4 = 0) :
    (outsAt0 m c n hn).2.2.1 = k0_pay11 (iblk m c 7 (⟨n, hn⟩ : Fin cfg0.N)) (iblk m c 8 (⟨n, hn⟩ : Fin cfg0.N)) (iblk m c 9 (⟨n, hn⟩ : Fin cfg0.N)) (iblk m c 0 (⟨n, hn⟩ : Fin cfg0.N)) := by
  obtain ⟨acc, e⟩ := outs_step m c n hn
  rw [e, stAt0_A m c ⟨n, hn⟩ acc h (by dsimp only; omega) h (by dsimp only; omega) (by dsimp only; omega)]
  dsimp only
  exact sout_A_0 ..

/-- The latent accumulator after a first chunk. -/
theorem acc_A_1 (c : Dev nD) (n : ℕ) (hn : n < cfg0.N) (h : n % 4 = 0) :
    (outsAt0 m c n hn).2.2.2 = k0_pay2 (k0_pay7 (iblk m c 7 (⟨n, hn⟩ : Fin cfg0.N))) (k0_pay8 (iblk m c 8 (⟨n, hn⟩ : Fin cfg0.N))) (k0_pay9 (iblk m c 9 (⟨n, hn⟩ : Fin cfg0.N))) (iblk m c 1 (⟨n, hn⟩ : Fin cfg0.N)) := by
  obtain ⟨acc, e⟩ := outs_step m c n hn
  rw [e, stAt0_A m c ⟨n, hn⟩ acc h (by dsimp only; omega) h (by dsimp only; omega) (by dsimp only; omega)]
  dsimp only
  exact sout_A_1 ..

/-- The prompt accumulator after a middle chunk. -/
theorem acc_B_0 (c : Dev nD) (n : ℕ) (hn : n + 1 < cfg0.N) (h : (n + 1) % 4 = 1 ∨ (n + 1) % 4 = 2) :
    (outsAt0 m c (n + 1) hn).2.2.1 = k0_pay12 (iblk m c 7 (⟨n + 1, hn⟩ : Fin cfg0.N)) (iblk m c 8 (⟨n + 1, hn⟩ : Fin cfg0.N)) (iblk m c 9 (⟨n + 1, hn⟩ : Fin cfg0.N)) (iblk m c 0 (⟨n + 1, hn⟩ : Fin cfg0.N)) (outsAt0 m c n (Nat.lt_of_succ_lt hn)).2.2.1 := by
  rw [outsAt0_succ, stAt0_B m c ⟨n + 1, hn⟩ (outsAt0 m c n (Nat.lt_of_succ_lt hn)) (by dsimp only; omega) (by dsimp only; omega) (by dsimp only; omega) (by dsimp only; omega) (by dsimp only; omega)]
  dsimp only
  exact sout_B_0 ..

/-- The latent accumulator after a middle chunk. -/
theorem acc_B_1 (c : Dev nD) (n : ℕ) (hn : n + 1 < cfg0.N) (h : (n + 1) % 4 = 1 ∨ (n + 1) % 4 = 2) :
    (outsAt0 m c (n + 1) hn).2.2.2 = k0_pay3 (k0_pay7 (iblk m c 7 (⟨n + 1, hn⟩ : Fin cfg0.N))) (k0_pay8 (iblk m c 8 (⟨n + 1, hn⟩ : Fin cfg0.N))) (k0_pay9 (iblk m c 9 (⟨n + 1, hn⟩ : Fin cfg0.N))) (iblk m c 1 (⟨n + 1, hn⟩ : Fin cfg0.N)) (outsAt0 m c n (Nat.lt_of_succ_lt hn)).2.2.2 := by
  rw [outsAt0_succ, stAt0_B m c ⟨n + 1, hn⟩ (outsAt0 m c n (Nat.lt_of_succ_lt hn)) (by dsimp only; omega) (by dsimp only; omega) (by dsimp only; omega) (by dsimp only; omega) (by dsimp only; omega)]
  dsimp only
  exact sout_B_1 ..

/-- The prompt output after a last chunk. -/
theorem acc_C_0 (c : Dev nD) (n : ℕ) (hn : n + 1 < cfg0.N) (h : (n + 1) % 4 = 3) :
    (outsAt0 m c (n + 1) hn).1 = k0_pay5 (k0_pay12 (iblk m c 7 (⟨n + 1, hn⟩ : Fin cfg0.N)) (iblk m c 8 (⟨n + 1, hn⟩ : Fin cfg0.N)) (iblk m c 9 (⟨n + 1, hn⟩ : Fin cfg0.N)) (iblk m c 0 (⟨n + 1, hn⟩ : Fin cfg0.N)) (outsAt0 m c n (Nat.lt_of_succ_lt hn)).2.2.1) (iblk m c 2 (⟨n + 1, hn⟩ : Fin cfg0.N)) (iblk m c 4 (⟨n + 1, hn⟩ : Fin cfg0.N)) := by
  rw [outsAt0_succ, stAt0_C m c ⟨n + 1, hn⟩ (outsAt0 m c n (Nat.lt_of_succ_lt hn)) (by dsimp only; omega) (by dsimp only; omega) (by dsimp only; omega) (by dsimp only; omega) (by dsimp only; omega)]
  dsimp only
  exact out_C_10 ..

/-- The latent output after a last chunk. -/
theorem acc_C_1 (c : Dev nD) (n : ℕ) (hn : n + 1 < cfg0.N) (h : (n + 1) % 4 = 3) :
    (outsAt0 m c (n + 1) hn).2.1 = k0_pay4 (k0_pay6 (row0 (iblk m c 5 (⟨n + 1, hn⟩ : Fin cfg0.N))) (iblk m c 6 (⟨n + 1, hn⟩ : Fin cfg0.N)) (row1 (iblk m c 5 (⟨n + 1, hn⟩ : Fin cfg0.N))) (k0_pay3 (k0_pay7 (iblk m c 7 (⟨n + 1, hn⟩ : Fin cfg0.N))) (k0_pay8 (iblk m c 8 (⟨n + 1, hn⟩ : Fin cfg0.N))) (k0_pay9 (iblk m c 9 (⟨n + 1, hn⟩ : Fin cfg0.N))) (iblk m c 1 (⟨n + 1, hn⟩ : Fin cfg0.N)) (outsAt0 m c n (Nat.lt_of_succ_lt hn)).2.2.2) (iblk m c 3 (⟨n + 1, hn⟩ : Fin cfg0.N))) := by
  rw [outsAt0_succ, stAt0_C m c ⟨n + 1, hn⟩ (outsAt0 m c n (Nat.lt_of_succ_lt hn)) (by dsimp only; omega) (by dsimp only; omega) (by dsimp only; omega) (by dsimp only; omega) (by dsimp only; omega)]
  dsimp only
  exact out_C_11 ..

end Fold

/-! ## The outputs as functions of the arguments -/

section Outputs

variable (m : (ℓ : Loc nD τ sig) → Buf (Elt Ideal) ℓ)

/-- What point `4 e + k` adds for 1024 tokens: chunk `k` of expert `e`. -/
theorem part1024_at (c : Dev nD) (t : Fin cfg0.N) (e : Fin 16) (he : e.val = t.val / 4) (k : ℕ) (hk : k < 4) (hkt : k = t.val % 4) (r : Fin 1024) (n : Fin 1024) :
    k0_pay10 (F := Ideal) (iblk m c 7 t) (iblk m c 8 t) (iblk m c 9 t) (iblk m c 0 t) (ix2 r n)
      = ∑ j : Fin 512, hid (feat fun d => (m ((c : Thread nD τ).loc main_arg0) : Vec Ideal S16x1024x512 .i32) (ix3 e r d))
          (col (m ((c : Thread nD τ).loc main_arg7)) e (chunk k hk j)) (col (m ((c : Thread nD τ).loc main_arg8)) e (chunk k hk j))
          * down (m ((c : Thread nD τ).loc main_arg9)) e n (chunk k hk j) := by
  rw [part1024_apply]
  refine Finset.sum_congr rfl fun j _ => ?_
  refine congrArg₂ (fun a b : EReal => a * b) ?_ (blk9 m c t e he k hk hkt 0 0 j n)
  refine congr (congr (congrArg hid (congrArg feat ?_)) ?_) ?_
  · exact funext fun d => blk0 m c t e he 0 r d
  · exact funext fun d => blk7 m c t e he k hk hkt 0 0 d j
  · exact funext fun d => blk8 m c t e he k hk hkt 0 0 d j

/-- What point `4 e + k` adds for 256 tokens: chunk `k` of expert `e`. -/
theorem part256_at (c : Dev nD) (t : Fin cfg0.N) (e : Fin 16) (he : e.val = t.val / 4) (k : ℕ) (hk : k < 4) (hkt : k = t.val % 4) (r : Fin 256) (n : Fin 1024) :
    k0_pay1 (F := Ideal) (k0_pay7 (iblk m c 7 t)) (k0_pay8 (iblk m c 8 t)) (k0_pay9 (iblk m c 9 t)) (iblk m c 1 t) (ix2 r n)
      = ∑ j : Fin 512, hid (feat fun d => (m ((c : Thread nD τ).loc main_arg1) : Vec Ideal S16x256x512 .i32) (ix3 e r d))
          (col (m ((c : Thread nD τ).loc main_arg7)) e (chunk k hk j)) (col (m ((c : Thread nD τ).loc main_arg8)) e (chunk k hk j))
          * down (m ((c : Thread nD τ).loc main_arg9)) e n (chunk k hk j) := by
  rw [part256_apply]
  refine Finset.sum_congr rfl fun j _ => ?_
  refine congrArg₂ (fun a b : EReal => a * b) ?_ (blk9 m c t e he k hk hkt 0 0 j n)
  refine congr (congr (congrArg hid (congrArg feat ?_)) ?_) ?_
  · exact funext fun d => blk1 m c t e he 0 r d
  · exact funext fun d => blk7 m c t e he k hk hkt 0 0 d j
  · exact funext fun d => blk8 m c t e he k hk hkt 0 0 d j

/-- The prompt accumulator over expert `e`'s four points is the expert's output. -/
theorem sum1024 (c : Dev nD) (e : Fin 16) (p : ℕ) (h3 : p + 1 + 1 + 1 < cfg0.N) (hp : p % 4 = 0) (he : e.val = p / 4) (r : Fin 1024) (n : Fin 1024) :
    k0_pay12 (F := Ideal) (iblk m c 7 (⟨p + 1 + 1 + 1, h3⟩ : Fin cfg0.N)) (iblk m c 8 (⟨p + 1 + 1 + 1, h3⟩ : Fin cfg0.N)) (iblk m c 9 (⟨p + 1 + 1 + 1, h3⟩ : Fin cfg0.N)) (iblk m c 0 (⟨p + 1 + 1 + 1, h3⟩ : Fin cfg0.N)) (outsAt0 m c (p + 1 + 1) (Nat.lt_of_succ_lt h3)).2.2.1 (ix2 r n)
      = expert (m ((c : Thread nD τ).loc main_arg7)) (m ((c : Thread nD τ).loc main_arg8)) (m ((c : Thread nD τ).loc main_arg9)) e
          (feat fun d => (m ((c : Thread nD τ).loc main_arg0) : Vec Ideal S16x1024x512 .i32) (ix3 e r d)) n := by
  have h2 : p + 1 + 1 < cfg0.N := by omega
  have h1 : p + 1 < cfg0.N := by omega
  have h0 : p < cfg0.N := by omega
  have e3 := part1024_at m c ⟨p + 1 + 1 + 1, h3⟩ e (by dsimp only; omega) 3 (by decide) (by dsimp only; omega) r n
  have e2 := part1024_at m c ⟨p + 1 + 1, h2⟩ e (by dsimp only; omega) 2 (by decide) (by dsimp only; omega) r n
  have e1 := part1024_at m c ⟨p + 1, h1⟩ e (by dsimp only; omega) 1 (by decide) (by dsimp only; omega) r n
  have e0 := part1024_at m c ⟨p, h0⟩ e (by dsimp only; omega) 0 (by decide) (by dsimp only; omega) r n
  have s0 := (congrFun (acc_A_0 m c p h0 hp) (ix2 r n)).trans ((congrFun (pay11_apply _ _ _ _) _).trans e0)
  have s1 := (congrFun (acc_B_0 m c p h1 (by omega)) (ix2 r n)).trans (pay12_apply _ _ _ _ _ _)
  have s2 := (congrFun (acc_B_0 m c (p + 1) h2 (by omega)) (ix2 r n)).trans (pay12_apply _ _ _ _ _ _)
  rw [s0, e1] at s1
  rw [s1, e2] at s2
  refine (pay12_apply _ _ _ _ _ _).trans ?_
  rw [s2, e3]
  unfold expert ffn
  rw [sum_chunks]

/-- The latent accumulator over expert `e`'s four points is the expert's output. -/
theorem sum256 (c : Dev nD) (e : Fin 16) (p : ℕ) (h3 : p + 1 + 1 + 1 < cfg0.N) (hp : p % 4 = 0) (he : e.val = p / 4) (r : Fin 256) (n : Fin 1024) :
    k0_pay3 (F := Ideal) (k0_pay7 (iblk m c 7 (⟨p + 1 + 1 + 1, h3⟩ : Fin cfg0.N))) (k0_pay8 (iblk m c 8 (⟨p + 1 + 1 + 1, h3⟩ : Fin cfg0.N))) (k0_pay9 (iblk m c 9 (⟨p + 1 + 1 + 1, h3⟩ : Fin cfg0.N))) (iblk m c 1 (⟨p + 1 + 1 + 1, h3⟩ : Fin cfg0.N)) (outsAt0 m c (p + 1 + 1) (Nat.lt_of_succ_lt h3)).2.2.2 (ix2 r n)
      = expert (m ((c : Thread nD τ).loc main_arg7)) (m ((c : Thread nD τ).loc main_arg8)) (m ((c : Thread nD τ).loc main_arg9)) e
          (feat fun d => (m ((c : Thread nD τ).loc main_arg1) : Vec Ideal S16x256x512 .i32) (ix3 e r d)) n := by
  have h2 : p + 1 + 1 < cfg0.N := by omega
  have h1 : p + 1 < cfg0.N := by omega
  have h0 : p < cfg0.N := by omega
  have e3 := part256_at m c ⟨p + 1 + 1 + 1, h3⟩ e (by dsimp only; omega) 3 (by decide) (by dsimp only; omega) r n
  have e2 := part256_at m c ⟨p + 1 + 1, h2⟩ e (by dsimp only; omega) 2 (by decide) (by dsimp only; omega) r n
  have e1 := part256_at m c ⟨p + 1, h1⟩ e (by dsimp only; omega) 1 (by decide) (by dsimp only; omega) r n
  have e0 := part256_at m c ⟨p, h0⟩ e (by dsimp only; omega) 0 (by decide) (by dsimp only; omega) r n
  have s0 := (congrFun (acc_A_1 m c p h0 hp) (ix2 r n)).trans ((congrFun (pay2_apply _ _ _ _) _).trans e0)
  have s1 := (congrFun (acc_B_1 m c p h1 (by omega)) (ix2 r n)).trans (pay3_apply _ _ _ _ _ _)
  have s2 := (congrFun (acc_B_1 m c (p + 1) h2 (by omega)) (ix2 r n)).trans (pay3_apply _ _ _ _ _ _)
  rw [s0, e1] at s1
  rw [s1, e2] at s2
  refine (pay3_apply _ _ _ _ _ _).trans ?_
  rw [s2, e3]
  unfold expert ffn
  rw [sum_chunks]

/-- The prompt tokens' output, as a function of the arguments. -/
theorem G10_eq (c : Dev nD) (e : Fin 16) (r n : Fin 1024) :
    (G10 m c : Vec Ideal S16x1024x1024 .f32) (ix3 e r n)
      = expert (m ((c : Thread nD τ).loc main_arg7)) (m ((c : Thread nD τ).loc main_arg8)) (m ((c : Thread nD τ).loc main_arg9)) e
          (feat fun d => (m ((c : Thread nD τ).loc main_arg0) : Vec Ideal S16x1024x512 .i32) (ix3 e r d)) n
        * (m ((c : Thread nD τ).loc main_arg2) : Vec Ideal S16x1024x1 .f32) (ix3 e r (0 : Fin 1))
        * (m ((c : Thread nD τ).loc main_arg4) : Vec Ideal S1x1x1024 .f32) (ix3 (0 : Fin 1) (0 : Fin 1) n) := by
  have hN : cfg0.N = 64 := N_0
  have hr := r.isLt
  have hn := n.isLt
  have hp : pt10Of (ix3 e r n) = 4 * e.val + 1 + 1 + 1 := by
    show 4 * (1 * (e.val / 1 - 0) + 1 * (r.val / 1024 - 0) + 1 * (n.val / 1024 - 0)) + 3 = _
    omega
  have hl : loc10Of (ix3 e r n) = ix3 (0 : Fin 1) r n := by
    funext a
    apply Fin.ext
    match a with
    | ⟨0, _⟩ => show e.val % 1 = 0; omega
    | ⟨1, _⟩ => show r.val % 1024 = r.val; omega
    | ⟨2, _⟩ => show n.val % 1024 = n.val; omega
  have h3 : 4 * e.val + 1 + 1 + 1 < cfg0.N := by omega
  unfold G10
  rw [dif_pos (by rw [hp]; exact h3), hl, fold0_congr m c _ _ (4 * e.val + 1 + 1 + 1) (by omega) hp, ← outsAt0_sweep m c _ h3,
    acc_C_0 m c (4 * e.val + 1 + 1) h3 (by omega), pay5_apply, sum1024 m c e (4 * e.val) h3 (by omega) (by omega) r n,
    blk2 m c _ e (by dsimp only; omega) 0 r 0, blk4 m c _ 0 0 n]

/-- The latent tokens' output, as a function of the arguments. -/
theorem G11_eq (c : Dev nD) (e : Fin 16) (r : Fin 256) (n : Fin 1024) :
    (G11 m c : Vec Ideal S16x256x1024 .f32) (ix3 e r n)
      = expert (m ((c : Thread nD τ).loc main_arg7)) (m ((c : Thread nD τ).loc main_arg8)) (m ((c : Thread nD τ).loc main_arg9)) e
          (feat fun d => (m ((c : Thread nD τ).loc main_arg1) : Vec Ideal S16x256x512 .i32) (ix3 e r d)) n
        * (m ((c : Thread nD τ).loc main_arg3) : Vec Ideal S16x256x1 .f32) (ix3 e r (0 : Fin 1))
        * (if Scalar.cmpi .sge ((m ((c : Thread nD τ).loc main_arg6) : Vec Ideal S16x256x1 .i32) (ix3 e r (0 : Fin 1))) 1024#32 = 1#1
            then (m ((c : Thread nD τ).loc main_arg5) : Vec Ideal S2x1x1024 .f32) (ix3 (1 : Fin 2) (0 : Fin 1) n)
            else (m ((c : Thread nD τ).loc main_arg5) : Vec Ideal S2x1x1024 .f32) (ix3 (0 : Fin 2) (0 : Fin 1) n)) := by
  have hN : cfg0.N = 64 := N_0
  have hr := r.isLt
  have hn := n.isLt
  have hp : pt11Of (ix3 e r n) = 4 * e.val + 1 + 1 + 1 := by
    show 4 * (1 * (e.val / 1 - 0) + 1 * (r.val / 256 - 0) + 1 * (n.val / 1024 - 0)) + 3 = _
    omega
  have hl : loc11Of (ix3 e r n) = ix3 (0 : Fin 1) r n := by
    funext a
    apply Fin.ext
    match a with
    | ⟨0, _⟩ => show e.val % 1 = 0; omega
    | ⟨1, _⟩ => show r.val % 256 = r.val; omega
    | ⟨2, _⟩ => show n.val % 1024 = n.val; omega
  have h3 : 4 * e.val + 1 + 1 + 1 < cfg0.N := by omega
  unfold G11
  rw [dif_pos (by rw [hp]; exact h3), hl, fold0_congr m c _ _ (4 * e.val + 1 + 1 + 1) (by omega) hp, ← outsAt0_sweep m c _ h3,
    acc_C_1 m c (4 * e.val + 1 + 1) h3 (by omega), pay4_apply, pay6_apply, sum256 m c e (4 * e.val) h3 (by omega) (by omega) r n,
    row0_apply, row1_apply,
    blk3 m c _ e (by dsimp only; omega) 0 r 0, blk5 m c _ 0 0 n, blk5 m c _ 1 0 n, blk6 m c _ e (by dsimp only; omega) 0 r 0]

end Outputs

end Cert.Proof.Experts

end
-- ==== Proof.ExpertsRef.lean ====
module

public import proofs.«01_k».proof.Proof.ExpertsMath
public import proofs.«01_k».proof.Proof.Gen.Reference2Ideal
public import Idealize.ShloMosaic.Lib.Pipeline.Value
public import Idealize.ShloMosaic.Lib.StackMember
public import Idealize.ShloMosaic.Lib.BitcastConvert

@[expose] public section

noncomputable section

namespace Cert.Proof.Experts.Ref

open Cert.Reference2Ideal Cert.Reference2Ideal.Gen
open Idealize.ShloMosaic Idealize.ShloMosaic.ValueIdx Idealize.ShloMosaic.StackMember
open scoped BigOperators

/-- The constant the sigmoid adds is one. -/
theorem one_f32 : Ideal.ofBits .f32 0x3F800000#32 = 1 := by
  simp [Ideal.ofBits, Ideal.ieee, -EReal.coe_mul]; norm_num

/-- The first layer's gate or up weights. -/
def layerW (w : Vec Ideal S4x16x1024x2048 .f32) : FVec Ideal S16x1024x2048 .f32 :=
  shapeCast _ (extractStridedSlice S1x16x1024x2048 ![0, 0, 0, 0] w slices_S4x16x1024x2048_S1x16x1024x2048_0_0_0_0) shapeCasts_S1x16x1024x2048_S16x1024x2048

/-- The first layer's gate or up weights, read at an entry. -/
theorem layerW_apply (w : Vec Ideal S4x16x1024x2048 .f32) (e : Fin 16) (d : Fin 1024) (f : Fin 2048) :
    layerW w (ix3 e d f) = col w e f d := by
  refine (shapeCast_apply _ shapeCasts_S1x16x1024x2048_S16x1024x2048 (ix3 e d f) (ix4 (0 : Fin 1) e d f) (by
    rw [Shape.rowMajor_val_three, Shape.rowMajor_val_four]
    show ((0 * 16 + e.val) * 1024 + d.val) * 2048 + f.val = (e.val * 1024 + d.val) * 2048 + f.val
    omega)).trans ?_
  refine extractStridedSlice_apply _ w slices_S4x16x1024x2048_S1x16x1024x2048_0_0_0_0 _ (ix4 (0 : Fin 4) e d f) fun a => ?_
  match a with
  | ⟨0, _⟩ => rfl
  | ⟨1, _⟩ => exact (Nat.zero_add _).symm
  | ⟨2, _⟩ => exact (Nat.zero_add _).symm
  | ⟨3, _⟩ => exact (Nat.zero_add _).symm

/-- The first layer's down weights. -/
def layerD (w : Vec Ideal S4x16x2048x1024 .f32) : FVec Ideal S16x2048x1024 .f32 :=
  shapeCast _ (extractStridedSlice S1x16x2048x1024 ![0, 0, 0, 0] w slices_S4x16x2048x1024_S1x16x2048x1024_0_0_0_0) shapeCasts_S1x16x2048x1024_S16x2048x1024

/-- The first layer's down weights, read at an entry. -/
theorem layerD_apply (w : Vec Ideal S4x16x2048x1024 .f32) (e : Fin 16) (f : Fin 2048) (n : Fin 1024) :
    layerD w (ix3 e f n) = down w e n f := by
  refine (shapeCast_apply _ shapeCasts_S1x16x2048x1024_S16x2048x1024 (ix3 e f n) (ix4 (0 : Fin 1) e f n) (by
    rw [Shape.rowMajor_val_three, Shape.rowMajor_val_four]
    show ((0 * 16 + e.val) * 2048 + f.val) * 1024 + n.val = (e.val * 2048 + f.val) * 1024 + n.val
    omega)).trans ?_
  refine extractStridedSlice_apply _ w slices_S4x16x2048x1024_S1x16x2048x1024_0_0_0_0 _ (ix4 (0 : Fin 4) e f n) fun a => ?_
  match a with
  | ⟨0, _⟩ => rfl
  | ⟨1, _⟩ => exact (Nat.zero_add _).symm
  | ⟨2, _⟩ => exact (Nat.zero_add _).symm
  | ⟨3, _⟩ => exact (Nat.zero_add _).symm

/-- The lower halves of the words. -/
def half0_1024 (w : Vec Ideal S16x1024x512 .i32) : FVec Ideal S16x1024x512 .bf16 :=
  shapeCast _ (extractStridedSlice S16x1024x512x1 ![0, 0, 0, 0] (bitcastToFloat (F := Ideal) .bf16 (Host.bitcastConvertNarrow S16x1024x512x2 16 w splits_S16x1024x512_w32_S16x1024x512x2_w16)) slices_S16x1024x512x2_S16x1024x512x1_0_0_0_0) shapeCasts_S16x1024x512x1_S16x1024x512

/-- The lower halves of the words, read at an entry. -/
theorem half0_1024_apply (w : Vec Ideal S16x1024x512 .i32) (e : Fin 16) (r : Fin 1024) (d : Fin 512) :
    half0_1024 w (ix3 e r d) = lo (w (ix3 e r d)) := by
  refine (shapeCast_apply _ shapeCasts_S16x1024x512x1_S16x1024x512 (ix3 e r d) (ix4 e r d (0 : Fin 1)) (by
    rw [Shape.rowMajor_val_three, Shape.rowMajor_val_four]
    show ((e.val * 1024 + r.val) * 512 + d.val) * 1 + 0 = (e.val * 1024 + r.val) * 512 + d.val
    omega)).trans ?_
  refine (extractStridedSlice_apply _ _ slices_S16x1024x512x2_S16x1024x512x1_0_0_0_0 _ (ix4 e r d (0 : Fin 2)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => rfl
  · show Ideal.ofBits .bf16 (Host.bitcastConvertNarrow S16x1024x512x2 16 w splits_S16x1024x512_w32_S16x1024x512x2_w16 (ix4 e r d (0 : Fin 2))) = _
    rw [Host.bitcastConvertNarrow_apply]
    unfold lo
    have hd : splits_S16x1024x512_w32_S16x1024x512x2_w16.drop (ix4 e r d (0 : Fin 2)) = ix3 e r d := by
      funext a
      refine Fin.ext ?_
      rw [Shape.SplitsWords.drop_apply_val]
      match a with
      | ⟨0, _⟩ => rfl
      | ⟨1, _⟩ => rfl
      | ⟨2, _⟩ => rfl
    rw [hd]
    rfl

/-- The upper halves of the words. -/
def half1_1024 (w : Vec Ideal S16x1024x512 .i32) : FVec Ideal S16x1024x512 .bf16 :=
  shapeCast _ (extractStridedSlice S16x1024x512x1 ![0, 0, 0, 1] (bitcastToFloat (F := Ideal) .bf16 (Host.bitcastConvertNarrow S16x1024x512x2 16 w splits_S16x1024x512_w32_S16x1024x512x2_w16)) slices_S16x1024x512x2_S16x1024x512x1_0_0_0_1) shapeCasts_S16x1024x512x1_S16x1024x512

/-- The upper halves of the words, read at an entry. -/
theorem half1_1024_apply (w : Vec Ideal S16x1024x512 .i32) (e : Fin 16) (r : Fin 1024) (d : Fin 512) :
    half1_1024 w (ix3 e r d) = hi (w (ix3 e r d)) := by
  refine (shapeCast_apply _ shapeCasts_S16x1024x512x1_S16x1024x512 (ix3 e r d) (ix4 e r d (0 : Fin 1)) (by
    rw [Shape.rowMajor_val_three, Shape.rowMajor_val_four]
    show ((e.val * 1024 + r.val) * 512 + d.val) * 1 + 0 = (e.val * 1024 + r.val) * 512 + d.val
    omega)).trans ?_
  refine (extractStridedSlice_apply _ _ slices_S16x1024x512x2_S16x1024x512x1_0_0_0_1 _ (ix4 e r d (1 : Fin 2)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => rfl
  · show Ideal.ofBits .bf16 (Host.bitcastConvertNarrow S16x1024x512x2 16 w splits_S16x1024x512_w32_S16x1024x512x2_w16 (ix4 e r d (1 : Fin 2))) = _
    rw [Host.bitcastConvertNarrow_apply]
    unfold hi
    have hd : splits_S16x1024x512_w32_S16x1024x512x2_w16.drop (ix4 e r d (1 : Fin 2)) = ix3 e r d := by
      funext a
      refine Fin.ext ?_
      rw [Shape.SplitsWords.drop_apply_val]
      match a with
      | ⟨0, _⟩ => rfl
      | ⟨1, _⟩ => rfl
      | ⟨2, _⟩ => rfl
    rw [hd]
    rfl

/-- The features of the tokens. -/
def feats1024 (w : Vec Ideal S16x1024x512 .i32) : FVec Ideal S16x1024x1024 .f32 :=
  extf .f32 (concatenate S16x1024x1024 2 [⟨S16x1024x512, half0_1024 w⟩, ⟨S16x1024x512, half1_1024 w⟩] concatenates_S16x1024x512_S16x1024x512_S16x1024x1024_d2) bitsLt_bf16_f32

/-- The features of the tokens, read at an entry. -/
theorem feats1024_apply (w : Vec Ideal S16x1024x512 .i32) (e : Fin 16) (r : Fin 1024) (d : Fin 1024) :
    feats1024 w (ix3 e r d) = feat (fun k => w (ix3 e r k)) d := by
  unfold feat
  split
  · rename_i h
    refine (concatenate_pair_apply_left (2 : Fin S16x1024x1024.rank) _ _ concatenates_S16x1024x512_S16x1024x512_S16x1024x1024_d2 (ix3 e r d) rfl (ix3 e r (⟨d.val, h⟩ : Fin 512)) (fun b => ?_)).trans ?_
    · match b with
      | ⟨0, _⟩ => rfl
      | ⟨1, _⟩ => rfl
      | ⟨2, _⟩ => rfl
    · exact half0_1024_apply w e r _
  · rename_i h
    have hd : d.val - 512 < 512 := by have := d.isLt; omega
    refine (concatenate_pair_apply_right (2 : Fin S16x1024x1024.rank) _ _ concatenates_S16x1024x512_S16x1024x512_S16x1024x1024_d2 (ix3 e r d) rfl rfl (ix3 e r (⟨d.val - 512, hd⟩ : Fin 512)) (fun b hb => ?_) ?_).trans ?_
    · match b with
      | ⟨0, _⟩ => rfl
      | ⟨1, _⟩ => rfl
      | ⟨2, _⟩ => exact absurd rfl hb
    · show d.val - 512 + 512 = d.val
      omega
    · exact half1_1024_apply w e r _

/-- The features times the gate or up weights. -/
def proj1024 (x : Vec Ideal S16x1024x512 .i32) (w : Vec Ideal S4x16x1024x2048 .f32) : FVec Ideal S16x1024x2048 .f32 :=
  Host.dotGeneral dot_S16x1024x1024_S16x1024x2048_S16x1024x2048_2_1_1_2_0_0 none (feats1024 x) (layerW w)

/-- The features times the gate or up weights, read at an entry. -/
theorem proj1024_apply (x : Vec Ideal S16x1024x512 .i32) (w : Vec Ideal S4x16x1024x2048 .f32) (e : Fin 16) (r : Fin 1024) (f : Fin 2048) :
    proj1024 x w (ix3 e r f) = ∑ d, feat (fun k => x (ix3 e r k)) d * col w e f d := by
  unfold proj1024
  refine (dotGeneral_stack_apply _ none (feats1024 x) (layerW w) e r f).trans ?_
  refine Finset.sum_congr rfl fun d _ => ?_
  rw [feats1024_apply, layerW_apply]

/-- The hidden units. -/
def hidden1024 (x : Vec Ideal S16x1024x512 .i32) (wg wu : Vec Ideal S4x16x1024x2048 .f32) : FVec Ideal S16x1024x2048 .f32 :=
  mulf (mulf (proj1024 x wg) (Host.divf (broadcastInDim S16x1024x2048 ![] bcast_S_S16x1024x2048 (constant S_ .f32 0x3F800000#32))
    (addf (broadcastInDim S16x1024x2048 ![] bcast_S_S16x1024x2048 (constant S_ .f32 0x3F800000#32)) (Host.exp (Host.negf (proj1024 x wg)))))) (proj1024 x wu)

/-- The hidden units, read at an entry. -/
theorem hidden1024_apply (x : Vec Ideal S16x1024x512 .i32) (wg wu : Vec Ideal S4x16x1024x2048 .f32) (e : Fin 16) (r : Fin 1024) (f : Fin 2048) :
    hidden1024 x wg wu (ix3 e r f) = hid (feat fun k => x (ix3 e r k)) (col wg e f) (col wu e f) := by
  unfold hid
  rw [← proj1024_apply, ← proj1024_apply]
  show proj1024 x wg (ix3 e r f) * Ideal.div (Ideal.ofBits .f32 0x3F800000#32) (Ideal.ofBits .f32 0x3F800000#32 + Ideal.exp (-(proj1024 x wg (ix3 e r f)))) * proj1024 x wu (ix3 e r f) = _
  rw [one_f32]
  rfl

/-- The experts' outputs. -/
def outs1024 (x : Vec Ideal S16x1024x512 .i32) (wg wu : Vec Ideal S4x16x1024x2048 .f32) (wd : Vec Ideal S4x16x2048x1024 .f32) : FVec Ideal S16x1024x1024 .f32 :=
  Host.dotGeneral dot_S16x1024x2048_S16x2048x1024_S16x1024x1024_2_1_1_2_0_0 none (hidden1024 x wg wu) (layerD wd)

/-- The experts' outputs, read at an entry. -/
theorem outs1024_apply (x : Vec Ideal S16x1024x512 .i32) (wg wu : Vec Ideal S4x16x1024x2048 .f32) (wd : Vec Ideal S4x16x2048x1024 .f32)
    (e : Fin 16) (r : Fin 1024) (n : Fin 1024) :
    outs1024 x wg wu wd (ix3 e r n) = expert wg wu wd e (feat fun k => x (ix3 e r k)) n := by
  unfold outs1024
  refine (dotGeneral_stack_apply _ none (hidden1024 x wg wu) (layerD wd) e r n).trans ?_
  unfold expert ffn
  refine Finset.sum_congr rfl fun f _ => ?_
  rw [hidden1024_apply, layerD_apply]

/-- A routing weight, along the features. -/
theorem weight1024_apply (g : FVec Ideal S16x1024x1 .f32) (e : Fin 16) (r : Fin 1024) (n : Fin 1024) :
    broadcastInDim S16x1024x1024 ![0, 1, 2] bcast_S16x1024x1_S16x1024x1024_0_1_2 g (ix3 e r n) = g (ix3 e r (0 : Fin 1)) :=
  broadcastInDim_apply _ _ g _ _ fun a => match a with
    | ⟨0, _⟩ => rfl
    | ⟨1, _⟩ => rfl
    | ⟨2, _⟩ => rfl

/-- The lower halves of the words. -/
def half0_256 (w : Vec Ideal S16x256x512 .i32) : FVec Ideal S16x256x512 .bf16 :=
  shapeCast _ (extractStridedSlice S16x256x512x1 ![0, 0, 0, 0] (bitcastToFloat (F := Ideal) .bf16 (Host.bitcastConvertNarrow S16x256x512x2 16 w splits_S16x256x512_w32_S16x256x512x2_w16)) slices_S16x256x512x2_S16x256x512x1_0_0_0_0) shapeCasts_S16x256x512x1_S16x256x512

/-- The lower halves of the words, read at an entry. -/
theorem half0_256_apply (w : Vec Ideal S16x256x512 .i32) (e : Fin 16) (r : Fin 256) (d : Fin 512) :
    half0_256 w (ix3 e r d) = lo (w (ix3 e r d)) := by
  refine (shapeCast_apply _ shapeCasts_S16x256x512x1_S16x256x512 (ix3 e r d) (ix4 e r d (0 : Fin 1)) (by
    rw [Shape.rowMajor_val_three, Shape.rowMajor_val_four]
    show ((e.val * 256 + r.val) * 512 + d.val) * 1 + 0 = (e.val * 256 + r.val) * 512 + d.val
    omega)).trans ?_
  refine (extractStridedSlice_apply _ _ slices_S16x256x512x2_S16x256x512x1_0_0_0_0 _ (ix4 e r d (0 : Fin 2)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => rfl
  · show Ideal.ofBits .bf16 (Host.bitcastConvertNarrow S16x256x512x2 16 w splits_S16x256x512_w32_S16x256x512x2_w16 (ix4 e r d (0 : Fin 2))) = _
    rw [Host.bitcastConvertNarrow_apply]
    unfold lo
    have hd : splits_S16x256x512_w32_S16x256x512x2_w16.drop (ix4 e r d (0 : Fin 2)) = ix3 e r d := by
      funext a
      refine Fin.ext ?_
      rw [Shape.SplitsWords.drop_apply_val]
      match a with
      | ⟨0, _⟩ => rfl
      | ⟨1, _⟩ => rfl
      | ⟨2, _⟩ => rfl
    rw [hd]
    rfl

/-- The upper halves of the words. -/
def half1_256 (w : Vec Ideal S16x256x512 .i32) : FVec Ideal S16x256x512 .bf16 :=
  shapeCast _ (extractStridedSlice S16x256x512x1 ![0, 0, 0, 1] (bitcastToFloat (F := Ideal) .bf16 (Host.bitcastConvertNarrow S16x256x512x2 16 w splits_S16x256x512_w32_S16x256x512x2_w16)) slices_S16x256x512x2_S16x256x512x1_0_0_0_1) shapeCasts_S16x256x512x1_S16x256x512

/-- The upper halves of the words, read at an entry. -/
theorem half1_256_apply (w : Vec Ideal S16x256x512 .i32) (e : Fin 16) (r : Fin 256) (d : Fin 512) :
    half1_256 w (ix3 e r d) = hi (w (ix3 e r d)) := by
  refine (shapeCast_apply _ shapeCasts_S16x256x512x1_S16x256x512 (ix3 e r d) (ix4 e r d (0 : Fin 1)) (by
    rw [Shape.rowMajor_val_three, Shape.rowMajor_val_four]
    show ((e.val * 256 + r.val) * 512 + d.val) * 1 + 0 = (e.val * 256 + r.val) * 512 + d.val
    omega)).trans ?_
  refine (extractStridedSlice_apply _ _ slices_S16x256x512x2_S16x256x512x1_0_0_0_1 _ (ix4 e r d (1 : Fin 2)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => rfl
  · show Ideal.ofBits .bf16 (Host.bitcastConvertNarrow S16x256x512x2 16 w splits_S16x256x512_w32_S16x256x512x2_w16 (ix4 e r d (1 : Fin 2))) = _
    rw [Host.bitcastConvertNarrow_apply]
    unfold hi
    have hd : splits_S16x256x512_w32_S16x256x512x2_w16.drop (ix4 e r d (1 : Fin 2)) = ix3 e r d := by
      funext a
      refine Fin.ext ?_
      rw [Shape.SplitsWords.drop_apply_val]
      match a with
      | ⟨0, _⟩ => rfl
      | ⟨1, _⟩ => rfl
      | ⟨2, _⟩ => rfl
    rw [hd]
    rfl

/-- The features of the tokens. -/
def feats256 (w : Vec Ideal S16x256x512 .i32) : FVec Ideal S16x256x1024 .f32 :=
  extf .f32 (concatenate S16x256x1024 2 [⟨S16x256x512, half0_256 w⟩, ⟨S16x256x512, half1_256 w⟩] concatenates_S16x256x512_S16x256x512_S16x256x1024_d2) bitsLt_bf16_f32

/-- The features of the tokens, read at an entry. -/
theorem feats256_apply (w : Vec Ideal S16x256x512 .i32) (e : Fin 16) (r : Fin 256) (d : Fin 1024) :
    feats256 w (ix3 e r d) = feat (fun k => w (ix3 e r k)) d := by
  unfold feat
  split
  · rename_i h
    refine (concatenate_pair_apply_left (2 : Fin S16x256x1024.rank) _ _ concatenates_S16x256x512_S16x256x512_S16x256x1024_d2 (ix3 e r d) rfl (ix3 e r (⟨d.val, h⟩ : Fin 512)) (fun b => ?_)).trans ?_
    · match b with
      | ⟨0, _⟩ => rfl
      | ⟨1, _⟩ => rfl
      | ⟨2, _⟩ => rfl
    · exact half0_256_apply w e r _
  · rename_i h
    have hd : d.val - 512 < 512 := by have := d.isLt; omega
    refine (concatenate_pair_apply_right (2 : Fin S16x256x1024.rank) _ _ concatenates_S16x256x512_S16x256x512_S16x256x1024_d2 (ix3 e r d) rfl rfl (ix3 e r (⟨d.val - 512, hd⟩ : Fin 512)) (fun b hb => ?_) ?_).trans ?_
    · match b with
      | ⟨0, _⟩ => rfl
      | ⟨1, _⟩ => rfl
      | ⟨2, _⟩ => exact absurd rfl hb
    · show d.val - 512 + 512 = d.val
      omega
    · exact half1_256_apply w e r _

/-- The features times the gate or up weights. -/
def proj256 (x : Vec Ideal S16x256x512 .i32) (w : Vec Ideal S4x16x1024x2048 .f32) : FVec Ideal S16x256x2048 .f32 :=
  Host.dotGeneral dot_S16x256x1024_S16x1024x2048_S16x256x2048_2_1_1_2_0_0 none (feats256 x) (layerW w)

/-- The features times the gate or up weights, read at an entry. -/
theorem proj256_apply (x : Vec Ideal S16x256x512 .i32) (w : Vec Ideal S4x16x1024x2048 .f32) (e : Fin 16) (r : Fin 256) (f : Fin 2048) :
    proj256 x w (ix3 e r f) = ∑ d, feat (fun k => x (ix3 e r k)) d * col w e f d := by
  unfold proj256
  refine (dotGeneral_stack_apply _ none (feats256 x) (layerW w) e r f).trans ?_
  refine Finset.sum_congr rfl fun d _ => ?_
  rw [feats256_apply, layerW_apply]

/-- The hidden units. -/
def hidden256 (x : Vec Ideal S16x256x512 .i32) (wg wu : Vec Ideal S4x16x1024x2048 .f32) : FVec Ideal S16x256x2048 .f32 :=
  mulf (mulf (proj256 x wg) (Host.divf (broadcastInDim S16x256x2048 ![] bcast_S_S16x256x2048 (constant S_ .f32 0x3F800000#32))
    (addf (broadcastInDim S16x256x2048 ![] bcast_S_S16x256x2048 (constant S_ .f32 0x3F800000#32)) (Host.exp (Host.negf (proj256 x wg)))))) (proj256 x wu)

/-- The hidden units, read at an entry. -/
theorem hidden256_apply (x : Vec Ideal S16x256x512 .i32) (wg wu : Vec Ideal S4x16x1024x2048 .f32) (e : Fin 16) (r : Fin 256) (f : Fin 2048) :
    hidden256 x wg wu (ix3 e r f) = hid (feat fun k => x (ix3 e r k)) (col wg e f) (col wu e f) := by
  unfold hid
  rw [← proj256_apply, ← proj256_apply]
  show proj256 x wg (ix3 e r f) * Ideal.div (Ideal.ofBits .f32 0x3F800000#32) (Ideal.ofBits .f32 0x3F800000#32 + Ideal.exp (-(proj256 x wg (ix3 e r f)))) * proj256 x wu (ix3 e r f) = _
  rw [one_f32]
  rfl

/-- The experts' outputs. -/
def outs256 (x : Vec Ideal S16x256x512 .i32) (wg wu : Vec Ideal S4x16x1024x2048 .f32) (wd : Vec Ideal S4x16x2048x1024 .f32) : FVec Ideal S16x256x1024 .f32 :=
  Host.dotGeneral dot_S16x256x2048_S16x2048x1024_S16x256x1024_2_1_1_2_0_0 none (hidden256 x wg wu) (layerD wd)

/-- The experts' outputs, read at an entry. -/
theorem outs256_apply (x : Vec Ideal S16x256x512 .i32) (wg wu : Vec Ideal S4x16x1024x2048 .f32) (wd : Vec Ideal S4x16x2048x1024 .f32)
    (e : Fin 16) (r : Fin 256) (n : Fin 1024) :
    outs256 x wg wu wd (ix3 e r n) = expert wg wu wd e (feat fun k => x (ix3 e r k)) n := by
  unfold outs256
  refine (dotGeneral_stack_apply _ none (hidden256 x wg wu) (layerD wd) e r n).trans ?_
  unfold expert ffn
  refine Finset.sum_congr rfl fun f _ => ?_
  rw [hidden256_apply, layerD_apply]

/-- A routing weight, along the features. -/
theorem weight256_apply (g : FVec Ideal S16x256x1 .f32) (e : Fin 16) (r : Fin 256) (n : Fin 1024) :
    broadcastInDim S16x256x1024 ![0, 1, 2] bcast_S16x256x1_S16x256x1024_0_1_2 g (ix3 e r n) = g (ix3 e r (0 : Fin 1)) :=
  broadcastInDim_apply _ _ g _ _ fun a => match a with
    | ⟨0, _⟩ => rfl
    | ⟨1, _⟩ => rfl
    | ⟨2, _⟩ => rfl

/-- The prompt tokens' result. -/
def prompt (x : Vec Ideal S16x1024x512 .i32) (g : FVec Ideal S16x1024x1 .f32) (g2 : FVec Ideal S1x1x1024 .f32)
    (wg wu : Vec Ideal S4x16x1024x2048 .f32) (wd : Vec Ideal S4x16x2048x1024 .f32) : FVec Ideal S16x1024x1024 .f32 :=
  mulf (mulf (outs1024 x wg wu wd) (broadcastInDim S16x1024x1024 ![0, 1, 2] bcast_S16x1024x1_S16x1024x1024_0_1_2 g))
    (broadcastInDim S16x1024x1024 ![0, 1, 2] bcast_S1x1x1024_S16x1024x1024_0_1_2 g2)

/-- The prompt tokens' result, read at an entry. -/
theorem prompt_apply (x : Vec Ideal S16x1024x512 .i32) (g : FVec Ideal S16x1024x1 .f32) (g2 : FVec Ideal S1x1x1024 .f32)
    (wg wu : Vec Ideal S4x16x1024x2048 .f32) (wd : Vec Ideal S4x16x2048x1024 .f32) (e : Fin 16) (r n : Fin 1024) :
    prompt x g g2 wg wu wd (ix3 e r n)
      = expert wg wu wd e (feat fun k => x (ix3 e r k)) n * g (ix3 e r (0 : Fin 1)) * g2 (ix3 (0 : Fin 1) (0 : Fin 1) n) := by
  show outs1024 x wg wu wd (ix3 e r n) * broadcastInDim S16x1024x1024 ![0, 1, 2] bcast_S16x1024x1_S16x1024x1024_0_1_2 g (ix3 e r n)
    * broadcastInDim S16x1024x1024 ![0, 1, 2] bcast_S1x1x1024_S16x1024x1024_0_1_2 g2 (ix3 e r n) = _
  rw [outs1024_apply, weight1024_apply]
  refine congrArg _ (broadcastInDim_apply _ _ g2 _ _ fun a => ?_)
  match a with
  | ⟨0, _⟩ => rfl
  | ⟨1, _⟩ => rfl
  | ⟨2, _⟩ => rfl

/-! ## The latent tokens' gate -/

/-- Each latent token's gate: the two rows, each repeated 1024 times. -/
def gates (g2 : FVec Ideal S2x1x1024 .f32) : FVec Ideal S2048x1024 .f32 :=
  shapeCast _ (broadcastInDim S2x1024x1024 ![0, 1, 2] bcast_S2x1x1024_S2x1024x1024_0_1_2 g2) shapeCasts_S2x1024x1024_S2048x1024

/-- Each latent token's gate, read at an entry. -/
theorem gates_apply (g2 : FVec Ideal S2x1x1024 .f32) (p : Fin 2048) (n : Fin 1024) :
    gates g2 (ix2 p n) = g2 (ix3 (⟨p.val / 1024, by have := p.isLt; omega⟩ : Fin 2) (0 : Fin 1) n) := by
  refine (shapeCast_apply _ shapeCasts_S2x1024x1024_S2048x1024 (ix2 p n)
    (ix3 (⟨p.val / 1024, by have := p.isLt; omega⟩ : Fin 2) (⟨p.val % 1024, by omega⟩ : Fin 1024) n) (by
      rw [Shape.rowMajor_val_three, Shape.rowMajor_val_two]
      show (p.val / 1024 * 1024 + p.val % 1024) * 1024 + n.val = p.val * 1024 + n.val
      omega)).trans ?_
  refine broadcastInDim_apply _ _ g2 _ _ fun a => ?_
  match a with
  | ⟨0, _⟩ => rfl
  | ⟨1, _⟩ => rfl
  | ⟨2, _⟩ => rfl

/-- The gather of a gate per routed row, at an entry: the row the index names, clamped. -/
theorem gather_gate_apply (x : FVec Ideal S2048x1024 .f32) (idx : IVec S16x256x1 32) (e : Fin 16) (r : Fin 256) (n : Fin 1024) :
    Host.gather gather_S2048x1024_S16x256x1_S16x256x1024_2_0_n_n_0_2_11024 x idx (ix3 e r n)
      = x (ix2 (⟨min (idx (ix3 e r (0 : Fin 1))).toInt.toNat 2047, by omega⟩ : Fin 2048) n) := by
  unfold Host.gather
  refine congrArg x (funext fun a => Fin.ext ?_)
  show GatherDims.start gather_S2048x1024_S16x256x1_S16x256x1024_2_0_n_n_0_2_11024 (ix3 e r n) idx a
    + GatherDims.batchCoord gather_S2048x1024_S16x256x1_S16x256x1024_2_0_n_n_0_2_11024 (ix3 e r n) a
    + GatherDims.offCoord gather_S2048x1024_S16x256x1_S16x256x1024_2_0_n_n_0_2_11024 (ix3 e r n) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S2048x1024_S16x256x1_S16x256x1024_2_0_n_n_0_2_11024.startIndexMap from List.mem_singleton.mpr rfl)]
    rw [show GatherDims.siIdx gather_S2048x1024_S16x256x1_S16x256x1024_2_0_n_n_0_2_11024 (ix3 e r n)
        ⟨List.idxOf (0 : Fin 2) gather_S2048x1024_S16x256x1_S16x256x1024_2_0_n_n_0_2_11024.startIndexMap, List.idxOf_lt_length_iff.2 (List.mem_singleton.mpr rfl)⟩ = ix3 e r (0 : Fin 1) by
      funext b; refine Fin.ext ?_
      match b with
      | ⟨0, _⟩ => rfl
      | ⟨1, _⟩ => rfl
      | ⟨2, _⟩ => rfl]
    rfl
  | 1 =>
    unfold GatherDims.start
    rw [dif_neg (show (1 : Fin 2) ∉ gather_S2048x1024_S16x256x1_S16x256x1024_2_0_n_n_0_2_11024.startIndexMap from fun h => absurd (List.mem_singleton.mp h) (by decide))]
    unfold GatherDims.offCoord
    rw [dif_pos ((GatherDims.mem_sKept _ _).mpr ⟨fun h => absurd (List.mem_singleton.mp h) (by decide), List.not_mem_nil⟩)]
    simp only [Nat.zero_add]
    rfl

/-- The index column the gate's gather reads: an index, wrapped once if negative. -/
def wrapped (idx : IVec S16x256x1 32) : IVec S16x256x1 32 :=
  broadcastInDim S16x256x1 ![0, 1] bcast_S16x256_S16x256x1_0_1
    (select (cmpi .slt (shapeCast _ idx shapeCasts_S16x256x1_S16x256) (broadcastInDim S16x256 ![] bcast_S_S16x256 (constantI S_ 32 0#32)))
      (addi (shapeCast _ idx shapeCasts_S16x256x1_S16x256) (broadcastInDim S16x256 ![] bcast_S_S16x256 (constantI S_ 32 2048#32)))
      (shapeCast _ idx shapeCasts_S16x256x1_S16x256))

theorem toInt_small {v : BitVec 32} (h : v.toNat < 2048) : v.toInt = v.toNat := by
  rw [BitVec.toInt_eq_toNat_cond]; split <;> omega

/-- An index in range is not wrapped. -/
theorem wrapped_apply (idx : IVec S16x256x1 32) (e : Fin 16) (r : Fin 256) (h : (idx (ix3 e r (0 : Fin 1))).toNat < 2048) :
    wrapped idx (ix3 e r (0 : Fin 1)) = idx (ix3 e r (0 : Fin 1)) := by
  have hs : shapeCast S16x256 idx shapeCasts_S16x256x1_S16x256 (ix2 e r) = idx (ix3 e r (0 : Fin 1)) :=
    shapeCast_apply _ _ _ _ (by
      rw [Shape.rowMajor_val_three, Shape.rowMajor_val_two]
      show (e.val * 256 + r.val) * 1 + 0 = e.val * 256 + r.val
      omega)
  unfold wrapped
  refine (broadcastInDim_apply _ bcast_S16x256_S16x256x1_0_1 _ (ix3 e r (0 : Fin 1)) (ix2 e r) fun a => ?_).trans ?_
  · match a with
    | ⟨0, _⟩ => rfl
    | ⟨1, _⟩ => rfl
  · show (if IntOp.cmpi .slt (shapeCast S16x256 idx shapeCasts_S16x256x1_S16x256 (ix2 e r)) 0#32 = 1#1 then _
      else shapeCast S16x256 idx shapeCasts_S16x256x1_S16x256 (ix2 e r)) = _
    rw [hs, show IntOp.cmpi .slt (idx (ix3 e r (0 : Fin 1))) 0#32 = 0#1 by
      simp only [IntOp.cmpi, BitVec.slt_eq_decide, toInt_small h]
      rw [decide_eq_false (by simp)]; rfl]
    rfl

/-- The latent tokens' result. -/
def latent (x : Vec Ideal S16x256x512 .i32) (g : FVec Ideal S16x256x1 .f32) (g2 : FVec Ideal S2x1x1024 .f32) (idx : IVec S16x256x1 32)
    (wg wu : Vec Ideal S4x16x1024x2048 .f32) (wd : Vec Ideal S4x16x2048x1024 .f32) : FVec Ideal S16x256x1024 .f32 :=
  mulf (mulf (outs256 x wg wu wd) (broadcastInDim S16x256x1024 ![0, 1, 2] bcast_S16x256x1_S16x256x1024_0_1_2 g))
    (Host.gather gather_S2048x1024_S16x256x1_S16x256x1024_2_0_n_n_0_2_11024 (gates g2) (wrapped idx))

/-- The latent tokens' result, read at an entry whose index is in range. -/
theorem latent_apply (x : Vec Ideal S16x256x512 .i32) (g : FVec Ideal S16x256x1 .f32) (g2 : FVec Ideal S2x1x1024 .f32) (idx : IVec S16x256x1 32)
    (wg wu : Vec Ideal S4x16x1024x2048 .f32) (wd : Vec Ideal S4x16x2048x1024 .f32) (e : Fin 16) (r : Fin 256) (n : Fin 1024)
    (h : (idx (ix3 e r (0 : Fin 1))).toNat < 2048) :
    latent x g g2 idx wg wu wd (ix3 e r n)
      = expert wg wu wd e (feat fun k => x (ix3 e r k)) n * g (ix3 e r (0 : Fin 1))
        * (if Scalar.cmpi .sge (idx (ix3 e r (0 : Fin 1))) 1024#32 = 1#1 then g2 (ix3 (1 : Fin 2) (0 : Fin 1) n) else g2 (ix3 (0 : Fin 2) (0 : Fin 1) n)) := by
  show outs256 x wg wu wd (ix3 e r n) * broadcastInDim S16x256x1024 ![0, 1, 2] bcast_S16x256x1_S16x256x1024_0_1_2 g (ix3 e r n)
    * Host.gather gather_S2048x1024_S16x256x1_S16x256x1024_2_0_n_n_0_2_11024 (gates g2) (wrapped idx) (ix3 e r n) = _
  rw [outs256_apply, weight256_apply, gather_gate_apply, gates_apply]
  refine congrArg _ ?_
  have hc : Scalar.cmpi .sge (idx (ix3 e r (0 : Fin 1))) 1024#32 = BitVec.ofBool (decide (1024 ≤ (idx (ix3 e r (0 : Fin 1))).toNat)) := by
    show IntOp.cmpi .sge _ _ = _
    simp only [IntOp.cmpi, BitVec.sle_eq_decide, toInt_small h, toInt_small (v := 1024#32) (by decide)]
    congr 1
    simp
  have hi := toInt_small h
  have hw := wrapped_apply idx e r h
  rw [hc]
  by_cases hb : 1024 ≤ (idx (ix3 e r (0 : Fin 1))).toNat
  · rw [decide_eq_true hb, if_pos (show BitVec.ofBool true = 1#1 from by decide)]
    refine congrArg (fun q : Fin 2 => g2 (ix3 q (0 : Fin 1) n)) (Fin.ext ?_)
    show min (wrapped idx (ix3 e r (0 : Fin 1))).toInt.toNat 2047 / 1024 = 1
    rw [hw]
    omega
  · rw [decide_eq_false hb, if_neg (by decide)]
    refine congrArg (fun q : Fin 2 => g2 (ix3 q (0 : Fin 1) n)) (Fin.ext ?_)
    show min (wrapped idx (ix3 e r (0 : Fin 1))).toInt.toNat 2047 / 1024 = 0
    rw [hw]
    omega

/-- The precondition, as the host computes it, says of each index that it is below 2048. -/
theorem lt_of_pre {v : BitVec 32} (e : IntOp.andi (IntOp.cmpi .sge v 0#32) (IntOp.cmpi .slt v 2048#32) = 1#1) : v.toNat < 2048 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

end Cert.Proof.Experts.Ref

end
-- ==== Proof.InProjMath.lean ====
module

public import Idealize.ShloMosaic.Lib.Routing.OpsSet
public import Idealize.ShloMosaic.Lib.Pipeline.Value
public import Idealize.ShloMosaic.Lib.MatmulPlain

@[expose] public section

noncomputable section

namespace Cert.Proof.InProj

open Idealize.ShloMosaic Idealize.ShloMosaic.ValueIdx
open scoped BigOperators

/-! ## What the projection is, at a token and a column -/

/-- A token's normalized and modulated features: `x` over the root of its mean square, times the gain, scaled and shifted. -/
def feature (x g sc sh : Fin 1024 → EReal) (d : Fin 1024) : EReal :=
  x d * Ideal.rsqrt (Ideal.div (∑ e : Fin 1024, x e * x e) (Ideal.ofBits .f32 0x44800000#32) + Ideal.ofBits .f32 0x358637BD#32) * g d
    * (Ideal.ofBits .f32 0x3F800000#32 + sc d) + sh d

/-- Entry `n` of the projected row: the features times column `n` of the weights. -/
def entry (x g sc sh w : Fin 1024 → EReal) : EReal := ∑ d : Fin 1024, feature x g sc sh d * w d

/-- Row `d` of the weights in the order of the projected columns: the first 1024 columns, then those after the 16 gates,
    then the gates, then zeros. -/
def ordered (w : Fin 3088 → EReal) (n : Fin 3200) : EReal :=
  if h : n.val < 1024 then w ⟨n.val, by omega⟩
  else if h' : n.val < 3072 then w ⟨n.val + 16, by omega⟩
  else if h'' : n.val < 3088 then w ⟨n.val - 2048, by omega⟩
  else 0

/-- Token `r` of sequence `b`, projected, at column `n`: from the given arrays. -/
def projected (x : (⟨3, ![2, 1024, 1024]⟩ : Shape).Idx → EReal) (g : (⟨2, ![4, 1024]⟩ : Shape).Idx → EReal)
    (sc sh : (⟨3, ![2, 1, 1024]⟩ : Shape).Idx → EReal) (w : (⟨3, ![4, 1024, 3088]⟩ : Shape).Idx → EReal) (b : Fin 2) (r : Fin 1024) (n : Fin 3200) : EReal :=
  entry (fun e => x (ix3 b r e)) (fun e => g (ix2 (0 : Fin 4) e)) (fun e => sc (ix3 b (0 : Fin 1) e)) (fun e => sh (ix3 b (0 : Fin 1) e))
    (fun d => ordered (fun k => w (ix3 (0 : Fin 4) d k)) n)

/-! ## A block of columns written over part of a stack of matrices -/

section Columns

variable {α : Type} {A B N U : Nat}

/-- Every update lands on its own row, `k` columns further. -/
theorem lands_cols (d : ScatterDims (⟨3, ![A, B, N]⟩ : Shape) (⟨1, ![1]⟩ : Shape) (⟨3, ![A, B, U]⟩ : Shape)) (huw : d.updateWindowDims = [0, 1, 2])
    (hiw : d.insertedWindowDims = []) (hsd : d.scatterDimsToOperandDims = [2]) (idx : IVec (⟨1, ![1]⟩ : Shape) 32) (k : Nat)
    (hidx : (idx (ix1 (0 : Fin 1))).toInt = (k : Int)) (j : (⟨3, ![A, B, U]⟩ : Shape).Idx) (i : (⟨3, ![A, B, N]⟩ : Shape).Idx) :
    d.resultIdx? j idx = some i ↔ (j 0).val = (i 0).val ∧ (j 1).val = (i 1).val ∧ k + (j 2).val = (i 2).val := by
  have hkept : d.sKept = [0, 1, 2] := by
    show (⟨3, ![A, B, N]⟩ : Shape).kept d.insertedWindowDims = _
    rw [hiw]
    rfl
  have hwin : ∀ a : Fin 3, d.window j a = (j a).val := fun a => by
    unfold ScatterDims.window
    rw [dif_pos (by rw [hkept]; fin_cases a <;> simp)]
    have hq : ∀ (L : List (Fin 3)) (p : Nat) (hp : p < L.length), L = [0, 1, 2] → p = a.val → (j (L[p]'hp)).val = (j a).val := by
      intro L p hp hL hpa
      subst hL hpa
      fin_cases a <;> rfl
    refine hq d.updateWindowDims (d.sKept.idxOf a) _ huw ?_
    rw [hkept]
    fin_cases a <;> rfl
  have hstart : ∀ a : Fin 3, a ≠ 2 → d.start j idx a = 0 := fun a ha => by
    unfold ScatterDims.start
    rw [dif_neg fun h => ha (by rw [hsd] at h; exact List.mem_singleton.1 h)]
  have hstart2 : d.start j idx 2 = (k : Int) := by
    have hm : (2 : Fin 3) ∈ d.scatterDimsToOperandDims := by rw [hsd]; exact List.mem_singleton.2 rfl
    unfold ScatterDims.start
    rw [dif_pos hm]
    have hsi : d.siIdx j ⟨d.scatterDimsToOperandDims.idxOf 2, List.idxOf_lt_length_iff.2 hm⟩ = ix1 (0 : Fin 1) := by
      funext b'
      match b' with
      | ⟨0, _⟩ => exact Subsingleton.elim (α := Fin 1) _ _
    rw [hsi, hidx]
  rw [Routing.resultIdx?_eq_some]
  constructor
  · intro h
    have h0 := h 0
    have h1 := h 1
    have h2 := h 2
    rw [hstart 0 (by decide), hwin 0] at h0
    rw [hstart 1 (by decide), hwin 1] at h1
    rw [hstart2, hwin 2] at h2
    refine ⟨?_, ?_, ?_⟩ <;> omega
  · rintro ⟨h0, h1, h2⟩ a
    match a with
    | ⟨0, _⟩ => show d.start j idx 0 + (d.window j 0 : Int) = ((i 0).val : Int); rw [hstart 0 (by decide), hwin 0]; omega
    | ⟨1, _⟩ => show d.start j idx 1 + (d.window j 1 : Int) = ((i 1).val : Int); rw [hstart 1 (by decide), hwin 1]; omega
    | ⟨2, _⟩ => show d.start j idx 2 + (d.window j 2 : Int) = ((i 2).val : Int); rw [hstart2, hwin 2]; omega

/-- The result inside the written columns. -/
theorem cols_hit (d : ScatterDims (⟨3, ![A, B, N]⟩ : Shape) (⟨1, ![1]⟩ : Shape) (⟨3, ![A, B, U]⟩ : Shape)) (huw : d.updateWindowDims = [0, 1, 2])
    (hiw : d.insertedWindowDims = []) (hsd : d.scatterDimsToOperandDims = [2]) (idx : IVec (⟨1, ![1]⟩ : Shape) 32) (k : Nat)
    (hidx : (idx (ix1 (0 : Fin 1))).toInt = (k : Int)) (x : (⟨3, ![A, B, N]⟩ : Shape).Idx → α) (u : (⟨3, ![A, B, U]⟩ : Shape).Idx → α)
    (a : Fin A) (b : Fin B) (n : Fin N) (q : Fin U) (hq : k + q.val = n.val) :
    Host.scatter d (fun _ y => y) x idx u (ix3 a b n) = u (ix3 a b q) :=
  Routing.scatter_set_hit d x idx u _ _ (fun j hj => by
    have h := (lands_cols d huw hiw hsd idx k hidx j (ix3 a b n)).1 hj
    refine congrArg u (funext fun ax => Fin.ext ?_)
    match ax with
    | ⟨0, _⟩ => exact h.1
    | ⟨1, _⟩ => exact h.2.1
    | ⟨2, _⟩ =>
      have h2 : k + (j 2).val = n.val := h.2.2
      show (j 2).val = q.val
      omega) (ix3 a b q) ((lands_cols d huw hiw hsd idx k hidx (ix3 a b q) (ix3 a b n)).2 ⟨rfl, rfl, hq⟩)

/-- The result outside them. -/
theorem cols_miss (d : ScatterDims (⟨3, ![A, B, N]⟩ : Shape) (⟨1, ![1]⟩ : Shape) (⟨3, ![A, B, U]⟩ : Shape)) (huw : d.updateWindowDims = [0, 1, 2])
    (hiw : d.insertedWindowDims = []) (hsd : d.scatterDimsToOperandDims = [2]) (idx : IVec (⟨1, ![1]⟩ : Shape) 32) (k : Nat)
    (hidx : (idx (ix1 (0 : Fin 1))).toInt = (k : Int)) (x : (⟨3, ![A, B, N]⟩ : Shape).Idx → α) (u : (⟨3, ![A, B, U]⟩ : Shape).Idx → α)
    (a : Fin A) (b : Fin B) (n : Fin N) (hn : n.val < k ∨ k + U ≤ n.val) :
    Host.scatter d (fun _ y => y) x idx u (ix3 a b n) = x (ix3 a b n) :=
  Routing.scatter_set_miss d x idx u _ fun j hj => by
    have h : k + (j 2).val = n.val := ((lands_cols d huw hiw hsd idx k hidx j (ix3 a b n)).1 hj).2.2
    have hj2 : (j 2).val < U := (j 2).isLt
    omega

end Columns

end Cert.Proof.InProj

end
-- ==== Proof.InProjPay.lean ====
module

public import proofs.«01_k».proof.Proof.InProjMath
public import proofs.«01_k».proof.Proof.Gen.Kernel3Ideal.Frame
public import Idealize.ShloMosaic.Lib.MatmulPlain

@[expose] public section

noncomputable section

namespace Cert.Proof.InProj

open Cert.Kernel3Ideal Cert.Kernel3Ideal.Gen Idealize.ShloMosaic Idealize.ShloMosaic.ValueIdx Idealize.SL.Sem
open scoped BigOperators

/-- One over the root of a row's mean square, as a column. -/
def scale (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

theorem scale_apply (x : FVec Ideal S512x1024 .f32) (r : Fin 512) :
    scale x (ix2 r (0 : Fin 1)) = Ideal.rsqrt (Ideal.div (∑ e : Fin 1024, x (ix2 r e) * x (ix2 r e)) (Ideal.ofBits .f32 0x44800000#32) + Ideal.ofBits .f32 0x358637BD#32) := by
  have hs : shapeCast S512x1 (multiReduction .add [1] S512 (mulf x x) 0x00000000#32 reduces_S512x1024_S512 (.inl rfl) rfl) shapeCasts_S512_S512x1 (ix2 r (0 : Fin 1))
      = ∑ e : Fin 1024, x (ix2 r e) * x (ix2 r e) := by
    refine (shapeCast_apply _ shapeCasts_S512_S512x1 (ix2 r (0 : Fin 1)) (ix1 r) (by
      rw [Shape.rowMajor_val_two, Shape.rowMajor_val_one]
      show r.val = r.val * 1 + 0
      omega)).trans ?_
    refine (Ideal.multiReduction_add_single (mulf x x) _ reduces_S512x1024_S512 (.inl rfl) rfl (ix1 r)).trans (Finset.sum_congr rfl fun e _ => ?_)
    have hl : reduces_S512x1024_S512.lift (ix1 r) e = ix2 r (show Fin 1024 from e) := funext fun a => Fin.ext (by
      match a with
      | ⟨0, _⟩ => rfl
      | ⟨1, _⟩ => rfl)
    rw [hl]
    rfl
  show Ideal.rsqrt (Ideal.div (shapeCast S512x1 (multiReduction .add [1] S512 (mulf x x) 0x00000000#32 reduces_S512x1024_S512 (.inl rfl) rfl) shapeCasts_S512_S512x1 (ix2 r (0 : Fin 1))) _ + _) = _
  rw [hs]
  rfl

/-- A column spread over the features. -/
theorem spreadCol_apply (v : FVec Ideal S512x1 .f32) (r : Fin 512) (d : Fin 1024) :
    broadcastTo S512x1024 v broadcasts_S512x1_S512x1024 (ix2 r d) = v (ix2 r (0 : Fin 1)) :=
  broadcastTo_apply _ _ _ _ fun a => by
    match a with
    | ⟨0, _⟩ => rfl
    | ⟨1, _⟩ => rfl

/-- A row spread over the tokens. -/
theorem spreadRow_apply (v : FVec Ideal S1x1024 .f32) (r : Fin 512) (d : Fin 1024) :
    broadcastTo S512x1024 v broadcasts_S1x1024_S512x1024 (ix2 r d) = v (ix2 (0 : Fin 1) d) :=
  broadcastTo_apply _ _ _ _ fun a => by
    match a with
    | ⟨0, _⟩ => rfl
    | ⟨1, _⟩ => rfl

/-- A modulation block, without its leading axis. -/
theorem mod_apply (v : Vec Ideal S1x1x1024 .f32) (d : Fin 1024) :
    shapeCast S1x1024 v shapeCasts_S1x1x1024_S1x1024 (ix2 (0 : Fin 1) d) = v (ix3 (0 : Fin 1) (0 : Fin 1) d) :=
  shapeCast_apply _ _ _ _ (by
    rw [Shape.rowMajor_val_two, Shape.rowMajor_val_three]
    show (0 * 1 + 0) * 1024 + d.val = 0 * 1024 + d.val
    omega)

/-- The weights' block, without its leading axis. -/
theorem weights_apply (v : Vec Ideal S1x1024x3200 .bf16) (d : Fin 1024) (n : Fin 3200) :
    shapeCast S1024x3200 v shapeCasts_S1x1024x3200_S1024x3200 (ix2 d n) = v (ix3 (0 : Fin 1) d n) :=
  shapeCast_apply _ _ _ _ (by
    rw [Shape.rowMajor_val_two, Shape.rowMajor_val_three]
    show (0 * 1024 + d.val) * 3200 + n.val = d.val * 3200 + n.val
    omega)

/-- A block's modulated features. -/
def features (x : Vec Ideal S512x1024 .f32) (g : Vec Ideal S1x1024 .f32) (sc sh : Vec Ideal S1x1x1024 .f32) : FVec Ideal S512x1024 .f32 :=
  addf (mulf (mulf (mulf (shapeCast S512x1024 x shapeCasts_S512x1024_S512x1024)
      (broadcastTo S512x1024 (scale (shapeCast S512x1024 x shapeCasts_S512x1024_S512x1024)) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32)) (shapeCast S1x1024 sc shapeCasts_S1x1x1024_S1x1024)) broadcasts_S1x1024_S512x1024))
    (broadcastTo S512x1024 (shapeCast S1x1024 sh shapeCasts_S1x1x1024_S1x1024) broadcasts_S1x1024_S512x1024)

theorem features_apply (x : Vec Ideal S512x1024 .f32) (g : Vec Ideal S1x1024 .f32) (sc sh : Vec Ideal S1x1x1024 .f32) (r : Fin 512) (d : Fin 1024) :
    features x g sc sh (ix2 r d) = feature (fun e => x (ix2 r e)) (fun e => g (ix2 (0 : Fin 1) e)) (fun e => sc (ix3 (0 : Fin 1) (0 : Fin 1) e))
      (fun e => sh (ix3 (0 : Fin 1) (0 : Fin 1) e)) d := by
  have hx : shapeCast S512x1024 x shapeCasts_S512x1024_S512x1024 = x := funext fun i => shapeCast_apply _ _ _ _ rfl
  have hg : shapeCast S1x1024 g shapeCasts_S1x1024_S1x1024 = g := funext fun i => shapeCast_apply _ _ _ _ rfl
  unfold features
  rw [hx, hg]
  show ((x (ix2 r d) : EReal) * (broadcastTo S512x1024 (scale x) broadcasts_S512x1_S512x1024 (ix2 r d) : EReal)
      * (broadcastTo S512x1024 g broadcasts_S1x1024_S512x1024 (ix2 r d) : EReal)
      * (broadcastTo S512x1024 (addf (broadcast S1x1024 (Scalar.ofBits .f32 0x3F800000#32)) (shapeCast S1x1024 sc shapeCasts_S1x1x1024_S1x1024) : FVec Ideal S1x1024 .f32) broadcasts_S1x1024_S512x1024 (ix2 r d) : EReal)
    + (broadcastTo S512x1024 (shapeCast S1x1024 sh shapeCasts_S1x1x1024_S1x1024 : FVec Ideal S1x1024 .f32) broadcasts_S1x1024_S512x1024 (ix2 r d) : EReal) : EReal) = _
  rw [spreadCol_apply, spreadRow_apply, spreadRow_apply, spreadRow_apply, scale_apply, mod_apply]
  have ha : (addf (broadcast S1x1024 (Scalar.ofBits .f32 0x3F800000#32)) (shapeCast S1x1024 sc shapeCasts_S1x1x1024_S1x1024) : FVec Ideal S1x1024 .f32) (ix2 (0 : Fin 1) d)
      = Ideal.ofBits .f32 0x3F800000#32 + sc (ix3 (0 : Fin 1) (0 : Fin 1) d) := congrArg (Ideal.ofBits .f32 0x3F800000#32 + ·) (mod_apply sc d)
  rw [ha]
  rfl

/-- WHAT A POINT STORES, read at an entry. -/
theorem pay_apply (x : Vec Ideal S512x1024 .f32) (g : Vec Ideal S1x1024 .f32) (sc sh : Vec Ideal S1x1x1024 .f32) (w : Vec Ideal S1x1024x3200 .bf16)
    (r : Fin 512) (n : Fin 3200) :
    k0_pay1 (F := Ideal) x g sc sh w (ix2 r n)
      = entry (fun e => x (ix2 r e)) (fun e => g (ix2 (0 : Fin 1) e)) (fun e => sc (ix3 (0 : Fin 1) (0 : Fin 1) e))
          (fun e => sh (ix3 (0 : Fin 1) (0 : Fin 1) e)) (fun d => w (ix3 (0 : Fin 1) d n)) := by
  refine (Ideal.matmul_plain_apply (M := 512) (K := 1024) (N := 3200) none (features x g sc sh) (shapeCast S1024x3200 w shapeCasts_S1x1024x3200_S1024x3200) _ r n).trans ?_
  rw [show (constant S512x3200 .f32 0x00000000#32 : FVec Ideal S512x3200 .f32) (ix2 r n) = 0 from Ideal.ofBits_zero_f32, zero_add]
  refine Finset.sum_congr rfl fun d _ => ?_
  rw [features_apply, weights_apply]

end Cert.Proof.InProj

end
-- ==== Proof.InProjHost.lean ====
module

public import proofs.«01_k».proof.Proof.InProjPay

@[expose] public section

noncomputable section

namespace Cert.Proof.InProj

open Cert.Kernel3Ideal Cert.Kernel3Ideal.Gen Idealize.ShloMosaic Idealize.ShloMosaic.ValueIdx Idealize.ShloMosaic.TcCoe Idealize.SL.Sem
open scoped BigOperators

/-! ## What the operations before the call leave -/

variable (m : (ℓ : Loc nD τ sig) → Buf (Elt Ideal) ℓ)

/-- The weights after the first written columns. -/
def weights1 (w : Vec Ideal S4x1024x3088 .f32) : Vec Ideal S4x1024x3200 .bf16 :=
  Host.scatter scatter_S4x1024x3200_S1_S4x1024x1024_012_n_2_0 (fun _ b => b)
    (broadcastInDim S4x1024x3200 ![] bcast_S_S4x1024x3200 (constant S_ .bf16 0x0000#16 : FVec Ideal S_ .bf16) : FVec Ideal S4x1024x3200 .bf16)
    (broadcastInDim S1 ![] bcast_S_S1 (constantI S_ 32 0#32))
    (truncf .bf16 (extractStridedSlice S4x1024x1024 ![0, 0, 0] w slices_S4x1024x3088_S4x1024x1024_0_0_0 : FVec Ideal S4x1024x1024 .f32) bitsLt_bf16_f32)

/-- After the columns behind the gates. -/
def weights2 (w : Vec Ideal S4x1024x3088 .f32) : Vec Ideal S4x1024x3200 .bf16 :=
  Host.scatter scatter_S4x1024x3200_S1_S4x1024x2048_012_n_2_0 (fun _ b => b) (weights1 w)
    (broadcastInDim S1 ![] bcast_S_S1 (constantI S_ 32 1024#32))
    (truncf .bf16 (extractStridedSlice S4x1024x2048 ![0, 0, 1040] w slices_S4x1024x3088_S4x1024x2048_0_0_1040 : FVec Ideal S4x1024x2048 .f32) bitsLt_bf16_f32)

/-- After the gates' columns: the weights the call reads. -/
def weights3 (w : Vec Ideal S4x1024x3088 .f32) : Vec Ideal S4x1024x3200 .bf16 :=
  Host.scatter scatter_S4x1024x3200_S1_S4x1024x16_012_n_2_0 (fun _ b => b) (weights2 w)
    (broadcastInDim S1 ![] bcast_S_S1 (constantI S_ 32 3072#32))
    (truncf .bf16 (extractStridedSlice S4x1024x16 ![0, 0, 1024] w slices_S4x1024x3088_S4x1024x16_0_0_1024 : FVec Ideal S4x1024x16 .f32) bitsLt_bf16_f32)

/-- The weights before any column is written are zero. -/
theorem zero_bf16 : Ideal.ofBits .bf16 0x0000#16 = 0 := by
  simp [Ideal.ofBits, Ideal.ieee, -EReal.coe_mul]

/-- The columns `o` and up of the weights, read at an entry. -/
theorem part_apply {U : Nat} (o : Nat) (w : Vec Ideal S4x1024x3088 .f32) (h : S4x1024x3088.Slices ![0, 0, o] (⟨3, ![4, 1024, U]⟩ : Shape))
    (l : Fin 4) (d : Fin 1024) (q : Fin U) (n : Fin 3088) (hn : n.val = o + q.val) :
    (truncf .bf16 (extractStridedSlice (⟨3, ![4, 1024, U]⟩ : Shape) ![0, 0, o] w h : FVec Ideal (⟨3, ![4, 1024, U]⟩ : Shape) .f32) bitsLt_bf16_f32 : FVec Ideal (⟨3, ![4, 1024, U]⟩ : Shape) .bf16) (ix3 l d q)
      = w (ix3 l d n) := by
  show extractStridedSlice (⟨3, ![4, 1024, U]⟩ : Shape) ![0, 0, o] w h (ix3 l d q) = _
  exact extractStridedSlice_apply ![0, 0, o] w h (ix3 l d q) (ix3 l d n) fun a => by
    match a with
    | ⟨0, _⟩ => show l.val = 0 + l.val; omega
    | ⟨1, _⟩ => show d.val = 0 + d.val; omega
    | ⟨2, _⟩ => exact hn

/-- THE WEIGHTS THE CALL READS, read at an entry: the given columns, reordered. -/
theorem weights3_apply (w : Vec Ideal S4x1024x3088 .f32) (l : Fin 4) (d : Fin 1024) (n : Fin 3200) :
    weights3 w (ix3 l d n) = ordered (fun k => w (ix3 l d k)) n := by
  have hn := n.isLt
  unfold ordered
  by_cases h : n.val < 1024
  · rw [dif_pos h]
    refine (cols_miss _ rfl rfl rfl _ 3072 (by rfl) _ _ l d n (by omega)).trans ?_
    refine (cols_miss _ rfl rfl rfl _ 1024 (by rfl) _ _ l d n (by omega)).trans ?_
    refine (cols_hit _ rfl rfl rfl _ 0 (by rfl) _ _ l d n (⟨n.val, h⟩ : Fin 1024) (by show 0 + n.val = n.val; omega)).trans ?_
    exact part_apply 0 w _ l d _ ⟨n.val, by omega⟩ (by show n.val = 0 + n.val; omega)
  rw [dif_neg h]
  by_cases h' : n.val < 3072
  · rw [dif_pos h']
    refine (cols_miss _ rfl rfl rfl _ 3072 (by rfl) _ _ l d n (by omega)).trans ?_
    refine (cols_hit _ rfl rfl rfl _ 1024 (by rfl) _ _ l d n (⟨n.val - 1024, by omega⟩ : Fin 2048) (by show 1024 + (n.val - 1024) = n.val; omega)).trans ?_
    exact part_apply 1040 w _ l d _ ⟨n.val + 16, by omega⟩ (by show n.val + 16 = 1040 + (n.val - 1024); omega)
  rw [dif_neg h']
  by_cases h'' : n.val < 3088
  · rw [dif_pos h'']
    refine (cols_hit _ rfl rfl rfl _ 3072 (by rfl) _ _ l d n (⟨n.val - 3072, by omega⟩ : Fin 16) (by show 3072 + (n.val - 3072) = n.val; omega)).trans ?_
    exact part_apply 1024 w _ l d _ ⟨n.val - 2048, by omega⟩ (by show n.val - 2048 = 1024 + (n.val - 3072); omega)
  rw [dif_neg h'']
  refine (cols_miss _ rfl rfl rfl _ 3072 (by rfl) _ _ l d n (by omega)).trans ?_
  refine (cols_miss _ rfl rfl rfl _ 1024 (by rfl) _ _ l d n (by omega)).trans ?_
  refine (cols_miss _ rfl rfl rfl _ 0 (by rfl) _ _ l d n (by omega)).trans ?_
  exact zero_bf16

/-- The weights' array at the call. -/
theorem V_weights (c : Dev nD) : V m c main_v15 = weights3 (m ((c : Thread nD τ).loc main_arg4)) := by
  show StableHlo.after hostOps0 _ _ = _
  after_results_simp
  rfl

/-- The tokens' array at the call. -/
theorem V_tokens (c : Dev nD) : V m c main_v0 = shapeCast S2048x1024 (m ((c : Thread nD τ).loc main_arg0) : Vec Ideal S2x1024x1024 .f32) shapeCasts_S2x1024x1024_S2048x1024 := by
  show StableHlo.after hostOps0 _ _ = _
  after_results_simp
  rfl

/-- The gain's array at the call. -/
theorem V_gain (c : Dev nD) : V m c main_v16 = shapeCast S1x1024 (shapeCast S1024 (extractStridedSlice S1x1024 ![0, 0] (m ((c : Thread nD τ).loc main_arg1) : Vec Ideal S4x1024 .f32) slices_S4x1024_S1x1024_0_0) shapeCasts_S1x1024_S1024) shapeCasts_S1024_S1x1024 := by
  show StableHlo.after hostOps0 _ _ = _
  after_results_simp
  rfl

/-- The tokens' array, read at an entry. -/
theorem tokens_apply (x : Vec Ideal S2x1024x1024 .f32) (R : Fin 2048) (d : Fin 1024) :
    shapeCast S2048x1024 x shapeCasts_S2x1024x1024_S2048x1024 (ix2 R d)
      = x (ix3 (⟨R.val / 1024, by have := R.isLt; omega⟩ : Fin 2) (⟨R.val % 1024, Nat.mod_lt _ (by decide)⟩ : Fin 1024) d) :=
  shapeCast_apply _ _ _ _ (by
    rw [Shape.rowMajor_val_two, Shape.rowMajor_val_three]
    show (R.val / 1024 * 1024 + R.val % 1024) * 1024 + d.val = R.val * 1024 + d.val
    omega)

/-- The gain's array, read at an entry. -/
theorem gain_apply (g : Vec Ideal S4x1024 .f32) (d : Fin 1024) :
    shapeCast S1x1024 (shapeCast S1024 (extractStridedSlice S1x1024 ![0, 0] g slices_S4x1024_S1x1024_0_0) shapeCasts_S1x1024_S1024) shapeCasts_S1024_S1x1024 (ix2 (0 : Fin 1) d)
      = g (ix2 (0 : Fin 4) d) := by
  refine (shapeCast_apply _ _ _ (ix1 d) (by
    rw [Shape.rowMajor_val_two, Shape.rowMajor_val_one]
    show d.val = 0 * 1024 + d.val
    omega)).trans ?_
  refine (shapeCast_apply _ _ _ (ix2 (0 : Fin 1) d) (by
    rw [Shape.rowMajor_val_two, Shape.rowMajor_val_one]
    show 0 * 1024 + d.val = d.val
    omega)).trans ?_
  exact extractStridedSlice_apply _ _ _ _ _ fun a => by
    match a with
    | ⟨0, _⟩ => rfl
    | ⟨1, _⟩ => show d.val = 0 + d.val; omega

end Cert.Proof.InProj

end
-- ==== Proof.InProjBlk.lean ====
module

public import proofs.«01_k».proof.Proof.InProjHost
public import proofs.«01_k».proof.Proof.Gen.Kernel3Ideal.Value

@[expose] public section

noncomputable section

namespace Cert.Proof.InProj

open Cert.Kernel3Ideal Cert.Kernel3Ideal.Gen Cert.Kernel3Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The blocks each point reads -/

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 3) = t.val / 2 ∧ win0_2.index t (1 : Fin 3) = 0 ∧ win0_2.index t (2 : Fin 3) = 0 :=
  (by decide +kernel : ∀ t : Fin grid0.N, _)

theorem index3 : ∀ t : Fin cfg0.N, win0_3.index t (0 : Fin 3) = t.val / 2 ∧ win0_3.index t (1 : Fin 3) = 0 ∧ win0_3.index t (2 : Fin 3) = 0 :=
  (by decide +kernel : ∀ t : Fin grid0.N, _)

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

/-! The arrays the call stages, from the given ones. -/

theorem V_tokens' (c : Dev nD) : V m c (Pipeline.arrRef spec0 0) = shapeCast S2048x1024 (m ((c : Thread nD τ).loc main_arg0) : Vec Ideal S2x1024x1024 .f32) shapeCasts_S2x1024x1024_S2048x1024 :=
  V_tokens m c

theorem V_gain' (c : Dev nD) : V m c (Pipeline.arrRef spec0 1) = shapeCast S1x1024 (shapeCast S1024 (extractStridedSlice S1x1024 ![0, 0] (m ((c : Thread nD τ).loc main_arg1) : Vec Ideal S4x1024 .f32) slices_S4x1024_S1x1024_0_0) shapeCasts_S1x1024_S1024) shapeCasts_S1024_S1x1024 :=
  V_gain m c

theorem V_weights' (c : Dev nD) : V m c (Pipeline.arrRef spec0 4) = weights3 (m ((c : Thread nD τ).loc main_arg4)) :=
  V_weights m c

/-! A block of an array, whatever the array holds. -/

theorem read0 (A : Vec Ideal S2048x1024 .f32) (t : Fin cfg0.N) (r : Fin 512) (d : Fin 1024) (R : Fin 2048) (h : t.val * 512 + r.val = R.val) :
    (((cfg0.win 0).blk t).view.read (Elt Ideal) A : Vec Ideal S512x1024 .f32) (ix2 r d) = A (ix2 R d) := by
  have hi := index0 t
  rw [View.read_apply]
  show A _ = A _
  refine congrArg A (funext fun ax => Fin.ext ?_)
  match ax with
  | ⟨0, _⟩ => show win0_0.index t (0 : Fin 2) * 512 + 1 * r.val = R.val; rw [hi.1]; omega
  | ⟨1, _⟩ => show win0_0.index t (1 : Fin 2) * 1024 + 1 * d.val = d.val; rw [hi.2, Nat.zero_mul, Nat.zero_add, Nat.one_mul]

theorem read1 (A : Vec Ideal S1x1024 .f32) (t : Fin cfg0.N) (d : Fin 1024) :
    (((cfg0.win 1).blk t).view.read (Elt Ideal) A : Vec Ideal S1x1024 .f32) (ix2 (0 : Fin 1) d) = A (ix2 (0 : Fin 1) d) := by
  have hi := index1 t
  rw [View.read_apply]
  show A _ = A _
  refine congrArg A (funext fun ax => Fin.ext ?_)
  match ax with
  | ⟨0, _⟩ => show win0_1.index t (0 : Fin 2) * 1 + 1 * 0 = 0; rw [hi.1]
  | ⟨1, _⟩ => show win0_1.index t (1 : Fin 2) * 1024 + 1 * d.val = d.val; rw [hi.2]; omega

theorem read2 (A : Vec Ideal S2x1x1024 .f32) (t : Fin cfg0.N) (d : Fin 1024) (b : Fin 2) (hb : b.val = t.val / 2) :
    (((cfg0.win 2).blk t).view.read (Elt Ideal) A : Vec Ideal S1x1x1024 .f32) (ix3 (0 : Fin 1) (0 : Fin 1) d) = A (ix3 b (0 : Fin 1) d) := by
  have hi := index2 t
  rw [View.read_apply]
  show A _ = A _
  refine congrArg A (funext fun ax => Fin.ext ?_)
  match ax with
  | ⟨0, _⟩ => show win0_2.index t (0 : Fin 3) * 1 + 1 * 0 = b.val; rw [hi.1]; omega
  | ⟨1, _⟩ => show win0_2.index t (1 : Fin 3) * 1 + 1 * 0 = 0; rw [hi.2.1]
  | ⟨2, _⟩ => show win0_2.index t (2 : Fin 3) * 1024 + 1 * d.val = d.val; rw [hi.2.2]; omega

theorem read3 (A : Vec Ideal S2x1x1024 .f32) (t : Fin cfg0.N) (d : Fin 1024) (b : Fin 2) (hb : b.val = t.val / 2) :
    (((cfg0.win 3).blk t).view.read (Elt Ideal) A : Vec Ideal S1x1x1024 .f32) (ix3 (0 : Fin 1) (0 : Fin 1) d) = A (ix3 b (0 : Fin 1) d) := by
  have hi := index3 t
  rw [View.read_apply]
  show A _ = A _
  refine congrArg A (funext fun ax => Fin.ext ?_)
  match ax with
  | ⟨0, _⟩ => show win0_3.index t (0 : Fin 3) * 1 + 1 * 0 = b.val; rw [hi.1]; omega
  | ⟨1, _⟩ => show win0_3.index t (1 : Fin 3) * 1 + 1 * 0 = 0; rw [hi.2.1]
  | ⟨2, _⟩ => show win0_3.index t (2 : Fin 3) * 1024 + 1 * d.val = d.val; rw [hi.2.2]; omega

theorem read4 (A : Vec Ideal S4x1024x3200 .bf16) (t : Fin cfg0.N) (d : Fin 1024) (n : Fin 3200) :
    (((cfg0.win 4).blk t).view.read (Elt Ideal) A : Vec Ideal S1x1024x3200 .bf16) (ix3 (0 : Fin 1) d n) = A (ix3 (0 : Fin 4) d n) := by
  have hi := index4 t
  rw [View.read_apply]
  show A _ = A _
  refine congrArg A (funext fun ax => Fin.ext ?_)
  match ax with
  | ⟨0, _⟩ => show win0_4.index t (0 : Fin 3) * 1 + 1 * 0 = 0; rw [hi.1]
  | ⟨1, _⟩ => show win0_4.index t (1 : Fin 3) * 1024 + 1 * d.val = d.val; rw [hi.2.1]; omega
  | ⟨2, _⟩ => show win0_4.index t (2 : Fin 3) * 3200 + 1 * n.val = n.val; rw [hi.2.2]; omega

/-! The five blocks, from the given arrays. -/

theorem blk0 (c : Dev nD) (t : Fin cfg0.N) (r : Fin 512) (d : Fin 1024) (b : Fin 2) (s : Fin 1024) (h : t.val * 512 + r.val = b.val * 1024 + s.val) :
    (iblk m c 0 t : Vec Ideal S512x1024 .f32) (ix2 r d) = (m ((c : Thread nD τ).loc main_arg0) : Vec Ideal S2x1024x1024 .f32) (ix3 b s d) := by
  have hb := b.isLt
  have hs := s.isLt
  unfold iblk
  rw [V_tokens' m c]
  refine (read0 _ t r d (⟨b.val * 1024 + s.val, by omega⟩ : Fin 2048) h).trans ((tokens_apply _ _ _).trans ?_)
  refine congrArg (m ((c : Thread nD τ).loc main_arg0) : Vec Ideal S2x1024x1024 .f32) (funext fun ax => Fin.ext ?_)
  match ax with
  | ⟨0, _⟩ => show (b.val * 1024 + s.val) / 1024 = b.val; omega
  | ⟨1, _⟩ => show (b.val * 1024 + s.val) % 1024 = s.val; omega
  | ⟨2, _⟩ => rfl

theorem blk1 (c : Dev nD) (t : Fin cfg0.N) (d : Fin 1024) :
    (iblk m c 1 t : Vec Ideal S1x1024 .f32) (ix2 (0 : Fin 1) d) = (m ((c : Thread nD τ).loc main_arg1) : Vec Ideal S4x1024 .f32) (ix2 (0 : Fin 4) d) := by
  unfold iblk
  rw [V_gain' m c]
  exact (read1 _ t d).trans (gain_apply _ d)

theorem blk2 (c : Dev nD) (t : Fin cfg0.N) (d : Fin 1024) (b : Fin 2) (hb : b.val = t.val / 2) :
    (iblk m c 2 t : Vec Ideal S1x1x1024 .f32) (ix3 (0 : Fin 1) (0 : Fin 1) d) = (m ((c : Thread nD τ).loc main_arg2) : Vec Ideal S2x1x1024 .f32) (ix3 b (0 : Fin 1) d) := by
  unfold iblk
  rw [show V m c (Pipeline.arrRef spec0 2) = _ from V_main_arg2 m c]
  exact read2 _ t d b hb

theorem blk3 (c : Dev nD) (t : Fin cfg0.N) (d : Fin 1024) (b : Fin 2) (hb : b.val = t.val / 2) :
    (iblk m c 3 t : Vec Ideal S1x1x1024 .f32) (ix3 (0 : Fin 1) (0 : Fin 1) d) = (m ((c : Thread nD τ).loc main_arg3) : Vec Ideal S2x1x1024 .f32) (ix3 b (0 : Fin 1) d) := by
  unfold iblk
  rw [show V m c (Pipeline.arrRef spec0 3) = _ from V_main_arg3 m c]
  exact read3 _ t d b hb

theorem blk4 (c : Dev nD) (t : Fin cfg0.N) (d : Fin 1024) (n : Fin 3200) :
    (iblk m c 4 t : Vec Ideal S1x1024x3200 .bf16) (ix3 (0 : Fin 1) d n)
      = ordered (fun k => (m ((c : Thread nD τ).loc main_arg4) : Vec Ideal S4x1024x3088 .f32) (ix3 (0 : Fin 4) d k)) n := by
  unfold iblk
  rw [V_weights' m c]
  exact (read4 _ t d n).trans (weights3_apply _ 0 d n)

end Cert.Proof.InProj

end
-- ==== Proof.InProjRun.lean ====
module

public import proofs.«01_k».proof.Proof.InProjBlk

@[expose] public section

noncomputable section

namespace Cert.Proof.InProj

open Cert.Kernel3Ideal Cert.Kernel3Ideal.Gen Cert.Kernel3Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The array the call returns -/

/-- What the array ends holding: the projected tokens. -/
def G5 (c : Dev nD) : Vec Ideal S2048x3200 .f32 := fun i =>
  projected (m ((c : Thread nD τ).loc main_arg0) : Vec Ideal S2x1024x1024 .f32) (m ((c : Thread nD τ).loc main_arg1) : Vec Ideal S4x1024 .f32)
    (m ((c : Thread nD τ).loc main_arg2) : Vec Ideal S2x1x1024 .f32) (m ((c : Thread nD τ).loc main_arg3) : Vec Ideal S2x1x1024 .f32)
    (m ((c : Thread nD τ).loc main_arg4) : Vec Ideal S4x1024x3088 .f32)
    (⟨(i 0).val / 1024, by have : (i 0).val < 2048 := (i 0).isLt; omega⟩ : Fin 2) (⟨(i 0).val % 1024, Nat.mod_lt _ (by decide)⟩ : Fin 1024) (i 1)

/-- What a point's body leaves, read at an entry. -/
theorem out_apply (c : Dev nD) (t : Fin cfg0.N) (r : Fin 512) (n : Fin 3200) (i : S2048x3200.Idx) (h0 : (i 0).val = t.val * 512 + r.val) (h1 : (i 1).val = n.val) :
    out0_5 (F := Ideal) (iblk m c 0 t) (iblk m c 1 t) (iblk m c 2 t) (iblk m c 3 t) (iblk m c 4 t) (ix2 r n) = G5 m c i := by
  have hN : t.val < 4 := lt_of_lt_of_eq t.isLt (show cfg0.N = 4 from N_0)
  have hr := r.isLt
  have hi0 : (i 0).val < 2048 := (i 0).isLt
  have z2 : (![0, 0] : Fin 2 → Nat) = fun _ => 0 := by decide
  have z3 : (![0, 0, 0] : Fin 3 → Nat) = fun _ => 0 := by decide
  unfold out0_5
  rw [View.canon_unit_zero z2, View.ld_unit_zero z2, View.ld_unit_zero z2, View.ld_unit_zero z3, View.ld_unit_zero z3, View.ld_unit_zero z3, pay_apply]
  unfold G5 projected
  have e0 : ∀ e : Fin 1024, (iblk m c 0 t : Vec Ideal S512x1024 .f32) (ix2 r e) = _ := fun e =>
    blk0 m c t r e (⟨(i 0).val / 1024, by omega⟩ : Fin 2) (⟨(i 0).val % 1024, Nat.mod_lt _ (by decide)⟩ : Fin 1024) (by show t.val * 512 + r.val = (i 0).val / 1024 * 1024 + (i 0).val % 1024; omega)
  have e2 : ∀ e : Fin 1024, (iblk m c 2 t : Vec Ideal S1x1x1024 .f32) (ix3 (0 : Fin 1) (0 : Fin 1) e) = _ := fun e =>
    blk2 m c t e (⟨(i 0).val / 1024, by omega⟩ : Fin 2) (by show (i 0).val / 1024 = t.val / 2; omega)
  have e3 : ∀ e : Fin 1024, (iblk m c 3 t : Vec Ideal S1x1x1024 .f32) (ix3 (0 : Fin 1) (0 : Fin 1) e) = _ := fun e =>
    blk3 m c t e (⟨(i 0).val / 1024, by omega⟩ : Fin 2) (by show (i 0).val / 1024 = t.val / 2; omega)
  have en : (i 1) = n := Fin.ext h1
  rw [show (fun e => (iblk m c 0 t : Vec Ideal S512x1024 .f32) (ix2 r e)) = _ from funext e0,
    show (fun e => (iblk m c 1 t : Vec Ideal S1x1024 .f32) (ix2 (0 : Fin 1) e)) = _ from funext (blk1 m c t),
    show (fun e => (iblk m c 2 t : Vec Ideal S1x1x1024 .f32) (ix3 (0 : Fin 1) (0 : Fin 1) e)) = _ from funext e2,
    show (fun e => (iblk m c 3 t : Vec Ideal S1x1x1024 .f32) (ix3 (0 : Fin 1) (0 : Fin 1) e)) = _ from funext e3,
    show (fun d => (iblk m c 4 t : Vec Ideal S1x1024x3200 .bf16) (ix3 (0 : Fin 1) d n)) = _ from funext fun d => blk4 m c t d n, en]

/-- What a point writes back is its block of that array. -/
theorem flushed5_eq (c : Dev nD) (t : Fin cfg0.N) (hf : (cfg0.win 5).flush t = true) :
    (dats m 0 c).flushed 5 t = ((cfg0.win 5).blk t).view.read (Elt Ideal) (G5 m c) := by
  have hi := index5 t
  rw [flushed5]
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 3200 + 1 * (y 1).val := rfl
  have hy : (cfg0.win 5).xinj (grid0.coords t) y = ix2 (⟨(y 0).val, (y 0).isLt⟩ : Fin 512) (⟨(y 1).val, (y 1).isLt⟩ : Fin 3200) := by
    funext a; apply Fin.ext
    match a with
    | ⟨0, _⟩ => rfl
    | ⟨1, _⟩ => rfl
  show out0_5 (F := Ideal) (iblk m c 0 t) (iblk m c 1 t) (iblk m c 2 t) (iblk m c 3 t) (iblk m c 4 t) ((cfg0.win 5).xinj (grid0.coords t) y) = G5 m c (((cfg0.win 5).blk t).view.emb y)
  rw [hy]
  exact out_apply m c t _ _ _ (by rw [hb0, hi.1]; show _ = t.val * 512 + (y 0).val; omega) (by rw [hb1, hi.2]; show _ = (y 1).val; omega)

/-- An index is in a point's block when each coordinate is in the block's range. -/
theorem mem_blk5 (t : Fin cfg0.N) (i : S2048x3200.Idx) : i ∈ ((cfg0.win 5).blk t).view.set
    ↔ ∀ a : Fin 2, win0_5.index t a * S512x3200.size a ≤ (i a).val ∧ (i a).val < win0_5.index t a * S512x3200.size a + S512x3200.size a := by
  show i ∈ ((View.whole main_v17).slice (win0_5.rect t)).set ↔ _
  rw [View.set_slice_whole, Rect.mem_set_unit]
  exact Iff.rfl

/-- Every index is in the block of the point that holds its row. -/
theorem covered5 (i : S2048x3200.Idx) : ∃ t : Fin cfg0.N, (cfg0.win 5).flush t = true ∧ i ∈ ((cfg0.win 5).blk t).view.set := by
  have h0 : (i 0).val < 2048 := (i 0).isLt
  have h1 : (i 1).val < 3200 := (i 1).isLt
  have hN : cfg0.N = 4 := N_0
  obtain ⟨t, ht⟩ : ∃ t : Fin cfg0.N, t.val = (i 0).val / 512 := ⟨⟨(i 0).val / 512, by omega⟩, rfl⟩
  refine ⟨t, (by decide +kernel : ∀ t : Fin grid0.N, win0_5.flush t = true) t, ?_⟩
  have hi := index5 t
  rw [mem_blk5]
  intro a
  match a with
  | ⟨0, _⟩ =>
    show win0_5.index t (0 : Fin 2) * 512 ≤ (i 0).val ∧ (i 0).val < win0_5.index t (0 : Fin 2) * 512 + 512
    rw [hi.1]
    omega
  | ⟨1, _⟩ =>
    show win0_5.index t (1 : Fin 2) * 3200 ≤ (i 1).val ∧ (i 1).val < win0_5.index t (1 : Fin 2) * 3200 + 3200
    rw [hi.2]
    omega

/-- THE ARRAY AFTER THE RUN. -/
theorem final5 (c : Dev nD) : (dats m 0 c).arrAt 5 cfg0.N = G5 m c :=
  (dats m 0 c).arrAt_eq_of_cover 5 _ (fun t hf => flushed5_eq m c t hf) covered5

end Cert.Proof.InProj

end
-- ==== Proof.InProjRef.lean ====
module

public import proofs.«01_k».proof.Proof.InProjMath
public import proofs.«01_k».proof.Proof.Gen.Reference3Ideal
public import Idealize.ShloMosaic.Lib.Pipeline.Value
public import Idealize.ShloMosaic.Lib.StackMember

@[expose] public section

noncomputable section

namespace Cert.Proof.InProj.Ref

open Cert.Reference3Ideal Cert.Reference3Ideal.Gen
open Idealize.ShloMosaic Idealize.ShloMosaic.ValueIdx Idealize.ShloMosaic.StackMember
open scoped BigOperators

/-! ## The reference's pieces, read at an entry -/

/-- A stack of tokens summed over the features. -/
theorem reduces2 : S2x1024x1024.Reduces [2] S2x1024 := by decide

/-- The sum of a token's squares. -/
theorem squares_apply (x : FVec Ideal S2x1024x1024 .f32) (b : Fin 2) (s : Fin 1024) :
    (Host.reduceAdd (mulf x x) (constant S_ .f32 0x00000000#32) reducesTo_S2x1024x1024_S2x1024_d2 h_S_ : FVec Ideal S2x1024 .f32) (ix2 b s)
      = ∑ e : Fin 1024, (x (ix3 b s e) : EReal) * x (ix3 b s e) := by
  show Ideal.hostReduceAdd _ _ _ _ = _
  rw [Ideal.hostReduceAdd_single reducesTo_S2x1024x1024_S2x1024_d2 reduces2]
  show Ideal.ofBits .f32 0x00000000#32 + _ = _
  rw [Ideal.ofBits_zero_f32, zero_add]
  refine Finset.sum_congr rfl fun e _ => ?_
  have hl : reduces2.lift (ix2 b s) e = ix3 b s e := by
    funext a
    match a with
    | ⟨0, _⟩ => rfl
    | ⟨1, _⟩ => rfl
    | ⟨2, _⟩ => rfl
  show (x (reduces2.lift (ix2 b s) e) : EReal) * x (reduces2.lift (ix2 b s) e) = _
  rw [hl]
  rfl

/-- The root of each token's mean square, inverted. -/
def scales (x : FVec Ideal S2x1024x1024 .f32) : FVec Ideal S2x1024x1 .f32 :=
  Host.rsqrt (addf (Host.divf (broadcastInDim S2x1024x1 ![0, 1] bcast_S2x1024_S2x1024x1_0_1 (Host.reduceAdd (mulf x x) (constant S_ .f32 0x00000000#32) reducesTo_S2x1024x1024_S2x1024_d2 h_S_)) (broadcastInDim S2x1024x1 ![] bcast_S_S2x1024x1 (constant S_ .f32 0x44800000#32))) (broadcastInDim S2x1024x1 ![] bcast_S_S2x1024x1 (constant S_ .f32 0x358637BD#32)))

theorem scales_apply (x : FVec Ideal S2x1024x1024 .f32) (b : Fin 2) (s : Fin 1024) :
    scales x (ix3 b s (0 : Fin 1)) = Ideal.rsqrt (Ideal.div (∑ e : Fin 1024, (x (ix3 b s e) : EReal) * x (ix3 b s e)) (Ideal.ofBits .f32 0x44800000#32) + Ideal.ofBits .f32 0x358637BD#32) := by
  have e1 := broadcastInDim_apply (![0, 1] : Fin 2 → Fin 3) bcast_S2x1024_S2x1024x1_0_1
    (Host.reduceAdd (mulf x x) (constant S_ .f32 0x00000000#32) reducesTo_S2x1024x1024_S2x1024_d2 h_S_ : FVec Ideal S2x1024 .f32) (ix3 b s (0 : Fin 1)) (ix2 b s) (fun a => by
      match a with
      | ⟨0, _⟩ => rfl
      | ⟨1, _⟩ => rfl)
  rw [squares_apply] at e1
  unfold scales
  show Ideal.rsqrt (Ideal.div (broadcastInDim S2x1024x1 ![0, 1] bcast_S2x1024_S2x1024x1_0_1 (Host.reduceAdd (mulf x x) (constant S_ .f32 0x00000000#32) reducesTo_S2x1024x1024_S2x1024_d2 h_S_ : FVec Ideal S2x1024 .f32) (ix3 b s (0 : Fin 1))) (Ideal.ofBits .f32 0x44800000#32) + Ideal.ofBits .f32 0x358637BD#32) = _
  rw [e1]

/-- The first layer's gain, along every token. -/
def gains (g : FVec Ideal S4x1024 .f32) : FVec Ideal S2x1024x1024 .f32 :=
  broadcastInDim S2x1024x1024 ![0, 1, 2] bcast_S1x1x1024_S2x1024x1024_0_1_2 (broadcastInDim S1x1x1024 ![2] bcast_S1024_S1x1x1024_2 (shapeCast _ (extractStridedSlice S1x1024 ![0, 0] g slices_S4x1024_S1x1024_0_0) shapeCasts_S1x1024_S1024))

theorem gains_apply (g : FVec Ideal S4x1024 .f32) (b : Fin 2) (s d : Fin 1024) : gains g (ix3 b s d) = g (ix2 (0 : Fin 4) d) := by
  refine (broadcastInDim_apply (![0, 1, 2] : Fin 3 → Fin 3) bcast_S1x1x1024_S2x1024x1024_0_1_2 _ (ix3 b s d) (ix3 (0 : Fin 1) (0 : Fin 1) d) (fun a => by
    match a with
    | ⟨0, _⟩ => rfl
    | ⟨1, _⟩ => rfl
    | ⟨2, _⟩ => rfl)).trans ?_
  refine (broadcastInDim_apply (![2] : Fin 1 → Fin 3) bcast_S1024_S1x1x1024_2 _ (ix3 (0 : Fin 1) (0 : Fin 1) d) (ix1 d) (fun a => by
    match a with
    | ⟨0, _⟩ => rfl)).trans ?_
  refine (shapeCast_apply _ shapeCasts_S1x1024_S1024 (ix1 d) (ix2 (0 : Fin 1) d) (by
    rw [Shape.rowMajor_val_one, Shape.rowMajor_val_two]
    show 0 * 1024 + d.val = d.val
    omega)).trans ?_
  refine extractStridedSlice_apply _ g slices_S4x1024_S1x1024_0_0 _ (ix2 (0 : Fin 4) d) fun a => ?_
  match a with
  | ⟨0, _⟩ => rfl
  | ⟨1, _⟩ => exact (Nat.zero_add _).symm

/-- A modulation vector, along every token of its sequence. -/
theorem along_apply (v : FVec Ideal S2x1x1024 .f32) (b : Fin 2) (s d : Fin 1024) :
    broadcastInDim S2x1024x1024 ![0, 1, 2] bcast_S2x1x1024_S2x1024x1024_0_1_2 v (ix3 b s d) = v (ix3 b (0 : Fin 1) d) :=
  broadcastInDim_apply (![0, 1, 2] : Fin 3 → Fin 3) bcast_S2x1x1024_S2x1024x1024_0_1_2 v (ix3 b s d) (ix3 b (0 : Fin 1) d) (fun a => by
    match a with
    | ⟨0, _⟩ => rfl
    | ⟨1, _⟩ => rfl
    | ⟨2, _⟩ => rfl)

/-- A token's scale, along its features. -/
theorem across_apply (v : FVec Ideal S2x1024x1 .f32) (b : Fin 2) (s d : Fin 1024) :
    broadcastInDim S2x1024x1024 ![0, 1, 2] bcast_S2x1024x1_S2x1024x1024_0_1_2 v (ix3 b s d) = v (ix3 b s (0 : Fin 1)) :=
  broadcastInDim_apply (![0, 1, 2] : Fin 3 → Fin 3) bcast_S2x1024x1_S2x1024x1024_0_1_2 v (ix3 b s d) (ix3 b s (0 : Fin 1)) (fun a => by
    match a with
    | ⟨0, _⟩ => rfl
    | ⟨1, _⟩ => rfl
    | ⟨2, _⟩ => rfl)

/-- The normalized and modulated tokens. -/
def feats (x : FVec Ideal S2x1024x1024 .f32) (g : FVec Ideal S4x1024 .f32) (sc sh : FVec Ideal S2x1x1024 .f32) : FVec Ideal S2x1024x1024 .f32 :=
  addf (mulf (mulf (mulf x (broadcastInDim S2x1024x1024 ![0, 1, 2] bcast_S2x1024x1_S2x1024x1024_0_1_2 (scales x))) (gains g))
    (broadcastInDim S2x1024x1024 ![0, 1, 2] bcast_S2x1x1024_S2x1024x1024_0_1_2 (addf (broadcastInDim S2x1x1024 ![] bcast_S_S2x1x1024 (constant S_ .f32 0x3F800000#32)) sc)))
    (broadcastInDim S2x1024x1024 ![0, 1, 2] bcast_S2x1x1024_S2x1024x1024_0_1_2 sh)

theorem feats_apply (x : FVec Ideal S2x1024x1024 .f32) (g : FVec Ideal S4x1024 .f32) (sc sh : FVec Ideal S2x1x1024 .f32) (b : Fin 2) (s d : Fin 1024) :
    feats x g sc sh (ix3 b s d) = feature (fun e => x (ix3 b s e)) (fun e => g (ix2 (0 : Fin 4) e)) (fun e => sc (ix3 b (0 : Fin 1) e)) (fun e => sh (ix3 b (0 : Fin 1) e)) d := by
  have h1 := across_apply (scales x) b s d
  rw [scales_apply] at h1
  have h2 := gains_apply g b s d
  have h3 := along_apply (addf (broadcastInDim S2x1x1024 ![] bcast_S_S2x1x1024 (constant S_ .f32 0x3F800000#32)) sc) b s d
  have h4 := along_apply sh b s d
  unfold feats feature
  show ((x (ix3 b s d) : EReal) * (broadcastInDim S2x1024x1024 ![0, 1, 2] bcast_S2x1024x1_S2x1024x1024_0_1_2 (scales x) (ix3 b s d) : EReal) * (gains g (ix3 b s d) : EReal))
    * (broadcastInDim S2x1024x1024 ![0, 1, 2] bcast_S2x1x1024_S2x1024x1024_0_1_2 (addf (broadcastInDim S2x1x1024 ![] bcast_S_S2x1x1024 (constant S_ .f32 0x3F800000#32)) sc) (ix3 b s d) : EReal)
    + (broadcastInDim S2x1024x1024 ![0, 1, 2] bcast_S2x1x1024_S2x1024x1024_0_1_2 sh (ix3 b s d) : EReal) = _
  rw [h1, h2, h3, h4]
  rfl

/-- The first layer's weights. -/
def weights (w : FVec Ideal S4x1024x3088 .f32) : FVec Ideal S1024x3088 .f32 :=
  shapeCast _ (extractStridedSlice S1x1024x3088 ![0, 0, 0] w slices_S4x1024x3088_S1x1024x3088_0_0_0) shapeCasts_S1x1024x3088_S1024x3088

theorem weights_apply (w : FVec Ideal S4x1024x3088 .f32) (d : Fin 1024) (n : Fin 3088) : weights w (ix2 d n) = w (ix3 (0 : Fin 4) d n) := by
  refine (shapeCast_apply _ shapeCasts_S1x1024x3088_S1024x3088 (ix2 d n) (ix3 (0 : Fin 1) d n) (by
    rw [Shape.rowMajor_val_two, Shape.rowMajor_val_three]
    show (0 * 1024 + d.val) * 3088 + n.val = d.val * 3088 + n.val
    omega)).trans ?_
  refine extractStridedSlice_apply _ w slices_S4x1024x3088_S1x1024x3088_0_0_0 _ (ix3 (0 : Fin 4) d n) fun a => ?_
  match a with
  | ⟨0, _⟩ => rfl
  | ⟨1, _⟩ => exact (Nat.zero_add _).symm
  | ⟨2, _⟩ => exact (Nat.zero_add _).symm

/-- A stack of tokens times a matrix, read at an entry. -/
theorem tokensDot_apply {φ₁ φ₂ : FTy} {B T K N : Nat} (w : DotDims.WF ⟨3, ![B, T, K]⟩ ⟨2, ![K, N]⟩ ⟨3, ![B, T, N]⟩ [2] [0] [0, 1] [1] [] [])
    (prec : Option ContractPrecision) (X : FVec Ideal ⟨3, ![B, T, K]⟩ φ₁) (W : FVec Ideal ⟨2, ![K, N]⟩ φ₂) (b : Fin B) (s : Fin T) (n : Fin N) :
    Host.dotGeneral (⟨[2], [0], [0, 1], [1], [], [], w⟩ : DotDims _ _ _) prec X W (ix3 b s n) = ∑ c : Fin K, X (ix3 b s c) * W (ix2 c n) := by
  show FloatOps.dotGeneral _ prec _ X W (ix3 b s n) = _
  rw [Ideal.dotGeneral_apply, ← Equiv.sum_comp (contrEquiv1 (⟨[2], [0], [0, 1], [1], [], [], w⟩ : DotDims _ _ _) K rfl rfl).symm]
  refine Finset.sum_congr rfl fun c _ => ?_
  have c3 := contrEquiv1_symm_val (⟨[2], [0], [0, 1], [1], [], [], w⟩ : DotDims ⟨3, ![B, T, K]⟩ ⟨2, ![K, N]⟩ ⟨3, ![B, T, N]⟩) K rfl rfl c
  have l3 : (⟨[2], [0], [0, 1], [1], [], [], w⟩ : DotDims ⟨3, ![B, T, K]⟩ ⟨2, ![K, N]⟩ ⟨3, ![B, T, N]⟩).lhsIdx (ix3 b s n)
      ((contrEquiv1 _ K rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![B, T, K]⟩ ⟨2, ![K, N]⟩ ⟨3, ![B, T, N]⟩).rhsIdx (ix3 b s n)
      ((contrEquiv1 _ K rfl rfl).symm c) = ix2 c n := by
    funext ax; apply Fin.ext
    match ax with
    | ⟨0, _⟩ => simp [DotDims.rhsIdx]; exact c3
    | ⟨1, _⟩ => simp [DotDims.rhsIdx]; rfl
  rw [l3, r3]

/-- The projected tokens, the columns in the weights' order. -/
def dots (x : FVec Ideal S2x1024x1024 .f32) (g : FVec Ideal S4x1024 .f32) (sc sh : FVec Ideal S2x1x1024 .f32) (w : FVec Ideal S4x1024x3088 .f32) : FVec Ideal S2x1024x3088 .f32 :=
  Host.dotGeneral dot_S2x1024x1024_S1024x3088_S2x1024x3088_2_0_01_1_n_n none (feats x g sc sh) (weights w)

theorem dots_apply (x : FVec Ideal S2x1024x1024 .f32) (g : FVec Ideal S4x1024 .f32) (sc sh : FVec Ideal S2x1x1024 .f32) (w : FVec Ideal S4x1024x3088 .f32)
    (b : Fin 2) (s : Fin 1024) (n : Fin 3088) :
    dots x g sc sh w (ix3 b s n) = entry (fun e => x (ix3 b s e)) (fun e => g (ix2 (0 : Fin 4) e)) (fun e => sc (ix3 b (0 : Fin 1) e)) (fun e => sh (ix3 b (0 : Fin 1) e)) (fun d => w (ix3 (0 : Fin 4) d n)) := by
  refine (tokensDot_apply dot_S2x1024x1024_S1024x3088_S2x1024x3088_2_0_01_1_n_n_wf none (feats x g sc sh) (weights w) b s n).trans ?_
  refine Finset.sum_congr rfl fun d _ => ?_
  rw [feats_apply, weights_apply]

/-! ## The columns in the order of the call -/

section Four

variable (P : FVec Ideal S2x1024x1024 .f32) (Q : FVec Ideal S2x1024x2048 .f32) (T : FVec Ideal S2x1024x16 .f32) (Z : FVec Ideal S2x1024x112 .f32)

/-- Four blocks of columns laid side by side. -/
def four : FVec Ideal S2x1024x3200 .f32 :=
  concatenate S2x1024x3200 2 [⟨S2x1024x1024, P⟩, ⟨S2x1024x2048, Q⟩, ⟨S2x1024x16, T⟩, ⟨S2x1024x112, Z⟩] concatenates_S2x1024x1024_S2x1024x2048_S2x1024x16_S2x1024x112_S2x1024x3200_d2

theorem four_first (b : Fin 2) (s : Fin 1024) (n : Fin 3200) (k : Fin 1024) (h : 0 + k.val = n.val) : four P Q T Z (ix3 b s n) = P (ix3 b s k) :=
  concatenate_apply_piece (t := S2x1024x3200) 2 [⟨S2x1024x1024, P⟩, ⟨S2x1024x2048, Q⟩, ⟨S2x1024x16, T⟩, ⟨S2x1024x112, Z⟩] concatenates_S2x1024x1024_S2x1024x2048_S2x1024x16_S2x1024x112_S2x1024x3200_d2 (ix3 b s n)
    0 (by simp) S2x1024x1024 P rfl rfl 0 (by rfl) (ix3 b s k) (fun a ha => by
      match a with
      | ⟨0, _⟩ => rfl
      | ⟨1, _⟩ => rfl
      | ⟨2, _⟩ => exact absurd rfl ha) h

theorem four_second (b : Fin 2) (s : Fin 1024) (n : Fin 3200) (k : Fin 2048) (h : 1024 + k.val = n.val) : four P Q T Z (ix3 b s n) = Q (ix3 b s k) :=
  concatenate_apply_piece (t := S2x1024x3200) 2 [⟨S2x1024x1024, P⟩, ⟨S2x1024x2048, Q⟩, ⟨S2x1024x16, T⟩, ⟨S2x1024x112, Z⟩] concatenates_S2x1024x1024_S2x1024x2048_S2x1024x16_S2x1024x112_S2x1024x3200_d2 (ix3 b s n)
    1 (by simp) S2x1024x2048 Q rfl rfl 1024 (by rfl) (ix3 b s k) (fun a ha => by
      match a with
      | ⟨0, _⟩ => rfl
      | ⟨1, _⟩ => rfl
      | ⟨2, _⟩ => exact absurd rfl ha) h

theorem four_third (b : Fin 2) (s : Fin 1024) (n : Fin 3200) (k : Fin 16) (h : 3072 + k.val = n.val) : four P Q T Z (ix3 b s n) = T (ix3 b s k) :=
  concatenate_apply_piece (t := S2x1024x3200) 2 [⟨S2x1024x1024, P⟩, ⟨S2x1024x2048, Q⟩, ⟨S2x1024x16, T⟩, ⟨S2x1024x112, Z⟩] concatenates_S2x1024x1024_S2x1024x2048_S2x1024x16_S2x1024x112_S2x1024x3200_d2 (ix3 b s n)
    2 (by simp) S2x1024x16 T rfl rfl 3072 (by rfl) (ix3 b s k) (fun a ha => by
      match a with
      | ⟨0, _⟩ => rfl
      | ⟨1, _⟩ => rfl
      | ⟨2, _⟩ => exact absurd rfl ha) h

theorem four_fourth (b : Fin 2) (s : Fin 1024) (n : Fin 3200) (k : Fin 112) (h : 3088 + k.val = n.val) : four P Q T Z (ix3 b s n) = Z (ix3 b s k) :=
  concatenate_apply_piece (t := S2x1024x3200) 2 [⟨S2x1024x1024, P⟩, ⟨S2x1024x2048, Q⟩, ⟨S2x1024x16, T⟩, ⟨S2x1024x112, Z⟩] concatenates_S2x1024x1024_S2x1024x2048_S2x1024x16_S2x1024x112_S2x1024x3200_d2 (ix3 b s n)
    3 (by simp) S2x1024x112 Z rfl rfl 3088 (by rfl) (ix3 b s k) (fun a ha => by
      match a with
      | ⟨0, _⟩ => rfl
      | ⟨1, _⟩ => rfl
      | ⟨2, _⟩ => exact absurd rfl ha) h

end Four

/-- The columns of a projection reordered: the first 1024, those after the 16 gates, the gates, then zeros. -/
def joined (D : FVec Ideal S2x1024x3088 .f32) : FVec Ideal S2x1024x3200 .f32 :=
  four (extractStridedSlice S2x1024x1024 ![0, 0, 0] D slices_S2x1024x3088_S2x1024x1024_0_0_0) (extractStridedSlice S2x1024x2048 ![0, 0, 1040] D slices_S2x1024x3088_S2x1024x2048_0_0_1040)
    (extractStridedSlice S2x1024x16 ![0, 0, 1024] D slices_S2x1024x3088_S2x1024x16_0_0_1024) (broadcastInDim S2x1024x112 ![] bcast_S_S2x1024x112 (constant S_ .f32 0x00000000#32))

/-- Columns from the one numbered `o` on. -/
theorem from_apply {N : Nat} (o : Nat) (D : FVec Ideal S2x1024x3088 .f32) (hs : S2x1024x3088.Slices ![0, 0, o] ⟨3, ![2, 1024, N]⟩) (b : Fin 2) (s : Fin 1024) (k : Fin N) (n : Fin 3088)
    (h : n.val = o + k.val) : (extractStridedSlice ⟨3, ![2, 1024, N]⟩ ![0, 0, o] D hs) (ix3 b s k) = D (ix3 b s n) := by
  refine extractStridedSlice_apply _ D hs _ (ix3 b s n) fun a => ?_
  match a with
  | ⟨0, _⟩ => exact (Nat.zero_add _).symm
  | ⟨1, _⟩ => exact (Nat.zero_add _).symm
  | ⟨2, _⟩ => exact h

theorem joined_apply (D : FVec Ideal S2x1024x3088 .f32) (b : Fin 2) (s : Fin 1024) (n : Fin 3200) :
    joined D (ix3 b s n) = ordered (fun k => D (ix3 b s k)) n := by
  have hn := n.isLt
  unfold ordered joined
  by_cases h : n.val < 1024
  · rw [dif_pos h]
    refine (four_first _ _ _ _ b s n ⟨n.val, h⟩ (Nat.zero_add _)).trans ?_
    exact from_apply 0 D _ b s ⟨n.val, h⟩ ⟨n.val, by omega⟩ (Nat.zero_add _).symm
  rw [dif_neg h]
  by_cases h' : n.val < 3072
  · rw [dif_pos h']
    obtain ⟨k, hk⟩ : ∃ k : Fin 2048, 1024 + k.val = n.val := ⟨⟨n.val - 1024, by omega⟩, Nat.add_sub_cancel' (by omega)⟩
    refine (four_second _ _ _ _ b s n k hk).trans ?_
    exact from_apply 1040 D _ b s k ⟨n.val + 16, by omega⟩ (by show n.val + 16 = 1040 + k.val; omega)
  rw [dif_neg h']
  by_cases h'' : n.val < 3088
  · rw [dif_pos h'']
    obtain ⟨k, hk⟩ : ∃ k : Fin 16, 3072 + k.val = n.val := ⟨⟨n.val - 3072, by omega⟩, Nat.add_sub_cancel' (by omega)⟩
    refine (four_third _ _ _ _ b s n k hk).trans ?_
    exact from_apply 1024 D _ b s k ⟨n.val - 2048, by omega⟩ (by show n.val - 2048 = 1024 + k.val; omega)
  rw [dif_neg h'']
  obtain ⟨k, hk⟩ : ∃ k : Fin 112, 3088 + k.val = n.val := ⟨⟨n.val - 3088, by omega⟩, Nat.add_sub_cancel' (by omega)⟩
  exact (four_fourth _ _ _ _ b s n k hk).trans Ideal.ofBits_zero_f32

/-- Ordering the columns of the weights orders those of the product; a zero column's product is zero. -/
theorem entry_ordered (x g sc sh : Fin 1024 → EReal) (w : Fin 1024 → Fin 3088 → EReal) (n : Fin 3200) :
    ordered (fun k => entry x g sc sh (fun d => w d k)) n = entry x g sc sh (fun d => ordered (w d) n) := by
  unfold ordered
  by_cases h : n.val < 1024
  · simp only [dif_pos h]
  by_cases h' : n.val < 3072
  · simp only [dif_neg h, dif_pos h']
  by_cases h'' : n.val < 3088
  · simp only [dif_neg h, dif_neg h', dif_pos h'']
  simp only [dif_neg h, dif_neg h', dif_neg h'']
  unfold entry
  exact (Finset.sum_eq_zero fun d _ => mul_zero _).symm

/-- The reference's result, read at an entry. -/
theorem ref_apply (x : FVec Ideal S2x1024x1024 .f32) (g : FVec Ideal S4x1024 .f32) (sc sh : FVec Ideal S2x1x1024 .f32) (w : FVec Ideal S4x1024x3088 .f32)
    (R : Fin 2048) (n : Fin 3200) :
    (shapeCast S2048x3200 (joined (dots x g sc sh w)) shapeCasts_S2x1024x3200_S2048x3200 : FVec Ideal S2048x3200 .f32) (ix2 R n)
      = projected x g sc sh w (⟨R.val / 1024, by have := R.isLt; omega⟩ : Fin 2) (⟨R.val % 1024, Nat.mod_lt _ (by decide)⟩ : Fin 1024) n := by
  have hR := R.isLt
  refine (shapeCast_apply _ shapeCasts_S2x1024x3200_S2048x3200 (ix2 R n) (ix3 (⟨R.val / 1024, by omega⟩ : Fin 2) (⟨R.val % 1024, Nat.mod_lt _ (by decide)⟩ : Fin 1024) n) (by
    rw [Shape.rowMajor_val_two, Shape.rowMajor_val_three]
    show (R.val / 1024 * 1024 + R.val % 1024) * 3200 + n.val = R.val * 3200 + n.val
    omega)).trans ?_
  rw [joined_apply, show (fun k => dots x g sc sh w (ix3 (⟨R.val / 1024, by omega⟩ : Fin 2) (⟨R.val % 1024, Nat.mod_lt _ (by decide)⟩ : Fin 1024) k)) = _ from funext fun k => dots_apply x g sc sh w _ _ k]
  exact entry_ordered _ _ _ _ (fun d k => w (ix3 (0 : Fin 4) d k)) n

end Cert.Proof.InProj.Ref

end
-- ==== Proof.OutProjMath.lean ====
module

public import Idealize.ShloMosaic.Lib.Routing.OpsSet
public import Idealize.ShloMosaic.Lib.Pipeline.Value
public import Idealize.ShloMosaic.Lib.MatmulPlain

@[expose] public section

noncomputable section

namespace Cert.Proof.OutProj

open Idealize.ShloMosaic Idealize.ShloMosaic.ValueIdx
open scoped BigOperators

/-! ## What the projection is, at a token and a column -/

/-- Row `k` of quarter `j` of the weights' 1024 rows. -/
def part (j : ℕ) (hj : j < 4) (k : Fin 256) : Fin 1024 := ⟨256 * j + k.val, by have := k.isLt; omega⟩

/-- A sum over the 1024 rows is the four quarters' sums, added in order. -/
theorem sum_parts (f : Fin 1024 → EReal) :
    ∑ k, f k = (((∑ k, f (part 0 (by decide) k)) + ∑ k, f (part 1 (by decide) k)) + ∑ k, f (part 2 (by decide) k))
      + ∑ k, f (part 3 (by decide) k) := by
  have e : ∑ k, f k = ∑ p : Fin 4 × Fin 256, f (finProdFinEquiv p) := (Equiv.sum_comp (finProdFinEquiv (m := 4) (n := 256)) f).symm
  rw [e, Fintype.sum_prod_type, Fin.sum_univ_four]
  have c : ∀ (j : ℕ) (hj : j < 4), ∑ k, f (finProdFinEquiv ((⟨j, hj⟩ : Fin 4), k)) = ∑ k, f (part j hj k) := fun j hj =>
    Finset.sum_congr rfl fun k _ => congrArg f (Fin.ext (by show k.val + 256 * j = 256 * j + k.val; omega))
  exact congrArg₂ _ (congrArg₂ _ (congrArg₂ _ (c 0 (by decide)) (c 1 (by decide))) (c 2 (by decide))) (c 3 (by decide))

/-- Four rows of 256 features times the quarters of a column of the weights, added in order. -/
def mixed (a b c d : Fin 256 → EReal) (w : Fin 1024 → EReal) : EReal :=
  (((∑ k, a k * w (part 0 (by decide) k)) + ∑ k, b k * w (part 1 (by decide) k)) + ∑ k, c k * w (part 2 (by decide) k))
    + ∑ k, d k * w (part 3 (by decide) k)

/-- A token's feature plus the gated projection of its four mixed rows: token `s` of sequence `q`, column `n`. -/
def projected (x : (⟨3, ![2, 1024, 1024]⟩ : Shape).Idx → EReal) (a b c d : (⟨3, ![2, 1024, 256]⟩ : Shape).Idx → EReal)
    (w : (⟨3, ![4, 1024, 1024]⟩ : Shape).Idx → EReal) (g : (⟨3, ![2, 1, 1024]⟩ : Shape).Idx → EReal) (q : Fin 2) (s n : Fin 1024) : EReal :=
  x (ix3 q s n) + g (ix3 q (0 : Fin 1) n)
    * mixed (fun k => a (ix3 q s k)) (fun k => b (ix3 q s k)) (fun k => c (ix3 q s k)) (fun k => d (ix3 q s k)) (fun k => w (ix3 (0 : Fin 4) k n))

end Cert.Proof.OutProj

end
-- ==== Proof.OutProjCase.lean ====
module

public import proofs.«01_k».proof.Proof.Gen.Kernel4Ideal.Value
public import Idealize.ShloMosaic.Lib.Pipeline.Value

@[expose] public section

noncomputable section

namespace Cert.Proof.OutProj

open Cert.Kernel4Ideal Cert.Kernel4Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The first quarter of the stored weights' rows. -/
def quarter0 (w : Vec F S1024x1024 .bf16) : Vec F S256x1024 .bf16 :=
  View.ld w (Rect.unit (s := S1024x1024) ![0, 0] S256x1024.size inb_S1024x1024_S256x1024_0_0)
/-- The second quarter of the stored weights' rows. -/
def quarter1 (w : Vec F S1024x1024 .bf16) : Vec F S256x1024 .bf16 :=
  View.ld w (Rect.unit (s := S1024x1024) ![256, 0] S256x1024.size inb_S1024x1024_S256x1024_256_0)
/-- The third quarter of the stored weights' rows. -/
def quarter2 (w : Vec F S1024x1024 .bf16) : Vec F S256x1024 .bf16 :=
  View.ld w (Rect.unit (s := S1024x1024) ![512, 0] S256x1024.size inb_S1024x1024_S256x1024_512_0)
/-- The last quarter of the stored weights' rows. -/
def quarter3 (w : Vec F S1024x1024 .bf16) : Vec F S256x1024 .bf16 :=
  View.ld w (Rect.unit (s := S1024x1024) ![768, 0] S256x1024.size inb_S1024x1024_S256x1024_768_0)

/-- A rectangle read after the whole buffer was stored is that rectangle of what was stored. -/
theorem reread {sig : RefSig} {κ : Kind} {sp : Space} (v : View sig κ sp S1024x1024 .bf16) (w : Vec F S1024x1024 .bf16) (r : Rect S1024x1024) :
    v.readCov [(⟨Rect.unit (s := S1024x1024) ![0, 0] S1024x1024.size inb_S1024x1024_S1024x1024_0_0, w⟩ : View.Piece (Elt F) S1024x1024 .bf16)] r.toLoadRect = View.ld w r := by
  rw [View.readCov_eq_canon', View.canon_unit_zero hz]

set_option maxRecDepth 65536 in
set_option maxHeartbeats 4000000 in
/-- What the first point stores in the output: its rows and the gated sum, the weights being those it has just stored. -/
theorem out_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay6 (k0_pay3 x1 (quarter0 (k0_pay2 x5)) x2 (quarter1 (k0_pay2 x5)) x3 (quarter2 (k0_pay2 x5)) x4 (quarter3 (k0_pay2 x5))) (k0_pay4 x0) (k0_pay5 x6) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz]
  simp only [View.readAt_eq_ld, reread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) hz, View.ld_unit_zero (S := S512x256) hz, View.ld_unit_zero (S := S1x1024x1024) hz3, View.ld_unit_zero (S := S1x1x1024) hz3]
  rw [show quarter0 (k0_pay2 x5) = _ from (reread arg15.view (k0_pay2 x5) (Rect.unit (s := S1024x1024) ![0, 0] S256x1024.size inb_S1024x1024_S256x1024_0_0)).symm]
  rw [show quarter1 (k0_pay2 x5) = _ from (reread arg15.view (k0_pay2 x5) (Rect.unit (s := S1024x1024) ![256, 0] S256x1024.size inb_S1024x1024_S256x1024_256_0)).symm]
  rw [show quarter2 (k0_pay2 x5) = _ from (reread arg15.view (k0_pay2 x5) (Rect.unit (s := S1024x1024) ![512, 0] S256x1024.size inb_S1024x1024_S256x1024_512_0)).symm]
  rw [show quarter3 (k0_pay2 x5) = _ from (reread arg15.view (k0_pay2 x5) (Rect.unit (s := S1024x1024) ![768, 0] S256x1024.size inb_S1024x1024_S256x1024_768_0)).symm]

set_option maxRecDepth 65536 in
set_option maxHeartbeats 4000000 in
/-- What a later point stores in the output: the weights are those the first point stored. -/
theorem out_B (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : ¬cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) (xs0 : Vec F S1024x1024 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay6 (k0_pay3 x1 (quarter0 (xs0)) x2 (quarter1 (xs0)) x3 (quarter2 (xs0)) x4 (quarter3 (xs0))) (k0_pay4 x0) (k0_pay5 x6) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz]
  simp only [View.readAt_eq_ld, reread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) hz, View.ld_unit_zero (S := S512x256) hz, View.ld_unit_zero (S := S1x1024x1024) hz3, View.ld_unit_zero (S := S1x1x1024) hz3]
  rfl

set_option maxRecDepth 65536 in
set_option maxHeartbeats 4000000 in
/-- What the first point stores as weights. -/
theorem sout_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay2 x5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz]
  simp only [View.readAt_eq_ld, reread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) hz, View.ld_unit_zero (S := S512x256) hz, View.ld_unit_zero (S := S1x1024x1024) hz3, View.ld_unit_zero (S := S1x1x1024) hz3]

set_option maxRecDepth 65536 in
set_option maxHeartbeats 4000000 in
/-- A later point leaves the stored weights as they were. -/
theorem sout_B (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : ¬cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) (xs0 : Vec F S1024x1024 .bf16) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = xs0 := by
  rfl

end Cert.Proof.OutProj

end
-- ==== Proof.OutProjPay.lean ====
module

public import proofs.«01_k».proof.Proof.OutProjMath
public import proofs.«01_k».proof.Proof.OutProjCase
public import Idealize.ShloMosaic.Lib.MatmulPlain
public import Idealize.ShloMosaic.Lib.Pipeline.Value

@[expose] public section

noncomputable section

namespace Cert.Proof.OutProj

open Cert.Kernel4Ideal Cert.Kernel4Ideal.Gen Idealize.ShloMosaic Idealize.ShloMosaic.ValueIdx Idealize.SL.Sem
open scoped BigOperators

/-- The stored weights, read at an entry. -/
theorem pay2_apply (w : Vec Ideal S1x1024x1024 .f32) (k n : Fin 1024) :
    k0_pay2 (F := Ideal) w (ix2 k n) = w (ix3 (0 : Fin 1) k n) := by
  unfold k0_pay2
  refine (shapeCast_apply _ _ (ix2 k n) (ix2 k n) rfl).trans ?_
  show shapeCast S1024x1024 w shapeCasts_S1x1024x1024_S1024x1024 (ix2 k n) = _
  exact shapeCast_apply _ _ _ _ (by
    rw [Shape.rowMajor_val_two, Shape.rowMajor_val_three]
    show (0 * 1024 + k.val) * 1024 + n.val = k.val * 1024 + n.val
    omega)

/-- The rows of the tokens, as they are. -/
theorem pay4_apply (x : Vec Ideal S512x1024 .f32) (i : S512x1024.Idx) : k0_pay4 (F := Ideal) x i = x i :=
  shapeCast_apply _ _ i i rfl

/-- The gate, along every row. -/
theorem pay5_apply (g : Vec Ideal S1x1x1024 .f32) (r : Fin 512) (n : Fin 1024) :
    k0_pay5 (F := Ideal) g (ix2 r n) = g (ix3 (0 : Fin 1) (0 : Fin 1) n) := by
  unfold k0_pay5
  refine (broadcastTo_apply _ _ (ix2 r n) (ix2 (0 : Fin 1) n) (fun a => by
    match a with
    | ⟨0, _⟩ => rfl
    | ⟨1, _⟩ => rfl)).trans ?_
  exact shapeCast_apply _ _ _ _ (by
    rw [Shape.rowMajor_val_two, Shape.rowMajor_val_three]
    show (0 * 1 + 0) * 1024 + n.val = 0 * 1024 + n.val
    omega)

/-- A row of a quarter of the stored weights. -/
theorem quarter0_apply (w : Vec Ideal S1024x1024 .bf16) (k : Fin 256) (n : Fin 1024) : quarter0 w (ix2 k n) = w (ix2 (part 0 (by decide) k) n) := by
  show w _ = w _
  refine congrArg w (funext fun a => Fin.ext ?_)
  match a with
  | ⟨0, _⟩ => show 0 + 1 * k.val = 256 * 0 + k.val; omega
  | ⟨1, _⟩ => show 0 + 1 * n.val = n.val; omega
theorem quarter1_apply (w : Vec Ideal S1024x1024 .bf16) (k : Fin 256) (n : Fin 1024) : quarter1 w (ix2 k n) = w (ix2 (part 1 (by decide) k) n) := by
  show w _ = w _
  refine congrArg w (funext fun a => Fin.ext ?_)
  match a with
  | ⟨0, _⟩ => show 256 + 1 * k.val = 256 * 1 + k.val; omega
  | ⟨1, _⟩ => show 0 + 1 * n.val = n.val; omega
theorem quarter2_apply (w : Vec Ideal S1024x1024 .bf16) (k : Fin 256) (n : Fin 1024) : quarter2 w (ix2 k n) = w (ix2 (part 2 (by decide) k) n) := by
  show w _ = w _
  refine congrArg w (funext fun a => Fin.ext ?_)
  match a with
  | ⟨0, _⟩ => show 512 + 1 * k.val = 256 * 2 + k.val; omega
  | ⟨1, _⟩ => show 0 + 1 * n.val = n.val; omega
theorem quarter3_apply (w : Vec Ideal S1024x1024 .bf16) (k : Fin 256) (n : Fin 1024) : quarter3 w (ix2 k n) = w (ix2 (part 3 (by decide) k) n) := by
  show w _ = w _
  refine congrArg w (funext fun a => Fin.ext ?_)
  match a with
  | ⟨0, _⟩ => show 768 + 1 * k.val = 256 * 3 + k.val; omega
  | ⟨1, _⟩ => show 0 + 1 * n.val = n.val; omega

/-- A block of mixed rows times a quarter of the weights, read at an entry. -/
theorem dot_apply (a : Vec Ideal S512x256 .f32) (w : FVec Ideal S256x1024 .bf16) (r : Fin 512) (n : Fin 1024) :
    (matmul dot_S512x256_S256x1024_S512x1024_1_0_0_1_n_n none (truncf .bf16 (shapeCast S512x256 a shapeCasts_S512x256_S512x256 : FVec Ideal S512x256 .f32) bitsLt_bf16_f32) (w : FVec Ideal S256x1024 .bf16)
      (constant S512x1024 .f32 0x00000000#32) : FVec Ideal S512x1024 .f32) (ix2 r n) = ∑ k : Fin 256, a (ix2 r k) * w (ix2 k n) := by
  refine (Ideal.matmul_plain_apply (M := 512) (K := 256) (N := 1024) none _ w _ r n).trans ?_
  rw [show (constant S512x1024 .f32 0x00000000#32 : FVec Ideal S512x1024 .f32) (ix2 r n) = 0 from Ideal.ofBits_zero_f32, zero_add]
  refine Finset.sum_congr rfl fun k _ => ?_
  show (shapeCast S512x256 a shapeCasts_S512x256_S512x256 (ix2 r k) : EReal) * _ = _
  rw [shapeCast_apply a shapeCasts_S512x256_S512x256 (ix2 r k) (ix2 r k) rfl]

/-- The four products, added. -/
theorem pay3_apply (a b c d : Vec Ideal S512x256 .f32) (w : Vec Ideal S1024x1024 .bf16) (r : Fin 512) (n : Fin 1024) :
    k0_pay3 (F := Ideal) a (quarter0 w) b (quarter1 w) c (quarter2 w) d (quarter3 w) (ix2 r n)
      = mixed (fun k => a (ix2 r k)) (fun k => b (ix2 r k)) (fun k => c (ix2 r k)) (fun k => d (ix2 r k)) (fun k => w (ix2 k n)) := by
  have h0 := dot_apply a (quarter0 w) r n
  have h1 := dot_apply b (quarter1 w) r n
  have h2 := dot_apply c (quarter2 w) r n
  have h3 := dot_apply d (quarter3 w) r n
  simp only [quarter0_apply] at h0
  simp only [quarter1_apply] at h1
  simp only [quarter2_apply] at h2
  simp only [quarter3_apply] at h3
  unfold mixed
  rw [← h0, ← h1, ← h2, ← h3]
  rfl

/-- What a point stores in the output, read at an entry. -/
theorem stored_apply (x : Vec Ideal S512x1024 .f32) (a b c d : Vec Ideal S512x256 .f32) (w : Vec Ideal S1024x1024 .bf16) (g : Vec Ideal S1x1x1024 .f32) (r : Fin 512) (n : Fin 1024) :
    k0_pay6 (F := Ideal) (k0_pay3 a (quarter0 w) b (quarter1 w) c (quarter2 w) d (quarter3 w)) (k0_pay4 x) (k0_pay5 g) (ix2 r n)
      = x (ix2 r n) + g (ix3 (0 : Fin 1) (0 : Fin 1) n)
        * mixed (fun k => a (ix2 r k)) (fun k => b (ix2 r k)) (fun k => c (ix2 r k)) (fun k => d (ix2 r k)) (fun k => w (ix2 k n)) := by
  show (k0_pay4 (F := Ideal) x (ix2 r n) : EReal) + k0_pay5 (F := Ideal) g (ix2 r n) * k0_pay3 (F := Ideal) a (quarter0 w) b (quarter1 w) c (quarter2 w) d (quarter3 w) (ix2 r n) = _
  rw [pay4_apply, pay5_apply, pay3_apply]

end Cert.Proof.OutProj

end
-- ==== Proof.OutProjBlk.lean ====
module

public import proofs.«01_k».proof.Proof.OutProjPay
public import proofs.«01_k».proof.Proof.Gen.Kernel4Ideal.Value

@[expose] public section

noncomputable section

namespace Cert.Proof.OutProj

open Cert.Kernel4Ideal Cert.Kernel4Ideal.Gen Cert.Kernel4Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The blocks each point reads -/

/-! The arrays the call stages, from the given ones. -/

theorem V_0 (c : Dev nD) : V m c main_v0 = shapeCast S2048x1024 (m ((c : Thread nD τ).loc main_arg0) : Vec Ideal S2x1024x1024 .f32) shapeCasts_S2x1024x1024_S2048x1024 := by
  show StableHlo.after hostOps0 _ _ = _
  after_results_simp
  rfl

theorem V_1 (c : Dev nD) : V m c main_v6 = shapeCast S2048x256 (m ((c : Thread nD τ).loc main_arg1) : Vec Ideal S2x1024x256 .f32) shapeCasts_S2x1024x256_S2048x256 := by
  show StableHlo.after hostOps0 _ _ = _
  after_results_simp
  rfl

theorem V_2 (c : Dev nD) : V m c main_v7 = shapeCast S2048x256 (m ((c : Thread nD τ).loc main_arg2) : Vec Ideal S2x1024x256 .f32) shapeCasts_S2x1024x256_S2048x256 := by
  show StableHlo.after hostOps0 _ _ = _
  after_results_simp
  rfl

theorem V_3 (c : Dev nD) : V m c main_v8 = shapeCast S2048x256 (m ((c : Thread nD τ).loc main_arg3) : Vec Ideal S2x1024x256 .f32) shapeCasts_S2x1024x256_S2048x256 := by
  show StableHlo.after hostOps0 _ _ = _
  after_results_simp
  rfl

theorem V_4 (c : Dev nD) : V m c main_v9 = shapeCast S2048x256 (m ((c : Thread nD τ).loc main_arg4) : Vec Ideal S2x1024x256 .f32) shapeCasts_S2x1024x256_S2048x256 := by
  show StableHlo.after hostOps0 _ _ = _
  after_results_simp
  rfl

/-! A block of an array, whatever the array holds. -/

theorem index0 : ∀ t : Fin cfg0.N, win0_0.index t (0 : Fin 2) = t.val ∧ win0_0.index t (1 : Fin 2) = 0 :=
  (by decide +kernel : ∀ t : Fin grid0.N, _)

theorem V_0' (c : Dev nD) : V m c (Pipeline.arrRef spec0 0) = shapeCast S2048x1024 (m ((c : Thread nD τ).loc main_arg0) : Vec Ideal S2x1024x1024 .f32) shapeCasts_S2x1024x1024_S2048x1024 :=
  V_0 m c

theorem read0 (A : Vec Ideal S2048x1024 .f32) (t : Fin cfg0.N) (r : Fin 512) (d : Fin 1024) (R : Fin 2048) (h : t.val * 512 + r.val = R.val) :
    (((cfg0.win 0).blk t).view.read (Elt Ideal) A : Vec Ideal S512x1024 .f32) (ix2 r d) = A (ix2 R d) := by
  have hi := index0 t
  rw [View.read_apply]
  show A _ = A _
  refine congrArg A (funext fun ax => Fin.ext ?_)
  match ax with
  | ⟨0, _⟩ => show win0_0.index t (0 : Fin 2) * 512 + 1 * r.val = R.val; rw [hi.1]; omega
  | ⟨1, _⟩ => show win0_0.index t (1 : Fin 2) * 1024 + 1 * d.val = d.val; rw [hi.2, Nat.zero_mul, Nat.zero_add, Nat.one_mul]

theorem index1 : ∀ t : Fin cfg0.N, win0_1.index t (0 : Fin 2) = t.val ∧ win0_1.index t (1 : Fin 2) = 0 :=
  (by decide +kernel : ∀ t : Fin grid0.N, _)

theorem V_1' (c : Dev nD) : V m c (Pipeline.arrRef spec0 1) = shapeCast S2048x256 (m ((c : Thread nD τ).loc main_arg1) : Vec Ideal S2x1024x256 .f32) shapeCasts_S2x1024x256_S2048x256 :=
  V_1 m c

theorem read1 (A : Vec Ideal S2048x256 .f32) (t : Fin cfg0.N) (r : Fin 512) (d : Fin 256) (R : Fin 2048) (h : t.val * 512 + r.val = R.val) :
    (((cfg0.win 1).blk t).view.read (Elt Ideal) A : Vec Ideal S512x256 .f32) (ix2 r d) = A (ix2 R d) := by
  have hi := index1 t
  rw [View.read_apply]
  show A _ = A _
  refine congrArg A (funext fun ax => Fin.ext ?_)
  match ax with
  | ⟨0, _⟩ => show win0_1.index t (0 : Fin 2) * 512 + 1 * r.val = R.val; rw [hi.1]; omega
  | ⟨1, _⟩ => show win0_1.index t (1 : Fin 2) * 256 + 1 * d.val = d.val; rw [hi.2, Nat.zero_mul, Nat.zero_add, Nat.one_mul]

theorem index2 : ∀ t : Fin cfg0.N, win0_2.index t (0 : Fin 2) = t.val ∧ win0_2.index t (1 : Fin 2) = 0 :=
  (by decide +kernel : ∀ t : Fin grid0.N, _)

theorem V_2' (c : Dev nD) : V m c (Pipeline.arrRef spec0 2) = shapeCast S2048x256 (m ((c : Thread nD τ).loc main_arg2) : Vec Ideal S2x1024x256 .f32) shapeCasts_S2x1024x256_S2048x256 :=
  V_2 m c

theorem read2 (A : Vec Ideal S2048x256 .f32) (t : Fin cfg0.N) (r : Fin 512) (d : Fin 256) (R : Fin 2048) (h : t.val * 512 + r.val = R.val) :
    (((cfg0.win 2).blk t).view.read (Elt Ideal) A : Vec Ideal S512x256 .f32) (ix2 r d) = A (ix2 R d) := by
  have hi := index2 t
  rw [View.read_apply]
  show A _ = A _
  refine congrArg A (funext fun ax => Fin.ext ?_)
  match ax with
  | ⟨0, _⟩ => show win0_2.index t (0 : Fin 2) * 512 + 1 * r.val = R.val; rw [hi.1]; omega
  | ⟨1, _⟩ => show win0_2.index t (1 : Fin 2) * 256 + 1 * d.val = d.val; rw [hi.2, Nat.zero_mul, Nat.zero_add, Nat.one_mul]

theorem index3 : ∀ t : Fin cfg0.N, win0_3.index t (0 : Fin 2) = t.val ∧ win0_3.index t (1 : Fin 2) = 0 :=
  (by decide +kernel : ∀ t : Fin grid0.N, _)

theorem V_3' (c : Dev nD) : V m c (Pipeline.arrRef spec0 3) = shapeCast S2048x256 (m ((c : Thread nD τ).loc main_arg3) : Vec Ideal S2x1024x256 .f32) shapeCasts_S2x1024x256_S2048x256 :=
  V_3 m c

theorem read3 (A : Vec Ideal S2048x256 .f32) (t : Fin cfg0.N) (r : Fin 512) (d : Fin 256) (R : Fin 2048) (h : t.val * 512 + r.val = R.val) :
    (((cfg0.win 3).blk t).view.read (Elt Ideal) A : Vec Ideal S512x256 .f32) (ix2 r d) = A (ix2 R d) := by
  have hi := index3 t
  rw [View.read_apply]
  show A _ = A _
  refine congrArg A (funext fun ax => Fin.ext ?_)
  match ax with
  | ⟨0, _⟩ => show win0_3.index t (0 : Fin 2) * 512 + 1 * r.val = R.val; rw [hi.1]; omega
  | ⟨1, _⟩ => show win0_3.index t (1 : Fin 2) * 256 + 1 * d.val = d.val; rw [hi.2, Nat.zero_mul, Nat.zero_add, Nat.one_mul]

theorem index4 : ∀ t : Fin cfg0.N, win0_4.index t (0 : Fin 2) = t.val ∧ win0_4.index t (1 : Fin 2) = 0 :=
  (by decide +kernel : ∀ t : Fin grid0.N, _)

theorem V_4' (c : Dev nD) : V m c (Pipeline.arrRef spec0 4) = shapeCast S2048x256 (m ((c : Thread nD τ).loc main_arg4) : Vec Ideal S2x1024x256 .f32) shapeCasts_S2x1024x256_S2048x256 :=
  V_4 m c

theorem read4 (A : Vec Ideal S2048x256 .f32) (t : Fin cfg0.N) (r : Fin 512) (d : Fin 256) (R : Fin 2048) (h : t.val * 512 + r.val = R.val) :
    (((cfg0.win 4).blk t).view.read (Elt Ideal) A : Vec Ideal S512x256 .f32) (ix2 r d) = A (ix2 R d) := by
  have hi := index4 t
  rw [View.read_apply]
  show A _ = A _
  refine congrArg A (funext fun ax => Fin.ext ?_)
  match ax with
  | ⟨0, _⟩ => show win0_4.index t (0 : Fin 2) * 512 + 1 * r.val = R.val; rw [hi.1]; omega
  | ⟨1, _⟩ => show win0_4.index t (1 : Fin 2) * 256 + 1 * d.val = d.val; rw [hi.2, Nat.zero_mul, Nat.zero_add, Nat.one_mul]

theorem index5 : ∀ t : Fin cfg0.N, win0_5.index t (0 : Fin 3) = 0 ∧ win0_5.index t (1 : Fin 3) = 0 ∧ win0_5.index t (2 : Fin 3) = 0 :=
  (by decide +kernel : ∀ t : Fin grid0.N, _)

theorem index6 : ∀ t : Fin cfg0.N, win0_6.index t (0 : Fin 3) = t.val / 2 ∧ win0_6.index t (1 : Fin 3) = 0 ∧ win0_6.index t (2 : Fin 3) = 0 :=
  (by decide +kernel : ∀ t : Fin grid0.N, _)

theorem index11 : ∀ t : Fin cfg0.N, win0_11.index t (0 : Fin 2) = t.val ∧ win0_11.index t (1 : Fin 2) = 0 :=
  (by decide +kernel : ∀ t : Fin grid0.N, _)

theorem read5 (A : Vec Ideal S4x1024x1024 .f32) (t : Fin cfg0.N) (d : Fin 1024) (n : Fin 1024) :
    (((cfg0.win 5).blk t).view.read (Elt Ideal) A : Vec Ideal S1x1024x1024 .f32) (ix3 (0 : Fin 1) d n) = A (ix3 (0 : Fin 4) d n) := by
  have hi := index5 t
  rw [View.read_apply]
  show A _ = A _
  refine congrArg A (funext fun ax => Fin.ext ?_)
  match ax with
  | ⟨0, _⟩ => show win0_5.index t (0 : Fin 3) * 1 + 1 * 0 = 0; rw [hi.1]
  | ⟨1, _⟩ => show win0_5.index t (1 : Fin 3) * 1024 + 1 * d.val = d.val; rw [hi.2.1, Nat.zero_mul, Nat.zero_add, Nat.one_mul]
  | ⟨2, _⟩ => show win0_5.index t (2 : Fin 3) * 1024 + 1 * n.val = n.val; rw [hi.2.2, Nat.zero_mul, Nat.zero_add, Nat.one_mul]

theorem read6 (A : Vec Ideal S2x1x1024 .f32) (t : Fin cfg0.N) (d : Fin 1024) (b : Fin 2) (hb : b.val = t.val / 2) :
    (((cfg0.win 6).blk t).view.read (Elt Ideal) A : Vec Ideal S1x1x1024 .f32) (ix3 (0 : Fin 1) (0 : Fin 1) d) = A (ix3 b (0 : Fin 1) d) := by
  have hi := index6 t
  rw [View.read_apply]
  show A _ = A _
  refine congrArg A (funext fun ax => Fin.ext ?_)
  match ax with
  | ⟨0, _⟩ => show win0_6.index t (0 : Fin 3) * 1 + 1 * 0 = b.val; rw [hi.1]; omega
  | ⟨1, _⟩ => show win0_6.index t (1 : Fin 3) * 1 + 1 * 0 = 0; rw [hi.2.1]
  | ⟨2, _⟩ => show win0_6.index t (2 : Fin 3) * 1024 + 1 * d.val = d.val; rw [hi.2.2, Nat.zero_mul, Nat.zero_add, Nat.one_mul]

/-- The tokens of both sequences in one list of rows. -/
theorem rows_apply {W : Nat} (x : (⟨3, ![2, 1024, W]⟩ : Shape).Idx → EReal) (hc : (⟨3, ![2, 1024, W]⟩ : Shape).ShapeCasts ⟨2, ![2048, W]⟩) (R : Fin 2048) (d : Fin W) (b : Fin 2) (s : Fin 1024)
    (h : b.val * 1024 + s.val = R.val) : shapeCast (⟨2, ![2048, W]⟩ : Shape) x hc (ix2 R d) = x (ix3 b s d) :=
  shapeCast_apply _ _ _ _ (by
    rw [Shape.rowMajor_val_two, Shape.rowMajor_val_three]
    show (b.val * 1024 + s.val) * W + d.val = R.val * W + d.val
    rw [h])

/-! The blocks, from the given arrays. -/

theorem blk0 (c : Dev nD) (t : Fin cfg0.N) (r : Fin 512) (d : Fin 1024) (b : Fin 2) (s : Fin 1024) (h : t.val * 512 + r.val = b.val * 1024 + s.val) :
    (iblk m c 0 t : Vec Ideal S512x1024 .f32) (ix2 r d) = (m ((c : Thread nD τ).loc main_arg0) : Vec Ideal S2x1024x1024 .f32) (ix3 b s d) := by
  have hb := b.isLt
  have hs := s.isLt
  unfold iblk
  rw [V_0' m c]
  exact (read0 _ t r d (⟨b.val * 1024 + s.val, by omega⟩ : Fin 2048) h).trans (rows_apply _ _ _ _ b s rfl)

theorem blk1 (c : Dev nD) (t : Fin cfg0.N) (r : Fin 512) (d : Fin 256) (b : Fin 2) (s : Fin 1024) (h : t.val * 512 + r.val = b.val * 1024 + s.val) :
    (iblk m c 1 t : Vec Ideal S512x256 .f32) (ix2 r d) = (m ((c : Thread nD τ).loc main_arg1) : Vec Ideal S2x1024x256 .f32) (ix3 b s d) := by
  have hb := b.isLt
  have hs := s.isLt
  unfold iblk
  rw [V_1' m c]
  exact (read1 _ t r d (⟨b.val * 1024 + s.val, by omega⟩ : Fin 2048) h).trans (rows_apply _ _ _ _ b s rfl)

theorem blk2 (c : Dev nD) (t : Fin cfg0.N) (r : Fin 512) (d : Fin 256) (b : Fin 2) (s : Fin 1024) (h : t.val * 512 + r.val = b.val * 1024 + s.val) :
    (iblk m c 2 t : Vec Ideal S512x256 .f32) (ix2 r d) = (m ((c : Thread nD τ).loc main_arg2) : Vec Ideal S2x1024x256 .f32) (ix3 b s d) := by
  have hb := b.isLt
  have hs := s.isLt
  unfold iblk
  rw [V_2' m c]
  exact (read2 _ t r d (⟨b.val * 1024 + s.val, by omega⟩ : Fin 2048) h).trans (rows_apply _ _ _ _ b s rfl)

theorem blk3 (c : Dev nD) (t : Fin cfg0.N) (r : Fin 512) (d : Fin 256) (b : Fin 2) (s : Fin 1024) (h : t.val * 512 + r.val = b.val * 1024 + s.val) :
    (iblk m c 3 t : Vec Ideal S512x256 .f32) (ix2 r d) = (m ((c : Thread nD τ).loc main_arg3) : Vec Ideal S2x1024x256 .f32) (ix3 b s d) := by
  have hb := b.isLt
  have hs := s.isLt
  unfold iblk
  rw [V_3' m c]
  exact (read3 _ t r d (⟨b.val * 1024 + s.val, by omega⟩ : Fin 2048) h).trans (rows_apply _ _ _ _ b s rfl)

theorem blk4 (c : Dev nD) (t : Fin cfg0.N) (r : Fin 512) (d : Fin 256) (b : Fin 2) (s : Fin 1024) (h : t.val * 512 + r.val = b.val * 1024 + s.val) :
    (iblk m c 4 t : Vec Ideal S512x256 .f32) (ix2 r d) = (m ((c : Thread nD τ).loc main_arg4) : Vec Ideal S2x1024x256 .f32) (ix3 b s d) := by
  have hb := b.isLt
  have hs := s.isLt
  unfold iblk
  rw [V_4' m c]
  exact (read4 _ t r d (⟨b.val * 1024 + s.val, by omega⟩ : Fin 2048) h).trans (rows_apply _ _ _ _ b s rfl)

theorem blk5 (c : Dev nD) (t : Fin cfg0.N) (d n : Fin 1024) :
    (iblk m c 5 t : Vec Ideal S1x1024x1024 .f32) (ix3 (0 : Fin 1) d n) = (m ((c : Thread nD τ).loc main_arg5) : Vec Ideal S4x1024x1024 .f32) (ix3 (0 : Fin 4) d n) := by
  unfold iblk
  rw [show V m c (Pipeline.arrRef spec0 5) = _ from V_main_arg5 m c]
  exact read5 _ t d n

theorem blk6 (c : Dev nD) (t : Fin cfg0.N) (d : Fin 1024) (b : Fin 2) (hb : b.val = t.val / 2) :
    (iblk m c 6 t : Vec Ideal S1x1x1024 .f32) (ix3 (0 : Fin 1) (0 : Fin 1) d) = (m ((c : Thread nD τ).loc main_arg6) : Vec Ideal S2x1x1024 .f32) (ix3 b (0 : Fin 1) d) := by
  unfold iblk
  rw [show V m c (Pipeline.arrRef spec0 6) = _ from V_main_arg6 m c]
  exact read6 _ t d b hb

end Cert.Proof.OutProj

end
-- ==== Proof.OutProjRun.lean ====
module

public import proofs.«01_k».proof.Proof.OutProjBlk

@[expose] public section

noncomputable section

namespace Cert.Proof.OutProj

open Cert.Kernel4Ideal Cert.Kernel4Ideal.Gen Cert.Kernel4Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The stored weights and the output, point by point -/

/-- The weights stored by the first point. -/
theorem kept_zero (c : Dev nD) (h : 0 < cfg0.N) : (outsAt0 m c 0 h).2.2.2 = k0_pay2 (iblk m c 5 (⟨0, h⟩ : Fin cfg0.N)) := by
  rw [outsAt0_zero, stAt0_A m c ⟨0, h⟩ junk0 (Nat.zero_mod _)]
  dsimp only
  exact sout_A ..

/-- Every point keeps them. -/
theorem kept (c : Dev nD) (n : ℕ) (h : n < cfg0.N) : (outsAt0 m c n h).2.2.2 = k0_pay2 (iblk m c 5 (⟨0, by omega⟩ : Fin cfg0.N)) := by
  induction n with
  | zero => exact kept_zero m c h
  | succ n ih =>
    have hN : cfg0.N = 4 := N_0
    rw [outsAt0_succ, stAt0_B m c ⟨n + 1, h⟩ (outsAt0 m c n (Nat.lt_of_succ_lt h)) (by show ¬(n + 1) % 4 = 0; omega)]
    dsimp only
    refine (sout_B ..).trans ?_
    exact ih (Nat.lt_of_succ_lt h)

/-- What a point leaves in the output. -/
theorem left (c : Dev nD) (n : ℕ) (h : n < cfg0.N) (h0 : 0 < cfg0.N) : (outsAt0 m c n h).1
    = k0_pay6 (k0_pay3 (iblk m c 1 (⟨n, h⟩ : Fin cfg0.N)) (quarter0 (k0_pay2 (iblk m c 5 (⟨0, h0⟩ : Fin cfg0.N)))) (iblk m c 2 (⟨n, h⟩ : Fin cfg0.N)) (quarter1 (k0_pay2 (iblk m c 5 (⟨0, h0⟩ : Fin cfg0.N))))
        (iblk m c 3 (⟨n, h⟩ : Fin cfg0.N)) (quarter2 (k0_pay2 (iblk m c 5 (⟨0, h0⟩ : Fin cfg0.N)))) (iblk m c 4 (⟨n, h⟩ : Fin cfg0.N)) (quarter3 (k0_pay2 (iblk m c 5 (⟨0, h0⟩ : Fin cfg0.N)))))
      (k0_pay4 (iblk m c 0 (⟨n, h⟩ : Fin cfg0.N))) (k0_pay5 (iblk m c 6 (⟨n, h⟩ : Fin cfg0.N))) := by
  cases n with
  | zero =>
    rw [outsAt0_zero, stAt0_A m c ⟨0, h⟩ junk0 (Nat.zero_mod _)]
    dsimp only
    exact out_A ..
  | succ n =>
    have hN : cfg0.N = 4 := N_0
    rw [outsAt0_succ, stAt0_B m c ⟨n + 1, h⟩ (outsAt0 m c n (Nat.lt_of_succ_lt h)) (by show ¬(n + 1) % 4 = 0; omega)]
    dsimp only
    refine (out_B ..).trans ?_
    rw [kept m c n (Nat.lt_of_succ_lt h)]

/-- THE OUTPUT, as a function of the arguments. -/
theorem G11_eq (c : Dev nD) (R : Fin 2048) (n : Fin 1024) :
    (G11 m c : Vec Ideal S2048x1024 .f32) (ix2 R n)
      = projected (m ((c : Thread nD τ).loc main_arg0) : Vec Ideal S2x1024x1024 .f32) (m ((c : Thread nD τ).loc main_arg1) : Vec Ideal S2x1024x256 .f32)
          (m ((c : Thread nD τ).loc main_arg2) : Vec Ideal S2x1024x256 .f32) (m ((c : Thread nD τ).loc main_arg3) : Vec Ideal S2x1024x256 .f32)
          (m ((c : Thread nD τ).loc main_arg4) : Vec Ideal S2x1024x256 .f32) (m ((c : Thread nD τ).loc main_arg5) : Vec Ideal S4x1024x1024 .f32)
          (m ((c : Thread nD τ).loc main_arg6) : Vec Ideal S2x1x1024 .f32)
          (⟨R.val / 1024, by have := R.isLt; omega⟩ : Fin 2) (⟨R.val % 1024, Nat.mod_lt _ (by decide)⟩ : Fin 1024) n := by
  have hN : cfg0.N = 4 := N_0
  have hR := R.isLt
  have hn := n.isLt
  have hp : pt11Of (ix2 R n) = R.val / 512 := by
    show 1 * (R.val / 512 - 0) + 1 * (n.val / 1024 - 0) = _
    omega
  have hl : loc11Of (ix2 R n) = ix2 (⟨R.val % 512, Nat.mod_lt _ (by decide)⟩ : Fin 512) n := by
    funext a
    apply Fin.ext
    match a with
    | ⟨0, _⟩ => rfl
    | ⟨1, _⟩ => show n.val % 1024 = n.val; omega
  have h3 : R.val / 512 < cfg0.N := by omega
  have h0 : 0 < cfg0.N := by omega
  have hrow : R.val / 512 * 512 + R.val % 512 = R.val / 1024 * 1024 + R.val % 1024 := by omega
  unfold G11
  rw [dif_pos (by rw [hp]; exact h3), hl, fold0_congr m c _ _ (R.val / 512) (by omega) hp, ← outsAt0_sweep m c _ h3, left m c _ h3 h0, stored_apply]
  unfold projected
  have w5 : ∀ k : Fin 1024, k0_pay2 (F := Ideal) (iblk m c 5 (⟨0, h0⟩ : Fin cfg0.N)) (ix2 k n) = _ := fun k => (pay2_apply _ k n).trans (blk5 m c _ k n)
  rw [blk0 m c ⟨R.val / 512, h3⟩ _ n (⟨R.val / 1024, by omega⟩ : Fin 2) (⟨R.val % 1024, Nat.mod_lt _ (by decide)⟩ : Fin 1024) hrow,
    blk6 m c ⟨R.val / 512, h3⟩ n (⟨R.val / 1024, by omega⟩ : Fin 2) (by show R.val / 1024 = R.val / 512 / 2; omega),
    show (fun k => (iblk m c 1 (⟨R.val / 512, h3⟩ : Fin cfg0.N) : Vec Ideal S512x256 .f32) (ix2 (⟨R.val % 512, Nat.mod_lt _ (by decide)⟩ : Fin 512) k)) = _ from
      funext fun k => blk1 m c ⟨R.val / 512, h3⟩ _ k (⟨R.val / 1024, by omega⟩ : Fin 2) (⟨R.val % 1024, Nat.mod_lt _ (by decide)⟩ : Fin 1024) hrow,
    show (fun k => (iblk m c 2 (⟨R.val / 512, h3⟩ : Fin cfg0.N) : Vec Ideal S512x256 .f32) (ix2 (⟨R.val % 512, Nat.mod_lt _ (by decide)⟩ : Fin 512) k)) = _ from
      funext fun k => blk2 m c ⟨R.val / 512, h3⟩ _ k (⟨R.val / 1024, by omega⟩ : Fin 2) (⟨R.val % 1024, Nat.mod_lt _ (by decide)⟩ : Fin 1024) hrow,
    show (fun k => (iblk m c 3 (⟨R.val / 512, h3⟩ : Fin cfg0.N) : Vec Ideal S512x256 .f32) (ix2 (⟨R.val % 512, Nat.mod_lt _ (by decide)⟩ : Fin 512) k)) = _ from
      funext fun k => blk3 m c ⟨R.val / 512, h3⟩ _ k (⟨R.val / 1024, by omega⟩ : Fin 2) (⟨R.val % 1024, Nat.mod_lt _ (by decide)⟩ : Fin 1024) hrow,
    show (fun k => (iblk m c 4 (⟨R.val / 512, h3⟩ : Fin cfg0.N) : Vec Ideal S512x256 .f32) (ix2 (⟨R.val % 512, Nat.mod_lt _ (by decide)⟩ : Fin 512) k)) = _ from
      funext fun k => blk4 m c ⟨R.val / 512, h3⟩ _ k (⟨R.val / 1024, by omega⟩ : Fin 2) (⟨R.val % 1024, Nat.mod_lt _ (by decide)⟩ : Fin 1024) hrow,
    show (fun k => k0_pay2 (F := Ideal) (iblk m c 5 (⟨0, h0⟩ : Fin cfg0.N)) (ix2 k n)) = _ from funext w5]

end Cert.Proof.OutProj

end
-- ==== Proof.OutProjRef.lean ====
module

public import proofs.«01_k».proof.Proof.OutProjMath
public import proofs.«01_k».proof.Proof.InProjRef
public import proofs.«01_k».proof.Proof.Gen.Reference4Ideal
public import Idealize.ShloMosaic.Lib.Pipeline.Value
public import Idealize.ShloMosaic.Lib.StackMember

@[expose] public section

noncomputable section

namespace Cert.Proof.OutProj.Ref

open Cert.Reference4Ideal Cert.Reference4Ideal.Gen
open Idealize.ShloMosaic Idealize.ShloMosaic.ValueIdx Idealize.ShloMosaic.StackMember
open scoped BigOperators

/-! ## The reference's pieces, read at an entry -/

section Four

variable (P Q T Z : FVec Ideal S2x1024x256 .f32)

/-- Four blocks of 256 features laid side by side. -/
def four : FVec Ideal S2x1024x1024 .f32 :=
  concatenate S2x1024x1024 2 [⟨S2x1024x256, P⟩, ⟨S2x1024x256, Q⟩, ⟨S2x1024x256, T⟩, ⟨S2x1024x256, Z⟩] concatenates_S2x1024x256_S2x1024x256_S2x1024x256_S2x1024x256_S2x1024x1024_d2

theorem four_first (b : Fin 2) (s : Fin 1024) (k : Fin 256) : four P Q T Z (ix3 b s (part 0 (by decide) k)) = P (ix3 b s k) :=
  concatenate_apply_piece (t := S2x1024x1024) 2 [⟨S2x1024x256, P⟩, ⟨S2x1024x256, Q⟩, ⟨S2x1024x256, T⟩, ⟨S2x1024x256, Z⟩] concatenates_S2x1024x256_S2x1024x256_S2x1024x256_S2x1024x256_S2x1024x1024_d2 (ix3 b s (part 0 (by decide) k))
    0 (by simp) S2x1024x256 P rfl rfl 0 (by rfl) (ix3 b s k) (fun a ha => by
      match a with
      | ⟨0, _⟩ => rfl
      | ⟨1, _⟩ => rfl
      | ⟨2, _⟩ => exact absurd rfl ha) (by show 0 + k.val = 256 * 0 + k.val; omega)

theorem four_second (b : Fin 2) (s : Fin 1024) (k : Fin 256) : four P Q T Z (ix3 b s (part 1 (by decide) k)) = Q (ix3 b s k) :=
  concatenate_apply_piece (t := S2x1024x1024) 2 [⟨S2x1024x256, P⟩, ⟨S2x1024x256, Q⟩, ⟨S2x1024x256, T⟩, ⟨S2x1024x256, Z⟩] concatenates_S2x1024x256_S2x1024x256_S2x1024x256_S2x1024x256_S2x1024x1024_d2 (ix3 b s (part 1 (by decide) k))
    1 (by simp) S2x1024x256 Q rfl rfl 256 (by rfl) (ix3 b s k) (fun a ha => by
      match a with
      | ⟨0, _⟩ => rfl
      | ⟨1, _⟩ => rfl
      | ⟨2, _⟩ => exact absurd rfl ha) (by show 256 + k.val = 256 * 1 + k.val; omega)

theorem four_third (b : Fin 2) (s : Fin 1024) (k : Fin 256) : four P Q T Z (ix3 b s (part 2 (by decide) k)) = T (ix3 b s k) :=
  concatenate_apply_piece (t := S2x1024x1024) 2 [⟨S2x1024x256, P⟩, ⟨S2x1024x256, Q⟩, ⟨S2x1024x256, T⟩, ⟨S2x1024x256, Z⟩] concatenates_S2x1024x256_S2x1024x256_S2x1024x256_S2x1024x256_S2x1024x1024_d2 (ix3 b s (part 2 (by decide) k))
    2 (by simp) S2x1024x256 T rfl rfl 512 (by rfl) (ix3 b s k) (fun a ha => by
      match a with
      | ⟨0, _⟩ => rfl
      | ⟨1, _⟩ => rfl
      | ⟨2, _⟩ => exact absurd rfl ha) (by show 512 + k.val = 256 * 2 + k.val; omega)

theorem four_fourth (b : Fin 2) (s : Fin 1024) (k : Fin 256) : four P Q T Z (ix3 b s (part 3 (by decide) k)) = Z (ix3 b s k) :=
  concatenate_apply_piece (t := S2x1024x1024) 2 [⟨S2x1024x256, P⟩, ⟨S2x1024x256, Q⟩, ⟨S2x1024x256, T⟩, ⟨S2x1024x256, Z⟩] concatenates_S2x1024x256_S2x1024x256_S2x1024x256_S2x1024x256_S2x1024x1024_d2 (ix3 b s (part 3 (by decide) k))
    3 (by simp) S2x1024x256 Z rfl rfl 768 (by rfl) (ix3 b s k) (fun a ha => by
      match a with
      | ⟨0, _⟩ => rfl
      | ⟨1, _⟩ => rfl
      | ⟨2, _⟩ => exact absurd rfl ha) (by show 768 + k.val = 256 * 3 + k.val; omega)

end Four

/-- The first layer's weights. -/
def weights (w : FVec Ideal S4x1024x1024 .f32) : FVec Ideal S1024x1024 .f32 :=
  shapeCast _ (extractStridedSlice S1x1024x1024 ![0, 0, 0] w slices_S4x1024x1024_S1x1024x1024_0_0_0) shapeCasts_S1x1024x1024_S1024x1024

theorem weights_apply (w : FVec Ideal S4x1024x1024 .f32) (d n : Fin 1024) : weights w (ix2 d n) = w (ix3 (0 : Fin 4) d n) := by
  refine (shapeCast_apply _ shapeCasts_S1x1024x1024_S1024x1024 (ix2 d n) (ix3 (0 : Fin 1) d n) (by
    rw [Shape.rowMajor_val_two, Shape.rowMajor_val_three]
    show (0 * 1024 + d.val) * 1024 + n.val = d.val * 1024 + n.val
    omega)).trans ?_
  refine extractStridedSlice_apply _ w slices_S4x1024x1024_S1x1024x1024_0_0_0 _ (ix3 (0 : Fin 4) d n) fun a => ?_
  match a with
  | ⟨0, _⟩ => rfl
  | ⟨1, _⟩ => exact (Nat.zero_add _).symm
  | ⟨2, _⟩ => exact (Nat.zero_add _).symm

/-- The gate, along every token of its sequence. -/
theorem along_apply (v : FVec Ideal S2x1x1024 .f32) (b : Fin 2) (s d : Fin 1024) :
    broadcastInDim S2x1024x1024 ![0, 1, 2] bcast_S2x1x1024_S2x1024x1024_0_1_2 v (ix3 b s d) = v (ix3 b (0 : Fin 1) d) :=
  broadcastInDim_apply (![0, 1, 2] : Fin 3 → Fin 3) bcast_S2x1x1024_S2x1024x1024_0_1_2 v (ix3 b s d) (ix3 b (0 : Fin 1) d) (fun a => by
    match a with
    | ⟨0, _⟩ => rfl
    | ⟨1, _⟩ => rfl
    | ⟨2, _⟩ => rfl)

/-- The joined features times the weights. -/
def dots (P Q T Z : FVec Ideal S2x1024x256 .f32) (w : FVec Ideal S4x1024x1024 .f32) : FVec Ideal S2x1024x1024 .f32 :=
  Host.dotGeneral dot_S2x1024x1024_S1024x1024_S2x1024x1024_2_0_01_1_n_n none (four P Q T Z) (weights w)

theorem dots_apply (P Q T Z : FVec Ideal S2x1024x256 .f32) (w : FVec Ideal S4x1024x1024 .f32) (b : Fin 2) (s n : Fin 1024) :
    dots P Q T Z w (ix3 b s n) = mixed (fun k => P (ix3 b s k)) (fun k => Q (ix3 b s k)) (fun k => T (ix3 b s k)) (fun k => Z (ix3 b s k)) (fun k => w (ix3 (0 : Fin 4) k n)) := by
  refine (InProj.Ref.tokensDot_apply dot_S2x1024x1024_S1024x1024_S2x1024x1024_2_0_01_1_n_n_wf none (four P Q T Z) (weights w) b s n).trans ?_
  refine (sum_parts _).trans ?_
  unfold mixed
  simp only [four_first, four_second, four_third, four_fourth, weights_apply]

/-- The reference's result before its rows are listed. -/
def sums (x : FVec Ideal S2x1024x1024 .f32) (P Q T Z : FVec Ideal S2x1024x256 .f32) (w : FVec Ideal S4x1024x1024 .f32) (g : FVec Ideal S2x1x1024 .f32) : FVec Ideal S2x1024x1024 .f32 :=
  addf x (mulf (broadcastInDim S2x1024x1024 ![0, 1, 2] bcast_S2x1x1024_S2x1024x1024_0_1_2 g) (dots P Q T Z w))

theorem sums_apply (x : FVec Ideal S2x1024x1024 .f32) (P Q T Z : FVec Ideal S2x1024x256 .f32) (w : FVec Ideal S4x1024x1024 .f32) (g : FVec Ideal S2x1x1024 .f32) (b : Fin 2) (s n : Fin 1024) :
    sums x P Q T Z w g (ix3 b s n) = projected x P Q T Z w g b s n := by
  have h1 := along_apply g b s n
  have h2 := dots_apply P Q T Z w b s n
  show (x (ix3 b s n) : EReal) + broadcastInDim S2x1024x1024 ![0, 1, 2] bcast_S2x1x1024_S2x1024x1024_0_1_2 g (ix3 b s n) * dots P Q T Z w (ix3 b s n) = _
  rw [h1, h2]
  rfl

/-- The reference's result, read at an entry. -/
theorem ref_apply (x : FVec Ideal S2x1024x1024 .f32) (P Q T Z : FVec Ideal S2x1024x256 .f32) (w : FVec Ideal S4x1024x1024 .f32) (g : FVec Ideal S2x1x1024 .f32)
    (R : Fin 2048) (n : Fin 1024) :
    (shapeCast S2048x1024 (sums x P Q T Z w g) shapeCasts_S2x1024x1024_S2048x1024 : FVec Ideal S2048x1024 .f32) (ix2 R n)
      = projected x P Q T Z w g (⟨R.val / 1024, by have := R.isLt; omega⟩ : Fin 2) (⟨R.val % 1024, Nat.mod_lt _ (by decide)⟩ : Fin 1024) n := by
  have hR := R.isLt
  refine (shapeCast_apply _ shapeCasts_S2x1024x1024_S2048x1024 (ix2 R n) (ix3 (⟨R.val / 1024, by omega⟩ : Fin 2) (⟨R.val % 1024, Nat.mod_lt _ (by decide)⟩ : Fin 1024) n) (by
    rw [Shape.rowMajor_val_two, Shape.rowMajor_val_three]
    show (R.val / 1024 * 1024 + R.val % 1024) * 1024 + n.val = R.val * 1024 + n.val
    omega)).trans ?_
  exact sums_apply x P Q T Z w g _ _ n

end Cert.Proof.OutProj.Ref

end
-- ==== Proof.AffMath.lean ====
module

public import proofs.«01_k».proof.Proof.OutProjMath
public import proofs.«01_k».proof.Proof.InProjMath
public import Idealize.ShloMosaic.Lib.IdealHost

@[expose] public section

noncomputable section

namespace Cert.Proof.Aff

open Idealize.ShloMosaic Idealize.ShloMosaic.ValueIdx
open scoped BigOperators

/-! ## What the affinities are, at a token and an expert -/

/-- The greatest of sixteen logits. -/
def top (l : Fin 16 → EReal) : EReal := (Finset.univ : Finset (Fin 16)).fold max (⊥ : EReal) l

/-- One logit's share of the exponentials. -/
def soft (l : Fin 16 → EReal) (e : Fin 16) : EReal := Ideal.div (Ideal.exp (l e - top l)) (∑ j : Fin 16, Ideal.exp (l j - top l))

/-- A token's affinities: its features, the tokens after the residual normalized and modulated, times the router's columns. -/
def affinity (x : (⟨3, ![2, 1024, 1024]⟩ : Shape).Idx → EReal) (a b c d : (⟨3, ![2, 1024, 256]⟩ : Shape).Idx → EReal)
    (w : (⟨3, ![4, 1024, 1024]⟩ : Shape).Idx → EReal) (g : (⟨3, ![2, 1, 1024]⟩ : Shape).Idx → EReal) (gain : (⟨2, ![4, 1024]⟩ : Shape).Idx → EReal)
    (sc sh : (⟨3, ![2, 1, 1024]⟩ : Shape).Idx → EReal) (rw : (⟨3, ![4, 1024, 16]⟩ : Shape).Idx → EReal) (q : Fin 2) (s : Fin 1024) (e : Fin 16) : EReal :=
  soft (fun j => ∑ k : Fin 1024, InProj.feature (fun n => OutProj.projected x a b c d w g q s n) (fun n => gain (ix2 (0 : Fin 4) n)) (fun n => sc (ix3 q (0 : Fin 1) n))
    (fun n => sh (ix3 q (0 : Fin 1) n)) k * rw (ix3 (0 : Fin 4) k j)) e

/-- The kernel's logit: the features times the weights' rounding and what the rounding left, and what the features' rounding
    left times the weights' rounding. -/
def split (h hi lo : Fin 1024 → EReal) : EReal := (∑ k, h k * hi k + ∑ k, h k * lo k) + ∑ k, (h k - h k) * hi k

/-! ## Numbers -/

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub_self {x : EReal} (hx : IsReal x) : x - x = 0 := by
  obtain ⟨a, rfl⟩ := hx
  rw [← EReal.coe_sub, _root_.sub_self, EReal.coe_zero]

/-- With real features and weights, what the roundings left is zero. -/
theorem split_eq (h w : Fin 1024 → EReal) (hh : ∀ k, IsReal (h k)) (hw : ∀ k, IsReal (w k)) :
    split h w (fun k => w k - w k) = ∑ k, h k * w k := by
  unfold split
  have e1 : ∑ k, h k * (w k - w k) = 0 := Finset.sum_eq_zero fun k _ => by rw [(hw k).sub_self, mul_zero]
  have e2 : ∑ k, (h k - h k) * w k = 0 := Finset.sum_eq_zero fun k _ => by rw [(hh k).sub_self, zero_mul]
  rw [e1, e2, add_zero, add_zero]

theorem count_word : ∃ r : ℝ, 0 < r ∧ Ideal.ofBits .f32 0x44800000#32 = (r : EReal) := by
  refine ⟨((2 ^ 23 : ℕ) : ℝ) * (2 : ℝ) ^ ((137 : Int) - 127 - 23), by positivity, ?_⟩
  simp [Ideal.ofBits, Ideal.ieee]

theorem small_word : ∃ r : ℝ, 0 < r ∧ Ideal.ofBits .f32 0x358637BD#32 = (r : EReal) := by
  refine ⟨((2 ^ 23 + 407485 : ℕ) : ℝ) * (2 : ℝ) ^ ((107 : Int) - 127 - 23), by positivity, ?_⟩
  simp [Ideal.ofBits, Ideal.ieee]

theorem square_nonneg (x : EReal) : 0 ≤ x * x := by
  induction x with
  | bot => simp
  | top => simp
  | coe r =>
    rw [← EReal.coe_mul]
    exact_mod_cast mul_self_nonneg r

/-- A feature over the root of its token's mean square is a number, whatever the token. -/
theorem scaled_isReal (x : Fin 1024 → EReal) (d : Fin 1024) :
    IsReal (x d * Ideal.rsqrt (Ideal.div (∑ e : Fin 1024, x e * x e) (Ideal.ofBits .f32 0x44800000#32) + Ideal.ofBits .f32 0x358637BD#32)) := by
  obtain ⟨c, hc, ec⟩ := count_word
  obtain ⟨s, hs, es⟩ := small_word
  have h0 : 0 ≤ ∑ e : Fin 1024, x e * x e := Finset.sum_nonneg fun e _ => square_nonneg (x e)
  have hd : x d * x d ≤ ∑ e : Fin 1024, x e * x e := Finset.single_le_sum (f := fun e => x e * x e) (fun e _ => square_nonneg (x e)) (Finset.mem_univ d)
  have hdiv : ∀ y : EReal, Ideal.div y (c : EReal) = y * ((c⁻¹ : ℝ) : EReal) := fun y => by
    unfold Ideal.div
    rw [if_neg (by exact_mod_cast hc.ne'), ← EReal.coe_inv]
  have hci : 0 < c⁻¹ := inv_pos.2 hc
  rw [ec, es]
  generalize ∑ e : Fin 1024, x e * x e = S at h0 hd ⊢
  rw [hdiv]
  induction S with
  | bot => exact absurd h0 (by simp)
  | top =>
    rw [EReal.top_mul_coe_of_pos hci, EReal.top_add_coe]
    exact ⟨0, by show x d * 0 = _; rw [mul_zero, EReal.coe_zero]⟩
  | coe r =>
    have hr : 0 ≤ r := by exact_mod_cast h0
    have hxd : IsReal (x d) := by
      generalize x d = y at hd
      induction y with
      | bot => exact absurd hd (by simp)
      | top => exact absurd hd (by simp)
      | coe t => exact ⟨t, rfl⟩
    refine hxd.mul ?_
    rw [← EReal.coe_mul, ← EReal.coe_add]
    have hp : 0 < r * c⁻¹ + s := by positivity
    refine ⟨(Real.sqrt (r * c⁻¹ + s))⁻¹, ?_⟩
    show (if r * c⁻¹ + s < 0 then ⊥ else if r * c⁻¹ + s = 0 then ⊤ else (((Real.sqrt (r * c⁻¹ + s))⁻¹ : ℝ) : EReal)) = _
    rw [if_neg (not_lt.2 hp.le), if_neg hp.ne']

/-- A token's feature is a number when the gain, the scale and the shift are. -/
theorem feature_isReal (x g sc sh : Fin 1024 → EReal) (d : Fin 1024) (hg : IsReal (g d)) (hsc : IsReal (sc d)) (hsh : IsReal (sh d)) :
    IsReal (InProj.feature x g sc sh d) := by
  unfold InProj.feature
  refine (((scaled_isReal x d).mul hg).mul ?_).add hsh
  refine IsReal.add ⟨1, ?_⟩ hsc
  rw [Ideal.ofBits_one_f32, EReal.coe_one]

/-- A value whose magnitude is below the infinity is a number. -/
theorem isReal_of_abs {x : EReal} (h : max x (-x) < ⊤) : IsReal x := by
  induction x with
  | bot => exact absurd h (by simp)
  | top => exact absurd h (by simp)
  | coe r => exact ⟨r, rfl⟩

theorem low_word : Ideal.ofBits .f32 0xFF800000#32 = ⊥ := by simp [Ideal.ofBits, Ideal.ieee]
theorem high_word : Ideal.ofBits .f32 0x7F800000#32 = ⊤ := by simp [Ideal.ofBits, Ideal.ieee]

/-- What the comparison with the infinity says. -/
theorem isReal_of_cmp {x : EReal} (h : Ideal.cmp .olt (max x (-x)) (Ideal.ofBits .f32 0x7F800000#32) = 1#1) : IsReal x := by
  have one (p : Bool) : (BitVec.ofBool p = 1#1) ↔ p = true := by cases p <;> decide
  rw [high_word] at h
  exact isReal_of_abs (of_decide_eq_true ((one _).1 h))

end Cert.Proof.Aff

end
-- ==== Proof.AffCase.lean ====
module

public import proofs.«01_k».proof.Proof.Gen.Kernel5Ideal.Value
public import Idealize.ShloMosaic.Lib.Pipeline.Value

@[expose] public section

noncomputable section

namespace Cert.Proof.Aff

open Cert.Kernel5Ideal Cert.Kernel5Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The first quarter of the stored weights' rows. -/
def quarter0 (w : Vec F S1024x1024 .bf16) : Vec F S256x1024 .bf16 :=
  View.ld w (Rect.unit (s := S1024x1024) ![0, 0] S256x1024.size inb_S1024x1024_S256x1024_0_0)
/-- The second quarter of the stored weights' rows. -/
def quarter1 (w : Vec F S1024x1024 .bf16) : Vec F S256x1024 .bf16 :=
  View.ld w (Rect.unit (s := S1024x1024) ![256, 0] S256x1024.size inb_S1024x1024_S256x1024_256_0)
/-- The third quarter of the stored weights' rows. -/
def quarter2 (w : Vec F S1024x1024 .bf16) : Vec F S256x1024 .bf16 :=
  View.ld w (Rect.unit (s := S1024x1024) ![512, 0] S256x1024.size inb_S1024x1024_S256x1024_512_0)
/-- The last quarter of the stored weights' rows. -/
def quarter3 (w : Vec F S1024x1024 .bf16) : Vec F S256x1024 .bf16 :=
  View.ld w (Rect.unit (s := S1024x1024) ![768, 0] S256x1024.size inb_S1024x1024_S256x1024_768_0)

/-- A rectangle read after the whole buffer was stored is that rectangle of what was stored. -/
theorem reread {sig : RefSig} {κ : Kind} {sp : Space} (v : View sig κ sp S1024x1024 .bf16) (w : Vec F S1024x1024 .bf16) (r : Rect S1024x1024) :
    v.readCov [(⟨Rect.unit (s := S1024x1024) ![0, 0] S1024x1024.size inb_S1024x1024_S1024x1024_0_0, w⟩ : View.Piece (Elt F) S1024x1024 .bf16)] r.toLoadRect = View.ld w r := by
  rw [View.readCov_eq_canon', View.canon_unit_zero hz]

set_option maxRecDepth 65536 in
set_option maxHeartbeats 4000000 in
/-- What the first point stores as affinities, the weights being those it has just stored. -/
theorem out_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay1 (k0_pay8 (k0_pay3 x1 (quarter0 (k0_pay2 x5)) x2 (quarter1 (k0_pay2 x5)) x3 (quarter2 (k0_pay2 x5)) x4 (quarter3 (k0_pay2 x5))) (k0_pay4 x0) (k0_pay5 x6) x7 x8 x9) (k0_pay10 (k0_pay3 x1 (quarter0 (k0_pay2 x5)) x2 (quarter1 (k0_pay2 x5)) x3 (quarter2 (k0_pay2 x5)) x4 (quarter3 (k0_pay2 x5))) (k0_pay4 x0) (k0_pay5 x6) x7 x8 x9) (k0_pay11 x10) x10 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz]
  simp only [View.readAt_eq_ld, reread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) hz, View.ld_unit_zero (S := S512x256) hz, View.ld_unit_zero (S := S1x1024x1024) hz3, View.ld_unit_zero (S := S1x1x1024) hz3, View.ld_unit_zero (S := S1x1024) hz, View.ld_unit_zero (S := S1x1024x32) hz3]
  rw [show quarter0 (k0_pay2 x5) = _ from (reread arg15.view (k0_pay2 x5) (Rect.unit (s := S1024x1024) ![0, 0] S256x1024.size inb_S1024x1024_S256x1024_0_0)).symm]
  rw [show quarter1 (k0_pay2 x5) = _ from (reread arg15.view (k0_pay2 x5) (Rect.unit (s := S1024x1024) ![256, 0] S256x1024.size inb_S1024x1024_S256x1024_256_0)).symm]
  rw [show quarter2 (k0_pay2 x5) = _ from (reread arg15.view (k0_pay2 x5) (Rect.unit (s := S1024x1024) ![512, 0] S256x1024.size inb_S1024x1024_S256x1024_512_0)).symm]
  rw [show quarter3 (k0_pay2 x5) = _ from (reread arg15.view (k0_pay2 x5) (Rect.unit (s := S1024x1024) ![768, 0] S256x1024.size inb_S1024x1024_S256x1024_768_0)).symm]

set_option maxRecDepth 65536 in
set_option maxHeartbeats 4000000 in
/-- What a later point stores as affinities: the weights are those the first point stored. -/
theorem out_B (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : ¬cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) (xs0 : Vec F S1024x1024 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay1 (k0_pay8 (k0_pay3 x1 (quarter0 (xs0)) x2 (quarter1 (xs0)) x3 (quarter2 (xs0)) x4 (quarter3 (xs0))) (k0_pay4 x0) (k0_pay5 x6) x7 x8 x9) (k0_pay10 (k0_pay3 x1 (quarter0 (xs0)) x2 (quarter1 (xs0)) x3 (quarter2 (xs0)) x4 (quarter3 (xs0))) (k0_pay4 x0) (k0_pay5 x6) x7 x8 x9) (k0_pay11 x10) x10 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz]
  simp only [View.readAt_eq_ld, reread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) hz, View.ld_unit_zero (S := S512x256) hz, View.ld_unit_zero (S := S1x1024x1024) hz3, View.ld_unit_zero (S := S1x1x1024) hz3, View.ld_unit_zero (S := S1x1024) hz, View.ld_unit_zero (S := S1x1024x32) hz3]
  rfl

set_option maxRecDepth 65536 in
set_option maxHeartbeats 4000000 in
/-- What the first point stores as weights. -/
theorem sout_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay2 x5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz]
  simp only [View.readAt_eq_ld, reread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) hz, View.ld_unit_zero (S := S512x256) hz, View.ld_unit_zero (S := S1x1024x1024) hz3, View.ld_unit_zero (S := S1x1x1024) hz3, View.ld_unit_zero (S := S1x1024) hz, View.ld_unit_zero (S := S1x1024x32) hz3]

set_option maxRecDepth 65536 in
set_option maxHeartbeats 4000000 in
/-- A later point leaves the stored weights as they were. -/
theorem sout_B (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024x32 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x16 .f32) (harg14 : arg14.IsWhole) (arg15 : Memref sig .tc .vmem S1024x1024 .bf16) (harg15 : arg15.IsWhole) (hc0 : ¬cond0_0 i)
    (x0 : Vec F S512x1024 .f32) (x1 : Vec F S512x256 .f32) (x2 : Vec F S512x256 .f32) (x3 : Vec F S512x256 .f32) (x4 : Vec F S512x256 .f32) (x5 : Vec F S1x1024x1024 .f32) (x6 : Vec F S1x1x1024 .f32) (x7 : Vec F S1x1024 .f32) (x8 : Vec F S1x1x1024 .f32) (x9 : Vec F S1x1x1024 .f32) (x10 : Vec F S1x1024x32 .bf16) (xs0 : Vec F S1024x1024 .bf16) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = xs0 := by
  rfl

end Cert.Proof.Aff

end
-- ==== Proof.AffPay.lean ====
module

public import proofs.«01_k».proof.Proof.AffMath
public import proofs.«01_k».proof.Proof.AffCase
public import proofs.«01_k».proof.Proof.InProjPay
public import Idealize.ShloMosaic.Lib.MatmulPlain
public import Idealize.ShloMosaic.Lib.Pipeline.Value

@[expose] public section

noncomputable section

namespace Cert.Proof.Aff

open Cert.Kernel5Ideal Cert.Kernel5Ideal.Gen Idealize.ShloMosaic Idealize.ShloMosaic.ValueIdx Idealize.SL.Sem
open scoped BigOperators

/-- The stored weights, read at an entry. -/
theorem pay2_apply (w : Vec Ideal S1x1024x1024 .f32) (k n : Fin 1024) :
    k0_pay2 (F := Ideal) w (ix2 k n) = w (ix3 (0 : Fin 1) k n) := by
  unfold k0_pay2
  refine (shapeCast_apply _ _ (ix2 k n) (ix2 k n) rfl).trans ?_
  show shapeCast S1024x1024 w shapeCasts_S1x1024x1024_S1024x1024 (ix2 k n) = _
  exact shapeCast_apply _ _ _ _ (by
    rw [Shape.rowMajor_val_two, Shape.rowMajor_val_three]
    show (0 * 1024 + k.val) * 1024 + n.val = k.val * 1024 + n.val
    omega)

/-- The rows of the tokens, as they are. -/
theorem pay4_apply (x : Vec Ideal S512x1024 .f32) (i : S512x1024.Idx) : k0_pay4 (F := Ideal) x i = x i :=
  shapeCast_apply _ _ i i rfl

/-- The gate, along every row. -/
theorem pay5_apply (g : Vec Ideal S1x1x1024 .f32) (r : Fin 512) (n : Fin 1024) :
    k0_pay5 (F := Ideal) g (ix2 r n) = g (ix3 (0 : Fin 1) (0 : Fin 1) n) := by
  unfold k0_pay5
  refine (broadcastTo_apply _ _ (ix2 r n) (ix2 (0 : Fin 1) n) (fun a => by
    match a with
    | ⟨0, _⟩ => rfl
    | ⟨1, _⟩ => rfl)).trans ?_
  exact shapeCast_apply _ _ _ _ (by
    rw [Shape.rowMajor_val_two, Shape.rowMajor_val_three]
    show (0 * 1 + 0) * 1024 + n.val = 0 * 1024 + n.val
    omega)

/-- A row of a quarter of the stored weights. -/
theorem quarter0_apply (w : Vec Ideal S1024x1024 .bf16) (k : Fin 256) (n : Fin 1024) : quarter0 w (ix2 k n) = w (ix2 (OutProj.part 0 (by decide) k) n) := by
  show w _ = w _
  refine congrArg w (funext fun a => Fin.ext ?_)
  match a with
  | ⟨0, _⟩ => show 0 + 1 * k.val = 256 * 0 + k.val; omega
  | ⟨1, _⟩ => show 0 + 1 * n.val = n.val; omega
theorem quarter1_apply (w : Vec Ideal S1024x1024 .bf16) (k : Fin 256) (n : Fin 1024) : quarter1 w (ix2 k n) = w (ix2 (OutProj.part 1 (by decide) k) n) := by
  show w _ = w _
  refine congrArg w (funext fun a => Fin.ext ?_)
  match a with
  | ⟨0, _⟩ => show 256 + 1 * k.val = 256 * 1 + k.val; omega
  | ⟨1, _⟩ => show 0 + 1 * n.val = n.val; omega
theorem quarter2_apply (w : Vec Ideal S1024x1024 .bf16) (k : Fin 256) (n : Fin 1024) : quarter2 w (ix2 k n) = w (ix2 (OutProj.part 2 (by decide) k) n) := by
  show w _ = w _
  refine congrArg w (funext fun a => Fin.ext ?_)
  match a with
  | ⟨0, _⟩ => show 512 + 1 * k.val = 256 * 2 + k.val; omega
  | ⟨1, _⟩ => show 0 + 1 * n.val = n.val; omega
theorem quarter3_apply (w : Vec Ideal S1024x1024 .bf16) (k : Fin 256) (n : Fin 1024) : quarter3 w (ix2 k n) = w (ix2 (OutProj.part 3 (by decide) k) n) := by
  show w _ = w _
  refine congrArg w (funext fun a => Fin.ext ?_)
  match a with
  | ⟨0, _⟩ => show 768 + 1 * k.val = 256 * 3 + k.val; omega
  | ⟨1, _⟩ => show 0 + 1 * n.val = n.val; omega

/-- A block of mixed rows times a quarter of the weights, read at an entry. -/
theorem dot_apply (a : Vec Ideal S512x256 .f32) (w : FVec Ideal S256x1024 .bf16) (r : Fin 512) (n : Fin 1024) :
    (matmul dot_S512x256_S256x1024_S512x1024_1_0_0_1_n_n none (truncf .bf16 (shapeCast S512x256 a shapeCasts_S512x256_S512x256 : FVec Ideal S512x256 .f32) bitsLt_bf16_f32) (w : FVec Ideal S256x1024 .bf16)
      (constant S512x1024 .f32 0x00000000#32) : FVec Ideal S512x1024 .f32) (ix2 r n) = ∑ k : Fin 256, a (ix2 r k) * w (ix2 k n) := by
  refine (Ideal.matmul_plain_apply (M := 512) (K := 256) (N := 1024) none _ w _ r n).trans ?_
  rw [show (constant S512x1024 .f32 0x00000000#32 : FVec Ideal S512x1024 .f32) (ix2 r n) = 0 from Ideal.ofBits_zero_f32, zero_add]
  refine Finset.sum_congr rfl fun k _ => ?_
  show (shapeCast S512x256 a shapeCasts_S512x256_S512x256 (ix2 r k) : EReal) * _ = _
  rw [shapeCast_apply a shapeCasts_S512x256_S512x256 (ix2 r k) (ix2 r k) rfl]

/-- The four products, added. -/
theorem pay3_apply (a b c d : Vec Ideal S512x256 .f32) (w : Vec Ideal S1024x1024 .bf16) (r : Fin 512) (n : Fin 1024) :
    k0_pay3 (F := Ideal) a (quarter0 w) b (quarter1 w) c (quarter2 w) d (quarter3 w) (ix2 r n)
      = OutProj.mixed (fun k => a (ix2 r k)) (fun k => b (ix2 r k)) (fun k => c (ix2 r k)) (fun k => d (ix2 r k)) (fun k => w (ix2 k n)) := by
  have h0 := dot_apply a (quarter0 w) r n
  have h1 := dot_apply b (quarter1 w) r n
  have h2 := dot_apply c (quarter2 w) r n
  have h3 := dot_apply d (quarter3 w) r n
  simp only [quarter0_apply] at h0
  simp only [quarter1_apply] at h1
  simp only [quarter2_apply] at h2
  simp only [quarter3_apply] at h3
  unfold OutProj.mixed
  rw [← h0, ← h1, ← h2, ← h3]
  rfl

/-- A block of the tokens after the residual, read at an entry. -/
theorem stored_apply (x : Vec Ideal S512x1024 .f32) (a b c d : Vec Ideal S512x256 .f32) (w : Vec Ideal S1024x1024 .bf16) (g : Vec Ideal S1x1x1024 .f32) (r : Fin 512) (n : Fin 1024) :
    k0_pay6 (F := Ideal) (k0_pay3 a (quarter0 w) b (quarter1 w) c (quarter2 w) d (quarter3 w)) (k0_pay4 x) (k0_pay5 g) (ix2 r n)
      = x (ix2 r n) + g (ix3 (0 : Fin 1) (0 : Fin 1) n)
        * OutProj.mixed (fun k => a (ix2 r k)) (fun k => b (ix2 r k)) (fun k => c (ix2 r k)) (fun k => d (ix2 r k)) (fun k => w (ix2 k n)) := by
  show (k0_pay4 (F := Ideal) x (ix2 r n) : EReal) + k0_pay5 (F := Ideal) g (ix2 r n) * k0_pay3 (F := Ideal) a (quarter0 w) b (quarter1 w) c (quarter2 w) d (quarter3 w) (ix2 r n) = _
  rw [pay4_apply, pay5_apply, pay3_apply]

/-- The modulated features of those rows. -/
theorem pay7_apply (u v z : FVec Ideal S512x1024 .f32) (g : Vec Ideal S1x1024 .f32) (sc sh : Vec Ideal S1x1x1024 .f32) (r : Fin 512) (d : Fin 1024) :
    k0_pay7 (F := Ideal) u v z g sc sh (ix2 r d)
      = InProj.feature (fun e => k0_pay6 (F := Ideal) u v z (ix2 r e)) (fun e => g (ix2 (0 : Fin 1) e)) (fun e => sc (ix3 (0 : Fin 1) (0 : Fin 1) e)) (fun e => sh (ix3 (0 : Fin 1) (0 : Fin 1) e)) d := by
  rw [← InProj.features_apply]
  have hx : shapeCast S512x1024 (k0_pay6 (F := Ideal) u v z) (by decide : S512x1024.ShapeCasts S512x1024) = k0_pay6 (F := Ideal) u v z := funext fun i => shapeCast_apply _ _ _ _ rfl
  unfold InProj.features
  rw [hx]
  rfl

/-- The products with the weights' rounding and with what it left, and the rest's product. -/
def logits (h l : FVec Ideal S512x1024 .bf16) (w : FVec Ideal S1024x32 .bf16) (w' : Vec Ideal S1x1024x32 .bf16) : FVec Ideal S512x16 .f32 :=
  addf (addf (extractStridedSlice S512x16 ![0, 0] (matmul dot_S512x1024_S1024x32_S512x32_1_0_0_1_n_n none h w (constant S512x32 .f32 0x00000000#32) : FVec Ideal S512x32 .f32) slices_S512x32_o0_0_S512x16)
    (extractStridedSlice S512x16 ![0, 16] (matmul dot_S512x1024_S1024x32_S512x32_1_0_0_1_n_n none h w (constant S512x32 .f32 0x00000000#32) : FVec Ideal S512x32 .f32) slices_S512x32_o0_16_S512x16))
    (extractStridedSlice S512x16 ![0, 0] (matmul dot_S512x1024_S1024x32_S512x32_1_0_0_1_n_n none l (shapeCast S1024x32 w' shapeCasts_S1x1024x32_S1024x32 : FVec Ideal S1024x32 .bf16) (constant S512x32 .f32 0x00000000#32) : FVec Ideal S512x32 .f32) slices_S512x32_o0_0_S512x16)

/-- A row's greatest logit, along the row. -/
def tops (z : FVec Ideal S512x16 .f32) : FVec Ideal S512x16 .f32 :=
  broadcastTo S512x16 (shapeCast S512x1 (multiReduction .maximumf [1] S512 z 0xFF800000#32 reduces_S512x16_S512 (.inl rfl) rfl : FVec Ideal S512 .f32) shapeCasts_S512_S512x1 : FVec Ideal S512x1 .f32) broadcasts_S512x1_S512x16

/-- A row's sum, along the row. -/
def totals (z : FVec Ideal S512x16 .f32) : FVec Ideal S512x16 .f32 :=
  broadcastTo S512x16 (shapeCast S512x1 (multiReduction .add [1] S512 z 0x00000000#32 reduces_S512x16_S512 (.inl rfl) rfl : FVec Ideal S512 .f32) shapeCasts_S512_S512x1 : FVec Ideal S512x1 .f32) broadcasts_S512x1_S512x16

theorem pay1_eq (h l : FVec Ideal S512x1024 .bf16) (w : FVec Ideal S1024x32 .bf16) (w' : Vec Ideal S1x1024x32 .bf16) :
    k0_pay1 (F := Ideal) h l w w' = divf (exp (subf (logits h l w w') (tops (logits h l w w')))) (totals (exp (subf (logits h l w w') (tops (logits h l w w'))))) := rfl

/-- A column spread over sixteen entries. -/
theorem spread_apply (v : FVec Ideal S512 .f32) (r : Fin 512) (e : Fin 16) :
    broadcastTo S512x16 (shapeCast S512x1 v shapeCasts_S512_S512x1 : FVec Ideal S512x1 .f32) broadcasts_S512x1_S512x16 (ix2 r e) = v (ix1 r) := by
  refine (broadcastTo_apply _ _ (ix2 r e) (ix2 r (0 : Fin 1)) fun a => by
    match a with
    | ⟨0, _⟩ => rfl
    | ⟨1, _⟩ => rfl).trans ?_
  exact shapeCast_apply _ shapeCasts_S512_S512x1 (ix2 r (0 : Fin 1)) (ix1 r) (by
    rw [Shape.rowMajor_val_two, Shape.rowMajor_val_one]
    show r.val = r.val * 1 + 0
    omega)

theorem lift_row (r : Fin 512) (e : Fin 16) : reduces_S512x16_S512.lift (ix1 r) e = ix2 r e := funext fun a => Fin.ext (by
  match a with
  | ⟨0, _⟩ => rfl
  | ⟨1, _⟩ => rfl)

theorem tops_apply (z : FVec Ideal S512x16 .f32) (r : Fin 512) (e : Fin 16) : tops z (ix2 r e) = top (fun j => z (ix2 r j)) := by
  unfold tops
  rw [spread_apply]
  refine (Ideal.multiReduction_maximumf_single z _ reduces_S512x16_S512 (.inl rfl) rfl (ix1 r)).trans ?_
  exact congrArg₂ (fun (b : EReal) (f : Fin 16 → EReal) => (Finset.univ : Finset (Fin 16)).fold max b f) low_word (funext fun j => congrArg z (lift_row r j))

theorem totals_apply (z : FVec Ideal S512x16 .f32) (r : Fin 512) (e : Fin 16) : totals z (ix2 r e) = ∑ j : Fin 16, (z (ix2 r j) : EReal) := by
  unfold totals
  rw [spread_apply]
  refine (Ideal.multiReduction_add_single z _ reduces_S512x16_S512 (.inl rfl) rfl (ix1 r)).trans (Finset.sum_congr rfl fun j _ => ?_)
  exact congrArg z (lift_row r j)

/-- A row's affinities from its logits. -/
theorem pay1_apply (h l : FVec Ideal S512x1024 .bf16) (w : FVec Ideal S1024x32 .bf16) (w' : Vec Ideal S1x1024x32 .bf16) (r : Fin 512) (e : Fin 16) :
    k0_pay1 (F := Ideal) h l w w' (ix2 r e) = soft (fun j => logits h l w w' (ix2 r j)) e := by
  rw [pay1_eq]
  generalize logits h l w w' = z
  have hx : ∀ j : Fin 16, (exp (subf z (tops z)) : FVec Ideal S512x16 .f32) (ix2 r j) = Ideal.exp ((z (ix2 r j) : EReal) - top (fun j => z (ix2 r j))) := fun j => by
    show Ideal.exp ((z (ix2 r j) : EReal) - tops z (ix2 r j)) = _
    rw [tops_apply]
  show Ideal.div ((exp (subf z (tops z)) : FVec Ideal S512x16 .f32) (ix2 r e)) (totals (exp (subf z (tops z))) (ix2 r e)) = _
  rw [totals_apply]
  simp only [hx]
  rfl

/-- Rows times the weights' halves, read at an entry. -/
theorem product_apply (h : FVec Ideal S512x1024 .bf16) (w : FVec Ideal S1024x32 .bf16) (r : Fin 512) (n : Fin 32) :
    (matmul dot_S512x1024_S1024x32_S512x32_1_0_0_1_n_n none h w (constant S512x32 .f32 0x00000000#32) : FVec Ideal S512x32 .f32) (ix2 r n) = ∑ k : Fin 1024, (h (ix2 r k) : EReal) * w (ix2 k n) := by
  refine (Ideal.matmul_plain_apply (M := 512) (K := 1024) (N := 32) none h w _ r n).trans ?_
  rw [show (constant S512x32 .f32 0x00000000#32 : FVec Ideal S512x32 .f32) (ix2 r n) = 0 from Ideal.ofBits_zero_f32, zero_add]

theorem halves_cast (w' : Vec Ideal S1x1024x32 .bf16) (k : Fin 1024) (n : Fin 32) :
    shapeCast S1024x32 w' shapeCasts_S1x1024x32_S1024x32 (ix2 k n) = w' (ix3 (0 : Fin 1) k n) :=
  shapeCast_apply _ _ _ _ (by
    rw [Shape.rowMajor_val_two, Shape.rowMajor_val_three]
    show (0 * 1024 + k.val) * 32 + n.val = k.val * 32 + n.val
    omega)

/-- Columns of the product from the one numbered `o` on. -/
theorem columns_apply (o : Nat) (z : FVec Ideal S512x32 .f32) (hs : S512x32.Slices ![0, o] S512x16) (r : Fin 512) (e : Fin 16) (n : Fin 32) (h : n.val = o + e.val) :
    extractStridedSlice S512x16 ![0, o] z hs (ix2 r e) = z (ix2 r n) := by
  refine extractStridedSlice_apply _ z hs _ (ix2 r n) fun a => ?_
  match a with
  | ⟨0, _⟩ => exact (Nat.zero_add _).symm
  | ⟨1, _⟩ => exact h

theorem logits_apply (h l : FVec Ideal S512x1024 .bf16) (w' : Vec Ideal S1x1024x32 .bf16) (r : Fin 512) (e : Fin 16) :
    logits h l (k0_pay11 w') w' (ix2 r e)
      = (∑ k : Fin 1024, (h (ix2 r k) : EReal) * w' (ix3 (0 : Fin 1) k (⟨e.val, by have := e.isLt; omega⟩ : Fin 32))
          + ∑ k : Fin 1024, (h (ix2 r k) : EReal) * w' (ix3 (0 : Fin 1) k (⟨16 + e.val, by have := e.isLt; omega⟩ : Fin 32)))
        + ∑ k : Fin 1024, (l (ix2 r k) : EReal) * w' (ix3 (0 : Fin 1) k (⟨e.val, by have := e.isLt; omega⟩ : Fin 32)) := by
  have he := e.isLt
  have h1 := columns_apply 0 (matmul dot_S512x1024_S1024x32_S512x32_1_0_0_1_n_n none h (k0_pay11 w') (constant S512x32 .f32 0x00000000#32) : FVec Ideal S512x32 .f32) slices_S512x32_o0_0_S512x16 r e (⟨e.val, by omega⟩ : Fin 32) (Nat.zero_add _).symm
  have h2 := columns_apply 16 (matmul dot_S512x1024_S1024x32_S512x32_1_0_0_1_n_n none h (k0_pay11 w') (constant S512x32 .f32 0x00000000#32) : FVec Ideal S512x32 .f32) slices_S512x32_o0_16_S512x16 r e (⟨16 + e.val, by omega⟩ : Fin 32) rfl
  have h3 := columns_apply 0 (matmul dot_S512x1024_S1024x32_S512x32_1_0_0_1_n_n none l (k0_pay11 w') (constant S512x32 .f32 0x00000000#32) : FVec Ideal S512x32 .f32) slices_S512x32_o0_0_S512x16 r e (⟨e.val, by omega⟩ : Fin 32) (Nat.zero_add _).symm
  rw [product_apply] at h1 h2 h3
  have hw : ∀ (k : Fin 1024) (n : Fin 32), k0_pay11 (F := Ideal) w' (ix2 k n) = w' (ix3 (0 : Fin 1) k n) := fun k n => halves_cast w' k n
  simp only [hw] at h1 h2 h3
  rw [← h1, ← h2, ← h3]
  rfl

/-- WHAT A POINT STORES AS AFFINITIES, read at an entry. -/
theorem affinities_apply (u v z : FVec Ideal S512x1024 .f32) (g : Vec Ideal S1x1024 .f32) (sc sh : Vec Ideal S1x1x1024 .f32) (w' : Vec Ideal S1x1024x32 .bf16) (r : Fin 512) (e : Fin 16)
    (f : Fin 1024 → EReal) (hf : ∀ k, k0_pay7 (F := Ideal) u v z g sc sh (ix2 r k) = f k) :
    k0_pay1 (F := Ideal) (k0_pay8 u v z g sc sh) (k0_pay10 u v z g sc sh) (k0_pay11 w') w' (ix2 r e)
      = soft (fun j => split f (fun k => w' (ix3 (0 : Fin 1) k (⟨j.val, by have := j.isLt; omega⟩ : Fin 32))) (fun k => w' (ix3 (0 : Fin 1) k (⟨16 + j.val, by have := j.isLt; omega⟩ : Fin 32)))) e := by
  rw [pay1_apply]
  have h8 : ∀ k, (k0_pay8 (F := Ideal) u v z g sc sh (ix2 r k) : EReal) = f k := fun k => hf k
  have h10 : ∀ k, (k0_pay10 (F := Ideal) u v z g sc sh (ix2 r k) : EReal) = f k - f k := fun k => by
    show (k0_pay7 (F := Ideal) u v z g sc sh (ix2 r k) : EReal) - k0_pay7 (F := Ideal) u v z g sc sh (ix2 r k) = _
    rw [hf]
  simp only [logits_apply, h8, h10]
  rfl

end Cert.Proof.Aff

end
-- ==== Proof.AffBlk.lean ====
module

public import proofs.«01_k».proof.Proof.AffPay
public import proofs.«01_k».proof.Proof.Gen.Kernel5Ideal.Value

@[expose] public section

noncomputable section

namespace Cert.Proof.Aff

open Cert.Kernel5Ideal Cert.Kernel5Ideal.Gen Cert.Kernel5Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The blocks each point reads -/

/-! The arrays the call stages, from the given ones. -/

theorem V_0 (c : Dev nD) : V m c main_v0 = shapeCast S2048x1024 (m ((c : Thread nD τ).loc main_arg0) : Vec Ideal S2x1024x1024 .f32) shapeCasts_S2x1024x1024_S2048x1024 := by
  show StableHlo.after hostOps0 _ _ = _
  after_results_simp
  rfl

theorem V_1 (c : Dev nD) : V m c main_v6 = shapeCast S2048x256 (m ((c : Thread nD τ).loc main_arg1) : Vec Ideal S2x1024x256 .f32) shapeCasts_S2x1024x256_S2048x256 := by
  show StableHlo.after hostOps0 _ _ = _
  after_results_simp
  rfl

theorem V_2 (c : Dev nD) : V m c main_v7 = shapeCast S2048x256 (m ((c : Thread nD τ).loc main_arg2) : Vec Ideal S2x1024x256 .f32) shapeCasts_S2x1024x256_S2048x256 := by
  show StableHlo.after hostOps0 _ _ = _
  after_results_simp
  rfl

theorem V_3 (c : Dev nD) : V m c main_v8 = shapeCast S2048x256 (m ((c : Thread nD τ).loc main_arg3) : Vec Ideal S2x1024x256 .f32) shapeCasts_S2x1024x256_S2048x256 := by
  show StableHlo.after hostOps0 _ _ = _
  after_results_simp
  rfl

theorem V_4 (c : Dev nD) : V m c main_v9 = shapeCast S2048x256 (m ((c : Thread nD τ).loc main_arg4) : Vec Ideal S2x1024x256 .f32) shapeCasts_S2x1024x256_S2048x256 := by
  show StableHlo.after hostOps0 _ _ = _
  after_results_simp
  rfl

/-! A block of an array, whatever the array holds. -/

theorem index0 : ∀ t : Fin cfg0.N, win0_0.index t (0 : Fin 2) = t.val ∧ win0_0.index t (1 : Fin 2) = 0 :=
  (by decide +kernel : ∀ t : Fin grid0.N, _)

theorem V_0' (c : Dev nD) : V m c (Pipeline.arrRef spec0 0) = shapeCast S2048x1024 (m ((c : Thread nD τ).loc main_arg0) : Vec Ideal S2x1024x1024 .f32) shapeCasts_S2x1024x1024_S2048x1024 :=
  V_0 m c

theorem read0 (A : Vec Ideal S2048x1024 .f32) (t : Fin cfg0.N) (r : Fin 512) (d : Fin 1024) (R : Fin 2048) (h : t.val * 512 + r.val = R.val) :
    (((cfg0.win 0).blk t).view.read (Elt Ideal) A : Vec Ideal S512x1024 .f32) (ix2 r d) = A (ix2 R d) := by
  have hi := index0 t
  rw [View.read_apply]
  show A _ = A _
  refine congrArg A (funext fun ax => Fin.ext ?_)
  match ax with
  | ⟨0, _⟩ => show win0_0.index t (0 : Fin 2) * 512 + 1 * r.val = R.val; rw [hi.1]; omega
  | ⟨1, _⟩ => show win0_0.index t (1 : Fin 2) * 1024 + 1 * d.val = d.val; rw [hi.2, Nat.zero_mul, Nat.zero_add, Nat.one_mul]

theorem index1 : ∀ t : Fin cfg0.N, win0_1.index t (0 : Fin 2) = t.val ∧ win0_1.index t (1 : Fin 2) = 0 :=
  (by decide +kernel : ∀ t : Fin grid0.N, _)

theorem V_1' (c : Dev nD) : V m c (Pipeline.arrRef spec0 1) = shapeCast S2048x256 (m ((c : Thread nD τ).loc main_arg1) : Vec Ideal S2x1024x256 .f32) shapeCasts_S2x1024x256_S2048x256 :=
  V_1 m c

theorem read1 (A : Vec Ideal S2048x256 .f32) (t : Fin cfg0.N) (r : Fin 512) (d : Fin 256) (R : Fin 2048) (h : t.val * 512 + r.val = R.val) :
    (((cfg0.win 1).blk t).view.read (Elt Ideal) A : Vec Ideal S512x256 .f32) (ix2 r d) = A (ix2 R d) := by
  have hi := index1 t
  rw [View.read_apply]
  show A _ = A _
  refine congrArg A (funext fun ax => Fin.ext ?_)
  match ax with
  | ⟨0, _⟩ => show win0_1.index t (0 : Fin 2) * 512 + 1 * r.val = R.val; rw [hi.1]; omega
  | ⟨1, _⟩ => show win0_1.index t (1 : Fin 2) * 256 + 1 * d.val = d.val; rw [hi.2, Nat.zero_mul, Nat.zero_add, Nat.one_mul]

theorem index2 : ∀ t : Fin cfg0.N, win0_2.index t (0 : Fin 2) = t.val ∧ win0_2.index t (1 : Fin 2) = 0 :=
  (by decide +kernel : ∀ t : Fin grid0.N, _)

theorem V_2' (c : Dev nD) : V m c (Pipeline.arrRef spec0 2) = shapeCast S2048x256 (m ((c : Thread nD τ).loc main_arg2) : Vec Ideal S2x1024x256 .f32) shapeCasts_S2x1024x256_S2048x256 :=
  V_2 m c

theorem read2 (A : Vec Ideal S2048x256 .f32) (t : Fin cfg0.N) (r : Fin 512) (d : Fin 256) (R : Fin 2048) (h : t.val * 512 + r.val = R.val) :
    (((cfg0.win 2).blk t).view.read (Elt Ideal) A : Vec Ideal S512x256 .f32) (ix2 r d) = A (ix2 R d) := by
  have hi := index2 t
  rw [View.read_apply]
  show A _ = A _
  refine congrArg A (funext fun ax => Fin.ext ?_)
  match ax with
  | ⟨0, _⟩ => show win0_2.index t (0 : Fin 2) * 512 + 1 * r.val = R.val; rw [hi.1]; omega
  | ⟨1, _⟩ => show win0_2.index t (1 : Fin 2) * 256 + 1 * d.val = d.val; rw [hi.2, Nat.zero_mul, Nat.zero_add, Nat.one_mul]

theorem index3 : ∀ t : Fin cfg0.N, win0_3.index t (0 : Fin 2) = t.val ∧ win0_3.index t (1 : Fin 2) = 0 :=
  (by decide +kernel : ∀ t : Fin grid0.N, _)

theorem V_3' (c : Dev nD) : V m c (Pipeline.arrRef spec0 3) = shapeCast S2048x256 (m ((c : Thread nD τ).loc main_arg3) : Vec Ideal S2x1024x256 .f32) shapeCasts_S2x1024x256_S2048x256 :=
  V_3 m c

theorem read3 (A : Vec Ideal S2048x256 .f32) (t : Fin cfg0.N) (r : Fin 512) (d : Fin 256) (R : Fin 2048) (h : t.val * 512 + r.val = R.val) :
    (((cfg0.win 3).blk t).view.read (Elt Ideal) A : Vec Ideal S512x256 .f32) (ix2 r d) = A (ix2 R d) := by
  have hi := index3 t
  rw [View.read_apply]
  show A _ = A _
  refine congrArg A (funext fun ax => Fin.ext ?_)
  match ax with
  | ⟨0, _⟩ => show win0_3.index t (0 : Fin 2) * 512 + 1 * r.val = R.val; rw [hi.1]; omega
  | ⟨1, _⟩ => show win0_3.index t (1 : Fin 2) * 256 + 1 * d.val = d.val; rw [hi.2, Nat.zero_mul, Nat.zero_add, Nat.one_mul]

theorem index4 : ∀ t : Fin cfg0.N, win0_4.index t (0 : Fin 2) = t.val ∧ win0_4.index t (1 : Fin 2) = 0 :=
  (by decide +kernel : ∀ t : Fin grid0.N, _)

theorem V_4' (c : Dev nD) : V m c (Pipeline.arrRef spec0 4) = shapeCast S2048x256 (m ((c : Thread nD τ).loc main_arg4) : Vec Ideal S2x1024x256 .f32) shapeCasts_S2x1024x256_S2048x256 :=
  V_4 m c

theorem read4 (A : Vec Ideal S2048x256 .f32) (t : Fin cfg0.N) (r : Fin 512) (d : Fin 256) (R : Fin 2048) (h : t.val * 512 + r.val = R.val) :
    (((cfg0.win 4).blk t).view.read (Elt Ideal) A : Vec Ideal S512x256 .f32) (ix2 r d) = A (ix2 R d) := by
  have hi := index4 t
  rw [View.read_apply]
  show A _ = A _
  refine congrArg A (funext fun ax => Fin.ext ?_)
  match ax with
  | ⟨0, _⟩ => show win0_4.index t (0 : Fin 2) * 512 + 1 * r.val = R.val; rw [hi.1]; omega
  | ⟨1, _⟩ => show win0_4.index t (1 : Fin 2) * 256 + 1 * d.val = d.val; rw [hi.2, Nat.zero_mul, Nat.zero_add, Nat.one_mul]

theorem index5 : ∀ t : Fin cfg0.N, win0_5.index t (0 : Fin 3) = 0 ∧ win0_5.index t (1 : Fin 3) = 0 ∧ win0_5.index t (2 : Fin 3) = 0 :=
  (by decide +kernel : ∀ t : Fin grid0.N, _)

theorem index6 : ∀ t : Fin cfg0.N, win0_6.index t (0 : Fin 3) = t.val / 2 ∧ win0_6.index t (1 : Fin 3) = 0 ∧ win0_6.index t (2 : Fin 3) = 0 :=
  (by decide +kernel : ∀ t : Fin grid0.N, _)

theorem index13 : ∀ t : Fin cfg0.N, win0_13.index t (0 : Fin 2) = t.val ∧ win0_13.index t (1 : Fin 2) = 0 :=
  (by decide +kernel : ∀ t : Fin grid0.N, _)

theorem read5 (A : Vec Ideal S4x1024x1024 .f32) (t : Fin cfg0.N) (d : Fin 1024) (n : Fin 1024) :
    (((cfg0.win 5).blk t).view.read (Elt Ideal) A : Vec Ideal S1x1024x1024 .f32) (ix3 (0 : Fin 1) d n) = A (ix3 (0 : Fin 4) d n) := by
  have hi := index5 t
  rw [View.read_apply]
  show A _ = A _
  refine congrArg A (funext fun ax => Fin.ext ?_)
  match ax with
  | ⟨0, _⟩ => show win0_5.index t (0 : Fin 3) * 1 + 1 * 0 = 0; rw [hi.1]
  | ⟨1, _⟩ => show win0_5.index t (1 : Fin 3) * 1024 + 1 * d.val = d.val; rw [hi.2.1, Nat.zero_mul, Nat.zero_add, Nat.one_mul]
  | ⟨2, _⟩ => show win0_5.index t (2 : Fin 3) * 1024 + 1 * n.val = n.val; rw [hi.2.2, Nat.zero_mul, Nat.zero_add, Nat.one_mul]

theorem read6 (A : Vec Ideal S2x1x1024 .f32) (t : Fin cfg0.N) (d : Fin 1024) (b : Fin 2) (hb : b.val = t.val / 2) :
    (((cfg0.win 6).blk t).view.read (Elt Ideal) A : Vec Ideal S1x1x1024 .f32) (ix3 (0 : Fin 1) (0 : Fin 1) d) = A (ix3 b (0 : Fin 1) d) := by
  have hi := index6 t
  rw [View.read_apply]
  show A _ = A _
  refine congrArg A (funext fun ax => Fin.ext ?_)
  match ax with
  | ⟨0, _⟩ => show win0_6.index t (0 : Fin 3) * 1 + 1 * 0 = b.val; rw [hi.1]; omega
  | ⟨1, _⟩ => show win0_6.index t (1 : Fin 3) * 1 + 1 * 0 = 0; rw [hi.2.1]
  | ⟨2, _⟩ => show win0_6.index t (2 : Fin 3) * 1024 + 1 * d.val = d.val; rw [hi.2.2, Nat.zero_mul, Nat.zero_add, Nat.one_mul]

/-- The tokens of both sequences in one list of rows. -/
theorem rows_apply {W : Nat} (x : (⟨3, ![2, 1024, W]⟩ : Shape).Idx → EReal) (hc : (⟨3, ![2, 1024, W]⟩ : Shape).ShapeCasts ⟨2, ![2048, W]⟩) (R : Fin 2048) (d : Fin W) (b : Fin 2) (s : Fin 1024)
    (h : b.val * 1024 + s.val = R.val) : shapeCast (⟨2, ![2048, W]⟩ : Shape) x hc (ix2 R d) = x (ix3 b s d) :=
  shapeCast_apply _ _ _ _ (by
    rw [Shape.rowMajor_val_two, Shape.rowMajor_val_three]
    show (b.val * 1024 + s.val) * W + d.val = R.val * W + d.val
    rw [h])

/-! The blocks, from the given arrays. -/

theorem blk0 (c : Dev nD) (t : Fin cfg0.N) (r : Fin 512) (d : Fin 1024) (b : Fin 2) (s : Fin 1024) (h : t.val * 512 + r.val = b.val * 1024 + s.val) :
    (iblk m c 0 t : Vec Ideal S512x1024 .f32) (ix2 r d) = (m ((c : Thread nD τ).loc main_arg0) : Vec Ideal S2x1024x1024 .f32) (ix3 b s d) := by
  have hb := b.isLt
  have hs := s.isLt
  unfold iblk
  rw [V_0' m c]
  exact (read0 _ t r d (⟨b.val * 1024 + s.val, by omega⟩ : Fin 2048) h).trans (rows_apply _ _ _ _ b s rfl)

theorem blk1 (c : Dev nD) (t : Fin cfg0.N) (r : Fin 512) (d : Fin 256) (b : Fin 2) (s : Fin 1024) (h : t.val * 512 + r.val = b.val * 1024 + s.val) :
    (iblk m c 1 t : Vec Ideal S512x256 .f32) (ix2 r d) = (m ((c : Thread nD τ).loc main_arg1) : Vec Ideal S2x1024x256 .f32) (ix3 b s d) := by
  have hb := b.isLt
  have hs := s.isLt
  unfold iblk
  rw [V_1' m c]
  exact (read1 _ t r d (⟨b.val * 1024 + s.val, by omega⟩ : Fin 2048) h).trans (rows_apply _ _ _ _ b s rfl)

theorem blk2 (c : Dev nD) (t : Fin cfg0.N) (r : Fin 512) (d : Fin 256) (b : Fin 2) (s : Fin 1024) (h : t.val * 512 + r.val = b.val * 1024 + s.val) :
    (iblk m c 2 t : Vec Ideal S512x256 .f32) (ix2 r d) = (m ((c : Thread nD τ).loc main_arg2) : Vec Ideal S2x1024x256 .f32) (ix3 b s d) := by
  have hb := b.isLt
  have hs := s.isLt
  unfold iblk
  rw [V_2' m c]
  exact (read2 _ t r d (⟨b.val * 1024 + s.val, by omega⟩ : Fin 2048) h).trans (rows_apply _ _ _ _ b s rfl)

theorem blk3 (c : Dev nD) (t : Fin cfg0.N) (r : Fin 512) (d : Fin 256) (b : Fin 2) (s : Fin 1024) (h : t.val * 512 + r.val = b.val * 1024 + s.val) :
    (iblk m c 3 t : Vec Ideal S512x256 .f32) (ix2 r d) = (m ((c : Thread nD τ).loc main_arg3) : Vec Ideal S2x1024x256 .f32) (ix3 b s d) := by
  have hb := b.isLt
  have hs := s.isLt
  unfold iblk
  rw [V_3' m c]
  exact (read3 _ t r d (⟨b.val * 1024 + s.val, by omega⟩ : Fin 2048) h).trans (rows_apply _ _ _ _ b s rfl)

theorem blk4 (c : Dev nD) (t : Fin cfg0.N) (r : Fin 512) (d : Fin 256) (b : Fin 2) (s : Fin 1024) (h : t.val * 512 + r.val = b.val * 1024 + s.val) :
    (iblk m c 4 t : Vec Ideal S512x256 .f32) (ix2 r d) = (m ((c : Thread nD τ).loc main_arg4) : Vec Ideal S2x1024x256 .f32) (ix3 b s d) := by
  have hb := b.isLt
  have hs := s.isLt
  unfold iblk
  rw [V_4' m c]
  exact (read4 _ t r d (⟨b.val * 1024 + s.val, by omega⟩ : Fin 2048) h).trans (rows_apply _ _ _ _ b s rfl)

theorem blk5 (c : Dev nD) (t : Fin cfg0.N) (d n : Fin 1024) :
    (iblk m c 5 t : Vec Ideal S1x1024x1024 .f32) (ix3 (0 : Fin 1) d n) = (m ((c : Thread nD τ).loc main_arg5) : Vec Ideal S4x1024x1024 .f32) (ix3 (0 : Fin 4) d n) := by
  unfold iblk
  rw [show V m c (Pipeline.arrRef spec0 5) = _ from V_main_arg5 m c]
  exact read5 _ t d n

theorem blk6 (c : Dev nD) (t : Fin cfg0.N) (d : Fin 1024) (b : Fin 2) (hb : b.val = t.val / 2) :
    (iblk m c 6 t : Vec Ideal S1x1x1024 .f32) (ix3 (0 : Fin 1) (0 : Fin 1) d) = (m ((c : Thread nD τ).loc main_arg6) : Vec Ideal S2x1x1024 .f32) (ix3 b (0 : Fin 1) d) := by
  unfold iblk
  rw [show V m c (Pipeline.arrRef spec0 6) = _ from V_main_arg6 m c]
  exact read6 _ t d b hb

/-! The gain, the modulation and the router's weights. -/

theorem V_7 (c : Dev nD) : V m c main_v12 = shapeCast S1x1024 (shapeCast S1024 (extractStridedSlice S1x1024 ![0, 0] (m ((c : Thread nD τ).loc main_arg7) : Vec Ideal S4x1024 .f32) slices_S4x1024_S1x1024_0_0) shapeCasts_S1x1024_S1024) shapeCasts_S1024_S1x1024 := by
  show StableHlo.after hostOps0 _ _ = _
  after_results_simp
  rfl

theorem V_7' (c : Dev nD) : V m c (Pipeline.arrRef spec0 7) = shapeCast S1x1024 (shapeCast S1024 (extractStridedSlice S1x1024 ![0, 0] (m ((c : Thread nD τ).loc main_arg7) : Vec Ideal S4x1024 .f32) slices_S4x1024_S1x1024_0_0) shapeCasts_S1x1024_S1024) shapeCasts_S1024_S1x1024 :=
  V_7 m c

/-- The weights' rounding beside what the rounding left. -/
def halves (w : FVec Ideal S4x1024x16 .f32) : FVec Ideal S4x1024x32 .bf16 :=
  concatenate S4x1024x32 2 [⟨S4x1024x16, (truncf .bf16 w bitsLt_bf16_f32 : FVec Ideal S4x1024x16 .bf16)⟩,
    ⟨S4x1024x16, (truncf .bf16 (subf w (extf .f32 (truncf .bf16 w bitsLt_bf16_f32 : FVec Ideal S4x1024x16 .bf16) bitsLt_bf16_f32)) bitsLt_bf16_f32 : FVec Ideal S4x1024x16 .bf16)⟩]
    concatenates_S4x1024x16_S4x1024x16_S4x1024x32_d2

theorem halves_first (w : FVec Ideal S4x1024x16 .f32) (l : Fin 4) (k : Fin 1024) (e : Fin 16) (n : Fin 32) (h : 0 + e.val = n.val) :
    halves w (ix3 l k n) = w (ix3 l k e) :=
  concatenate_apply_piece (t := S4x1024x32) 2 [⟨S4x1024x16, (truncf .bf16 w bitsLt_bf16_f32 : FVec Ideal S4x1024x16 .bf16)⟩,
    ⟨S4x1024x16, (truncf .bf16 (subf w (extf .f32 (truncf .bf16 w bitsLt_bf16_f32 : FVec Ideal S4x1024x16 .bf16) bitsLt_bf16_f32)) bitsLt_bf16_f32 : FVec Ideal S4x1024x16 .bf16)⟩]
    concatenates_S4x1024x16_S4x1024x16_S4x1024x32_d2 (ix3 l k n)
    0 (by simp) S4x1024x16 _ rfl rfl 0 (by rfl) (ix3 l k e) (fun a ha => by
      match a with
      | ⟨0, _⟩ => rfl
      | ⟨1, _⟩ => rfl
      | ⟨2, _⟩ => exact absurd rfl ha) h

theorem halves_second (w : FVec Ideal S4x1024x16 .f32) (l : Fin 4) (k : Fin 1024) (e : Fin 16) (n : Fin 32) (h : 16 + e.val = n.val) :
    halves w (ix3 l k n) = (w (ix3 l k e) : EReal) - w (ix3 l k e) :=
  concatenate_apply_piece (t := S4x1024x32) 2 [⟨S4x1024x16, (truncf .bf16 w bitsLt_bf16_f32 : FVec Ideal S4x1024x16 .bf16)⟩,
    ⟨S4x1024x16, (truncf .bf16 (subf w (extf .f32 (truncf .bf16 w bitsLt_bf16_f32 : FVec Ideal S4x1024x16 .bf16) bitsLt_bf16_f32)) bitsLt_bf16_f32 : FVec Ideal S4x1024x16 .bf16)⟩]
    concatenates_S4x1024x16_S4x1024x16_S4x1024x32_d2 (ix3 l k n)
    1 (by simp) S4x1024x16 _ rfl rfl 16 (by rfl) (ix3 l k e) (fun a ha => by
      match a with
      | ⟨0, _⟩ => rfl
      | ⟨1, _⟩ => rfl
      | ⟨2, _⟩ => exact absurd rfl ha) h

theorem V_10 (c : Dev nD) : V m c main_v5 = halves (m ((c : Thread nD τ).loc main_arg10) : Vec Ideal S4x1024x16 .f32) := by
  show StableHlo.after hostOps0 _ _ = _
  after_results_simp
  rfl

theorem V_10' (c : Dev nD) : V m c (Pipeline.arrRef spec0 10) = halves (m ((c : Thread nD τ).loc main_arg10) : Vec Ideal S4x1024x16 .f32) :=
  V_10 m c

theorem index7 : ∀ t : Fin cfg0.N, win0_7.index t (0 : Fin 2) = 0 ∧ win0_7.index t (1 : Fin 2) = 0 :=
  (by decide +kernel : ∀ t : Fin grid0.N, _)

theorem index8 : ∀ t : Fin cfg0.N, win0_8.index t (0 : Fin 3) = t.val / 2 ∧ win0_8.index t (1 : Fin 3) = 0 ∧ win0_8.index t (2 : Fin 3) = 0 :=
  (by decide +kernel : ∀ t : Fin grid0.N, _)

theorem index9 : ∀ t : Fin cfg0.N, win0_9.index t (0 : Fin 3) = t.val / 2 ∧ win0_9.index t (1 : Fin 3) = 0 ∧ win0_9.index t (2 : Fin 3) = 0 :=
  (by decide +kernel : ∀ t : Fin grid0.N, _)

theorem index10 : ∀ t : Fin cfg0.N, win0_10.index t (0 : Fin 3) = 0 ∧ win0_10.index t (1 : Fin 3) = 0 ∧ win0_10.index t (2 : Fin 3) = 0 :=
  (by decide +kernel : ∀ t : Fin grid0.N, _)

theorem read7 (A : Vec Ideal S1x1024 .f32) (t : Fin cfg0.N) (d : Fin 1024) :
    (((cfg0.win 7).blk t).view.read (Elt Ideal) A : Vec Ideal S1x1024 .f32) (ix2 (0 : Fin 1) d) = A (ix2 (0 : Fin 1) d) := by
  have hi := index7 t
  rw [View.read_apply]
  show A _ = A _
  refine congrArg A (funext fun ax => Fin.ext ?_)
  match ax with
  | ⟨0, _⟩ => show win0_7.index t (0 : Fin 2) * 1 + 1 * 0 = 0; rw [hi.1]
  | ⟨1, _⟩ => show win0_7.index t (1 : Fin 2) * 1024 + 1 * d.val = d.val; rw [hi.2]; omega

theorem read8 (A : Vec Ideal S2x1x1024 .f32) (t : Fin cfg0.N) (d : Fin 1024) (b : Fin 2) (hb : b.val = t.val / 2) :
    (((cfg0.win 8).blk t).view.read (Elt Ideal) A : Vec Ideal S1x1x1024 .f32) (ix3 (0 : Fin 1) (0 : Fin 1) d) = A (ix3 b (0 : Fin 1) d) := by
  have hi := index8 t
  rw [View.read_apply]
  show A _ = A _
  refine congrArg A (funext fun ax => Fin.ext ?_)
  match ax with
  | ⟨0, _⟩ => show win0_8.index t (0 : Fin 3) * 1 + 1 * 0 = b.val; rw [hi.1]; omega
  | ⟨1, _⟩ => show win0_8.index t (1 : Fin 3) * 1 + 1 * 0 = 0; rw [hi.2.1]
  | ⟨2, _⟩ => show win0_8.index t (2 : Fin 3) * 1024 + 1 * d.val = d.val; rw [hi.2.2]; omega

theorem read9 (A : Vec Ideal S2x1x1024 .f32) (t : Fin cfg0.N) (d : Fin 1024) (b : Fin 2) (hb : b.val = t.val / 2) :
    (((cfg0.win 9).blk t).view.read (Elt Ideal) A : Vec Ideal S1x1x1024 .f32) (ix3 (0 : Fin 1) (0 : Fin 1) d) = A (ix3 b (0 : Fin 1) d) := by
  have hi := index9 t
  rw [View.read_apply]
  show A _ = A _
  refine congrArg A (funext fun ax => Fin.ext ?_)
  match ax with
  | ⟨0, _⟩ => show win0_9.index t (0 : Fin 3) * 1 + 1 * 0 = b.val; rw [hi.1]; omega
  | ⟨1, _⟩ => show win0_9.index t (1 : Fin 3) * 1 + 1 * 0 = 0; rw [hi.2.1]
  | ⟨2, _⟩ => show win0_9.index t (2 : Fin 3) * 1024 + 1 * d.val = d.val; rw [hi.2.2]; omega

theorem read10 (A : Vec Ideal S4x1024x32 .bf16) (t : Fin cfg0.N) (k : Fin 1024) (n : Fin 32) :
    (((cfg0.win 10).blk t).view.read (Elt Ideal) A : Vec Ideal S1x1024x32 .bf16) (ix3 (0 : Fin 1) k n) = A (ix3 (0 : Fin 4) k n) := by
  have hi := index10 t
  rw [View.read_apply]
  show A _ = A _
  refine congrArg A (funext fun ax => Fin.ext ?_)
  match ax with
  | ⟨0, _⟩ => show win0_10.index t (0 : Fin 3) * 1 + 1 * 0 = 0; rw [hi.1]
  | ⟨1, _⟩ => show win0_10.index t (1 : Fin 3) * 1024 + 1 * k.val = k.val; rw [hi.2.1]; omega
  | ⟨2, _⟩ => show win0_10.index t (2 : Fin 3) * 32 + 1 * n.val = n.val; rw [hi.2.2]; omega

/-- The gain's array, read at an entry. -/
theorem gain_apply (g : Vec Ideal S4x1024 .f32) (d : Fin 1024) :
    shapeCast S1x1024 (shapeCast S1024 (extractStridedSlice S1x1024 ![0, 0] g slices_S4x1024_S1x1024_0_0) shapeCasts_S1x1024_S1024) shapeCasts_S1024_S1x1024 (ix2 (0 : Fin 1) d)
      = g (ix2 (0 : Fin 4) d) := by
  refine (shapeCast_apply _ _ _ (ix1 d) (by
    rw [Shape.rowMajor_val_two, Shape.rowMajor_val_one]
    show d.val = 0 * 1024 + d.val
    omega)).trans ?_
  refine (shapeCast_apply _ _ _ (ix2 (0 : Fin 1) d) (by
    rw [Shape.rowMajor_val_two, Shape.rowMajor_val_one]
    show 0 * 1024 + d.val = d.val
    omega)).trans ?_
  exact extractStridedSlice_apply _ _ _ _ _ fun a => by
    match a with
    | ⟨0, _⟩ => rfl
    | ⟨1, _⟩ => show d.val = 0 + d.val; omega

theorem blk7 (c : Dev nD) (t : Fin cfg0.N) (d : Fin 1024) :
    (iblk m c 7 t : Vec Ideal S1x1024 .f32) (ix2 (0 : Fin 1) d) = (m ((c : Thread nD τ).loc main_arg7) : Vec Ideal S4x1024 .f32) (ix2 (0 : Fin 4) d) := by
  unfold iblk
  rw [V_7' m c]
  exact (read7 _ t d).trans (gain_apply _ d)

theorem blk8 (c : Dev nD) (t : Fin cfg0.N) (d : Fin 1024) (b : Fin 2) (hb : b.val = t.val / 2) :
    (iblk m c 8 t : Vec Ideal S1x1x1024 .f32) (ix3 (0 : Fin 1) (0 : Fin 1) d) = (m ((c : Thread nD τ).loc main_arg8) : Vec Ideal S2x1x1024 .f32) (ix3 b (0 : Fin 1) d) := by
  unfold iblk
  rw [show V m c (Pipeline.arrRef spec0 8) = _ from V_main_arg8 m c]
  exact read8 _ t d b hb

theorem blk9 (c : Dev nD) (t : Fin cfg0.N) (d : Fin 1024) (b : Fin 2) (hb : b.val = t.val / 2) :
    (iblk m c 9 t : Vec Ideal S1x1x1024 .f32) (ix3 (0 : Fin 1) (0 : Fin 1) d) = (m ((c : Thread nD τ).loc main_arg9) : Vec Ideal S2x1x1024 .f32) (ix3 b (0 : Fin 1) d) := by
  unfold iblk
  rw [show V m c (Pipeline.arrRef spec0 9) = _ from V_main_arg9 m c]
  exact read9 _ t d b hb

theorem blk10_first (c : Dev nD) (t : Fin cfg0.N) (k : Fin 1024) (e : Fin 16) (n : Fin 32) (h : 0 + e.val = n.val) :
    (iblk m c 10 t : Vec Ideal S1x1024x32 .bf16) (ix3 (0 : Fin 1) k n) = (m ((c : Thread nD τ).loc main_arg10) : Vec Ideal S4x1024x16 .f32) (ix3 (0 : Fin 4) k e) := by
  unfold iblk
  rw [V_10' m c]
  exact (read10 _ t k n).trans (halves_first _ _ k e n h)

theorem blk10_second (c : Dev nD) (t : Fin cfg0.N) (k : Fin 1024) (e : Fin 16) (n : Fin 32) (h : 16 + e.val = n.val) :
    (iblk m c 10 t : Vec Ideal S1x1024x32 .bf16) (ix3 (0 : Fin 1) k n)
      = (fun a : EReal => a - a) ((m ((c : Thread nD τ).loc main_arg10) : Vec Ideal S4x1024x16 .f32) (ix3 (0 : Fin 4) k e)) := by
  unfold iblk
  rw [V_10' m c]
  exact (read10 _ t k n).trans (halves_second _ _ k e n h)

end Cert.Proof.Aff

end
-- ==== Proof.AffRun.lean ====
module

public import proofs.«01_k».proof.Proof.AffBlk

@[expose] public section

noncomputable section

namespace Cert.Proof.Aff

open Cert.Kernel5Ideal Cert.Kernel5Ideal.Gen Cert.Kernel5Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The stored weights and the affinities, point by point -/

/-- The weights stored by the first point. -/
theorem kept_zero (c : Dev nD) (h : 0 < cfg0.N) : (outsAt0 m c 0 h).2.2.2 = k0_pay2 (iblk m c 5 (⟨0, h⟩ : Fin cfg0.N)) := by
  rw [outsAt0_zero, stAt0_A m c ⟨0, h⟩ junk0 (Nat.zero_mod _)]
  dsimp only
  exact sout_A ..

/-- Every point keeps them. -/
theorem kept (c : Dev nD) (n : ℕ) (h : n < cfg0.N) : (outsAt0 m c n h).2.2.2 = k0_pay2 (iblk m c 5 (⟨0, by omega⟩ : Fin cfg0.N)) := by
  induction n with
  | zero => exact kept_zero m c h
  | succ n ih =>
    have hN : cfg0.N = 4 := N_0
    rw [outsAt0_succ, stAt0_B m c ⟨n + 1, h⟩ (outsAt0 m c n (Nat.lt_of_succ_lt h)) (by show ¬(n + 1) % 4 = 0; omega)]
    dsimp only
    refine (sout_B ..).trans ?_
    exact ih (Nat.lt_of_succ_lt h)

/-- What a point leaves as affinities. -/
theorem left (c : Dev nD) (n : ℕ) (h : n < cfg0.N) (h0 : 0 < cfg0.N) : (outsAt0 m c n h).2.2.1
    = k0_pay1 (k0_pay8 (k0_pay3 (iblk m c 1 (⟨n, h⟩ : Fin cfg0.N)) (quarter0 (k0_pay2 (iblk m c 5 (⟨0, h0⟩ : Fin cfg0.N)))) (iblk m c 2 (⟨n, h⟩ : Fin cfg0.N)) (quarter1 (k0_pay2 (iblk m c 5 (⟨0, h0⟩ : Fin cfg0.N)))) (iblk m c 3 (⟨n, h⟩ : Fin cfg0.N)) (quarter2 (k0_pay2 (iblk m c 5 (⟨0, h0⟩ : Fin cfg0.N)))) (iblk m c 4 (⟨n, h⟩ : Fin cfg0.N)) (quarter3 (k0_pay2 (iblk m c 5 (⟨0, h0⟩ : Fin cfg0.N)))))
        (k0_pay4 (iblk m c 0 (⟨n, h⟩ : Fin cfg0.N))) (k0_pay5 (iblk m c 6 (⟨n, h⟩ : Fin cfg0.N))) (iblk m c 7 (⟨n, h⟩ : Fin cfg0.N)) (iblk m c 8 (⟨n, h⟩ : Fin cfg0.N)) (iblk m c 9 (⟨n, h⟩ : Fin cfg0.N)))
      (k0_pay10 (k0_pay3 (iblk m c 1 (⟨n, h⟩ : Fin cfg0.N)) (quarter0 (k0_pay2 (iblk m c 5 (⟨0, h0⟩ : Fin cfg0.N)))) (iblk m c 2 (⟨n, h⟩ : Fin cfg0.N)) (quarter1 (k0_pay2 (iblk m c 5 (⟨0, h0⟩ : Fin cfg0.N)))) (iblk m c 3 (⟨n, h⟩ : Fin cfg0.N)) (quarter2 (k0_pay2 (iblk m c 5 (⟨0, h0⟩ : Fin cfg0.N)))) (iblk m c 4 (⟨n, h⟩ : Fin cfg0.N)) (quarter3 (k0_pay2 (iblk m c 5 (⟨0, h0⟩ : Fin cfg0.N)))))
        (k0_pay4 (iblk m c 0 (⟨n, h⟩ : Fin cfg0.N))) (k0_pay5 (iblk m c 6 (⟨n, h⟩ : Fin cfg0.N))) (iblk m c 7 (⟨n, h⟩ : Fin cfg0.N)) (iblk m c 8 (⟨n, h⟩ : Fin cfg0.N)) (iblk m c 9 (⟨n, h⟩ : Fin cfg0.N))) (k0_pay11 (iblk m c 10 (⟨n, h⟩ : Fin cfg0.N))) (iblk m c 10 (⟨n, h⟩ : Fin cfg0.N)) := by
  cases n with
  | zero =>
    rw [outsAt0_zero, stAt0_A m c ⟨0, h⟩ junk0 (Nat.zero_mod _)]
    dsimp only
    exact out_A ..
  | succ n =>
    have hN : cfg0.N = 4 := N_0
    rw [outsAt0_succ, stAt0_B m c ⟨n + 1, h⟩ (outsAt0 m c n (Nat.lt_of_succ_lt h)) (by show ¬(n + 1) % 4 = 0; omega)]
    dsimp only
    refine (out_B ..).trans ?_
    rw [kept m c n (Nat.lt_of_succ_lt h)]

/-- THE AFFINITIES, as a function of the arguments. -/
theorem G13_eq (c : Dev nD) (R : Fin 2048) (e : Fin 16)
    (hg : ∀ k : Fin 1024, IsReal ((m ((c : Thread nD τ).loc main_arg7) : Vec Ideal S4x1024 .f32) (ix2 (0 : Fin 4) k))) (hsc : ∀ i, IsReal ((m ((c : Thread nD τ).loc main_arg8) : Vec Ideal S2x1x1024 .f32) i))
    (hsh : ∀ i, IsReal ((m ((c : Thread nD τ).loc main_arg9) : Vec Ideal S2x1x1024 .f32) i)) (hw : ∀ (k : Fin 1024) (j : Fin 16), IsReal ((m ((c : Thread nD τ).loc main_arg10) : Vec Ideal S4x1024x16 .f32) (ix3 (0 : Fin 4) k j))) :
    (G13 m c : Vec Ideal S2048x16 .f32) (ix2 R e)
      = affinity (m ((c : Thread nD τ).loc main_arg0) : Vec Ideal S2x1024x1024 .f32) (m ((c : Thread nD τ).loc main_arg1) : Vec Ideal S2x1024x256 .f32)
          (m ((c : Thread nD τ).loc main_arg2) : Vec Ideal S2x1024x256 .f32) (m ((c : Thread nD τ).loc main_arg3) : Vec Ideal S2x1024x256 .f32)
          (m ((c : Thread nD τ).loc main_arg4) : Vec Ideal S2x1024x256 .f32) (m ((c : Thread nD τ).loc main_arg5) : Vec Ideal S4x1024x1024 .f32)
          (m ((c : Thread nD τ).loc main_arg6) : Vec Ideal S2x1x1024 .f32) (m ((c : Thread nD τ).loc main_arg7) : Vec Ideal S4x1024 .f32)
          (m ((c : Thread nD τ).loc main_arg8) : Vec Ideal S2x1x1024 .f32) (m ((c : Thread nD τ).loc main_arg9) : Vec Ideal S2x1x1024 .f32)
          (m ((c : Thread nD τ).loc main_arg10) : Vec Ideal S4x1024x16 .f32)
          (⟨R.val / 1024, by have := R.isLt; omega⟩ : Fin 2) (⟨R.val % 1024, Nat.mod_lt _ (by decide)⟩ : Fin 1024) e := by
  have hN : cfg0.N = 4 := N_0
  have hR := R.isLt
  have he := e.isLt
  have hp : pt13Of (ix2 R e) = R.val / 512 := by
    show 1 * (R.val / 512 - 0) + 1 * (e.val / 16 - 0) = _
    omega
  have hl : loc13Of (ix2 R e) = ix2 (⟨R.val % 512, Nat.mod_lt _ (by decide)⟩ : Fin 512) e := by
    funext a
    apply Fin.ext
    match a with
    | ⟨0, _⟩ => rfl
    | ⟨1, _⟩ => show e.val % 16 = e.val; omega
  have h3 : R.val / 512 < cfg0.N := by omega
  have h0 : 0 < cfg0.N := by omega
  have hrow : R.val / 512 * 512 + R.val % 512 = R.val / 1024 * 1024 + R.val % 1024 := by omega
  have hb : (⟨R.val / 1024, by omega⟩ : Fin 2).val = (⟨R.val / 512, h3⟩ : Fin cfg0.N).val / 2 := by show R.val / 1024 = R.val / 512 / 2; omega
  unfold G13
  rw [dif_pos (by rw [hp]; exact h3), hl, fold0_congr m c _ _ (R.val / 512) (by omega) hp, ← outsAt0_sweep m c _ h3, left m c _ h3 h0]
  have hrest : ∀ n : Fin 1024, (k0_pay6 (F := Ideal) (k0_pay3 (iblk m c 1 (⟨R.val / 512, h3⟩ : Fin cfg0.N)) (quarter0 (k0_pay2 (iblk m c 5 (⟨0, h0⟩ : Fin cfg0.N)))) (iblk m c 2 (⟨R.val / 512, h3⟩ : Fin cfg0.N)) (quarter1 (k0_pay2 (iblk m c 5 (⟨0, h0⟩ : Fin cfg0.N)))) (iblk m c 3 (⟨R.val / 512, h3⟩ : Fin cfg0.N)) (quarter2 (k0_pay2 (iblk m c 5 (⟨0, h0⟩ : Fin cfg0.N)))) (iblk m c 4 (⟨R.val / 512, h3⟩ : Fin cfg0.N)) (quarter3 (k0_pay2 (iblk m c 5 (⟨0, h0⟩ : Fin cfg0.N)))))
      (k0_pay4 (iblk m c 0 (⟨R.val / 512, h3⟩ : Fin cfg0.N))) (k0_pay5 (iblk m c 6 (⟨R.val / 512, h3⟩ : Fin cfg0.N))) (ix2 (⟨R.val % 512, Nat.mod_lt _ (by decide)⟩ : Fin 512) n) : EReal)
      = OutProj.projected (m ((c : Thread nD τ).loc main_arg0) : Vec Ideal S2x1024x1024 .f32) (m ((c : Thread nD τ).loc main_arg1) : Vec Ideal S2x1024x256 .f32)
          (m ((c : Thread nD τ).loc main_arg2) : Vec Ideal S2x1024x256 .f32) (m ((c : Thread nD τ).loc main_arg3) : Vec Ideal S2x1024x256 .f32)
          (m ((c : Thread nD τ).loc main_arg4) : Vec Ideal S2x1024x256 .f32) (m ((c : Thread nD τ).loc main_arg5) : Vec Ideal S4x1024x1024 .f32)
          (m ((c : Thread nD τ).loc main_arg6) : Vec Ideal S2x1x1024 .f32)
          (⟨R.val / 1024, by omega⟩ : Fin 2) (⟨R.val % 1024, Nat.mod_lt _ (by decide)⟩ : Fin 1024) n := fun n => by
    rw [stored_apply]
    unfold OutProj.projected
    have w5 : ∀ k : Fin 1024, k0_pay2 (F := Ideal) (iblk m c 5 (⟨0, h0⟩ : Fin cfg0.N)) (ix2 k n) = _ := fun k => (pay2_apply _ k n).trans (blk5 m c _ k n)
    rw [blk0 m c ⟨R.val / 512, h3⟩ _ n (⟨R.val / 1024, by omega⟩ : Fin 2) (⟨R.val % 1024, Nat.mod_lt _ (by decide)⟩ : Fin 1024) hrow,
      blk6 m c ⟨R.val / 512, h3⟩ n (⟨R.val / 1024, by omega⟩ : Fin 2) (by show R.val / 1024 = R.val / 512 / 2; omega),
      show (fun k => (iblk m c 1 (⟨R.val / 512, h3⟩ : Fin cfg0.N) : Vec Ideal S512x256 .f32) (ix2 (⟨R.val % 512, Nat.mod_lt _ (by decide)⟩ : Fin 512) k)) = _ from
        funext fun k => blk1 m c ⟨R.val / 512, h3⟩ _ k (⟨R.val / 1024, by omega⟩ : Fin 2) (⟨R.val % 1024, Nat.mod_lt _ (by decide)⟩ : Fin 1024) hrow,
      show (fun k => (iblk m c 2 (⟨R.val / 512, h3⟩ : Fin cfg0.N) : Vec Ideal S512x256 .f32) (ix2 (⟨R.val % 512, Nat.mod_lt _ (by decide)⟩ : Fin 512) k)) = _ from
        funext fun k => blk2 m c ⟨R.val / 512, h3⟩ _ k (⟨R.val / 1024, by omega⟩ : Fin 2) (⟨R.val % 1024, Nat.mod_lt _ (by decide)⟩ : Fin 1024) hrow,
      show (fun k => (iblk m c 3 (⟨R.val / 512, h3⟩ : Fin cfg0.N) : Vec Ideal S512x256 .f32) (ix2 (⟨R.val % 512, Nat.mod_lt _ (by decide)⟩ : Fin 512) k)) = _ from
        funext fun k => blk3 m c ⟨R.val / 512, h3⟩ _ k (⟨R.val / 1024, by omega⟩ : Fin 2) (⟨R.val % 1024, Nat.mod_lt _ (by decide)⟩ : Fin 1024) hrow,
      show (fun k => (iblk m c 4 (⟨R.val / 512, h3⟩ : Fin cfg0.N) : Vec Ideal S512x256 .f32) (ix2 (⟨R.val % 512, Nat.mod_lt _ (by decide)⟩ : Fin 512) k)) = _ from
        funext fun k => blk4 m c ⟨R.val / 512, h3⟩ _ k (⟨R.val / 1024, by omega⟩ : Fin 2) (⟨R.val % 1024, Nat.mod_lt _ (by decide)⟩ : Fin 1024) hrow,
      show (fun k => k0_pay2 (F := Ideal) (iblk m c 5 (⟨0, h0⟩ : Fin cfg0.N)) (ix2 k n)) = _ from funext w5]
  have hfeat : ∀ k : Fin 1024, (k0_pay7 (F := Ideal) (k0_pay3 (iblk m c 1 (⟨R.val / 512, h3⟩ : Fin cfg0.N)) (quarter0 (k0_pay2 (iblk m c 5 (⟨0, h0⟩ : Fin cfg0.N)))) (iblk m c 2 (⟨R.val / 512, h3⟩ : Fin cfg0.N)) (quarter1 (k0_pay2 (iblk m c 5 (⟨0, h0⟩ : Fin cfg0.N)))) (iblk m c 3 (⟨R.val / 512, h3⟩ : Fin cfg0.N)) (quarter2 (k0_pay2 (iblk m c 5 (⟨0, h0⟩ : Fin cfg0.N)))) (iblk m c 4 (⟨R.val / 512, h3⟩ : Fin cfg0.N)) (quarter3 (k0_pay2 (iblk m c 5 (⟨0, h0⟩ : Fin cfg0.N)))))
      (k0_pay4 (iblk m c 0 (⟨R.val / 512, h3⟩ : Fin cfg0.N))) (k0_pay5 (iblk m c 6 (⟨R.val / 512, h3⟩ : Fin cfg0.N))) (iblk m c 7 (⟨R.val / 512, h3⟩ : Fin cfg0.N)) (iblk m c 8 (⟨R.val / 512, h3⟩ : Fin cfg0.N)) (iblk m c 9 (⟨R.val / 512, h3⟩ : Fin cfg0.N))
      (ix2 (⟨R.val % 512, Nat.mod_lt _ (by decide)⟩ : Fin 512) k) : EReal) = _ := fun k => (pay7_apply _ _ _ _ _ _ _ k).trans (by
    rw [show (fun n => (k0_pay6 (F := Ideal) _ _ _ (ix2 (⟨R.val % 512, Nat.mod_lt _ (by decide)⟩ : Fin 512) n) : EReal)) = _ from funext hrest,
      show (fun n => (iblk m c 7 (⟨R.val / 512, h3⟩ : Fin cfg0.N) : Vec Ideal S1x1024 .f32) (ix2 (0 : Fin 1) n)) = _ from funext fun n => blk7 m c ⟨R.val / 512, h3⟩ n,
      show (fun n => (iblk m c 8 (⟨R.val / 512, h3⟩ : Fin cfg0.N) : Vec Ideal S1x1x1024 .f32) (ix3 (0 : Fin 1) (0 : Fin 1) n)) = _ from funext fun n => blk8 m c ⟨R.val / 512, h3⟩ n _ hb,
      show (fun n => (iblk m c 9 (⟨R.val / 512, h3⟩ : Fin cfg0.N) : Vec Ideal S1x1x1024 .f32) (ix3 (0 : Fin 1) (0 : Fin 1) n)) = _ from funext fun n => blk9 m c ⟨R.val / 512, h3⟩ n _ hb])
  refine (affinities_apply _ _ _ _ _ _ _ _ e _ hfeat).trans ?_
  unfold affinity
  refine congrArg (fun l => soft l e) (funext fun j => ?_)
  have hj := j.isLt
  rw [show (fun k => (iblk m c 10 (⟨R.val / 512, h3⟩ : Fin cfg0.N) : Vec Ideal S1x1024x32 .bf16) (ix3 (0 : Fin 1) k (⟨j.val, by omega⟩ : Fin 32))) = _ from
      funext fun k => blk10_first m c ⟨R.val / 512, h3⟩ k j ⟨j.val, by omega⟩ (Nat.zero_add _),
    show (fun k => (iblk m c 10 (⟨R.val / 512, h3⟩ : Fin cfg0.N) : Vec Ideal S1x1024x32 .bf16) (ix3 (0 : Fin 1) k (⟨16 + j.val, by omega⟩ : Fin 32))) = _ from
      funext fun k => blk10_second m c ⟨R.val / 512, h3⟩ k j ⟨16 + j.val, by omega⟩ rfl]
  exact split_eq _ _ (fun k => feature_isReal _ _ _ _ k (hg k) (hsc _) (hsh _)) (fun k => hw k j)

end Cert.Proof.Aff

end
-- ==== Proof.AffRef.lean ====
module

public import proofs.«01_k».proof.Proof.AffMath
public import proofs.«01_k».proof.Proof.OutProjRef
public import proofs.«01_k».proof.Proof.Gen.Reference5Ideal
public import Idealize.ShloMosaic.Lib.Pipeline.Value
public import Idealize.ShloMosaic.Lib.StackMember

@[expose] public section

noncomputable section

namespace Cert.Proof.Aff.Ref

open Cert.Reference5Ideal Cert.Reference5Ideal.Gen
open Idealize.ShloMosaic Idealize.ShloMosaic.ValueIdx Idealize.ShloMosaic.StackMember
open scoped BigOperators

/-! ## The reference's pieces, read at an entry -/

/-- The first layer's router weights. -/
def router (w : FVec Ideal S4x1024x16 .f32) : FVec Ideal S1024x16 .f32 :=
  shapeCast _ (extractStridedSlice S1x1024x16 ![0, 0, 0] w slices_S4x1024x16_S1x1024x16_0_0_0) shapeCasts_S1x1024x16_S1024x16

theorem router_apply (w : FVec Ideal S4x1024x16 .f32) (d : Fin 1024) (n : Fin 16) : router w (ix2 d n) = w (ix3 (0 : Fin 4) d n) := by
  refine (shapeCast_apply _ shapeCasts_S1x1024x16_S1024x16 (ix2 d n) (ix3 (0 : Fin 1) d n) (by
    rw [Shape.rowMajor_val_two, Shape.rowMajor_val_three]
    show (0 * 1024 + d.val) * 16 + n.val = d.val * 16 + n.val
    omega)).trans ?_
  refine extractStridedSlice_apply _ w slices_S4x1024x16_S1x1024x16_0_0_0 _ (ix3 (0 : Fin 4) d n) fun a => ?_
  match a with
  | ⟨0, _⟩ => rfl
  | ⟨1, _⟩ => exact (Nat.zero_add _).symm
  | ⟨2, _⟩ => exact (Nat.zero_add _).symm

/-- The first layer's gain, read at an entry. -/
theorem gain_apply (g : FVec Ideal S4x1024 .f32) (hs : S4x1024.Slices ![0, 0] S1x1024) (hc : S1x1024.ShapeCasts S1024) (d : Fin 1024) :
    (shapeCast S1024 (extractStridedSlice S1x1024 ![0, 0] g hs) hc : FVec Ideal S1024 .f32) (ix1 d) = g (ix2 (0 : Fin 4) d) := by
  refine (shapeCast_apply _ hc (ix1 d) (ix2 (0 : Fin 1) d) (by
    rw [Shape.rowMajor_val_one, Shape.rowMajor_val_two]
    show 0 * 1024 + d.val = d.val
    omega)).trans ?_
  refine extractStridedSlice_apply _ g hs _ (ix2 (0 : Fin 4) d) fun a => ?_
  match a with
  | ⟨0, _⟩ => rfl
  | ⟨1, _⟩ => exact (Nat.zero_add _).symm

/-- Rows times a matrix, read at an entry. -/
theorem rowsDot_apply {φ₁ φ₂ : FTy} {T K N : Nat} (w : DotDims.WF ⟨2, ![T, K]⟩ ⟨2, ![K, N]⟩ ⟨2, ![T, N]⟩ [1] [0] [0] [1] [] [])
    (prec : Option ContractPrecision) (X : FVec Ideal ⟨2, ![T, K]⟩ φ₁) (W : FVec Ideal ⟨2, ![K, N]⟩ φ₂) (s : Fin T) (n : Fin N) :
    Host.dotGeneral (⟨[1], [0], [0], [1], [], [], w⟩ : DotDims _ _ _) prec X W (ix2 s n) = ∑ c : Fin K, X (ix2 s c) * W (ix2 c n) := by
  show FloatOps.dotGeneral _ prec _ X W (ix2 s n) = _
  rw [Ideal.dotGeneral_apply, ← Equiv.sum_comp (contrEquiv1 (⟨[1], [0], [0], [1], [], [], w⟩ : DotDims _ _ _) K rfl rfl).symm]
  refine Finset.sum_congr rfl fun c _ => ?_
  have c3 := contrEquiv1_symm_val (⟨[1], [0], [0], [1], [], [], w⟩ : DotDims ⟨2, ![T, K]⟩ ⟨2, ![K, N]⟩ ⟨2, ![T, N]⟩) K rfl rfl c
  have l3 : (⟨[1], [0], [0], [1], [], [], w⟩ : DotDims ⟨2, ![T, K]⟩ ⟨2, ![K, N]⟩ ⟨2, ![T, N]⟩).lhsIdx (ix2 s n)
      ((contrEquiv1 _ K rfl rfl).symm c) = ix2 s c := by
    funext ax; apply Fin.ext
    match ax with
    | ⟨0, _⟩ => simp [DotDims.lhsIdx]; rfl
    | ⟨1, _⟩ => simp [DotDims.lhsIdx]; exact c3
  have r3 : (⟨[1], [0], [0], [1], [], [], w⟩ : DotDims ⟨2, ![T, K]⟩ ⟨2, ![K, N]⟩ ⟨2, ![T, N]⟩).rhsIdx (ix2 s n)
      ((contrEquiv1 _ K rfl rfl).symm c) = ix2 c n := by
    funext ax; apply Fin.ext
    match ax with
    | ⟨0, _⟩ => simp [DotDims.rhsIdx]; exact c3
    | ⟨1, _⟩ => simp [DotDims.rhsIdx]; rfl
  rw [l3, r3]

/-- The tokens' logits. -/
def logits (h : FVec Ideal S2x1024x1024 .f32) (w : FVec Ideal S4x1024x16 .f32) : FVec Ideal S2048x16 .f32 :=
  Host.dotGeneral dot_S2048x1024_S1024x16_S2048x16_1_0_0_1_n_n none (shapeCast S2048x1024 h shapeCasts_S2x1024x1024_S2048x1024 : FVec Ideal S2048x1024 .f32) (router w)

theorem logits_apply (h : FVec Ideal S2x1024x1024 .f32) (w : FVec Ideal S4x1024x16 .f32) (R : Fin 2048) (e : Fin 16) :
    logits h w (ix2 R e) = ∑ k : Fin 1024, (h (ix3 (⟨R.val / 1024, by have := R.isLt; omega⟩ : Fin 2) (⟨R.val % 1024, Nat.mod_lt _ (by decide)⟩ : Fin 1024) k) : EReal) * w (ix3 (0 : Fin 4) k e) := by
  have hR := R.isLt
  refine (rowsDot_apply dot_S2048x1024_S1024x16_S2048x16_1_0_0_1_n_n_wf none _ (router w) R e).trans ?_
  refine Finset.sum_congr rfl fun k _ => ?_
  rw [router_apply]
  refine congrArg (fun t : EReal => t * w (ix3 (0 : Fin 4) k e)) ?_
  exact shapeCast_apply h shapeCasts_S2x1024x1024_S2048x1024 (ix2 R k) (ix3 (⟨R.val / 1024, by omega⟩ : Fin 2) (⟨R.val % 1024, Nat.mod_lt _ (by decide)⟩ : Fin 1024) k) (by
    rw [Shape.rowMajor_val_two, Shape.rowMajor_val_three]
    show (R.val / 1024 * 1024 + R.val % 1024) * 1024 + k.val = R.val * 1024 + k.val
    omega)

/-- Rows of sixteen summed. -/
theorem reduces1 : S2048x16.Reduces [1] S2048 := by decide

theorem lift_row (R : Fin 2048) (e : Fin 16) : reduces1.lift (ix1 R) e = ix2 R e := funext fun a => Fin.ext (by
  match a with
  | ⟨0, _⟩ => rfl
  | ⟨1, _⟩ => rfl)

/-- A value for each row, along the row. -/
theorem spread_apply (v : FVec Ideal S2048 .f32) (R : Fin 2048) (e : Fin 16) :
    (broadcastInDim S2048x16 ![0, 1] bcast_S2048x1_S2048x16_0_1 (broadcastInDim S2048x1 ![0] bcast_S2048_S2048x1_0 v : FVec Ideal S2048x1 .f32) : FVec Ideal S2048x16 .f32) (ix2 R e) = v (ix1 R) := by
  refine (broadcastInDim_apply (![0, 1] : Fin 2 → Fin 2) bcast_S2048x1_S2048x16_0_1 _ (ix2 R e) (ix2 R (0 : Fin 1)) (fun a => by
    match a with
    | ⟨0, _⟩ => rfl
    | ⟨1, _⟩ => rfl)).trans ?_
  exact broadcastInDim_apply (![0] : Fin 1 → Fin 2) bcast_S2048_S2048x1_0 v (ix2 R (0 : Fin 1)) (ix1 R) (fun a => by
    match a with
    | ⟨0, _⟩ => rfl)

/-- A row's greatest logit, along the row. -/
def tops (z : FVec Ideal S2048x16 .f32) : FVec Ideal S2048x16 .f32 :=
  broadcastInDim S2048x16 ![0, 1] bcast_S2048x1_S2048x16_0_1 (broadcastInDim S2048x1 ![0] bcast_S2048_S2048x1_0
    (maximumf (broadcastInDim S2048 ![] bcast_S_S2048 (constant S_ .f32 0xFF800000#32)) (Host.reduce FloatOps.maximumf z (constant S_ .f32 0xFF800000#32) reducesTo_S2048x16_S2048_d1 h_S_)))

theorem tops_apply (z : FVec Ideal S2048x16 .f32) (R : Fin 2048) (e : Fin 16) : tops z (ix2 R e) = top (fun j => z (ix2 R j)) := by
  unfold tops
  rw [spread_apply]
  show max (Ideal.ofBits .f32 0xFF800000#32) ((Host.reduce FloatOps.maximumf z (constant S_ .f32 0xFF800000#32) reducesTo_S2048x16_S2048_d1 h_S_ : FVec Ideal S2048 .f32) (ix1 R) : EReal) = _
  rw [low_word, max_eq_right bot_le, hostReduce_maximumf_eq_multiReduction z 0xFF800000#32 reducesTo_S2048x16_S2048_d1 h_S_ reduces1 (.inl rfl) rfl]
  refine (Ideal.multiReduction_maximumf_single z _ reduces1 (.inl rfl) rfl (ix1 R)).trans ?_
  exact congrArg₂ (fun (b : EReal) (f : Fin 16 → EReal) => (Finset.univ : Finset (Fin 16)).fold max b f) low_word (funext fun j => congrArg z (lift_row R j))

/-- A row's sum, along the row. -/
def totals (z : FVec Ideal S2048x16 .f32) : FVec Ideal S2048x16 .f32 :=
  broadcastInDim S2048x16 ![0, 1] bcast_S2048x1_S2048x16_0_1 (broadcastInDim S2048x1 ![0] bcast_S2048_S2048x1_0
    (Host.reduceAdd z (constant S_ .f32 0x00000000#32) reducesTo_S2048x16_S2048_d1 h_S_))

theorem totals_apply (z : FVec Ideal S2048x16 .f32) (R : Fin 2048) (e : Fin 16) : totals z (ix2 R e) = ∑ j : Fin 16, (z (ix2 R j) : EReal) := by
  unfold totals
  rw [spread_apply]
  show Ideal.hostReduceAdd _ _ _ _ = _
  rw [Ideal.hostReduceAdd_single reducesTo_S2048x16_S2048_d1 reduces1]
  show Ideal.ofBits .f32 0x00000000#32 + _ = _
  rw [Ideal.ofBits_zero_f32, zero_add]
  exact Finset.sum_congr rfl fun j _ => congrArg z (lift_row R j)

/-- The softmax of each row. -/
def shares (z : FVec Ideal S2048x16 .f32) : FVec Ideal S2048x16 .f32 :=
  Host.divf (Host.exp (subf z (tops z))) (totals (Host.exp (subf z (tops z))))

theorem shares_apply (z : FVec Ideal S2048x16 .f32) (R : Fin 2048) (e : Fin 16) : shares z (ix2 R e) = soft (fun j => z (ix2 R j)) e := by
  have hx : ∀ j : Fin 16, (Host.exp (subf z (tops z)) : FVec Ideal S2048x16 .f32) (ix2 R j) = Ideal.exp ((z (ix2 R j) : EReal) - top (fun j => z (ix2 R j))) := fun j => by
    show Ideal.exp ((z (ix2 R j) : EReal) - tops z (ix2 R j)) = _
    rw [tops_apply]
  show Ideal.div ((Host.exp (subf z (tops z)) : FVec Ideal S2048x16 .f32) (ix2 R e)) (totals (Host.exp (subf z (tops z))) (ix2 R e)) = _
  rw [totals_apply]
  simp only [hx]
  rfl

/-- The reference's result, read at an entry. -/
theorem ref_apply (x : FVec Ideal S2x1024x1024 .f32) (P Q T Z : FVec Ideal S2x1024x256 .f32) (w : FVec Ideal S4x1024x1024 .f32) (g : FVec Ideal S2x1x1024 .f32)
    (gain : FVec Ideal S4x1024 .f32) (sc sh : FVec Ideal S2x1x1024 .f32) (rw' : FVec Ideal S4x1024x16 .f32) (R : Fin 2048) (e : Fin 16) :
    shares (logits (InProj.Ref.feats (OutProj.Ref.sums x P Q T Z w g) gain sc sh) rw') (ix2 R e)
      = affinity x P Q T Z w g gain sc sh rw' (⟨R.val / 1024, by have := R.isLt; omega⟩ : Fin 2) (⟨R.val % 1024, Nat.mod_lt _ (by decide)⟩ : Fin 1024) e := by
  rw [shares_apply]
  simp only [logits_apply, InProj.Ref.feats_apply, OutProj.Ref.sums_apply]
  rfl

end Cert.Proof.Aff.Ref

end
-- ==== Proof.RetPay.lean ====
module

public import proofs.«01_k».proof.Proof.Gen.Kernel6Ideal.Value
public import Idealize.ShloMosaic.Lib.MatmulPlain
public import Idealize.ShloMosaic.Lib.Pipeline.Value

@[expose] public section

noncomputable section

namespace Cert.Proof.Ret

open Cert.Kernel6Ideal Cert.Kernel6Ideal.Gen Idealize.ShloMosaic Idealize.ShloMosaic.ValueIdx Idealize.SL.Sem
open scoped BigOperators

/-! ## One head's state after the scan -/

/-- A token's position, counted from the first. -/
def pos (s : Fin 256) : EReal := (Scalar.sitofp .f32 (BitVec.ofNat 32 s.val) : Ideal .f32)

/-- How many tokens a scan has yet to read after token `s`: the first scan runs forward, the second backward. -/
def after (d : Fin 2) (s : Fin 256) : EReal := if d.val = 0 then Ideal.ofBits .f32 0x437F0000#32 - pos s else pos s

/-- The state a scan ends with: the one it started from, decayed over all tokens, and each token's key and value, decayed
    over the tokens read after it. -/
def state (d : Fin 2) (g : EReal) (k v : Fin 256 → EReal) (r : EReal) : EReal :=
  Ideal.exp (g * Ideal.ofBits .f32 0x43800000#32) * r
    + ∑ s : Fin 256, ((k s * Ideal.ofBits .f32 0x3E000000#32) * Ideal.exp (g * after d s)) * v s

/-! ## What the body stores -/

/-- The keys of a block, scaled and turned, read at an entry. -/
theorem keys_apply (x : Vec Ideal S1x256x256 .f32) (a s : Fin 256) :
    k0_pay3 (F := Ideal) (k0_pay22 x) (ix2 a s) = (x (ix3 (0 : Fin 1) s a) : EReal) * Ideal.ofBits .f32 0x3E000000#32 := by
  unfold k0_pay3
  refine (transpose_apply _ _ _ (ix2 a s) (ix2 s a) (fun b => by
    match b with
    | ⟨0, _⟩ => rfl
    | ⟨1, _⟩ => rfl)).trans ?_
  show (shapeCast S256x256 x shapeCasts_S1x256x256_S256x256 (ix2 s a) : EReal) * _ = _
  rw [shapeCast_apply x shapeCasts_S1x256x256_S256x256 (ix2 s a) (ix3 (0 : Fin 1) s a) (by
    rw [Shape.rowMajor_val_two, Shape.rowMajor_val_three]
    show (0 * 256 + s.val) * 256 + a.val = s.val * 256 + a.val
    omega)]
  rfl

/-- The values of a block, read at an entry. -/
theorem values_apply (x : Vec Ideal S1x256x256 .f32) (s b : Fin 256) :
    k0_pay23 (F := Ideal) x (ix2 s b) = x (ix3 (0 : Fin 1) s b) := by
  unfold k0_pay23
  exact shapeCast_apply x shapeCasts_S1x256x256_S256x256 (ix2 s b) (ix3 (0 : Fin 1) s b) (by
    rw [Shape.rowMajor_val_two, Shape.rowMajor_val_three]
    show (0 * 256 + s.val) * 256 + b.val = s.val * 256 + b.val
    omega)

/-- One head's update as the body writes it, for any offset of the head's columns and any weights. -/
def piece (o : Nat) (hk : S256x256.Slices ![o, 0] S64x256) (hv : S256x256.Slices ![0, o] S256x64) (K V : FVec Ideal S256x256 .f32)
    (W : FVec Ideal S1x256 .f32) (e : Ideal .f32) (R : Vec Ideal S1x1x1x64x64 .f32) : FVec Ideal S1x1x1x64x64 .f32 :=
  shapeCast S1x1x1x64x64
    (addf (mulf (broadcast S64x64 e) (shapeCast S64x64 R shapeCasts_S1x1x1x64x64_S64x64))
      (matmul dot_S64x256_S256x64_S64x64_1_0_0_1_n_n none
        (truncf .bf16 (mulf (extractStridedSlice S64x256 ![o, 0] K hk) (broadcastTo S64x256 W broadcasts_S1x256_S64x256)) bitsLt_bf16_f32)
        (truncf .bf16 (extractStridedSlice S256x64 ![0, o] V hv) bitsLt_bf16_f32) (constant S64x64 .f32 0x00000000#32)))
    shapeCasts_S64x64_S1x1x1x64x64

theorem piece_apply (o : Nat) (hk : S256x256.Slices ![o, 0] S64x256) (hv : S256x256.Slices ![0, o] S256x64) (K V : FVec Ideal S256x256 .f32)
    (W : FVec Ideal S1x256 .f32) (e : Ideal .f32) (R : Vec Ideal S1x1x1x64x64 .f32) (z : S1x1x1x64x64.Idx) (i j : Fin 64) (a b : Fin 256)
    (hi : (z 3).val = i.val) (hj : (z 4).val = j.val) (ha : a.val = o + i.val) (hb : b.val = o + j.val) :
    piece o hk hv K V W e R z = (e : EReal) * R z + ∑ s : Fin 256, ((K (ix2 a s) : EReal) * W (ix2 (0 : Fin 1) s)) * V (ix2 s b) := by
  have hz0 : (z 0).val < 1 := (z 0).isLt
  have hz1 : (z 1).val < 1 := (z 1).isLt
  have hz2 : (z 2).val < 1 := (z 2).isLt
  unfold piece
  refine (shapeCast_apply _ _ z (ix2 i j) (by
    rw [Shape.rowMajor_val_two, Shape.rowMajor_val_five]
    show i.val * 64 + j.val = ((((z 0).val * 1 + (z 1).val) * 1 + (z 2).val) * 64 + (z 3).val) * 64 + (z 4).val
    rw [hi, hj]
    omega)).trans ?_
  refine congrArg₂ (fun p q : EReal => p + q) (congrArg (fun t : EReal => (e : EReal) * t) ?_) ?_
  · exact shapeCast_apply _ _ (ix2 i j) z (by
      rw [Shape.rowMajor_val_two, Shape.rowMajor_val_five]
      show ((((z 0).val * 1 + (z 1).val) * 1 + (z 2).val) * 64 + (z 3).val) * 64 + (z 4).val = i.val * 64 + j.val
      rw [hi, hj]
      omega)
  refine (Ideal.matmul_plain_apply (M := 64) (K := 256) (N := 64) none _ _ _ i j).trans ?_
  rw [show (constant S64x64 .f32 0x00000000#32 : FVec Ideal S64x64 .f32) (ix2 i j) = 0 from Ideal.ofBits_zero_f32, zero_add]
  refine Finset.sum_congr rfl fun s _ => ?_
  refine congrArg₂ (fun p q : EReal => p * q) (congrArg₂ (fun p q : EReal => p * q) ?_ ?_) ?_
  · exact extractStridedSlice_apply _ K hk (ix2 i s) (ix2 a s) fun ax => by
      match ax with
      | ⟨0, _⟩ => exact ha
      | ⟨1, _⟩ => exact (Nat.zero_add _).symm
  · exact broadcastTo_apply W broadcasts_S1x256_S64x256 (ix2 i s) (ix2 (0 : Fin 1) s) fun ax => by
      match ax with
      | ⟨0, _⟩ => rfl
      | ⟨1, _⟩ => rfl
  · exact extractStridedSlice_apply _ V hv (ix2 s j) (ix2 s b) fun ax => by
      match ax with
      | ⟨0, _⟩ => exact (Nat.zero_add _).symm
      | ⟨1, _⟩ => exact hb

/-- The weights of the first scan, written out. -/
def weights0 (g : Ideal .f32) : FVec Ideal S1x256 .f32 :=
  exp (mulf (broadcast S1x256 g) (subf (broadcast S1x256 (Scalar.ofBits .f32 0x437F0000#32)) (k0_pay4 (F := Ideal))))
/-- The weights of the second. -/
def weights1 (g : Ideal .f32) : FVec Ideal S1x256 .f32 :=
  exp (mulf (broadcast S1x256 g) (k0_pay4 (F := Ideal)))
/-- The weight of the state a scan starts from. -/
def total (g : Ideal .f32) : Ideal .f32 := Scalar.exp (Scalar.mulf g (Scalar.ofBits .f32 0x43800000#32))

theorem pay4_apply (s : Fin 256) : k0_pay4 (F := Ideal) (ix2 (0 : Fin 1) s) = pos s := by
  unfold k0_pay4 pos
  refine congrArg (fun w : BitVec 32 => (Scalar.sitofp .f32 w : Ideal .f32)) ?_
  rw [iota_single_apply]

theorem weights0_apply (g : Ideal .f32) (s : Fin 256) : weights0 g (ix2 (0 : Fin 1) s) = Ideal.exp ((g : EReal) * after 0 s) := by
  unfold after
  rw [if_pos (by rfl), ← pay4_apply]
  rfl

theorem weights1_apply (g : Ideal .f32) (s : Fin 256) : weights1 g (ix2 (0 : Fin 1) s) = Ideal.exp ((g : EReal) * after 1 s) := by
  unfold after
  rw [if_neg (by decide), ← pay4_apply]
  rfl

/-- What a block of states holds once the body has run, from the decays, the keys' and values' blocks and the states the
    scans start from. -/
def G (x0 : Vec Ideal S2x4 .f32) (xk xv : Vec Ideal S1x256x256 .f32) (x6 : Vec Ideal S1x2x4x64x64 .f32) (y : S1x2x4x64x64.Idx) : EReal :=
  state (⟨(y 1).val, (y 1).isLt⟩ : Fin 2) (x0 (ix2 (⟨(y 1).val, (y 1).isLt⟩ : Fin 2) (⟨(y 2).val, (y 2).isLt⟩ : Fin 4)))
    (fun s => xk (ix3 (0 : Fin 1) s (⟨64 * (y 2).val + (y 3).val, by have h2 : (y 2).val < 4 := (y 2).isLt; have h3 : (y 3).val < 64 := (y 3).isLt; omega⟩ : Fin 256)))
    (fun s => xv (ix3 (0 : Fin 1) s (⟨64 * (y 2).val + (y 4).val, by have h2 : (y 2).val < 4 := (y 2).isLt; have h4 : (y 4).val < 64 := (y 4).isLt; omega⟩ : Fin 256)))
    (x6 y)

/-- One head's update is its part of that block. -/
theorem piece_G (d : Fin 2) (h : Fin 4) (o : Nat) (ho : o = 64 * h.val) (hk : S256x256.Slices ![o, 0] S64x256) (hv : S256x256.Slices ![0, o] S256x64)
    (x0 : Vec Ideal S2x4 .f32) (xk xv : Vec Ideal S1x256x256 .f32) (x6 : Vec Ideal S1x2x4x64x64 .f32) (W : FVec Ideal S1x256 .f32) (g : Ideal .f32)
    (hW : ∀ s, W (ix2 (0 : Fin 1) s) = Ideal.exp ((g : EReal) * after d s)) (hg : g = x0 (ix2 d h))
    (R : Vec Ideal S1x1x1x64x64 .f32) (z : S1x1x1x64x64.Idx) (y : S1x2x4x64x64.Idx) (hR : R z = x6 y)
    (h1 : (y 1).val = d.val) (h2 : (y 2).val = h.val) (h3 : (y 3).val = (z 3).val) (h4 : (y 4).val = (z 4).val) :
    piece o hk hv (k0_pay3 (k0_pay22 xk)) (k0_pay23 xv) W (total g) R z = G x0 xk xv x6 y := by
  have hh := h.isLt
  have hy3 : (y 3).val < 64 := (y 3).isLt
  have hy4 : (y 4).val < 64 := (y 4).isLt
  rw [piece_apply o hk hv _ _ _ _ _ z ⟨(z 3).val, (z 3).isLt⟩ ⟨(z 4).val, (z 4).isLt⟩
    (⟨64 * (y 2).val + (y 3).val, by omega⟩ : Fin 256) (⟨64 * (y 2).val + (y 4).val, by omega⟩ : Fin 256) rfl rfl
    (by show 64 * (y 2).val + (y 3).val = o + (z 3).val; omega) (by show 64 * (y 2).val + (y 4).val = o + (z 4).val; omega)]
  simp only [keys_apply, values_apply, hW, hR]
  have e1 : (⟨(y 1).val, (y 1).isLt⟩ : Fin 2) = d := Fin.ext h1
  have e2 : (⟨(y 2).val, (y 2).isLt⟩ : Fin 4) = h := Fin.ext h2
  unfold G
  rw [e1, e2, ← hg]
  rfl

end Cert.Proof.Ret

end
-- ==== Proof.RetCase.lean ====
module

public import proofs.«01_k».proof.Proof.RetPay

@[expose] public section

noncomputable section

namespace Cert.Proof.Ret

open Cert.Kernel6Ideal Cert.Kernel6Ideal.Gen Idealize.ShloMosaic Idealize.ShloMosaic.ValueIdx Idealize.ShloMosaic.Tactic Idealize.SL.Sem
open scoped BigOperators

theorem z3 : (![0, 0, 0] : Fin 3 → Nat) = fun _ => 0 := by decide

set_option maxRecDepth 65536 in
set_option maxHeartbeats 4000000 in
/-- What the body leaves in the states' block. -/
theorem out_A (c : Dev nD) (i : grid0.Coords) (arg2 : Memref sig .tc .smem S2x4 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256 .f32) (harg7 : arg7.IsWhole) (arg8 : Memref sig .tc .vmem S1x2x4x64x64 .f32) (harg8 : arg8.IsWhole) (arg9 : Memref sig .tc .vmem S1x256x256 .f32) (harg9 : arg9.IsWhole) (arg10 : Memref sig .tc .vmem S1x2x4x64x64 .f32) (harg10 : arg10.IsWhole) (hc0 : cond0_0 i) (x0 : Vec Ideal S2x4 .f32) (x1 : Vec Ideal S1x256x256 .f32) (x2 : Vec Ideal S1x256x256 .f32) (x3 : Vec Ideal S1x256x256 .f32) (x4 : Vec Ideal S1x256x256 .f32) (x5 : Vec Ideal S1x256 .f32) (x6 : Vec Ideal S1x2x4x64x64 .f32) (y : S1x2x4x64x64.Idx) :
    out0_A_8 (F := Ideal) c i arg2 harg2 arg3 harg3 arg4 harg4 arg5 harg5 arg6 harg6 arg7 harg7 arg8 harg8 arg9 harg9 arg10 harg10 hc0 x0 x1 x2 x3 x4 x5 x6 y = G x0 x2 x3 x6 y := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg4.read_unread, harg5.read_unread, harg8.read_unread, View.ld_unit_zero (S := S1x256x256) z3]
  refine View.canon_apply_of_pieces (Val := Elt Ideal) (e := .f32) (G x0 x2 x3 x6) _ ?_ y ?_
  · intro pc hpc x
    rcases List.mem_cons.mp hpc with rfl | hpc
    · have hx1 : (x 1).val < 1 := (x 1).isLt
      have hx2 : (x 2).val < 1 := (x 2).isLt
      refine piece_G 1 3 192 rfl slices_S256x256_o192_0_S64x256 slices_S256x256_o0_192_S256x64 x0 x2 x3 x6 (weights1 _) _ (weights1_apply _)
        (congrArg x0 (funext fun a => Fin.ext (by
          match a with
          | ⟨0, _⟩ => rfl
          | ⟨1, _⟩ => rfl))) _ x _ rfl ?_ ?_ ?_ ?_
      · show 1 + 1 * (x 1).val = 1; omega
      · show 3 + 1 * (x 2).val = 3; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 1 2 128 rfl slices_S256x256_o128_0_S64x256 slices_S256x256_o0_128_S256x64 x0 x2 x3 x6 (weights1 _) _ (weights1_apply _)
        (congrArg x0 (funext fun a => Fin.ext (by
          match a with
          | ⟨0, _⟩ => rfl
          | ⟨1, _⟩ => rfl))) _ x _ rfl ?_ ?_ ?_ ?_
      · show 1 + 1 * (x 1).val = 1; omega
      · show 2 + 1 * (x 2).val = 2; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 1 1 64 rfl slices_S256x256_o64_0_S64x256 slices_S256x256_o0_64_S256x64 x0 x2 x3 x6 (weights1 _) _ (weights1_apply _)
        (congrArg x0 (funext fun a => Fin.ext (by
          match a with
          | ⟨0, _⟩ => rfl
          | ⟨1, _⟩ => rfl))) _ x _ rfl ?_ ?_ ?_ ?_
      · show 1 + 1 * (x 1).val = 1; omega
      · show 1 + 1 * (x 2).val = 1; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 1 0 0 rfl slices_S256x256_o0_0_S64x256 slices_S256x256_o0_0_S256x64 x0 x2 x3 x6 (weights1 _) _ (weights1_apply _)
        (congrArg x0 (funext fun a => Fin.ext (by
          match a with
          | ⟨0, _⟩ => rfl
          | ⟨1, _⟩ => rfl))) _ x _ rfl ?_ ?_ ?_ ?_
      · show 1 + 1 * (x 1).val = 1; omega
      · show 0 + 1 * (x 2).val = 0; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 0 3 192 rfl slices_S256x256_o192_0_S64x256 slices_S256x256_o0_192_S256x64 x0 x2 x3 x6 (weights0 _) _ (weights0_apply _)
        (congrArg x0 (funext fun a => Fin.ext (by
          match a with
          | ⟨0, _⟩ => rfl
          | ⟨1, _⟩ => rfl))) _ x _ rfl ?_ ?_ ?_ ?_
      · show 0 + 1 * (x 1).val = 0; omega
      · show 3 + 1 * (x 2).val = 3; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 0 2 128 rfl slices_S256x256_o128_0_S64x256 slices_S256x256_o0_128_S256x64 x0 x2 x3 x6 (weights0 _) _ (weights0_apply _)
        (congrArg x0 (funext fun a => Fin.ext (by
          match a with
          | ⟨0, _⟩ => rfl
          | ⟨1, _⟩ => rfl))) _ x _ rfl ?_ ?_ ?_ ?_
      · show 0 + 1 * (x 1).val = 0; omega
      · show 2 + 1 * (x 2).val = 2; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 0 1 64 rfl slices_S256x256_o64_0_S64x256 slices_S256x256_o0_64_S256x64 x0 x2 x3 x6 (weights0 _) _ (weights0_apply _)
        (congrArg x0 (funext fun a => Fin.ext (by
          match a with
          | ⟨0, _⟩ => rfl
          | ⟨1, _⟩ => rfl))) _ x _ rfl ?_ ?_ ?_ ?_
      · show 0 + 1 * (x 1).val = 0; omega
      · show 1 + 1 * (x 2).val = 1; omega
      · show 0 + 1 * (x 3).val = (x 3).val; omega
      · show 0 + 1 * (x 4).val = (x 4).val; omega
    rcases List.mem_cons.mp hpc with rfl | hpc
    · have hx1 : (x 1).val < 1 := (x 1).isLt
      have hx2 : (x 2).val < 1 := (x 2).isLt
      refine piece_G 0 0 0 rfl slices_S256x256_o0_0_S64x256 slices_S256x256_o0_0_S256x64 x0 x2 x3 x6 (weights0 _) _ (weights0_apply _)
        (congrArg x0 (funext fun a => Fin.ext (by
          match a with
          | ⟨0, _⟩ => rfl
          | ⟨1, _⟩ => rfl))) _ x _ rfl ?_ ?_ ?_ ?_
      · show 0 + 1 * (x 1).val = 0; omega
      · show 0 + 1 * (x 2).val = 0; omega
      · show 0 + 1 * (x 3).val = (x 3).val; omega
      · show 0 + 1 * (x 4).val = (x 4).val; omega
    nomatch hpc
  · exact View.cover_of_tiledL (Val := Elt Ideal) (s := S1x2x4x64x64) (e := .f32) _ S1x1x1x64x64.size (by sl_kernel_rfl) y

end Cert.Proof.Ret

end
-- ==== Proof.RetRun.lean ====
module

public import proofs.«01_k».proof.Proof.RetCase

@[expose] public section

noncomputable section

namespace Cert.Proof.Ret

open Cert.Kernel6Ideal Cert.Kernel6Ideal.Gen Cert.Kernel6Ideal.Value
open Idealize.ShloMosaic Idealize.ShloMosaic.ValueIdx Idealize.ShloMosaic.TcCoe Idealize.SL.Sem
open scoped BigOperators

variable (m : (ℓ : Loc nD τ sig) → Buf (Elt Ideal) ℓ)

/-! ## The decays the call reads -/

/-- The first layer's decays: minus the exponential of what is given. -/
def decays (w : FVec Ideal S4x2x4 .f32) : FVec Ideal S2x4 .f32 :=
  Host.negf (Host.exp (shapeCast _ (extractStridedSlice S1x2x4 ![0, 0, 0] w slices_S4x2x4_S1x2x4_0_0_0) shapeCasts_S1x2x4_S2x4))

/-- A scan's and a head's decay. -/
def decay (w : Fin 2 → Fin 4 → EReal) (d : Fin 2) (h : Fin 4) : EReal := -(Ideal.exp (w d h))

theorem decays_apply (w : FVec Ideal S4x2x4 .f32) (d : Fin 2) (h : Fin 4) :
    decays w (ix2 d h) = decay (fun d h => w (ix3 (0 : Fin 4) d h)) d h := by
  show -(Ideal.exp (shapeCast S2x4 (extractStridedSlice S1x2x4 ![0, 0, 0] w slices_S4x2x4_S1x2x4_0_0_0) shapeCasts_S1x2x4_S2x4 (ix2 d h) : EReal)) = _
  rw [shapeCast_apply _ shapeCasts_S1x2x4_S2x4 (ix2 d h) (ix3 (0 : Fin 1) d h) (by
    rw [Shape.rowMajor_val_two, Shape.rowMajor_val_three]
    show (0 * 2 + d.val) * 4 + h.val = d.val * 4 + h.val
    omega),
    extractStridedSlice_apply _ w slices_S4x2x4_S1x2x4_0_0_0 (ix3 (0 : Fin 1) d h) (ix3 (0 : Fin 4) d h) (fun a => by
      match a with
      | ⟨0, _⟩ => rfl
      | ⟨1, _⟩ => exact (Nat.zero_add _).symm
      | ⟨2, _⟩ => exact (Nat.zero_add _).symm)]
  rfl

theorem V_decays (c : Dev nD) : V m c (Pipeline.arrRef spec0 0) = decays (m ((c : Thread nD τ).loc main_arg1) : FVec Ideal S4x2x4 .f32) := by
  show StableHlo.after hostOps0 _ _ = _
  unfold hostOps0
  after_results_simp <;> rfl

/-! ## The blocks each point reads -/

theorem index0 : ∀ t : Fin cfg0.N, win0_0.index t (0 : Fin 2) = 0 ∧ win0_0.index t (1 : Fin 2) = 0 :=
  (by decide +kernel : ∀ t : Fin grid0.N, _)

theorem index2 : ∀ t : Fin cfg0.N, win0_2.index t (0 : Fin 3) = t.val ∧ win0_2.index t (1 : Fin 3) = 0 ∧ win0_2.index t (2 : Fin 3) = 6 :=
  (by decide +kernel : ∀ t : Fin grid0.N, _)

theorem index3 : ∀ t : Fin cfg0.N, win0_3.index t (0 : Fin 3) = t.val ∧ win0_3.index t (1 : Fin 3) = 0 ∧ win0_3.index t (2 : Fin 3) = 7 :=
  (by decide +kernel : ∀ t : Fin grid0.N, _)

theorem index6 : ∀ t : Fin cfg0.N, win0_6.index t (0 : Fin 5) = t.val ∧ win0_6.index t (1 : Fin 5) = 0 ∧ win0_6.index t (2 : Fin 5) = 0 ∧ win0_6.index t (3 : Fin 5) = 0 ∧ win0_6.index t (4 : Fin 5) = 0 :=
  (by decide +kernel : ∀ t : Fin grid0.N, _)

theorem index8 : ∀ t : Fin cfg0.N, win0_8.index t (0 : Fin 5) = t.val ∧ win0_8.index t (1 : Fin 5) = 0 ∧ win0_8.index t (2 : Fin 5) = 0 ∧ win0_8.index t (3 : Fin 5) = 0 ∧ win0_8.index t (4 : Fin 5) = 0 :=
  (by decide +kernel : ∀ t : Fin grid0.N, _)

theorem read0 (A : Vec Ideal S2x4 .f32) (t : Fin cfg0.N) (d : Fin 2) (h : Fin 4) :
    (((cfg0.win 0).blk t).view.read (Elt Ideal) A : Vec Ideal S2x4 .f32) (ix2 d h) = A (ix2 d h) := by
  have hi := index0 t
  rw [View.read_apply]
  show A _ = A _
  refine congrArg A (funext fun ax => Fin.ext ?_)
  match ax with
  | ⟨0, _⟩ => show win0_0.index t (0 : Fin 2) * 2 + 1 * d.val = d.val; rw [hi.1]; omega
  | ⟨1, _⟩ => show win0_0.index t (1 : Fin 2) * 4 + 1 * h.val = h.val; rw [hi.2]; omega

theorem blk0 (c : Dev nD) (t : Fin cfg0.N) (d : Fin 2) (h : Fin 4) :
    (iblk m c 0 t : Vec Ideal S2x4 .f32) (ix2 d h) = decay (fun d h => (m ((c : Thread nD τ).loc main_arg1) : Vec Ideal S4x2x4 .f32) (ix3 (0 : Fin 4) d h)) d h := by
  unfold iblk
  rw [V_decays m c]
  exact (read0 _ t d h).trans (decays_apply _ d h)

/-- The keys' block: the sequence's columns from 1536. -/
theorem blk2 (c : Dev nD) (t : Fin cfg0.N) (b : Fin 32) (hb : b.val = t.val) (s a : Fin 256) (n : Fin 3200) (hn : n.val = 1536 + a.val) :
    (X0_2 m c t : Vec Ideal S1x256x256 .f32) (ix3 (0 : Fin 1) s a) = (m ((c : Thread nD τ).loc main_arg0) : Vec Ideal S32x256x3200 .f32) (ix3 b s n) := by
  have hi := index2 t
  unfold X0_2 Pipeline.Window.fill
  rw [dif_pos (moved0_2 t _)]
  unfold iblk
  rw [View.read_apply, show V m c (Pipeline.arrRef spec0 2) = _ from V_main_arg0 m c]
  refine congrArg (m ((c : Thread nD τ).loc main_arg0) : Vec Ideal S32x256x3200 .f32) (funext fun ax => Fin.ext ?_)
  match ax with
  | ⟨0, _⟩ => show win0_2.index t (0 : Fin 3) * 1 + 1 * 0 = b.val; rw [hi.1]; omega
  | ⟨1, _⟩ => show win0_2.index t (1 : Fin 3) * 256 + 1 * s.val = s.val; rw [hi.2.1]; omega
  | ⟨2, _⟩ => show win0_2.index t (2 : Fin 3) * 256 + 1 * a.val = n.val; rw [hi.2.2]; omega

/-- The values' block: the sequence's columns from 1792. -/
theorem blk3 (c : Dev nD) (t : Fin cfg0.N) (b : Fin 32) (hb : b.val = t.val) (s a : Fin 256) (n : Fin 3200) (hn : n.val = 1792 + a.val) :
    (X0_3 m c t : Vec Ideal S1x256x256 .f32) (ix3 (0 : Fin 1) s a) = (m ((c : Thread nD τ).loc main_arg0) : Vec Ideal S32x256x3200 .f32) (ix3 b s n) := by
  have hi := index3 t
  unfold X0_3 Pipeline.Window.fill
  rw [dif_pos (moved0_3 t _)]
  unfold iblk
  rw [View.read_apply, show V m c (Pipeline.arrRef spec0 3) = _ from V_main_arg0 m c]
  refine congrArg (m ((c : Thread nD τ).loc main_arg0) : Vec Ideal S32x256x3200 .f32) (funext fun ax => Fin.ext ?_)
  match ax with
  | ⟨0, _⟩ => show win0_3.index t (0 : Fin 3) * 1 + 1 * 0 = b.val; rw [hi.1]; omega
  | ⟨1, _⟩ => show win0_3.index t (1 : Fin 3) * 256 + 1 * s.val = s.val; rw [hi.2.1]; omega
  | ⟨2, _⟩ => show win0_3.index t (2 : Fin 3) * 256 + 1 * a.val = n.val; rw [hi.2.2]; omega

/-- The states' block: the sequence's. -/
theorem blk6 (c : Dev nD) (t : Fin cfg0.N) (y i : S1x2x4x64x64.Idx) (z : S32x2x4x64x64.Idx) (h0 : (z 0).val = t.val) (h1 : (z 1).val = (y 1).val)
    (h2 : (z 2).val = (y 2).val) (h3 : (z 3).val = (y 3).val) (h4 : (z 4).val = (y 4).val) :
    (iblk m c 6 t : Vec Ideal S1x2x4x64x64 .f32) y = (m ((c : Thread nD τ).loc main_arg3) : Vec Ideal S32x2x4x64x64 .f32) z := by
  have hi := index6 t
  have hy0 : (y 0).val < 1 := (y 0).isLt
  unfold iblk
  rw [View.read_apply, show V m c (Pipeline.arrRef spec0 6) = _ from V_main_arg3 m c]
  refine congrArg (m ((c : Thread nD τ).loc main_arg3) : Vec Ideal S32x2x4x64x64 .f32) (funext fun ax => Fin.ext ?_)
  match ax with
  | ⟨0, _⟩ => show win0_6.index t (0 : Fin 5) * 1 + 1 * (y 0).val = (z 0).val; rw [hi.1]; omega
  | ⟨1, _⟩ => show win0_6.index t (1 : Fin 5) * 2 + 1 * (y 1).val = (z 1).val; rw [hi.2.1]; omega
  | ⟨2, _⟩ => show win0_6.index t (2 : Fin 5) * 4 + 1 * (y 2).val = (z 2).val; rw [hi.2.2.1]; omega
  | ⟨3, _⟩ => show win0_6.index t (3 : Fin 5) * 64 + 1 * (y 3).val = (z 3).val; rw [hi.2.2.2.1]; omega
  | ⟨4, _⟩ => show win0_6.index t (4 : Fin 5) * 64 + 1 * (y 4).val = (z 4).val; rw [hi.2.2.2.2]; omega

/-! ## The array the call returns -/

/-- A sequence's, a scan's and a head's state after the scan, at a row and a column. -/
def scanned (x : Vec Ideal S32x256x3200 .f32) (w : Vec Ideal S4x2x4 .f32) (r : Vec Ideal S32x2x4x64x64 .f32)
    (b : Fin 32) (d : Fin 2) (h : Fin 4) (i j : Fin 64) : EReal :=
  state d (decay (fun d h => w (ix3 (0 : Fin 4) d h)) d h)
    (fun s => x (ix3 b s (⟨1536 + (64 * h.val + i.val), by have := h.isLt; have := i.isLt; omega⟩ : Fin 3200)))
    (fun s => x (ix3 b s (⟨1792 + (64 * h.val + j.val), by have := h.isLt; have := j.isLt; omega⟩ : Fin 3200)))
    (r (ix5 b d h i j))

/-- What the array ends holding. -/
def G8 (c : Dev nD) : Vec Ideal S32x2x4x64x64 .f32 := fun z =>
  scanned (m ((c : Thread nD τ).loc main_arg0) : Vec Ideal S32x256x3200 .f32) (m ((c : Thread nD τ).loc main_arg1) : Vec Ideal S4x2x4 .f32)
    (m ((c : Thread nD τ).loc main_arg3) : Vec Ideal S32x2x4x64x64 .f32) (z 0) (z 1) (z 2) (z 3) (z 4)

/-- Equal parts make equal states. -/
theorem state_congr {d d' : Fin 2} {g g' : EReal} {k k' v v' : Fin 256 → EReal} {r r' : EReal} (hd : d = d') (hg : g = g')
    (hk : ∀ s, k s = k' s) (hv : ∀ s, v s = v' s) (hr : r = r') : state d g k v r = state d' g' k' v' r' := by
  rw [hd, hg, funext hk, funext hv, hr]

/-- What a point's body leaves, read at an entry. -/
theorem out_apply (c : Dev nD) (t : Fin cfg0.N) (y : S1x2x4x64x64.Idx) (z : S32x2x4x64x64.Idx) (h0 : (z 0).val = t.val) (h1 : (z 1).val = (y 1).val)
    (h2 : (z 2).val = (y 2).val) (h3 : (z 3).val = (y 3).val) (h4 : (z 4).val = (y 4).val) :
    G (iblk m c 0 t) (X0_2 m c t) (X0_3 m c t) (iblk m c 6 t) y = G8 m c z := by
  have e1 : (⟨(y 1).val, (y 1).isLt⟩ : Fin 2) = z 1 := Fin.ext h1.symm
  have e2 : (⟨(y 2).val, (y 2).isLt⟩ : Fin 4) = z 2 := Fin.ext h2.symm
  have l2 : (z 2).val < 4 := (z 2).isLt
  have l3 : (z 3).val < 64 := (z 3).isLt
  have l4 : (z 4).val < 64 := (z 4).isLt
  exact state_congr e1 ((blk0 m c t _ _).trans (congrArg₂ (decay fun d h => (m ((c : Thread nD τ).loc main_arg1) : Vec Ideal S4x2x4 .f32) (ix3 (0 : Fin 4) d h)) e1 e2))
    (fun s => blk2 m c t (z 0) h0 s _ (⟨1536 + (64 * (z 2).val + (z 3).val), by omega⟩ : Fin 3200)
      (by show 1536 + (64 * (z 2).val + (z 3).val) = 1536 + (64 * (y 2).val + (y 3).val); rw [h2, h3]))
    (fun s => blk3 m c t (z 0) h0 s _ (⟨1792 + (64 * (z 2).val + (z 4).val), by omega⟩ : Fin 3200)
      (by show 1792 + (64 * (z 2).val + (z 4).val) = 1792 + (64 * (y 2).val + (y 4).val); rw [h2, h4]))
    ((blk6 m c t y y z h0 h1 h2 h3 h4).trans (congrArg (m ((c : Thread nD τ).loc main_arg3) : Vec Ideal S32x2x4x64x64 .f32) (eq_ix5 z)))

/-- What a point writes back is its block of that array. -/
theorem flushed8_eq (c : Dev nD) (t : Fin cfg0.N) (hf : (cfg0.win 8).flush t = true) :
    (dats m 0 c).flushed 8 t = ((cfg0.win 8).blk t).view.read (Elt Ideal) (G8 m c) := by
  have hi := index8 t
  rw [flushed8_A]
  funext y
  have hy0 : (y 0).val < 1 := (y 0).isLt
  have hb0 : (((cfg0.win 8).blk t).view.emb y 0).val = win0_8.index t (0 : Fin 5) * 1 + 1 * (y 0).val := rfl
  have hb1 : (((cfg0.win 8).blk t).view.emb y 1).val = win0_8.index t (1 : Fin 5) * 2 + 1 * (y 1).val := rfl
  have hb2 : (((cfg0.win 8).blk t).view.emb y 2).val = win0_8.index t (2 : Fin 5) * 4 + 1 * (y 2).val := rfl
  have hb3 : (((cfg0.win 8).blk t).view.emb y 3).val = win0_8.index t (3 : Fin 5) * 64 + 1 * (y 3).val := rfl
  have hb4 : (((cfg0.win 8).blk t).view.emb y 4).val = win0_8.index t (4 : Fin 5) * 64 + 1 * (y 4).val := rfl
  refine (out_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (hcond0_0 t) (iblk m c 0 t) (X0_1 m c t) (X0_2 m c t) (X0_3 m c t) (X0_4 m c t)
    (iblk m c 5 t) (iblk m c 6 t) ((cfg0.win 8).xinj (grid0.coords t) y)).trans ?_
  show _ = G8 m c (((cfg0.win 8).blk t).view.emb y)
  exact out_apply m c t _ _ (by rw [hb0, hi.1]; omega)
    (by rw [hb1, hi.2.1]; show _ = (y 1).val; omega) (by rw [hb2, hi.2.2.1]; show _ = (y 2).val; omega)
    (by rw [hb3, hi.2.2.2.1]; show _ = (y 3).val; omega) (by rw [hb4, hi.2.2.2.2]; show _ = (y 4).val; omega)

/-- An index is in a point's block when each coordinate is in the block's range. -/
theorem mem_blk8 (t : Fin cfg0.N) (i : S32x2x4x64x64.Idx) : i ∈ ((cfg0.win 8).blk t).view.set
    ↔ ∀ a : Fin 5, win0_8.index t a * S1x2x4x64x64.size a ≤ (i a).val ∧ (i a).val < win0_8.index t a * S1x2x4x64x64.size a + S1x2x4x64x64.size a := by
  show i ∈ ((View.whole main_v7_1).slice (win0_8.rect t)).set ↔ _
  rw [View.set_slice_whole, Rect.mem_set_unit]
  exact Iff.rfl

/-- Every index is in the block of its sequence's point. -/
theorem covered8 (i : S32x2x4x64x64.Idx) : ∃ t : Fin cfg0.N, (cfg0.win 8).flush t = true ∧ i ∈ ((cfg0.win 8).blk t).view.set := by
  have h0 : (i 0).val < 32 := (i 0).isLt
  have h1 : (i 1).val < 2 := (i 1).isLt
  have h2 : (i 2).val < 4 := (i 2).isLt
  have h3 : (i 3).val < 64 := (i 3).isLt
  have h4 : (i 4).val < 64 := (i 4).isLt
  have hN : cfg0.N = 32 := N_0
  obtain ⟨t, ht⟩ : ∃ t : Fin cfg0.N, t.val = (i 0).val := ⟨⟨(i 0).val, by omega⟩, rfl⟩
  refine ⟨t, (by decide +kernel : ∀ t : Fin grid0.N, win0_8.flush t = true) t, ?_⟩
  have hi := index8 t
  rw [mem_blk8]
  intro a
  match a with
  | ⟨0, _⟩ => show win0_8.index t (0 : Fin 5) * 1 ≤ (i 0).val ∧ (i 0).val < win0_8.index t (0 : Fin 5) * 1 + 1; rw [hi.1]; omega
  | ⟨1, _⟩ => show win0_8.index t (1 : Fin 5) * 2 ≤ (i 1).val ∧ (i 1).val < win0_8.index t (1 : Fin 5) * 2 + 2; rw [hi.2.1]; omega
  | ⟨2, _⟩ => show win0_8.index t (2 : Fin 5) * 4 ≤ (i 2).val ∧ (i 2).val < win0_8.index t (2 : Fin 5) * 4 + 4; rw [hi.2.2.1]; omega
  | ⟨3, _⟩ => show win0_8.index t (3 : Fin 5) * 64 ≤ (i 3).val ∧ (i 3).val < win0_8.index t (3 : Fin 5) * 64 + 64; rw [hi.2.2.2.1]; omega
  | ⟨4, _⟩ => show win0_8.index t (4 : Fin 5) * 64 ≤ (i 4).val ∧ (i 4).val < win0_8.index t (4 : Fin 5) * 64 + 64; rw [hi.2.2.2.2]; omega

/-- THE STATES AFTER THE RUN. -/
theorem final8 (c : Dev nD) : (dats m 0 c).arrAt 8 cfg0.N = G8 m c :=
  (dats m 0 c).arrAt_eq_of_cover 8 _ (fun t hf => flushed8_eq m c t hf) covered8

end Cert.Proof.Ret

end
-- ==== Proof.RetMath.lean ====
module

public import Idealize.ShloMosaic.Lib.MatmulPlain
public import Idealize.ShloMosaic.Lib.Pipeline.Value

@[expose] public section

noncomputable section

namespace Cert.Proof.Ret

open Idealize.ShloMosaic
open scoped BigOperators

/-! ## Powers of a decay, and the recurrence by chunks -/

/-- The words of the counts. -/
theorem word_255 : Ideal.ofBits .f32 0x437F0000#32 = ((255 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_63 : Ideal.ofBits .f32 0x427C0000#32 = ((63 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num

theorem count_val (n : Nat) (h : n < 2 ^ 31) : (Scalar.sitofp .f32 (BitVec.ofNat 32 n) : Ideal .f32) = (((n : ℝ)) : EReal) := by
  show ((((BitVec.ofNat 32 n).toInt : ℤ) : ℝ) : EReal) = _
  have : (BitVec.ofNat 32 n).toInt = (n : ℤ) := by
    rw [BitVec.toInt_eq_toNat_of_lt]
    · simp only [BitVec.toNat_ofNat]; rw [Nat.mod_eq_of_lt (by omega)]
    · simp only [BitVec.toNat_ofNat]; rw [Nat.mod_eq_of_lt (by omega)]; omega
  rw [this]; norm_num

/-- A decay's power: the exponential of it times a count. -/
def pow (g : EReal) (n : Nat) : EReal := Ideal.exp (g * ((n : ℝ) : EReal))

theorem pow_zero (g : EReal) : pow g 0 = 1 := by
  unfold pow; rw [Nat.cast_zero, EReal.coe_zero, mul_zero]; show ((Real.exp 0 : ℝ) : EReal) = 1; rw [Real.exp_zero]; rfl

theorem pow_bot (n : Nat) (h : 0 < n) : pow ⊥ n = 0 := by
  unfold pow
  rw [EReal.bot_mul_coe_of_pos (by exact_mod_cast h)]; rfl

theorem pow_real (r : ℝ) (n : Nat) : pow (r : EReal) n = ((Real.exp (r * n) : ℝ) : EReal) := by
  unfold pow; rw [← EReal.coe_mul]; rfl

/-- Powers add their counts. -/
theorem pow_add (g : EReal) (hg : g ≠ ⊤) (a b : Nat) : pow g a * pow g b = pow g (a + b) := by
  induction g with
  | bot =>
    rcases Nat.eq_zero_or_pos a with rfl | ha
    · rw [pow_zero, one_mul, Nat.zero_add]
    · rw [pow_bot a ha, zero_mul, pow_bot _ (by omega)]
  | coe r => rw [pow_real, pow_real, pow_real, ← EReal.coe_mul, ← Real.exp_add]; push_cast; rw [mul_add]
  | top => exact absurd rfl hg

theorem pow_nonneg (g : EReal) (hg : g ≠ ⊤) (n : Nat) : 0 ≤ pow g n ∧ pow g n ≠ ⊤ := by
  induction g with
  | bot =>
    rcases Nat.eq_zero_or_pos n with rfl | hn
    · rw [pow_zero]; exact ⟨zero_le_one, by decide⟩
    · rw [pow_bot n hn]; exact ⟨le_refl _, by decide⟩
  | coe r => rw [pow_real]; exact ⟨by exact_mod_cast (Real.exp_pos _).le, EReal.coe_ne_top _⟩
  | top => exact absurd rfl hg

theorem pow_mul_add (g : EReal) (hg : g ≠ ⊤) (n : Nat) (x y : EReal) : pow g n * (x + y) = pow g n * x + pow g n * y :=
  EReal.left_distrib_of_nonneg_of_ne_top (pow_nonneg g hg n).1 (pow_nonneg g hg n).2 x y

theorem pow_mul_sum (g : EReal) (hg : g ≠ ⊤) (n : Nat) {ι : Type} (s : Finset ι) (f : ι → EReal) : pow g n * ∑ i ∈ s, f i = ∑ i ∈ s, pow g n * f i := by
  classical
  induction s using Finset.induction_on with
  | empty => simp
  | insert a s ha ih => rw [Finset.sum_insert ha, Finset.sum_insert ha, pow_mul_add g hg, ih]

/-- What a chunk of 64 tokens adds to the state. -/
def chunk (g : EReal) (k v : Fin 64 → EReal) : EReal := ∑ p : Fin 64, (k p * pow g (63 - p.val)) * v p

/-- The state after a chunk. -/
def step (g : EReal) (R : EReal) (k v : Fin 64 → EReal) : EReal := pow g 64 * R + chunk g k v

/-- The tokens of a chunk of a sequence. -/
def part (n : Fin 4) (k : Fin 256 → EReal) (p : Fin 64) : EReal := k ⟨64 * n.val + p.val, by have := n.isLt; have := p.isLt; omega⟩

/-- The state after a sequence of four chunks. -/
def scan (g r : EReal) (k v : Fin 256 → EReal) : EReal :=
  step g (step g (step g (step g r (part 0 k) (part 0 v)) (part 1 k) (part 1 v)) (part 2 k) (part 2 v)) (part 3 k) (part 3 v)

theorem sum_parts (f : Fin 256 → EReal) : ∑ s, f s = ((∑ p, part 0 f p + ∑ p, part 1 f p) + ∑ p, part 2 f p) + ∑ p, part 3 f p := by
  have h (n : Nat) (f : Fin (n + 64) → EReal) : ∑ s, f s = ∑ s : Fin n, f (Fin.castAdd 64 s) + ∑ p : Fin 64, f (Fin.natAdd n p) := Fin.sum_univ_add f
  rw [h 192 f, h 128, h 64]
  rfl

theorem pow_chunk (g : EReal) (hg : g ≠ ⊤) (m : Nat) (k v : Fin 64 → EReal) :
    pow g m * chunk g k v = ∑ p : Fin 64, (k p * pow g (m + (63 - p.val))) * v p := by
  unfold chunk
  rw [pow_mul_sum g hg]
  refine Finset.sum_congr rfl fun p _ => ?_
  rw [← pow_add g hg, mul_left_comm (k p), mul_assoc (pow g m)]

/-- THE RECURRENCE ADDS UP TO ONE SUM. -/
theorem scan_eq (g r : EReal) (hg : g ≠ ⊤) (k v : Fin 256 → EReal) :
    scan g r k v = pow g 256 * r + ∑ s : Fin 256, (k s * pow g (255 - s.val)) * v s := by
  unfold scan step
  rw [sum_parts]
  simp only [pow_mul_add g hg, ← mul_assoc, pow_add g hg, Nat.reduceAdd]
  have e0 : pow g 192 * chunk g (part 0 k) (part 0 v) = ∑ p, part 0 (fun s => (k s * pow g (255 - s.val)) * v s) p := by
    rw [pow_chunk g hg]
    refine Finset.sum_congr rfl fun p _ => ?_
    have hp := p.isLt
    show _ = (part 0 k p * pow g (255 - (64 * 0 + p.val))) * part 0 v p
    rw [show 192 + (63 - p.val) = 255 - (64 * 0 + p.val) by omega]
  have e1 : pow g 128 * chunk g (part 1 k) (part 1 v) = ∑ p, part 1 (fun s => (k s * pow g (255 - s.val)) * v s) p := by
    rw [pow_chunk g hg]
    refine Finset.sum_congr rfl fun p _ => ?_
    have hp := p.isLt
    show _ = (part 1 k p * pow g (255 - (64 * 1 + p.val))) * part 1 v p
    rw [show 128 + (63 - p.val) = 255 - (64 * 1 + p.val) by omega]
  have e2 : pow g 64 * chunk g (part 2 k) (part 2 v) = ∑ p, part 2 (fun s => (k s * pow g (255 - s.val)) * v s) p := by
    rw [pow_chunk g hg]
    refine Finset.sum_congr rfl fun p _ => ?_
    have hp := p.isLt
    show _ = (part 2 k p * pow g (255 - (64 * 2 + p.val))) * part 2 v p
    rw [show 64 + (63 - p.val) = 255 - (64 * 2 + p.val) by omega]
  have e3 : chunk g (part 3 k) (part 3 v) = ∑ p, part 3 (fun s => (k s * pow g (255 - s.val)) * v s) p := by
    refine Finset.sum_congr rfl fun p _ => ?_
    have hp := p.isLt
    show _ = (part 3 k p * pow g (255 - (64 * 3 + p.val))) * part 3 v p
    rw [show 63 - p.val = 255 - (64 * 3 + p.val) by omega]
  rw [e0, e1, e2, e3]
  simp only [add_assoc]

/-- The same recurrence over the reversed sequence. -/
theorem scan_rev_eq (g r : EReal) (hg : g ≠ ⊤) (k v : Fin 256 → EReal) :
    scan g r (fun s => k s.rev) (fun s => v s.rev) = pow g 256 * r + ∑ s : Fin 256, (k s * pow g s.val) * v s := by
  rw [scan_eq g r hg, ← Equiv.sum_comp Fin.revPerm]
  refine congrArg _ (Finset.sum_congr rfl fun s _ => ?_)
  have hs := s.isLt
  simp only [Fin.revPerm_apply, Fin.rev_rev]
  rw [show 255 - s.rev.val = s.val by rw [Fin.val_rev]; omega]

end Cert.Proof.Ret

end
-- ==== Proof.RetRef.lean ====
module

public import proofs.«01_k».proof.Proof.RetRun
public import proofs.«01_k».proof.Proof.RetMath
public import proofs.«01_k».proof.Proof.Gen.Reference6Ideal

@[expose] public section

noncomputable section

namespace Cert.Proof.Ret.Ref

open Cert.Reference6Ideal Cert.Reference6Ideal.Gen
open Idealize.ShloMosaic Idealize.ShloMosaic.ValueIdx
open scoped BigOperators

/-! ## The reference's pieces, read at an entry -/

/-- The decays. -/
def decays (w : FVec Ideal S4x2x4 .f32) : FVec Ideal S2x4 .f32 :=
  Host.negf (Host.exp (shapeCast _ (extractStridedSlice S1x2x4 ![0, 0, 0] w slices_S4x2x4_S1x2x4_0_0_0) shapeCasts_S1x2x4_S2x4))

theorem decays_apply (w : FVec Ideal S4x2x4 .f32) (d : Fin 2) (h : Fin 4) :
    decays w (ix2 d h) = decay (fun d h => w (ix3 (0 : Fin 4) d h)) d h := Ret.decays_apply w d h

/-- A scan's decays. -/
def decays0 (w : FVec Ideal S4x2x4 .f32) : FVec Ideal S4 .f32 :=
  shapeCast _ (extractStridedSlice S1x4 ![0, 0] (decays w) slices_S2x4_S1x4_0_0) shapeCasts_S1x4_S4
def decays1 (w : FVec Ideal S4x2x4 .f32) : FVec Ideal S4 .f32 :=
  shapeCast _ (extractStridedSlice S1x4 ![1, 0] (decays w) slices_S2x4_S1x4_1_0) shapeCasts_S1x4_S4

theorem decays0_apply (w : FVec Ideal S4x2x4 .f32) (h : Fin 4) : decays0 w (ix1 h) = decay (fun d h => w (ix3 (0 : Fin 4) d h)) 0 h := by
  unfold decays0
  refine (shapeCast_apply _ shapeCasts_S1x4_S4 (ix1 h) (ix2 (0 : Fin 1) h) (by
    rw [Shape.rowMajor_val_one, Shape.rowMajor_val_two]
    show 0 * 4 + h.val = h.val
    omega)).trans ?_
  refine (extractStridedSlice_apply _ (decays w) slices_S2x4_S1x4_0_0 _ (ix2 (0 : Fin 2) h) fun a => ?_).trans (decays_apply w 0 h)
  match a with
  | ⟨0, _⟩ => rfl
  | ⟨1, _⟩ => exact (Nat.zero_add _).symm

theorem decays1_apply (w : FVec Ideal S4x2x4 .f32) (h : Fin 4) : decays1 w (ix1 h) = decay (fun d h => w (ix3 (0 : Fin 4) d h)) 1 h := by
  unfold decays1
  refine (shapeCast_apply _ shapeCasts_S1x4_S4 (ix1 h) (ix2 (0 : Fin 1) h) (by
    rw [Shape.rowMajor_val_one, Shape.rowMajor_val_two]
    show 0 * 4 + h.val = h.val
    omega)).trans ?_
  refine (extractStridedSlice_apply _ (decays w) slices_S2x4_S1x4_1_0 _ (ix2 (1 : Fin 2) h) fun a => ?_).trans (decays_apply w 1 h)
  match a with
  | ⟨0, _⟩ => rfl
  | ⟨1, _⟩ => exact (Nat.zero_add _).symm

/-- A decay is not plus infinity. -/
theorem decay_ne_top (w : Fin 2 → Fin 4 → EReal) (d : Fin 2) (h : Fin 4) : decay w d h ≠ ⊤ := by
  unfold decay
  intro e
  have e' : Ideal.exp (w d h) = ⊥ := EReal.neg_eq_top_iff.mp e
  generalize w d h = x at e'
  induction x with
  | bot => exact absurd e' (by show (0 : EReal) ≠ ⊥; exact EReal.zero_ne_bot)
  | coe r => exact absurd e' (EReal.coe_ne_bot _)
  | top => exact absurd e' (by show (⊤ : EReal) ≠ ⊥; exact top_ne_bot)

/-- The keys, by heads. -/
def keys (x : FVec Ideal S32x256x3200 .f32) : FVec Ideal S32x256x4x64 .f32 :=
  mulf (shapeCast _ (extractStridedSlice S32x256x256 ![0, 0, 1536] x slices_S32x256x3200_S32x256x256_0_0_1536) shapeCasts_S32x256x256_S32x256x4x64)
    (broadcastInDim S32x256x4x64 ![] bcast_S_S32x256x4x64 (constant S_ .f32 0x3E000000#32))

theorem keys_apply (x : FVec Ideal S32x256x3200 .f32) (b : Fin 32) (s : Fin 256) (h : Fin 4) (i : Fin 64) (n : Fin 3200) (hn : n.val = 1536 + (64 * h.val + i.val)) :
    keys x (ix4 b s h i) = (x (ix3 b s n) * Ideal.ofBits .f32 0x3E000000#32 : EReal) := by
  have hh := h.isLt
  have hi := i.isLt
  unfold keys
  show (shapeCast S32x256x4x64 (extractStridedSlice S32x256x256 ![0, 0, 1536] x slices_S32x256x3200_S32x256x256_0_0_1536) shapeCasts_S32x256x256_S32x256x4x64 (ix4 b s h i) : EReal) * _ = _
  refine congrArg (fun t : EReal => t * Ideal.ofBits .f32 0x3E000000#32) ?_
  refine (shapeCast_apply _ shapeCasts_S32x256x256_S32x256x4x64 (ix4 b s h i) (ix3 b s (⟨64 * h.val + i.val, by omega⟩ : Fin 256)) (by
    rw [Shape.rowMajor_val_three, Shape.rowMajor_val_four]
    show (b.val * 256 + s.val) * 256 + (64 * h.val + i.val) = ((b.val * 256 + s.val) * 4 + h.val) * 64 + i.val
    omega)).trans ?_
  refine extractStridedSlice_apply _ x slices_S32x256x3200_S32x256x256_0_0_1536 _ (ix3 b s n) fun a => ?_
  match a with
  | ⟨0, _⟩ => exact (Nat.zero_add _).symm
  | ⟨1, _⟩ => exact (Nat.zero_add _).symm
  | ⟨2, _⟩ => exact hn

/-- The values, by heads. -/
def values (x : FVec Ideal S32x256x3200 .f32) : FVec Ideal S32x256x4x64 .f32 :=
  shapeCast _ (extractStridedSlice S32x256x256 ![0, 0, 1792] x slices_S32x256x3200_S32x256x256_0_0_1792) shapeCasts_S32x256x256_S32x256x4x64

theorem values_apply (x : FVec Ideal S32x256x3200 .f32) (b : Fin 32) (s : Fin 256) (h : Fin 4) (i : Fin 64) (n : Fin 3200) (hn : n.val = 1792 + (64 * h.val + i.val)) :
    values x (ix4 b s h i) = x (ix3 b s n) := by
  have hh := h.isLt
  have hi := i.isLt
  unfold values
  refine (shapeCast_apply _ shapeCasts_S32x256x256_S32x256x4x64 (ix4 b s h i) (ix3 b s (⟨64 * h.val + i.val, by omega⟩ : Fin 256)) (by
    rw [Shape.rowMajor_val_three, Shape.rowMajor_val_four]
    show (b.val * 256 + s.val) * 256 + (64 * h.val + i.val) = ((b.val * 256 + s.val) * 4 + h.val) * 64 + i.val
    omega)).trans ?_
  refine extractStridedSlice_apply _ x slices_S32x256x3200_S32x256x256_0_0_1792 _ (ix3 b s n) fun a => ?_
  match a with
  | ⟨0, _⟩ => exact (Nat.zero_add _).symm
  | ⟨1, _⟩ => exact (Nat.zero_add _).symm
  | ⟨2, _⟩ => exact hn

/-- A reversed sequence. -/
theorem reverse_apply (x : FVec Ideal S32x256x4x64 .f32) (b : Fin 32) (s : Fin 256) (h : Fin 4) (i : Fin 64) :
    (Host.reverse [1] x : FVec Ideal S32x256x4x64 .f32) (ix4 b s h i) = x (ix4 b s.rev h i) := by
  unfold Host.reverse
  refine congrArg x (funext fun a => Fin.ext ?_)
  match a with
  | ⟨0, _⟩ => rfl
  | ⟨1, _⟩ => rfl
  | ⟨2, _⟩ => rfl
  | ⟨3, _⟩ => rfl

/-- A chunk of a sequence. -/
theorem chunk_apply (o : Nat) (hs : S32x256x4x64.Slices ![0, o, 0, 0] S32x64x4x64) (x : FVec Ideal S32x256x4x64 .f32)
    (b : Fin 32) (p : Fin 64) (h : Fin 4) (i : Fin 64) (s : Fin 256) (e : s.val = o + p.val) :
    (extractStridedSlice S32x64x4x64 ![0, o, 0, 0] x hs : FVec Ideal S32x64x4x64 .f32) (ix4 b p h i) = x (ix4 b s h i) := by
  refine extractStridedSlice_apply _ x hs _ (ix4 b s h i) fun a => ?_
  match a with
  | ⟨0, _⟩ => exact (Nat.zero_add _).symm
  | ⟨1, _⟩ => exact e
  | ⟨2, _⟩ => exact (Nat.zero_add _).symm
  | ⟨3, _⟩ => exact (Nat.zero_add _).symm

/-- The weight of each token of a chunk, for each head. -/
def zetas (g : FVec Ideal S4 .f32) : FVec Ideal S4x64 .f32 :=
  Host.exp (mulf (broadcastInDim S4x64 ![0, 1] bcast_S4x1_S4x64_0_1 (broadcastInDim S4x1 ![0] bcast_S4_S4x1_0 g))
    (broadcastInDim S4x64 ![0, 1] bcast_S1x64_S4x64_0_1 (broadcastInDim S1x64 ![1] bcast_S64_S1x64_1
      (subf (broadcastInDim S64 ![] bcast_S_S64 (constant S_ .f32 0x427C0000#32)) (sitofp .f32 (iotaInDim S64 32 0))))))

theorem zetas_apply (g : FVec Ideal S4 .f32) (h : Fin 4) (p : Fin 64) : zetas g (ix2 h p) = pow (g (ix1 h)) (63 - p.val) := by
  have hp := p.isLt
  unfold zetas pow
  show Ideal.exp (_ * _) = _
  refine congrArg Ideal.exp (congrArg₂ (fun a b : EReal => a * b) ?_ ?_)
  · refine (broadcastInDim_apply (![0, 1] : Fin 2 → Fin 2) bcast_S4x1_S4x64_0_1 _ (ix2 h p) (ix2 h (0 : Fin 1)) (fun a => by
      match a with
      | ⟨0, _⟩ => rfl
      | ⟨1, _⟩ => rfl)).trans ?_
    exact broadcastInDim_apply (![0] : Fin 1 → Fin 2) bcast_S4_S4x1_0 g (ix2 h (0 : Fin 1)) (ix1 h) (fun a => by
      match a with
      | ⟨0, _⟩ => rfl)
  · refine (broadcastInDim_apply (![0, 1] : Fin 2 → Fin 2) bcast_S1x64_S4x64_0_1 _ (ix2 h p) (ix2 (0 : Fin 1) p) (fun a => by
      match a with
      | ⟨0, _⟩ => rfl
      | ⟨1, _⟩ => rfl)).trans ?_
    refine (broadcastInDim_apply (![1] : Fin 1 → Fin 2) bcast_S64_S1x64_1 _ (ix2 (0 : Fin 1) p) (ix1 p) (fun a => by
      match a with
      | ⟨0, _⟩ => rfl)).trans ?_
    show (Ideal.ofBits .f32 0x427C0000#32 - (Scalar.sitofp .f32 (BitVec.ofNat 32 p.val) : Ideal .f32) : EReal) = _
    rw [word_63, count_val p.val (by omega), ← EReal.coe_sub, Nat.cast_sub (by omega)]
    norm_num

/-- The weights, along the sequences and the key's entries. -/
def weights (g : FVec Ideal S4 .f32) : FVec Ideal S32x64x4x64 .f32 :=
  broadcastInDim S32x64x4x64 ![0, 1, 2, 3] bcast_S1x64x4x1_S32x64x4x64_0_1_2_3 (broadcastInDim S1x64x4x1 ![1, 2, 3] bcast_S64x4x1_S1x64x4x1_1_2_3
    (broadcastInDim S64x4x1 ![0, 1] bcast_S64x4_S64x4x1_0_1 (transpose S64x4 [1, 0] (zetas g) transposes_S4x64_S64x4_1_0)))

theorem weights_apply (g : FVec Ideal S4 .f32) (b : Fin 32) (p : Fin 64) (h : Fin 4) (i : Fin 64) : weights g (ix4 b p h i) = pow (g (ix1 h)) (63 - p.val) := by
  unfold weights
  refine (broadcastInDim_apply (![0, 1, 2, 3] : Fin 4 → Fin 4) bcast_S1x64x4x1_S32x64x4x64_0_1_2_3 _ (ix4 b p h i) (ix4 (0 : Fin 1) p h (0 : Fin 1)) (fun a => by
    match a with
    | ⟨0, _⟩ => rfl
    | ⟨1, _⟩ => rfl
    | ⟨2, _⟩ => rfl
    | ⟨3, _⟩ => rfl)).trans ?_
  refine (broadcastInDim_apply (![1, 2, 3] : Fin 3 → Fin 4) bcast_S64x4x1_S1x64x4x1_1_2_3 _ (ix4 (0 : Fin 1) p h (0 : Fin 1)) (ix3 p h (0 : Fin 1)) (fun a => by
    match a with
    | ⟨0, _⟩ => rfl
    | ⟨1, _⟩ => rfl
    | ⟨2, _⟩ => rfl)).trans ?_
  refine (broadcastInDim_apply (![0, 1] : Fin 2 → Fin 3) bcast_S64x4_S64x4x1_0_1 _ (ix3 p h (0 : Fin 1)) (ix2 p h) (fun a => by
    match a with
    | ⟨0, _⟩ => rfl
    | ⟨1, _⟩ => rfl)).trans ?_
  refine (transpose_apply _ _ transposes_S4x64_S64x4_1_0 (ix2 p h) (ix2 h p) (fun b => by
    match b with
    | ⟨0, _⟩ => rfl
    | ⟨1, _⟩ => rfl)).trans ?_
  exact zetas_apply g h p

/-- A chunk's decay, for each head, along the states. -/
def gates (g : FVec Ideal S4 .f32) : FVec Ideal S32x4x64x64 .f32 :=
  broadcastInDim S32x4x64x64 ![0, 1, 2, 3] bcast_S1x4x1x1_S32x4x64x64_0_1_2_3 (broadcastInDim S1x4x1x1 ![1, 2, 3] bcast_S4x1x1_S1x4x1x1_1_2_3
    (broadcastInDim S4x1x1 ![0] bcast_S4_S4x1x1_0 (Host.exp (mulf g (broadcastInDim S4 ![] bcast_S_S4 (constant S_ .f32 0x42800000#32))))))

theorem gates_apply (g : FVec Ideal S4 .f32) (b : Fin 32) (h : Fin 4) (i j : Fin 64) : gates g (ix4 b h i j) = pow (g (ix1 h)) 64 := by
  unfold gates pow
  refine (broadcastInDim_apply (![0, 1, 2, 3] : Fin 4 → Fin 4) bcast_S1x4x1x1_S32x4x64x64_0_1_2_3 _ (ix4 b h i j) (ix4 (0 : Fin 1) h (0 : Fin 1) (0 : Fin 1)) (fun a => by
    match a with
    | ⟨0, _⟩ => rfl
    | ⟨1, _⟩ => rfl
    | ⟨2, _⟩ => rfl
    | ⟨3, _⟩ => rfl)).trans ?_
  refine (broadcastInDim_apply (![1, 2, 3] : Fin 3 → Fin 4) bcast_S4x1x1_S1x4x1x1_1_2_3 _ (ix4 (0 : Fin 1) h (0 : Fin 1) (0 : Fin 1)) (ix3 h (0 : Fin 1) (0 : Fin 1)) (fun a => by
    match a with
    | ⟨0, _⟩ => rfl
    | ⟨1, _⟩ => rfl
    | ⟨2, _⟩ => rfl)).trans ?_
  refine (broadcastInDim_apply (![0] : Fin 1 → Fin 3) bcast_S4_S4x1x1_0 _ (ix3 h (0 : Fin 1) (0 : Fin 1)) (ix1 h) (fun a => by
    match a with
    | ⟨0, _⟩ => rfl)).trans ?_
  show Ideal.exp ((g (ix1 h) : EReal) * Ideal.ofBits .f32 0x42800000#32) = _
  rw [word_64]
  norm_num

/-- The product over a chunk's tokens, read at an entry. -/
theorem dot_apply (w : DotDims.WF S32x64x4x64 S32x64x4x64 S32x4x64x64 [1] [1] [3] [3] [0, 2] [0, 2])
    (prec : Option ContractPrecision) (X W : FVec Ideal S32x64x4x64 .f32)
    (b : Fin 32) (h : Fin 4) (i j : Fin 64) :
    (Host.dotGeneral (⟨[1], [1], [3], [3], [0, 2], [0, 2], w⟩ : DotDims _ _ _) prec X W : FVec Ideal S32x4x64x64 .f32) (ix4 b h i j)
      = ∑ p : Fin 64, X (ix4 b p h i) * W (ix4 b p h j) := by
  show FloatOps.dotGeneral _ prec _ X W (ix4 b h i j) = _
  rw [Ideal.dotGeneral_apply, ← Equiv.sum_comp (contrEquiv1 (⟨[1], [1], [3], [3], [0, 2], [0, 2], w⟩ : DotDims _ _ _) 64 rfl rfl).symm]
  refine Finset.sum_congr rfl fun s _ => ?_
  have c3 := contrEquiv1_symm_val (⟨[1], [1], [3], [3], [0, 2], [0, 2], w⟩ : DotDims S32x64x4x64 S32x64x4x64 S32x4x64x64) 64 rfl rfl s
  have l3 : (⟨[1], [1], [3], [3], [0, 2], [0, 2], w⟩ : DotDims S32x64x4x64 S32x64x4x64 S32x4x64x64).lhsIdx (ix4 b h i j)
      ((contrEquiv1 _ 64 rfl rfl).symm s) = ix4 b s h i := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
    | ⟨3, _⟩ => simp [DotDims.lhsIdx]; rfl
  have r3 : (⟨[1], [1], [3], [3], [0, 2], [0, 2], w⟩ : DotDims S32x64x4x64 S32x64x4x64 S32x4x64x64).rhsIdx (ix4 b h i j)
      ((contrEquiv1 _ 64 rfl rfl).symm s) = ix4 b s h j := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
    | ⟨3, _⟩ => simp [DotDims.rhsIdx]; rfl
  rw [l3, r3]

/-- A chunk's step. -/
def stepped (g : FVec Ideal S4 .f32) (R : FVec Ideal S32x4x64x64 .f32) (K V : FVec Ideal S32x64x4x64 .f32) : FVec Ideal S32x4x64x64 .f32 :=
  addf (mulf (gates g) R) (Host.dotGeneral dot_S32x64x4x64_S32x64x4x64_S32x4x64x64_1_1_3_3_02_02 none (mulf K (weights g)) V)

theorem stepped_apply (g : FVec Ideal S4 .f32) (R : FVec Ideal S32x4x64x64 .f32) (K V : FVec Ideal S32x64x4x64 .f32)
    (b : Fin 32) (h : Fin 4) (i j : Fin 64) :
    stepped g R K V (ix4 b h i j) = step (g (ix1 h)) (R (ix4 b h i j)) (fun p => K (ix4 b p h i)) (fun p => V (ix4 b p h j)) := by
  unfold stepped step chunk
  show (gates g (ix4 b h i j) * R (ix4 b h i j) + (Host.dotGeneral dot_S32x64x4x64_S32x64x4x64_S32x4x64x64_1_1_3_3_02_02 none (mulf K (weights g)) V : FVec Ideal S32x4x64x64 .f32) (ix4 b h i j) : EReal) = _
  rw [gates_apply]
  refine congrArg₂ (fun a b : EReal => a + b) rfl ((dot_apply dot_S32x64x4x64_S32x64x4x64_S32x4x64x64_1_1_3_3_02_02_wf none _ V b h i j).trans ?_)
  refine Finset.sum_congr rfl fun p _ => ?_
  show (K (ix4 b p h i) * weights g (ix4 b p h i) * V (ix4 b p h j) : EReal) = _
  rw [weights_apply]

/-- A scan over the four chunks. -/
def scans (g : FVec Ideal S4 .f32) (R : FVec Ideal S32x4x64x64 .f32) (K V : FVec Ideal S32x256x4x64 .f32) : FVec Ideal S32x4x64x64 .f32 :=
  stepped g (stepped g (stepped g (stepped g R
    (extractStridedSlice S32x64x4x64 ![0, 0, 0, 0] K slices_S32x256x4x64_S32x64x4x64_0_0_0_0) (extractStridedSlice S32x64x4x64 ![0, 0, 0, 0] V slices_S32x256x4x64_S32x64x4x64_0_0_0_0))
    (extractStridedSlice S32x64x4x64 ![0, 64, 0, 0] K slices_S32x256x4x64_S32x64x4x64_0_64_0_0) (extractStridedSlice S32x64x4x64 ![0, 64, 0, 0] V slices_S32x256x4x64_S32x64x4x64_0_64_0_0))
    (extractStridedSlice S32x64x4x64 ![0, 128, 0, 0] K slices_S32x256x4x64_S32x64x4x64_0_128_0_0) (extractStridedSlice S32x64x4x64 ![0, 128, 0, 0] V slices_S32x256x4x64_S32x64x4x64_0_128_0_0))
    (extractStridedSlice S32x64x4x64 ![0, 192, 0, 0] K slices_S32x256x4x64_S32x64x4x64_0_192_0_0) (extractStridedSlice S32x64x4x64 ![0, 192, 0, 0] V slices_S32x256x4x64_S32x64x4x64_0_192_0_0)

/-- Equal parts make equal steps. -/
theorem step_congr {g R R' : EReal} {k k' v v' : Fin 64 → EReal} (hR : R = R') (hk : ∀ p, k p = k' p) (hv : ∀ p, v p = v' p) : step g R k v = step g R' k' v' := by
  rw [hR, funext hk, funext hv]

theorem scans_apply (g : FVec Ideal S4 .f32) (R : FVec Ideal S32x4x64x64 .f32) (K V : FVec Ideal S32x256x4x64 .f32)
    (b : Fin 32) (h : Fin 4) (i j : Fin 64) :
    scans g R K V (ix4 b h i j) = scan (g (ix1 h)) (R (ix4 b h i j)) (fun s => K (ix4 b s h i)) (fun s => V (ix4 b s h j)) := by
  unfold scans scan
  refine (stepped_apply ..).trans (step_congr ?_ (fun p => chunk_apply 192 _ K b p h i _ rfl) (fun p => chunk_apply 192 _ V b p h j _ rfl))
  refine (stepped_apply ..).trans (step_congr ?_ (fun p => chunk_apply 128 _ K b p h i _ rfl) (fun p => chunk_apply 128 _ V b p h j _ rfl))
  refine (stepped_apply ..).trans (step_congr ?_ (fun p => chunk_apply 64 _ K b p h i _ rfl) (fun p => chunk_apply 64 _ V b p h j _ rfl))
  exact (stepped_apply ..).trans (step_congr rfl (fun p => chunk_apply 0 _ K b p h i _ rfl) (fun p => chunk_apply 0 _ V b p h j _ rfl))

/-- The states that a scan starts from. -/
def start0 (r : FVec Ideal S32x2x4x64x64 .f32) : FVec Ideal S32x4x64x64 .f32 :=
  shapeCast _ (extractStridedSlice S32x1x4x64x64 ![0, 0, 0, 0, 0] r slices_S32x2x4x64x64_S32x1x4x64x64_0_0_0_0_0) shapeCasts_S32x1x4x64x64_S32x4x64x64
def start1 (r : FVec Ideal S32x2x4x64x64 .f32) : FVec Ideal S32x4x64x64 .f32 :=
  shapeCast _ (extractStridedSlice S32x1x4x64x64 ![0, 1, 0, 0, 0] r slices_S32x2x4x64x64_S32x1x4x64x64_0_1_0_0_0) shapeCasts_S32x1x4x64x64_S32x4x64x64

theorem start0_apply (r : FVec Ideal S32x2x4x64x64 .f32) (b : Fin 32) (h : Fin 4) (i j : Fin 64) : start0 r (ix4 b h i j) = r (ix5 b (0 : Fin 2) h i j) := by
  unfold start0
  refine (shapeCast_apply _ shapeCasts_S32x1x4x64x64_S32x4x64x64 (ix4 b h i j) (ix5 b (0 : Fin 1) h i j) (by
    rw [Shape.rowMajor_val_four, Shape.rowMajor_val_five]
    show (((b.val * 1 + 0) * 4 + h.val) * 64 + i.val) * 64 + j.val = ((b.val * 4 + h.val) * 64 + i.val) * 64 + j.val
    omega)).trans ?_
  refine extractStridedSlice_apply _ r slices_S32x2x4x64x64_S32x1x4x64x64_0_0_0_0_0 _ (ix5 b (0 : Fin 2) h i j) fun a => ?_
  match a with
  | ⟨0, _⟩ => exact (Nat.zero_add _).symm
  | ⟨1, _⟩ => rfl
  | ⟨2, _⟩ => exact (Nat.zero_add _).symm
  | ⟨3, _⟩ => exact (Nat.zero_add _).symm
  | ⟨4, _⟩ => exact (Nat.zero_add _).symm

theorem start1_apply (r : FVec Ideal S32x2x4x64x64 .f32) (b : Fin 32) (h : Fin 4) (i j : Fin 64) : start1 r (ix4 b h i j) = r (ix5 b (1 : Fin 2) h i j) := by
  unfold start1
  refine (shapeCast_apply _ shapeCasts_S32x1x4x64x64_S32x4x64x64 (ix4 b h i j) (ix5 b (0 : Fin 1) h i j) (by
    rw [Shape.rowMajor_val_four, Shape.rowMajor_val_five]
    show (((b.val * 1 + 0) * 4 + h.val) * 64 + i.val) * 64 + j.val = ((b.val * 4 + h.val) * 64 + i.val) * 64 + j.val
    omega)).trans ?_
  refine extractStridedSlice_apply _ r slices_S32x2x4x64x64_S32x1x4x64x64_0_1_0_0_0 _ (ix5 b (1 : Fin 2) h i j) fun a => ?_
  match a with
  | ⟨0, _⟩ => exact (Nat.zero_add _).symm
  | ⟨1, _⟩ => rfl
  | ⟨2, _⟩ => exact (Nat.zero_add _).symm
  | ⟨3, _⟩ => exact (Nat.zero_add _).symm
  | ⟨4, _⟩ => exact (Nat.zero_add _).symm

/-- A scan's states, among the two scans'. -/
theorem spread_apply (R : FVec Ideal S32x4x64x64 .f32) (b : Fin 32) (h : Fin 4) (i j : Fin 64) :
    (broadcastInDim S32x1x4x64x64 ![0, 2, 3, 4] bcast_S32x4x64x64_S32x1x4x64x64_0_2_3_4 R : FVec Ideal S32x1x4x64x64 .f32) (ix5 b (0 : Fin 1) h i j) = R (ix4 b h i j) :=
  broadcastInDim_apply (![0, 2, 3, 4] : Fin 4 → Fin 5) bcast_S32x4x64x64_S32x1x4x64x64_0_2_3_4 R (ix5 b (0 : Fin 1) h i j) (ix4 b h i j) (fun a => by
    match a with
    | ⟨0, _⟩ => rfl
    | ⟨1, _⟩ => rfl
    | ⟨2, _⟩ => rfl
    | ⟨3, _⟩ => rfl)

/-- The reference's states. -/
def states (x : FVec Ideal S32x256x3200 .f32) (w : FVec Ideal S4x2x4 .f32) (r : FVec Ideal S32x2x4x64x64 .f32) : FVec Ideal S32x2x4x64x64 .f32 :=
  concatenate S32x2x4x64x64 1 [⟨S32x1x4x64x64, (broadcastInDim S32x1x4x64x64 ![0, 2, 3, 4] bcast_S32x4x64x64_S32x1x4x64x64_0_2_3_4 (scans (decays0 w) (start0 r) (keys x) (values x)))⟩,
    ⟨S32x1x4x64x64, (broadcastInDim S32x1x4x64x64 ![0, 2, 3, 4] bcast_S32x4x64x64_S32x1x4x64x64_0_2_3_4 (scans (decays1 w) (start1 r) (Host.reverse [1] (keys x)) (Host.reverse [1] (values x))))⟩]
    concatenates_S32x1x4x64x64_S32x1x4x64x64_S32x2x4x64x64_d1

theorem after0 (s : Fin 256) : after 0 s = (((255 - s.val : ℕ) : ℝ) : EReal) := by
  have hs := s.isLt
  unfold after pos
  rw [if_pos (show (0 : Fin 2).val = 0 from rfl), word_255, count_val s.val (by omega), ← EReal.coe_sub, Nat.cast_sub (by omega)]
  norm_num

theorem after1 (s : Fin 256) : after 1 s = ((s.val : ℝ) : EReal) := by
  have hs := s.isLt
  unfold after pos
  rw [if_neg (show ¬ (1 : Fin 2).val = 0 by decide), count_val s.val (by omega)]

theorem word_256' : Ideal.ofBits .f32 0x43800000#32 = (((256 : ℕ) : ℝ) : EReal) := by rw [word_256]; norm_num

theorem states0_apply (x : FVec Ideal S32x256x3200 .f32) (w : FVec Ideal S4x2x4 .f32) (r : FVec Ideal S32x2x4x64x64 .f32)
    (b : Fin 32) (h : Fin 4) (i j : Fin 64) : states x w r (ix5 b (0 : Fin 2) h i j) = scanned x w r b 0 h i j := by
  unfold states
  refine (concatenate_pair_apply_left (1 : Fin S32x2x4x64x64.rank) _ _ concatenates_S32x1x4x64x64_S32x1x4x64x64_S32x2x4x64x64_d1 (ix5 b (0 : Fin 2) h i j) rfl (ix5 b (0 : Fin 1) h i j) (fun a => ?_)).trans ?_
  · match a with
    | ⟨0, _⟩ => rfl
    | ⟨1, _⟩ => rfl
    | ⟨2, _⟩ => rfl
    | ⟨3, _⟩ => rfl
    | ⟨4, _⟩ => rfl
  rw [spread_apply, scans_apply, decays0_apply, start0_apply, scan_eq _ _ (decay_ne_top _ 0 h)]
  unfold scanned state
  refine congrArg₂ (fun a b : EReal => a + b) ?_ (Finset.sum_congr rfl fun s _ => ?_)
  · rw [word_256']; rfl
  · rw [keys_apply x b s h i ⟨1536 + (64 * h.val + i.val), by have := h.isLt; have := i.isLt; omega⟩ rfl,
      values_apply x b s h j ⟨1792 + (64 * h.val + j.val), by have := h.isLt; have := j.isLt; omega⟩ rfl, after0]
    rfl

theorem states1_apply (x : FVec Ideal S32x256x3200 .f32) (w : FVec Ideal S4x2x4 .f32) (r : FVec Ideal S32x2x4x64x64 .f32)
    (b : Fin 32) (h : Fin 4) (i j : Fin 64) : states x w r (ix5 b (1 : Fin 2) h i j) = scanned x w r b 1 h i j := by
  unfold states
  refine (concatenate_pair_apply_right (1 : Fin S32x2x4x64x64.rank) _ _ concatenates_S32x1x4x64x64_S32x1x4x64x64_S32x2x4x64x64_d1 (ix5 b (1 : Fin 2) h i j) rfl rfl (ix5 b (0 : Fin 1) h i j) (fun a ha => ?_) ?_).trans ?_
  · match a with
    | ⟨0, _⟩ => rfl
    | ⟨1, _⟩ => exact absurd rfl ha
    | ⟨2, _⟩ => rfl
    | ⟨3, _⟩ => rfl
    | ⟨4, _⟩ => rfl
  · rfl
  rw [spread_apply, scans_apply, decays1_apply, start1_apply]
  refine (congrArg₂ (scan _ _) (funext fun s => reverse_apply (keys x) b s h i) (funext fun s => reverse_apply (values x) b s h j)).trans ?_
  rw [scan_rev_eq _ _ (decay_ne_top _ 1 h) (fun s => keys x (ix4 b s h i)) (fun s => values x (ix4 b s h j))]
  unfold scanned state
  refine congrArg₂ (fun a b : EReal => a + b) ?_ (Finset.sum_congr rfl fun s _ => ?_)
  · rw [word_256']; rfl
  · rw [keys_apply x b s h i ⟨1536 + (64 * h.val + i.val), by have := h.isLt; have := i.isLt; omega⟩ rfl,
      values_apply x b s h j ⟨1792 + (64 * h.val + j.val), by have := h.isLt; have := j.isLt; omega⟩ rfl, after1]
    rfl

/-- THE REFERENCE'S STATES, at a sequence, a scan, a head, a row and a column. -/
theorem ref_apply (x : FVec Ideal S32x256x3200 .f32) (w : FVec Ideal S4x2x4 .f32) (r : FVec Ideal S32x2x4x64x64 .f32)
    (b : Fin 32) (d : Fin 2) (h : Fin 4) (i j : Fin 64) : states x w r (ix5 b d h i j) = scanned x w r b d h i j := by
  match d with
  | ⟨0, _⟩ => exact states0_apply x w r b h i j
  | ⟨1, _⟩ => exact states1_apply x w r b h i j

end Cert.Proof.Ret.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_idx_in_rows
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_idx_in_latents
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_norm_and_router_finite
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Kernel6Ideal.Frame
public import proofs.«01_k».proof.Proof.Gen.Kernel6.Frame
public import proofs.«01_k».proof.Proof.Gen.Reference6Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Value
public import proofs.«01_k».proof.Proof.ExpertsRun
public import proofs.«01_k».proof.Proof.ExpertsRef
public import proofs.«01_k».proof.Proof.InProjRun
public import proofs.«01_k».proof.Proof.InProjRef
public import proofs.«01_k».proof.Proof.OutProjRun
public import proofs.«01_k».proof.Proof.OutProjRef
public import proofs.«01_k».proof.Proof.AffRun
public import proofs.«01_k».proof.Proof.AffRef
public import proofs.«01_k».proof.Proof.RetRun
public import proofs.«01_k».proof.Proof.RetRef
public import Idealize.ShloMosaic.Lib.ReduceAll
public import Idealize.ShloMosaic.Adequacy
public import Idealize.ShloMosaic.Lib.Bf16Pair
public import Idealize.ShloMosaic.Lib.Bf16PairInverse
public import Idealize.ShloMosaic.Init

@[expose] public section

noncomputable section

namespace Cert.Proof

open Idealize.ShloMosaic Idealize.SL.Sem

/-- What the precondition says of the kernel's index argument: every index lies in the source's rows. -/
theorem idx_lt {m : (ℓ : Loc Cert.KernelIdeal.nD Cert.KernelIdeal.τ Cert.KernelIdeal.sig) → Buf (Elt Ideal) ℓ}
    (h : Cert.Pre_KernelIdeal m) (d : Dev Cert.KernelIdeal.nD) (j : Cert.KernelIdeal.S16x1024.Idx) :
    (m (Gather.idxLoc d) j : BitVec 32).toNat < 8192 := by
  have e := congrFun (h d) j
  simp only [Cert.Pre_idx_in_rows.fn, andi, cmpi, broadcastInDim, constantI] at e
  exact Gather.lt_of_pre e

/-- The same of the program at the bit-exact instance. -/
theorem idx_lt_bits {m : (ℓ : Loc Cert.KernelIdeal.nD Cert.KernelIdeal.τ Cert.KernelIdeal.sig) → Buf (Elt Bits) ℓ}
    (h : Cert.Pre_Kernel m) (d : Dev Cert.KernelIdeal.nD) (j : Cert.KernelIdeal.S16x1024.Idx) :
    (m (Gather.idxLoc d) j : BitVec 32).toNat < 8192 := by
  have e := congrFun (h d) j
  simp only [Cert.Pre_idx_in_rows.fn, andi, cmpi, broadcastInDim, constantI] at e
  exact Gather.lt_of_pre e

/-- `Cert.quiescent_Kernel`: the run of the gather at the bit-exact instance. -/
theorem frame_kernel : Cert.quiescent_Kernel := fun m ρ hpre =>
  (θ_run Cert.KernelIdeal.defs _ _).mono (fun _ h => ⟨fun c => (h.1 c).2, h.2⟩)
    (Gather.run_main (F := Bits) m ρ (fun d => Gather.padded_lt (idx_lt_bits hpre d)))

/-- `Cert.quiescent_KernelIdeal`: the same run at the ideal instance. -/
theorem frame_kernelIdeal : Cert.quiescent_KernelIdeal := fun m ρ hpre =>
  (θ_run Cert.KernelIdeal.defs _ _).mono (fun _ h => ⟨fun c => (h.1 c).2, h.2⟩)
    (Gather.run_main (F := Ideal) m ρ (fun d => Gather.padded_lt (idx_lt hpre d)))

/-- `Cert.quiescent_ReferenceIdeal`: the reference's run, which declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- `Cert.quiescent_Reference`: the same at the bit-exact instance. -/
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- `Cert.bitexact_Kernel_Reference`: both results are the rows of the source the indices name. -/
theorem bitexact : Cert.bitexact_Kernel_Reference := by
  intro m ρ m' ρ' hpre hagree
  refine ⟨fun c => Gather.rowsAt (m (Gather.xLoc c)) (m (Gather.idxLoc c)),
    (θ_run Cert.KernelIdeal.defs _ _).mono (fun _ h c => ⟨(h.1 c).1.trans (Gather.out_eq m c), (h.1 c).2⟩)
      (Gather.run_main (F := Bits) m ρ (fun d => Gather.padded_lt (idx_lt_bits hpre d))),
    (θ_run Cert.Reference.defs _ _).mono (fun _ h c => ⟨(h c).1.trans ?_, (h c).2⟩)
      (Cert.Reference.Value.run (F := Bits) m' ρ')⟩
  rw [(hagree c).1, (hagree c).2]
  exact Gather.ref_eq _ _ _ _ _ (idx_lt_bits hpre c)

/-- `Cert.algebraic_KernelIdeal_ReferenceIdeal`: the same at the ideal instance. -/
theorem algebraic : Cert.algebraic_KernelIdeal_ReferenceIdeal := by
  intro m ρ m' ρ' hpre hagree
  refine ⟨fun c => Gather.rowsAt (m (Gather.xLoc c)) (m (Gather.idxLoc c)),
    (θ_run Cert.KernelIdeal.defs _ _).mono (fun _ h c => ⟨(h.1 c).1.trans (Gather.out_eq m c), (h.1 c).2⟩)
      (Gather.run_main (F := Ideal) m ρ (fun d => Gather.padded_lt (idx_lt hpre d))),
    (θ_run Cert.ReferenceIdeal.defs _ _).mono (fun _ h c => ⟨(h c).1.trans ?_, (h c).2⟩)
      (Cert.ReferenceIdeal.Value.run (F := Ideal) m' ρ')⟩
  rw [(hagree c).1, (hagree c).2]
  exact Gather.ref_eq _ _ _ _ _ (idx_lt hpre c)

/-! ## The experts -/

/-- What the precondition says of the experts' index argument: every index names a latent row. -/
theorem experts_idx_lt {m : (ℓ : Loc Cert.Kernel2Ideal.nD Cert.Kernel2Ideal.τ Cert.Kernel2Ideal.sig) → Buf (Elt Ideal) ℓ}
    (h : Cert.Pre_Kernel2Ideal m) (c : Dev Cert.Kernel2Ideal.nD) (j : Cert.Kernel2Ideal.S16x256x1.Idx) :
    (m ((c.tc : Thread Cert.Kernel2Ideal.nD Cert.Kernel2Ideal.τ).loc Cert.Kernel2Ideal.main_arg6) j : BitVec 32).toNat < 2048 := by
  have e := congrFun (h c) j
  simp only [Cert.Pre_idx_in_latents.fn, andi, cmpi, broadcastInDim, constantI] at e
  exact Experts.Ref.lt_of_pre e

/-- `Cert.quiescent_Kernel2`: the experts' run leaves its arguments and semaphores as they were. -/
theorem frame_kernel2 : Cert.quiescent_Kernel2 := fun m ρ _ => Cert.Kernel2.Gen.frame m ρ

/-- `Cert.quiescent_Kernel2Ideal`: the same at the ideal instance. -/
theorem frame_kernel2Ideal : Cert.quiescent_Kernel2Ideal := fun m ρ _ => Cert.Kernel2Ideal.Gen.frame m ρ

/-- `Cert.quiescent_Reference2Ideal`: the reference's run, which declares no semaphore. -/
theorem frame_reference2Ideal : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- `Cert.algebraic_Kernel2Ideal_Reference2Ideal`: both results are, entry by entry, the expert's output times the routing
    weight times the gate. -/
theorem algebraic2 : Cert.algebraic_Kernel2Ideal_Reference2Ideal := by
  intro m ρ m' ρ' hpre hagree
  refine ⟨fun c => Cert.Kernel2Ideal.Value.G10 m c, fun c => Cert.Kernel2Ideal.Value.G11 m c,
    Cert.Kernel2Ideal.Value.run (F := Ideal) m ρ,
    (θ_run Cert.Reference2Ideal.defs _ _).mono (fun _ h c => ⟨(h c).1.trans ?_, (h c).2.1.trans ?_, (h c).2.2⟩)
      (Cert.Reference2Ideal.Value.run (F := Ideal) m' ρ')⟩
  · obtain ⟨h0, h1, h2, h3, h4, h5, h6, h7, h8, h9⟩ := hagree c
    rw [h0, h2, h4, h7, h8, h9]
    funext y
    rw [ValueIdx.eq_ix3 y]
    refine Eq.trans ?_ (Experts.G10_eq m c (y 0) (y 1) (y 2)).symm
    exact Experts.Ref.prompt_apply (m (c.tc.loc Cert.Kernel2Ideal.main_arg0)) (m (c.tc.loc Cert.Kernel2Ideal.main_arg2))
      (m (c.tc.loc Cert.Kernel2Ideal.main_arg4)) (m (c.tc.loc Cert.Kernel2Ideal.main_arg7)) (m (c.tc.loc Cert.Kernel2Ideal.main_arg8))
      (m (c.tc.loc Cert.Kernel2Ideal.main_arg9)) (y 0) (y 1) (y 2)
  · obtain ⟨h0, h1, h2, h3, h4, h5, h6, h7, h8, h9⟩ := hagree c
    unfold Cert.Reference2Ideal.Value.res_main_v46
    rw [h1, h3, h5, h6, h7, h8, h9]
    funext y
    rw [ValueIdx.eq_ix3 y]
    refine Eq.trans ?_ (Experts.G11_eq m c (y 0) (y 1) (y 2)).symm
    exact Experts.Ref.latent_apply (m (c.tc.loc Cert.Kernel2Ideal.main_arg1)) (m (c.tc.loc Cert.Kernel2Ideal.main_arg3))
      (m (c.tc.loc Cert.Kernel2Ideal.main_arg5)) (m (c.tc.loc Cert.Kernel2Ideal.main_arg6)) (m (c.tc.loc Cert.Kernel2Ideal.main_arg7))
      (m (c.tc.loc Cert.Kernel2Ideal.main_arg8)) (m (c.tc.loc Cert.Kernel2Ideal.main_arg9)) (y 0) (y 1) (y 2) (experts_idx_lt hpre c _)

/-! ## The input projection -/

/-- `Cert.quiescent_Kernel3`: the projection's run leaves its arguments and semaphores as they were. -/
theorem frame_kernel3 : Cert.quiescent_Kernel3 := fun m ρ _ => Cert.Kernel3.Gen.frame m ρ

/-- `Cert.quiescent_Kernel3Ideal`: the same at the ideal instance. -/
theorem frame_kernel3Ideal : Cert.quiescent_Kernel3Ideal := fun m ρ _ => Cert.Kernel3Ideal.Gen.frame m ρ

/-- `Cert.quiescent_Reference3Ideal`: the reference's run, which declares no semaphore. -/
theorem frame_reference3Ideal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- `Cert.algebraic_Kernel3Ideal_Reference3Ideal`: both results are, entry by entry, a token's normalized and modulated
    features times a column of the weights. -/
theorem algebraic3 : Cert.algebraic_Kernel3Ideal_Reference3Ideal := by
  intro m ρ m' ρ' hpre hagree
  refine ⟨fun c => InProj.G5 m c,
    (θ_run Cert.Kernel3Ideal.defs _ _).mono (fun _ h c => ⟨(h c).1.trans (InProj.final5 m c), (h c).2⟩)
      (Cert.Kernel3Ideal.Value.run_blocks (F := Ideal) m ρ),
    (θ_run Cert.Reference3Ideal.defs _ _).mono (fun _ h c => ⟨(h c).1.trans ?_, (h c).2⟩)
      (Cert.Reference3Ideal.Value.run (F := Ideal) m' ρ')⟩
  obtain ⟨h0, h1, h2, h3, h4⟩ := hagree c
  unfold Cert.Reference3Ideal.Value.res_main_v29
  rw [h0, h1, h2, h3, h4]
  funext y
  rw [ValueIdx.eq_ix2 y]
  exact InProj.Ref.ref_apply (m (c.tc.loc Cert.Kernel3Ideal.main_arg0)) (m (c.tc.loc Cert.Kernel3Ideal.main_arg1))
    (m (c.tc.loc Cert.Kernel3Ideal.main_arg2)) (m (c.tc.loc Cert.Kernel3Ideal.main_arg3)) (m (c.tc.loc Cert.Kernel3Ideal.main_arg4)) (y 0) (y 1)

/-! ## The output projection -/

/-- `Cert.quiescent_Kernel4`: the projection's run leaves its arguments and semaphores as they were. -/
theorem frame_kernel4 : Cert.quiescent_Kernel4 := fun m ρ _ => Cert.Kernel4.Gen.frame m ρ

/-- `Cert.quiescent_Kernel4Ideal`: the same at the ideal instance. -/
theorem frame_kernel4Ideal : Cert.quiescent_Kernel4Ideal := fun m ρ _ => Cert.Kernel4Ideal.Gen.frame m ρ

/-- `Cert.quiescent_Reference4Ideal`: the reference's run, which declares no semaphore. -/
theorem frame_reference4Ideal : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- `Cert.preserves_Kernel4_Kernel4Ideal`: each rewritten site computes what it did: the two halves of every packed word. -/
theorem preserves4 : Cert.preserves_Kernel4_Kernel4Ideal :=
  ⟨IdealRules.bf16_pair.bufferStatement Cert.Kernel4Ideal.S2048x2x512 Cert.Kernel4Ideal.S2048x1x512,
    IdealRules.bf16_pair.bufferStatement Cert.Kernel4Ideal.S512x2x512 Cert.Kernel4Ideal.S512x1x512,
    IdealRules.bf16_pair.packStatement _,
    IdealRules.bf16_pair.statement Cert.Kernel4Ideal.S512x2x512 Cert.Kernel4Ideal.S512x1x512⟩

/-- `Cert.algebraic_Kernel4Ideal_Reference4Ideal`: both results are, entry by entry, a token's feature plus the gated product
    of its joined mixed features and a column of the weights. -/
theorem algebraic4 : Cert.algebraic_Kernel4Ideal_Reference4Ideal := by
  intro m ρ m' ρ' hpre hagree
  refine ⟨fun c => Cert.Kernel4Ideal.Value.G11 m c,
    (θ_run Cert.Kernel4Ideal.defs _ _).mono (fun _ h c => ⟨(h c).1, (h c).2.2.2⟩)
      (Cert.Kernel4Ideal.Value.run (F := Ideal) m ρ),
    (θ_run Cert.Reference4Ideal.defs _ _).mono (fun _ h c => ⟨(h c).1.trans ?_, (h c).2⟩)
      (Cert.Reference4Ideal.Value.run (F := Ideal) m' ρ')⟩
  obtain ⟨h0, h1, h2, h3, h4, h5, h6, h7, h8, h9, h10⟩ := hagree c
  rw [h0, h1, h2, h3, h4, h5, h6]
  funext y
  rw [ValueIdx.eq_ix2 y]
  refine Eq.trans ?_ (OutProj.G11_eq m c (y 0) (y 1)).symm
  exact OutProj.Ref.ref_apply (m (c.tc.loc Cert.Kernel4Ideal.main_arg0)) (m (c.tc.loc Cert.Kernel4Ideal.main_arg1))
    (m (c.tc.loc Cert.Kernel4Ideal.main_arg2)) (m (c.tc.loc Cert.Kernel4Ideal.main_arg3)) (m (c.tc.loc Cert.Kernel4Ideal.main_arg4))
    (m (c.tc.loc Cert.Kernel4Ideal.main_arg5)) (m (c.tc.loc Cert.Kernel4Ideal.main_arg6)) (y 0) (y 1)

/-! ## The output projection's affinities -/

/-- What the precondition says of the first layer's gain and router weights, the scale and the shift: every entry is a number. -/
theorem affinities_isReal {m : (ℓ : Loc Cert.Kernel5Ideal.nD Cert.Kernel5Ideal.τ Cert.Kernel5Ideal.sig) → Buf (Elt Ideal) ℓ}
    (h : Cert.Pre_Kernel5Ideal_norm_and_router_finite m) (c : Dev Cert.Kernel5Ideal.nD) :
    (∀ k : Fin 1024, Aff.IsReal ((m ((c.tc : Thread Cert.Kernel5Ideal.nD Cert.Kernel5Ideal.τ).loc Cert.Kernel5Ideal.main_arg7) : Vec Ideal Cert.Kernel5Ideal.S4x1024 .f32) (ValueIdx.ix2 (0 : Fin 4) k)))
    ∧ (∀ i, Aff.IsReal ((m ((c.tc : Thread Cert.Kernel5Ideal.nD Cert.Kernel5Ideal.τ).loc Cert.Kernel5Ideal.main_arg8) : Vec Ideal Cert.Kernel5Ideal.S2x1x1024 .f32) i))
    ∧ (∀ i, Aff.IsReal ((m ((c.tc : Thread Cert.Kernel5Ideal.nD Cert.Kernel5Ideal.τ).loc Cert.Kernel5Ideal.main_arg9) : Vec Ideal Cert.Kernel5Ideal.S2x1x1024 .f32) i))
    ∧ (∀ (k : Fin 1024) (j : Fin 16), Aff.IsReal ((m ((c.tc : Thread Cert.Kernel5Ideal.nD Cert.Kernel5Ideal.τ).loc Cert.Kernel5Ideal.main_arg10) : Vec Ideal Cert.Kernel5Ideal.S4x1024x16 .f32) (ValueIdx.ix3 (0 : Fin 4) k j))) := by
  have e := congrFun (h c) (fun a => a.elim0)
  haveI : Subsingleton Cert.Pre_norm_and_router_finite.S_.Idx := ⟨fun _ _ => funext fun a => a.elim0⟩
  simp only [Cert.Pre_norm_and_router_finite.fn, Cert.Pre_norm_and_router_finite.fn_part1] at e
  obtain ⟨e, e10⟩ := IntOp.andi_eq_one.1 e
  obtain ⟨e, e9⟩ := IntOp.andi_eq_one.1 e
  obtain ⟨e7, e8⟩ := IntOp.andi_eq_one.1 e
  refine ⟨fun k => ?_, fun i => Aff.isReal_of_cmp (Host.reduce_andi_all _ _ _ _ _ e8 i),
    fun i => Aff.isReal_of_cmp (Host.reduce_andi_all _ _ _ _ _ e9 i), fun k j => ?_⟩
  · have h7 := Aff.isReal_of_cmp (Host.reduce_andi_all _ _ _ _ _ e7 (ValueIdx.ix1 k))
    exact (congrArg Aff.IsReal (Aff.Ref.gain_apply (m (c.tc.loc Cert.Kernel5Ideal.main_arg7)) Cert.Pre_norm_and_router_finite.Facts.slices_S4x1024_S1x1024_0_0
      Cert.Pre_norm_and_router_finite.Facts.shapeCasts_S1x1024_S1024 k)).mp h7
  · have h10 := Aff.isReal_of_cmp (Host.reduce_andi_all _ _ _ _ _ e10 (ValueIdx.ix2 k j))
    exact (congrArg Aff.IsReal (Aff.Ref.router_apply (m (c.tc.loc Cert.Kernel5Ideal.main_arg10)) k j)).mp h10

/-- `Cert.quiescent_Kernel5`: the projection's run leaves its arguments and semaphores as they were. -/
theorem frame_kernel5 : Cert.quiescent_Kernel5 := fun m ρ _ => Cert.Kernel5.Gen.frame m ρ

/-- `Cert.quiescent_Kernel5Ideal`: the same at the ideal instance. -/
theorem frame_kernel5Ideal : Cert.quiescent_Kernel5Ideal := fun m ρ _ => Cert.Kernel5Ideal.Gen.frame m ρ

/-- `Cert.quiescent_Kernel5Ideal_pre_norm_and_router_finite`: the same, of the memories the affinities' claim is about. -/
theorem frame_kernel5Ideal_pre : Cert.quiescent_Kernel5Ideal_pre_norm_and_router_finite := fun m ρ _ => Cert.Kernel5Ideal.Gen.frame m ρ

/-- `Cert.quiescent_Reference5Ideal`: the reference's run, which declares no semaphore. -/
theorem frame_reference5Ideal : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- `Cert.quiescent_Reference5Ideal_pre_norm_and_router_finite`: the same, of the memories the affinities' claim is about. -/
theorem frame_reference5Ideal_pre : Cert.quiescent_Reference5Ideal_pre_norm_and_router_finite := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- `Cert.preserves_Kernel5_Kernel5Ideal`: each rewritten site computes what it did: the two halves of every packed word. -/
theorem preserves5 : Cert.preserves_Kernel5_Kernel5Ideal :=
  ⟨IdealRules.bf16_pair.bufferStatement Cert.Kernel5Ideal.S2048x2x512 Cert.Kernel5Ideal.S2048x1x512,
    IdealRules.bf16_pair.bufferStatement Cert.Kernel5Ideal.S512x2x512 Cert.Kernel5Ideal.S512x1x512,
    IdealRules.bf16_pair.packStatement _,
    IdealRules.bf16_pair.statement Cert.Kernel5Ideal.S512x2x512 Cert.Kernel5Ideal.S512x1x512⟩

/-- `Cert.algebraic_Kernel5Ideal_Reference5Ideal_pre_norm_and_router_finite`: both results are, entry by entry, an expert's
    share of the exponentials of a token's logits. -/
theorem algebraic5 : Cert.algebraic_Kernel5Ideal_Reference5Ideal_pre_norm_and_router_finite := by
  intro m ρ m' ρ' hpre hagree
  refine ⟨fun c => Cert.Kernel5Ideal.Value.G13 m c,
    (θ_run Cert.Kernel5Ideal.defs _ _).mono (fun _ h c => ⟨(h c).2.2.1, (h c).2.2.2⟩)
      (Cert.Kernel5Ideal.Value.run (F := Ideal) m ρ),
    (θ_run Cert.Reference5Ideal.defs _ _).mono (fun _ h c => ⟨(h c).1.trans ?_, (h c).2⟩)
      (Cert.Reference5Ideal.Value.run (F := Ideal) m' ρ')⟩
  obtain ⟨h0, h1, h2, h3, h4, h5, h6, h7, h8, h9, h10⟩ := hagree c
  obtain ⟨f7, f8, f9, f10⟩ := affinities_isReal hpre c
  unfold Cert.Reference5Ideal.Value.res_main_v42
  rw [h0, h1, h2, h3, h4, h5, h6, h7, h8, h9, h10]
  funext y
  rw [ValueIdx.eq_ix2 y]
  refine Eq.trans ?_ (Aff.G13_eq m c (y 0) (y 1) f7 f8 f9 f10).symm
  exact Aff.Ref.ref_apply (m (c.tc.loc Cert.Kernel5Ideal.main_arg0)) (m (c.tc.loc Cert.Kernel5Ideal.main_arg1))
    (m (c.tc.loc Cert.Kernel5Ideal.main_arg2)) (m (c.tc.loc Cert.Kernel5Ideal.main_arg3)) (m (c.tc.loc Cert.Kernel5Ideal.main_arg4))
    (m (c.tc.loc Cert.Kernel5Ideal.main_arg5)) (m (c.tc.loc Cert.Kernel5Ideal.main_arg6)) (m (c.tc.loc Cert.Kernel5Ideal.main_arg7))
    (m (c.tc.loc Cert.Kernel5Ideal.main_arg8)) (m (c.tc.loc Cert.Kernel5Ideal.main_arg9)) (m (c.tc.loc Cert.Kernel5Ideal.main_arg10)) (y 0) (y 1)

/-- `Cert.quiescent_Kernel6`: the retention mixer's run leaves its arguments and semaphores as they were. -/
theorem frame_kernel6 : Cert.quiescent_Kernel6 := fun m ρ _ => Cert.Kernel6.Gen.frame m ρ

/-- `Cert.quiescent_Kernel6Ideal`: the same at the ideal instance. -/
theorem frame_kernel6Ideal : Cert.quiescent_Kernel6Ideal := fun m ρ _ => Cert.Kernel6Ideal.Gen.frame m ρ

/-- `Cert.quiescent_Reference6Ideal`: the reference's run, which declares no semaphore. -/
theorem frame_reference6Ideal : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- `Cert.algebraic_Kernel6Ideal_Reference6Ideal`: both states are, entry by entry, what is left of the starting state and
    the sum over the tokens of key times weight times value, to which the recurrence by chunks adds up. -/
theorem algebraic6 : Cert.algebraic_Kernel6Ideal_Reference6Ideal := by
  intro m ρ m' ρ' _ hagree
  refine ⟨fun c => Ret.G8 m c,
    (θ_run Cert.Kernel6Ideal.defs _ _).mono (fun _ h c => ⟨(h c).2.1.trans (Ret.final8 m c), (h c).2.2⟩)
      (Cert.Kernel6Ideal.Value.run_blocks (F := Ideal) m ρ),
    (θ_run Cert.Reference6Ideal.defs _ _).mono (fun _ h c => ⟨(h c).1.trans ?_, (h c).2⟩)
      (Cert.Reference6Ideal.Value.run (F := Ideal) m' ρ')⟩
  obtain ⟨h0, h1, h2, h3⟩ := hagree c
  unfold Cert.Reference6Ideal.Value.res_main_v153
  rw [h0, h1, h3]
  funext y
  rw [ValueIdx.eq_ix5 y]
  exact Ret.Ref.ref_apply (m (c.tc.loc Cert.Kernel6Ideal.main_arg0)) (m (c.tc.loc Cert.Kernel6Ideal.main_arg1))
    (m (c.tc.loc Cert.Kernel6Ideal.main_arg3)) (y 0) (y 1) (y 2) (y 3) (y 4)

/-- `Cert.Claim`. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_idx_in_rows.Gen.facts, Cert.Pre_idx_in_latents.Gen.facts, Cert.Pre_norm_and_router_finite.Gen.facts,
    frame_kernel, frame_kernelIdeal, frame_referenceIdeal, frame_reference, frame_kernel2, frame_kernel2Ideal, frame_reference2Ideal,
    frame_kernel3, frame_kernel3Ideal, frame_reference3Ideal, frame_kernel4, frame_kernel4Ideal, frame_reference4Ideal,
    frame_kernel5, frame_kernel5Ideal, frame_kernel5Ideal_pre, frame_reference5Ideal, frame_reference5Ideal_pre,
    frame_kernel6, frame_kernel6Ideal, frame_reference6Ideal,
    trivial, bitexact, algebraic, trivial, algebraic2, trivial, algebraic3, preserves4, algebraic4, preserves5, algebraic5,
    trivial, algebraic6⟩

end Cert.Proof

end
